-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_causal [hPre_causal : Cert.Pre_causal.Facts] (m : (ℓ : Loc Cert.KernelIdeal.nD Cert.KernelIdeal.τ Cert.KernelIdeal.sig) → Buf (Elt Ideal) ℓ) : Prop :=
  ∀ c : Dev Cert.KernelIdeal.nD,
    (Cert.Pre_causal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_causal [hPre_causal : Cert.Pre_causal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_causal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_causal [hKernelIdeal : Cert.KernelIdeal.Facts] [hPre_causal : Cert.Pre_causal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_causal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_causal [hReferenceIdeal : Cert.ReferenceIdeal.Facts] [hPre_causal : Cert.Pre_causal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_causal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def preserves_Kernel_KernelIdeal : Prop :=
  True

def algebraic_KernelIdeal_ReferenceIdeal_pre_causal [hKernelIdeal : Cert.KernelIdeal.Facts] [hReferenceIdeal : Cert.ReferenceIdeal.Facts] [hPre_causal : Cert.Pre_causal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_causal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v42) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v2) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v7) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v9) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v0) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v1) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v1) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v0) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v1) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v13) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v1) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v18) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v1) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v13) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hPre_causal : Cert.Pre_causal.Facts),
    quiescent_Kernel (hKernel := hKernel)
    ∧ quiescent_KernelIdeal (hKernelIdeal := hKernelIdeal)
    ∧ quiescent_KernelIdeal_pre_causal (hKernelIdeal := hKernelIdeal) (hPre_causal := hPre_causal)
    ∧ quiescent_ReferenceIdeal (hReferenceIdeal := hReferenceIdeal)
    ∧ quiescent_ReferenceIdeal_pre_causal (hReferenceIdeal := hReferenceIdeal) (hPre_causal := hPre_causal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ preserves_Kernel_KernelIdeal
    ∧ algebraic_KernelIdeal_ReferenceIdeal_pre_causal (hKernelIdeal := hKernelIdeal) (hReferenceIdeal := hReferenceIdeal) (hPre_causal := hPre_causal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
-- ==== Pre_causal.lean ====
abbrev S16640x2048 : Shape := ⟨2, ![16640, 2048]⟩
abbrev S2048x16640 : Shape := ⟨2, ![2048, 16640]⟩
abbrev S16640x16640 : Shape := ⟨2, ![16640, 16640]⟩
abbrev S16640 : Shape := ⟨1, ![16640]⟩
abbrev S_ : Shape := ⟨0, ![]⟩
abbrev S16640x1 : Shape := ⟨2, ![16640, 1]⟩
abbrev S1x16640 : Shape := ⟨2, ![1, 16640]⟩

class Facts : Prop where
  bcast_S_S16640 : S_.BroadcastsInDim S16640 (![] : Fin 0 → Fin S16640.rank)
  bcast_S16640_S16640x1_0 : S16640.BroadcastsInDim S16640x1 (![0] : Fin 1 → Fin S16640x1.rank)
  bcast_S16640_S1x16640_1 : S16640.BroadcastsInDim S1x16640 (![1] : Fin 1 → Fin S1x16640.rank)
  bcast_S16640x1_S16640x16640_0_1 : S16640x1.BroadcastsInDim S16640x16640 (![0, 1] : Fin 2 → Fin S16640x16640.rank)
  bcast_S1x16640_S16640x16640_0_1 : S1x16640.BroadcastsInDim S16640x16640 (![0, 1] : Fin 2 → Fin S16640x16640.rank)
  bcast_S_S16640x16640 : S_.BroadcastsInDim S16640x16640 (![] : Fin 0 → Fin S16640x16640.rank)
  reducesTo_S16640x16640_S_d0_1 : S16640x16640.ReducesTo [0, 1] S_
  h_S_ : 0 < S_.numel

variable [Facts]

def fn_where {F : FTy → Type} [FloatOps F] (arg0 : IVec S16640x16640 1) (arg1 : IVec S16640x16640 1) (arg2 : IVec S_ 1) : IVec S16640x16640 1 :=
  let v0 : IVec S16640x16640 1 := broadcastInDim S16640x16640 ![] bcast_S_S16640x16640 arg2
  let v1 : IVec S16640x16640 1 := select arg0 arg1 v0
  v1

def fn {F : FTy → Type} [FloatOps F] (main_arg0 : FVec F S16640x2048 .bf16) (main_arg1 : FVec F S16640x2048 .bf16) (main_arg2 : FVec F S2048x16640 .bf16) (main_arg3 : FVec F S16640x16640 .bf16) : IVec S_ 1 :=
  let main_v0 : IVec S16640 32 := iotaInDim S16640 32 0
  let main_c : IVec S_ 32 := constantI S_ 32 64#32
  let main_v1 : IVec S16640 32 := broadcastInDim S16640 ![] bcast_S_S16640 main_c
  let main_v2 : IVec S16640 32 := Host.divsi main_v0 main_v1
  let main_v3 : IVec S16640x1 32 := broadcastInDim S16640x1 ![0] bcast_S16640_S16640x1_0 main_v2
  let main_v4 : IVec S1x16640 32 := broadcastInDim S1x16640 ![1] bcast_S16640_S1x16640_1 main_v2
  let main_v5 : IVec S16640x16640 32 := broadcastInDim S16640x16640 ![0, 1] bcast_S16640x1_S16640x16640_0_1 main_v3
  let main_v6 : IVec S16640x16640 32 := broadcastInDim S16640x16640 ![0, 1] bcast_S1x16640_S16640x16640_0_1 main_v4
  let main_v7 : IVec S16640x16640 1 := cmpi .sgt main_v5 main_v6
  let main_cst : FVec F S_ .bf16 := constant S_ .bf16 0xFF80#16
  let main_v8 : FVec F S16640x16640 .bf16 := broadcastInDim S16640x16640 ![] bcast_S_S16640x16640 main_cst
  let main_v9 : IVec S16640x16640 1 := cmpf .oeq main_arg3 main_v8
  let main_c_0 : IVec S_ 1 := constantI S_ 1 1#1
  let main_v10 : IVec S16640x16640 1 := fn_where (F := F) main_v7 main_v9 main_c_0
  let main_c_1 : IVec S_ 1 := constantI S_ 1 1#1
  let main_v11 : IVec S_ 1 := (fun x v => Host.reduce IntOp.andi x v reducesTo_S16640x16640_S_d0_1 h_S_) main_v10 main_c_1
  main_v11
-- ==== Kernel.lean ====
abbrev S16640x2048 : Shape := ⟨2, ![16640, 2048]⟩
abbrev S2048x16640 : Shape := ⟨2, ![2048, 16640]⟩
abbrev S16640x16640 : Shape := ⟨2, ![16640, 16640]⟩
abbrev S884 : Shape := ⟨1, ![884]⟩
abbrev S256x2048 : Shape := ⟨2, ![256, 2048]⟩
abbrev S1 : Shape := ⟨1, ![1]⟩
abbrev S640x2048 : Shape := ⟨2, ![640, 2048]⟩
abbrev S2048x640 : Shape := ⟨2, ![2048, 640]⟩
abbrev S640x256 : Shape := ⟨2, ![640, 256]⟩
abbrev S16x8x256 : Shape := ⟨3, ![16, 8, 256]⟩
abbrev S2048x256 : Shape := ⟨2, ![2048, 256]⟩
abbrev S16x640x256 : Shape := ⟨3, ![16, 640, 256]⟩
abbrev S256x128 : Shape := ⟨2, ![256, 128]⟩
abbrev S640x128 : Shape := ⟨2, ![640, 128]⟩
abbrev S1x640x256 : Shape := ⟨3, ![1, 640, 256]⟩
abbrev S256 : Shape := ⟨1, ![256]⟩
abbrev S1x256 : Shape := ⟨2, ![1, 256]⟩
abbrev S1x8x256 : Shape := ⟨3, ![1, 8, 256]⟩
abbrev S8x256 : Shape := ⟨2, ![8, 256]⟩
abbrev S128x640 : Shape := ⟨2, ![128, 640]⟩
abbrev S128x256 : Shape := ⟨2, ![128, 256]⟩

abbrev nBuf : Space → Nat
  | .hbm => 5
  | .vmem => 16
  | .smem => 2
  | _ => 0

abbrev bufTy : (tb : Table) → Fin (tcTables nBuf tb) → BufTy
  | .hbm, ⟨0, _⟩ => ⟨S16640x2048, .bf16⟩
  | .hbm, ⟨1, _⟩ => ⟨S16640x2048, .bf16⟩
  | .hbm, ⟨2, _⟩ => ⟨S2048x16640, .bf16⟩
  | .hbm, ⟨3, _⟩ => ⟨S16640x16640, .bf16⟩
  | .hbm, ⟨4, _⟩ => ⟨S16640x2048, .bf16⟩
  | .local _ .vmem, ⟨0, _⟩ => ⟨S256x2048, .bf16⟩
  | .local _ .vmem, ⟨1, _⟩ => ⟨S256x2048, .bf16⟩
  | .local _ .vmem, ⟨2, _⟩ => ⟨S640x2048, .bf16⟩
  | .local _ .vmem, ⟨3, _⟩ => ⟨S640x2048, .bf16⟩
  | .local _ .vmem, ⟨4, _⟩ => ⟨S2048x640, .bf16⟩
  | .local _ .vmem, ⟨5, _⟩ => ⟨S2048x640, .bf16⟩
  | .local _ .vmem, ⟨6, _⟩ => ⟨S640x256, .bf16⟩
  | .local _ .vmem, ⟨7, _⟩ => ⟨S640x256, .bf16⟩
  | .local _ .vmem, ⟨8, _⟩ => ⟨S256x2048, .bf16⟩
  | .local _ .vmem, ⟨9, _⟩ => ⟨S256x2048, .bf16⟩
  | .local _ .vmem, ⟨10, _⟩ => ⟨S16x8x256, .f32⟩
  | .local _ .vmem, ⟨11, _⟩ => ⟨S16x8x256, .f32⟩
  | .local _ .vmem, ⟨12, _⟩ => ⟨S2048x256, .f32⟩
  | .local _ .vmem, ⟨13, _⟩ => ⟨S640x256, .f32⟩
  | .local _ .vmem, ⟨14, _⟩ => ⟨S16x640x256, .f32⟩
  | .local _ .vmem, ⟨15, _⟩ => ⟨S16x640x256, .bf16⟩
  | .local _ .smem, ⟨0, _⟩ => ⟨S884, .i32⟩
  | .local _ .smem, ⟨1, _⟩ => ⟨S884, .i32⟩
  | _, _ => ⟨S16640x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![884], ![false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond2 (v1 : BitVec 32) (v3 : BitVec 32) : BitVec 1 :=
  let c1_i32 : BitVec 32 := 1#32
  let v828 : BitVec 32 := Scalar.addi v1 c1_i32
  let c256_i32 : BitVec 32 := 256#32
  let v829 : BitVec 32 := Scalar.muli v828 c256_i32
  let c1_i32_613 : BitVec 32 := 1#32
  let v830 : BitVec 32 := Scalar.subi v829 c1_i32_613
  let c0_i32_614 : BitVec 32 := 0#32
  let v832 : BitVec 1 := Scalar.cmpi .sgt v830 c0_i32_614
  let v833 : BitVec 32 := Scalar.extui v832
  let c0_i32_615 : BitVec 32 := 0#32
  let v834 : BitVec 1 := Scalar.cmpi .slt v830 c0_i32_615
  let v835 : BitVec 32 := Scalar.extui v834
  let v836 : BitVec 32 := Scalar.subi v833 v835
  let c640_i32 : BitVec 32 := 640#32
  let c0_i32_616 : BitVec 32 := 0#32
  let v837 : BitVec 1 := Scalar.cmpi .sgt c640_i32 c0_i32_616
  let v838 : BitVec 32 := Scalar.extui v837
  let c0_i32_617 : BitVec 32 := 0#32
  let v839 : BitVec 1 := Scalar.cmpi .slt c640_i32 c0_i32_617
  let v840 : BitVec 32 := Scalar.extui v839
  let v841 : BitVec 32 := Scalar.subi v838 v840
  let v842 : BitVec 1 := Scalar.cmpi .ne v836 v841
  let v843 : BitVec 32 := Scalar.remsi v830 c640_i32
  let c0_i32_618 : BitVec 32 := 0#32
  let v844 : BitVec 1 := Scalar.cmpi .ne v843 c0_i32_618
  let v845 : BitVec 1 := Scalar.andi v842 v844
  let v831 : BitVec 32 := Scalar.divsi v830 c640_i32
  let c1_i32_619 : BitVec 32 := 1#32
  let v846 : BitVec 32 := Scalar.subi v831 c1_i32_619
  let v847 : BitVec 32 := Scalar.select v845 v846 v831
  let v848 : BitVec 1 := Scalar.cmpi .eq v3 v847
  let v849 : BitVec 32 := Scalar.extui v848
  let c0_i32_620 : BitVec 32 := 0#32
  let v850 : BitVec 1 := Scalar.cmpi .ne v849 c0_i32_620
  v850

def cc0_transform_0 (k0_off1_inb : ∀ i : grid0.Coords, ∀ a, (k0_off1 i) a + S1.size a ≤ S884.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S884) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S884.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 1 (Rect.unit (s := S884) ![v0.toNat] S1.size (k0_off1_inb i)) numel1_S1
  let c0_i32 : BitVec 32 := 0#32
  let c0_i32_0 : BitVec 32 := 0#32
  ![v1.toNat, c0_i32.toNat]

def cc0_transform_2 (k0_off1_inb : ∀ i : grid0.Coords, ∀ a, (k0_off1 i) a + S1.size a ≤ S884.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 1 (Rect.unit (s := S884) ![v0.toNat] S1.size (k0_off1_inb i)) numel1_S1
  let c0_i32 : BitVec 32 := 0#32
  let c0_i32_0 : BitVec 32 := 0#32
  ![c0_i32.toNat, v1.toNat]

def cc0_transform_3 (k0_off1_inb : ∀ i : grid0.Coords, ∀ a, (k0_off1 i) a + S1.size a ≤ S884.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 1 (Rect.unit (s := S884) ![v0.toNat] S1.size (k0_off1_inb i)) numel1_S1
  let v2 : Index := Scalar.indexCast arg0
  let v3 : BitVec 32 := pf.at 0 (Rect.unit (s := S884) ![v2.toNat] S1.size (k0_off1_inb i)) numel1_S1
  let c0_i32 : BitVec 32 := 0#32
  ![v1.toNat, v3.toNat]

def cc0_transform_4 (k0_off1_inb : ∀ i : grid0.Coords, ∀ a, (k0_off1 i) a + S1.size a ≤ S884.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S884) ![v0.toNat] S1.size (k0_off1_inb i)) numel1_S1
  let c0_i32 : BitVec 32 := 0#32
  let c0_i32_0 : BitVec 32 := 0#32
  ![v1.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S640x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x640 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S640x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S16640x2048 : Shape := ⟨2, ![16640, 2048]⟩
abbrev S2048x16640 : Shape := ⟨2, ![2048, 16640]⟩
abbrev S16640x16640 : Shape := ⟨2, ![16640, 16640]⟩
abbrev S16640x16x128 : Shape := ⟨3, ![16640, 16, 128]⟩
abbrev S16x128x16640 : Shape := ⟨3, ![16, 128, 16640]⟩
abbrev S16x16640x16640 : Shape := ⟨3, ![16, 16640, 16640]⟩
abbrev S1x16640x16640 : Shape := ⟨3, ![1, 16640, 16640]⟩
abbrev S_ : Shape := ⟨0, ![]⟩
abbrev S16x16640 : Shape := ⟨2, ![16, 16640]⟩
abbrev S16x1x16640 : Shape := ⟨3, ![16, 1, 16640]⟩

abbrev nBuf : Space → Nat
  | .hbm => 30
  | .vmem => 0
  | .smem => 0
  | _ => 0

abbrev bufTy : (tb : Table) → Fin (tcTables nBuf tb) → BufTy
  | .hbm, ⟨0, _⟩ => ⟨S16640x2048, .bf16⟩
  | .hbm, ⟨1, _⟩ => ⟨S16640x2048, .bf16⟩
  | .hbm, ⟨2, _⟩ => ⟨S2048x16640, .bf16⟩
  | .hbm, ⟨3, _⟩ => ⟨S16640x16640, .bf16⟩
  | .hbm, ⟨4, _⟩ => ⟨S16640x16x128, .bf16⟩
  | .hbm, ⟨5, _⟩ => ⟨S16640x16x128, .bf16⟩
  | .hbm, ⟨6, _⟩ => ⟨S16x128x16640, .bf16⟩
  | .hbm, ⟨7, _⟩ => ⟨S16x16640x16640, .f32⟩
  | .hbm, ⟨8, _⟩ => ⟨S16640x16640, .f32⟩
  | .hbm, ⟨9, _⟩ => ⟨S1x16640x16640, .f32⟩
  | .hbm, ⟨10, _⟩ => ⟨S16x16640x16640, .f32⟩
  | .hbm, ⟨11, _⟩ => ⟨S16x16640x16640, .f32⟩
  | .hbm, ⟨12, _⟩ => ⟨S_, .f32⟩
  | .hbm, ⟨13, _⟩ => ⟨S16x16640, .f32⟩
  | .hbm, ⟨14, _⟩ => ⟨S16x1x16640, .f32⟩
  | .hbm, ⟨15, _⟩ => ⟨S16x16640x16640, .f32⟩
  | .hbm, ⟨16, _⟩ => ⟨S16x16640x16640, .f32⟩
  | .hbm, ⟨17, _⟩ => ⟨S_, .f32⟩
  | .hbm, ⟨18, _⟩ => ⟨S16x16640x16640, .f32⟩
  | .hbm, ⟨19, _⟩ => ⟨S16x16640x16640, .f32⟩
  | .hbm, ⟨20, _⟩ => ⟨S16x16640x16640, .bf16⟩
  | .hbm, ⟨21, _⟩ => ⟨S16x128x16640, .f32⟩
  | .hbm, ⟨22, _⟩ => ⟨S_, .f32⟩
  | .hbm, ⟨23, _⟩ => ⟨S16x16640, .f32⟩
  | .hbm, ⟨24, _⟩ => ⟨S16x1x16640, .f32⟩
  | .hbm, ⟨25, _⟩ => ⟨S16x128x16640, .f32⟩
  | .hbm, ⟨26, _⟩ => ⟨S16x128x16640, .f32⟩
  | .hbm, ⟨27, _⟩ => ⟨S16640x16x128, .f32⟩
  | .hbm, ⟨28, _⟩ => ⟨S16640x2048, .f32⟩
  | .hbm, ⟨29, _⟩ => ⟨S16640x2048, .bf16⟩
  | _, _ => ⟨S16640x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩

abbrev nD : Nat := 1
abbrev τ : Topo := Topo.v7x

variable {F : FTy → Type} [FloatOps F]
-- ==== Kernel2.lean ====
abbrev S16640x4096 : Shape := ⟨2, ![16640, 4096]⟩
abbrev S4096x11264 : Shape := ⟨2, ![4096, 11264]⟩
abbrev S8x22528 : Shape := ⟨2, ![8, 22528]⟩
abbrev S1x22528 : Shape := ⟨2, ![1, 22528]⟩
abbrev S16640x11264 : Shape := ⟨2, ![16640, 11264]⟩
abbrev S1280x4096 : Shape := ⟨2, ![1280, 4096]⟩
abbrev S4096x512 : Shape := ⟨2, ![4096, 512]⟩
abbrev S8x512 : Shape := ⟨2, ![8, 512]⟩
abbrev S1x512 : Shape := ⟨2, ![1, 512]⟩
abbrev S1280x512 : Shape := ⟨2, ![1280, 512]⟩
abbrev S320x1 : Shape := ⟨2, ![320, 1]⟩
abbrev S320x4096 : Shape := ⟨2, ![320, 4096]⟩
abbrev S320x512 : Shape := ⟨2, ![320, 512]⟩

abbrev nBuf : Space → Nat
  | .hbm => 6
  | .vmem => 18
  | .smem => 0
  | _ => 0

abbrev bufTy : (tb : Table) → Fin (tcTables nBuf tb) → BufTy
  | .hbm, ⟨0, _⟩ => ⟨S16640x4096, .bf16⟩
  | .hbm, ⟨1, _⟩ => ⟨S4096x11264, .bf16⟩
  | .hbm, ⟨2, _⟩ => ⟨S4096x11264, .bf16⟩
  | .hbm, ⟨3, _⟩ => ⟨S8x22528, .f32⟩
  | .hbm, ⟨4, _⟩ => ⟨S1x22528, .f32⟩
  | .hbm, ⟨5, _⟩ => ⟨S16640x11264, .bf16⟩
  | .local _ .vmem, ⟨0, _⟩ => ⟨S1280x4096, .bf16⟩
  | .local _ .vmem, ⟨1, _⟩ => ⟨S1280x4096, .bf16⟩
  | .local _ .vmem, ⟨2, _⟩ => ⟨S4096x512, .bf16⟩
  | .local _ .vmem, ⟨3, _⟩ => ⟨S4096x512, .bf16⟩
  | .local _ .vmem, ⟨4, _⟩ => ⟨S4096x512, .bf16⟩
  | .local _ .vmem, ⟨5, _⟩ => ⟨S4096x512, .bf16⟩
  | .local _ .vmem, ⟨6, _⟩ => ⟨S8x512, .f32⟩
  | .local _ .vmem, ⟨7, _⟩ => ⟨S8x512, .f32⟩
  | .local _ .vmem, ⟨8, _⟩ => ⟨S8x512, .f32⟩
  | .local _ .vmem, ⟨9, _⟩ => ⟨S8x512, .f32⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S1280x512, .bf16⟩
  | .local _ .vmem, ⟨15, _⟩ => ⟨S1280x512, .bf16⟩
  | .local _ .vmem, ⟨16, _⟩ => ⟨S8x512, .f32⟩
  | .local _ .vmem, ⟨17, _⟩ => ⟨S8x512, .f32⟩
  | _, _ => ⟨S16640x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![22, 13], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c22_i32 : BitVec 32 := 22#32
  let v0 : BitVec 32 := Scalar.addi c22_i32 arg0
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c22_i32 : BitVec 32 := 22#32
  let v0 : BitVec 32 := Scalar.addi c22_i32 arg0
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1280x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1280x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference2Ideal.lean ====
abbrev S16640x4096 : Shape := ⟨2, ![16640, 4096]⟩
abbrev S4096x11264 : Shape := ⟨2, ![4096, 11264]⟩
abbrev S8x22528 : Shape := ⟨2, ![8, 22528]⟩
abbrev S1x22528 : Shape := ⟨2, ![1, 22528]⟩
abbrev S8x11264 : Shape := ⟨2, ![8, 11264]⟩
abbrev S1x11264 : Shape := ⟨2, ![1, 11264]⟩
abbrev S16640x11264 : Shape := ⟨2, ![16640, 11264]⟩
abbrev S_ : Shape := ⟨0, ![]⟩
abbrev S16642x11264 : Shape := ⟨2, ![16642, 11264]⟩

abbrev nBuf : Space → Nat
  | .hbm => 60
  | .vmem => 0
  | .smem => 0
  | _ => 0

abbrev bufTy : (tb : Table) → Fin (tcTables nBuf tb) → BufTy
  | .hbm, ⟨0, _⟩ => ⟨S16640x4096, .bf16⟩
  | .hbm, ⟨1, _⟩ => ⟨S4096x11264, .bf16⟩
  | .hbm, ⟨2, _⟩ => ⟨S4096x11264, .bf16⟩
  | .hbm, ⟨3, _⟩ => ⟨S8x22528, .f32⟩
  | .hbm, ⟨4, _⟩ => ⟨S1x22528, .f32⟩
  | .hbm, ⟨5, _⟩ => ⟨S8x11264, .f32⟩
  | .hbm, ⟨6, _⟩ => ⟨S1x11264, .f32⟩
  | .hbm, ⟨7, _⟩ => ⟨S16640x11264, .f32⟩
  | .hbm, ⟨8, _⟩ => ⟨S_, .i32⟩
  | .hbm, ⟨9, _⟩ => ⟨S_, .f32⟩
  | .hbm, ⟨10, _⟩ => ⟨S16642x11264, .f32⟩
  | .hbm, ⟨11, _⟩ => ⟨S1x11264, .f32⟩
  | .hbm, ⟨12, _⟩ => ⟨S16640x11264, .f32⟩
  | .hbm, ⟨13, _⟩ => ⟨S16640x11264, .f32⟩
  | .hbm, ⟨14, _⟩ => ⟨S16640x11264, .f32⟩
  | .hbm, ⟨15, _⟩ => ⟨S1x11264, .f32⟩
  | .hbm, ⟨16, _⟩ => ⟨S16640x11264, .f32⟩
  | .hbm, ⟨17, _⟩ => ⟨S16640x11264, .f32⟩
  | .hbm, ⟨18, _⟩ => ⟨S16640x11264, .f32⟩
  | .hbm, ⟨19, _⟩ => ⟨S16640x11264, .f32⟩
  | .hbm, ⟨20, _⟩ => ⟨S1x11264, .f32⟩
  | .hbm, ⟨21, _⟩ => ⟨S16640x11264, .f32⟩
  | .hbm, ⟨22, _⟩ => ⟨S16640x11264, .f32⟩
  | .hbm, ⟨23, _⟩ => ⟨S16640x11264, .f32⟩
  | .hbm, ⟨24, _⟩ => ⟨S16640x11264, .f32⟩
  | .hbm, ⟨25, _⟩ => ⟨S16640x11264, .f32⟩
  | .hbm, ⟨26, _⟩ => ⟨S16640x11264, .f32⟩
  | .hbm, ⟨27, _⟩ => ⟨S8x11264, .f32⟩
  | .hbm, ⟨28, _⟩ => ⟨S1x11264, .f32⟩
  | .hbm, ⟨29, _⟩ => ⟨S16640x11264, .f32⟩
  | .hbm, ⟨30, _⟩ => ⟨S_, .i32⟩
  | .hbm, ⟨31, _⟩ => ⟨S_, .f32⟩
  | .hbm, ⟨32, _⟩ => ⟨S16642x11264, .f32⟩
  | .hbm, ⟨33, _⟩ => ⟨S1x11264, .f32⟩
  | .hbm, ⟨34, _⟩ => ⟨S16640x11264, .f32⟩
  | .hbm, ⟨35, _⟩ => ⟨S16640x11264, .f32⟩
  | .hbm, ⟨36, _⟩ => ⟨S16640x11264, .f32⟩
  | .hbm, ⟨37, _⟩ => ⟨S1x11264, .f32⟩
  | .hbm, ⟨38, _⟩ => ⟨S16640x11264, .f32⟩
  | .hbm, ⟨39, _⟩ => ⟨S16640x11264, .f32⟩
  | .hbm, ⟨40, _⟩ => ⟨S16640x11264, .f32⟩
  | .hbm, ⟨41, _⟩ => ⟨S16640x11264, .f32⟩
  | .hbm, ⟨42, _⟩ => ⟨S1x11264, .f32⟩
  | .hbm, ⟨43, _⟩ => ⟨S16640x11264, .f32⟩
  | .hbm, ⟨44, _⟩ => ⟨S16640x11264, .f32⟩
  | .hbm, ⟨45, _⟩ => ⟨S16640x11264, .f32⟩
  | .hbm, ⟨46, _⟩ => ⟨S16640x11264, .f32⟩
  | .hbm, ⟨47, _⟩ => ⟨S16640x11264, .f32⟩
  | .hbm, ⟨48, _⟩ => ⟨S16640x11264, .f32⟩
  | .hbm, ⟨49, _⟩ => ⟨S16640x11264, .f32⟩
  | .hbm, ⟨50, _⟩ => ⟨S16640x11264, .f32⟩
  | .hbm, ⟨51, _⟩ => ⟨S_, .f32⟩
  | .hbm, ⟨52, _⟩ => ⟨S16640x11264, .f32⟩
  | .hbm, ⟨53, _⟩ => ⟨S16640x11264, .f32⟩
  | .hbm, ⟨54, _⟩ => ⟨S_, .f32⟩
  | .hbm, ⟨55, _⟩ => ⟨S16640x11264, .f32⟩
  | .hbm, ⟨56, _⟩ => ⟨S16640x11264, .f32⟩
  | .hbm, ⟨57, _⟩ => ⟨S16640x11264, .f32⟩
  | .hbm, ⟨58, _⟩ => ⟨S16640x11264, .f32⟩
  | .hbm, ⟨59, _⟩ => ⟨S16640x11264, .bf16⟩
  | _, _ => ⟨S16640x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_c_0 : Ref sig .tc := ⟨.hbm, 30, rfl⟩
abbrev main_call1_v0 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_call2_v0 : Ref sig .tc := ⟨.hbm, 49, rfl⟩
abbrev main_call2_v1 : Ref sig .tc := ⟨.hbm, 50, rfl⟩
abbrev main_call2_cst : Ref sig .tc := ⟨.hbm, 51, rfl⟩
abbrev main_call2_v2 : Ref sig .tc := ⟨.hbm, 52, rfl⟩
abbrev main_call2_v3 : Ref sig .tc := ⟨.hbm, 53, rfl⟩
abbrev main_call2_cst_0 : Ref sig .tc := ⟨.hbm, 54, rfl⟩
abbrev main_call2_v4 : Ref sig .tc := ⟨.hbm, 55, rfl⟩
abbrev main_call2_v5 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩

abbrev nD : Nat := 1
abbrev τ : Topo := Topo.v7x

variable {F : FTy → Type} [FloatOps F]
-- ==== Kernel3.lean ====
abbrev S16640x11264 : Shape := ⟨2, ![16640, 11264]⟩
abbrev S11008x4096 : Shape := ⟨2, ![11008, 4096]⟩
abbrev S16640x4096 : Shape := ⟨2, ![16640, 4096]⟩
abbrev S640x11008 : Shape := ⟨2, ![640, 11008]⟩
abbrev S11008x256 : Shape := ⟨2, ![11008, 256]⟩
abbrev S640x256 : Shape := ⟨2, ![640, 256]⟩

abbrev nBuf : Space → Nat
  | .hbm => 4
  | .vmem => 8
  | .smem => 0
  | _ => 0

abbrev bufTy : (tb : Table) → Fin (tcTables nBuf tb) → BufTy
  | .hbm, ⟨0, _⟩ => ⟨S16640x11264, .bf16⟩
  | .hbm, ⟨1, _⟩ => ⟨S11008x4096, .bf16⟩
  | .hbm, ⟨2, _⟩ => ⟨S16640x4096, .f32⟩
  | .hbm, ⟨3, _⟩ => ⟨S16640x4096, .f32⟩
  | .local _ .vmem, ⟨0, _⟩ => ⟨S640x11008, .bf16⟩
  | .local _ .vmem, ⟨1, _⟩ => ⟨S640x11008, .bf16⟩
  | .local _ .vmem, ⟨2, _⟩ => ⟨S11008x256, .bf16⟩
  | .local _ .vmem, ⟨3, _⟩ => ⟨S11008x256, .bf16⟩
  | .local _ .vmem, ⟨4, _⟩ => ⟨S640x256, .f32⟩
  | .local _ .vmem, ⟨5, _⟩ => ⟨S640x256, .f32⟩
  | .local _ .vmem, ⟨6, _⟩ => ⟨S640x256, .f32⟩
  | .local _ .vmem, ⟨7, _⟩ => ⟨S640x256, .f32⟩
  | _, _ => ⟨S16640x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![26, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S640x11008 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S11008x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S640x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S640x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference3Ideal.lean ====
abbrev S16640x11264 : Shape := ⟨2, ![16640, 11264]⟩
abbrev S11008x4096 : Shape := ⟨2, ![11008, 4096]⟩
abbrev S16640x4096 : Shape := ⟨2, ![16640, 4096]⟩
abbrev S16640x11008 : Shape := ⟨2, ![16640, 11008]⟩

abbrev nBuf : Space → Nat
  | .hbm => 6
  | .vmem => 0
  | .smem => 0
  | _ => 0

abbrev bufTy : (tb : Table) → Fin (tcTables nBuf tb) → BufTy
  | .hbm, ⟨0, _⟩ => ⟨S16640x11264, .bf16⟩
  | .hbm, ⟨1, _⟩ => ⟨S11008x4096, .bf16⟩
  | .hbm, ⟨2, _⟩ => ⟨S16640x4096, .f32⟩
  | .hbm, ⟨3, _⟩ => ⟨S16640x11008, .bf16⟩
  | .hbm, ⟨4, _⟩ => ⟨S16640x4096, .f32⟩
  | .hbm, ⟨5, _⟩ => ⟨S16640x4096, .f32⟩
  | _, _ => ⟨S16640x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel4.lean ====
abbrev S16640x4096 : Shape := ⟨2, ![16640, 4096]⟩
abbrev S4096x8192 : Shape := ⟨2, ![4096, 8192]⟩
abbrev S16640x8192 : Shape := ⟨2, ![16640, 8192]⟩
abbrev S1280x4096 : Shape := ⟨2, ![1280, 4096]⟩
abbrev S4096x1024 : Shape := ⟨2, ![4096, 1024]⟩
abbrev S1280x1024 : Shape := ⟨2, ![1280, 1024]⟩
abbrev S320x4096 : Shape := ⟨2, ![320, 4096]⟩
abbrev S320x1024 : Shape := ⟨2, ![320, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16640x4096, .bf16⟩
  | .hbm, ⟨1, _⟩ => ⟨S4096x8192, .bf16⟩
  | .hbm, ⟨2, _⟩ => ⟨S16640x8192, .bf16⟩
  | .local _ .vmem, ⟨0, _⟩ => ⟨S1280x4096, .bf16⟩
  | .local _ .vmem, ⟨1, _⟩ => ⟨S1280x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1280x1024, .bf16⟩
  | .local _ .vmem, ⟨5, _⟩ => ⟨S1280x1024, .bf16⟩
  | _, _ => ⟨S16640x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![13, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1280x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1280x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S16640x4096 : Shape := ⟨2, ![16640, 4096]⟩
abbrev S4096x8192 : Shape := ⟨2, ![4096, 8192]⟩
abbrev S16640x8192 : Shape := ⟨2, ![16640, 8192]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S16640x4096, .bf16⟩
  | .hbm, ⟨1, _⟩ => ⟨S4096x8192, .bf16⟩
  | .hbm, ⟨2, _⟩ => ⟨S16640x8192, .f32⟩
  | .hbm, ⟨3, _⟩ => ⟨S16640x8192, .f32⟩
  | .hbm, ⟨4, _⟩ => ⟨S16640x8192, .f32⟩
  | .hbm, ⟨5, _⟩ => ⟨S_, .f32⟩
  | .hbm, ⟨6, _⟩ => ⟨S16640x8192, .f32⟩
  | .hbm, ⟨7, _⟩ => ⟨S16640x8192, .f32⟩
  | .hbm, ⟨8, _⟩ => ⟨S_, .f32⟩
  | .hbm, ⟨9, _⟩ => ⟨S16640x8192, .f32⟩
  | .hbm, ⟨10, _⟩ => ⟨S16640x8192, .f32⟩
  | .hbm, ⟨11, _⟩ => ⟨S16640x8192, .bf16⟩
  | _, _ => ⟨S16640x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel5.lean ====
abbrev S16640x2048 : Shape := ⟨2, ![16640, 2048]⟩
abbrev S2048x4096 : Shape := ⟨2, ![2048, 4096]⟩
abbrev S16640x8192 : Shape := ⟨2, ![16640, 8192]⟩
abbrev S16640x4096 : Shape := ⟨2, ![16640, 4096]⟩
abbrev S1280x2048 : Shape := ⟨2, ![1280, 2048]⟩
abbrev S2048x512 : Shape := ⟨2, ![2048, 512]⟩
abbrev S1280x512 : Shape := ⟨2, ![1280, 512]⟩
abbrev S320x2048 : Shape := ⟨2, ![320, 2048]⟩
abbrev S320x512 : Shape := ⟨2, ![320, 512]⟩

abbrev nBuf : Space → Nat
  | .hbm => 6
  | .vmem => 14
  | .smem => 0
  | _ => 0

abbrev bufTy : (tb : Table) → Fin (tcTables nBuf tb) → BufTy
  | .hbm, ⟨0, _⟩ => ⟨S16640x2048, .bf16⟩
  | .hbm, ⟨1, _⟩ => ⟨S16640x2048, .bf16⟩
  | .hbm, ⟨2, _⟩ => ⟨S2048x4096, .bf16⟩
  | .hbm, ⟨3, _⟩ => ⟨S2048x4096, .bf16⟩
  | .hbm, ⟨4, _⟩ => ⟨S16640x8192, .bf16⟩
  | .hbm, ⟨5, _⟩ => ⟨S16640x4096, .bf16⟩
  | .local _ .vmem, ⟨0, _⟩ => ⟨S1280x2048, .bf16⟩
  | .local _ .vmem, ⟨1, _⟩ => ⟨S1280x2048, .bf16⟩
  | .local _ .vmem, ⟨2, _⟩ => ⟨S1280x2048, .bf16⟩
  | .local _ .vmem, ⟨3, _⟩ => ⟨S1280x2048, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S1280x512, .bf16⟩
  | .local _ .vmem, ⟨9, _⟩ => ⟨S1280x512, .bf16⟩
  | .local _ .vmem, ⟨10, _⟩ => ⟨S1280x512, .bf16⟩
  | .local _ .vmem, ⟨11, _⟩ => ⟨S1280x512, .bf16⟩
  | .local _ .vmem, ⟨12, _⟩ => ⟨S1280x512, .bf16⟩
  | .local _ .vmem, ⟨13, _⟩ => ⟨S1280x512, .bf16⟩
  | _, _ => ⟨S16640x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![13, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi arg1 c8_i32
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1280x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1280x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1280x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1280x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1280x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== Reference5Ideal.lean ====
abbrev S16640x2048 : Shape := ⟨2, ![16640, 2048]⟩
abbrev S2048x4096 : Shape := ⟨2, ![2048, 4096]⟩
abbrev S16640x8192 : Shape := ⟨2, ![16640, 8192]⟩
abbrev S16640x4096 : Shape := ⟨2, ![16640, 4096]⟩

abbrev nBuf : Space → Nat
  | .hbm => 15
  | .vmem => 0
  | .smem => 0
  | _ => 0

abbrev bufTy : (tb : Table) → Fin (tcTables nBuf tb) → BufTy
  | .hbm, ⟨0, _⟩ => ⟨S16640x2048, .bf16⟩
  | .hbm, ⟨1, _⟩ => ⟨S16640x2048, .bf16⟩
  | .hbm, ⟨2, _⟩ => ⟨S2048x4096, .bf16⟩
  | .hbm, ⟨3, _⟩ => ⟨S2048x4096, .bf16⟩
  | .hbm, ⟨4, _⟩ => ⟨S16640x8192, .bf16⟩
  | .hbm, ⟨5, _⟩ => ⟨S16640x4096, .f32⟩
  | .hbm, ⟨6, _⟩ => ⟨S16640x4096, .f32⟩
  | .hbm, ⟨7, _⟩ => ⟨S16640x4096, .bf16⟩
  | .hbm, ⟨8, _⟩ => ⟨S16640x4096, .f32⟩
  | .hbm, ⟨9, _⟩ => ⟨S16640x4096, .f32⟩
  | .hbm, ⟨10, _⟩ => ⟨S16640x4096, .bf16⟩
  | .hbm, ⟨11, _⟩ => ⟨S16640x4096, .f32⟩
  | .hbm, ⟨12, _⟩ => ⟨S16640x4096, .f32⟩
  | .hbm, ⟨13, _⟩ => ⟨S16640x4096, .f32⟩
  | .hbm, ⟨14, _⟩ => ⟨S16640x4096, .bf16⟩
  | _, _ => ⟨S16640x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== Kernel6.lean ====
abbrev S16640x4096 : Shape := ⟨2, ![16640, 4096]⟩
abbrev S4096x6144 : Shape := ⟨2, ![4096, 6144]⟩
abbrev S16640x6144 : Shape := ⟨2, ![16640, 6144]⟩
abbrev S1280x4096 : Shape := ⟨2, ![1280, 4096]⟩
abbrev S4096x768 : Shape := ⟨2, ![4096, 768]⟩
abbrev S1280x768 : Shape := ⟨2, ![1280, 768]⟩
abbrev S320x4096 : Shape := ⟨2, ![320, 4096]⟩
abbrev S320x768 : Shape := ⟨2, ![320, 768]⟩

abbrev nBuf : Space → Nat
  | .hbm => 3
  | .vmem => 6
  | .smem => 0
  | _ => 0

abbrev bufTy : (tb : Table) → Fin (tcTables nBuf tb) → BufTy
  | .hbm, ⟨0, _⟩ => ⟨S16640x4096, .bf16⟩
  | .hbm, ⟨1, _⟩ => ⟨S4096x6144, .bf16⟩
  | .hbm, ⟨2, _⟩ => ⟨S16640x6144, .f32⟩
  | .local _ .vmem, ⟨0, _⟩ => ⟨S1280x4096, .bf16⟩
  | .local _ .vmem, ⟨1, _⟩ => ⟨S1280x4096, .bf16⟩
  | .local _ .vmem, ⟨2, _⟩ => ⟨S4096x768, .bf16⟩
  | .local _ .vmem, ⟨3, _⟩ => ⟨S4096x768, .bf16⟩
  | .local _ .vmem, ⟨4, _⟩ => ⟨S1280x768, .f32⟩
  | .local _ .vmem, ⟨5, _⟩ => ⟨S1280x768, .f32⟩
  | _, _ => ⟨S16640x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![13, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1280x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1280x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S16640x4096 : Shape := ⟨2, ![16640, 4096]⟩
abbrev S4096x6144 : Shape := ⟨2, ![4096, 6144]⟩
abbrev S16640x6144 : Shape := ⟨2, ![16640, 6144]⟩

abbrev nBuf : Space → Nat
  | .hbm => 3
  | .vmem => 0
  | .smem => 0
  | _ => 0

abbrev bufTy : (tb : Table) → Fin (tcTables nBuf tb) → BufTy
  | .hbm, ⟨0, _⟩ => ⟨S16640x4096, .bf16⟩
  | .hbm, ⟨1, _⟩ => ⟨S4096x6144, .bf16⟩
  | .hbm, ⟨2, _⟩ => ⟨S16640x6144, .f32⟩
  | _, _ => ⟨S16640x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel7.lean ====
abbrev S16640x4096 : Shape := ⟨2, ![16640, 4096]⟩
abbrev S4096x4096 : Shape := ⟨2, ![4096, 4096]⟩
abbrev S1280x4096 : Shape := ⟨2, ![1280, 4096]⟩
abbrev S4096x512 : Shape := ⟨2, ![4096, 512]⟩
abbrev S1280x512 : Shape := ⟨2, ![1280, 512]⟩
abbrev S320x4096 : Shape := ⟨2, ![320, 4096]⟩
abbrev S320x512 : Shape := ⟨2, ![320, 512]⟩

abbrev nBuf : Space → Nat
  | .hbm => 4
  | .vmem => 8
  | .smem => 0
  | _ => 0

abbrev bufTy : (tb : Table) → Fin (tcTables nBuf tb) → BufTy
  | .hbm, ⟨0, _⟩ => ⟨S16640x4096, .bf16⟩
  | .hbm, ⟨1, _⟩ => ⟨S4096x4096, .bf16⟩
  | .hbm, ⟨2, _⟩ => ⟨S16640x4096, .f32⟩
  | .hbm, ⟨3, _⟩ => ⟨S16640x4096, .f32⟩
  | .local _ .vmem, ⟨0, _⟩ => ⟨S1280x4096, .bf16⟩
  | .local _ .vmem, ⟨1, _⟩ => ⟨S1280x4096, .bf16⟩
  | .local _ .vmem, ⟨2, _⟩ => ⟨S4096x512, .bf16⟩
  | .local _ .vmem, ⟨3, _⟩ => ⟨S4096x512, .bf16⟩
  | .local _ .vmem, ⟨4, _⟩ => ⟨S1280x512, .f32⟩
  | .local _ .vmem, ⟨5, _⟩ => ⟨S1280x512, .f32⟩
  | .local _ .vmem, ⟨6, _⟩ => ⟨S1280x512, .f32⟩
  | .local _ .vmem, ⟨7, _⟩ => ⟨S1280x512, .f32⟩
  | _, _ => ⟨S16640x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![13, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1280x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1280x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1280x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference7Ideal.lean ====
abbrev S16640x4096 : Shape := ⟨2, ![16640, 4096]⟩
abbrev S4096x4096 : Shape := ⟨2, ![4096, 4096]⟩

abbrev nBuf : Space → Nat
  | .hbm => 5
  | .vmem => 0
  | .smem => 0
  | _ => 0

abbrev bufTy : (tb : Table) → Fin (tcTables nBuf tb) → BufTy
  | .hbm, ⟨0, _⟩ => ⟨S16640x4096, .bf16⟩
  | .hbm, ⟨1, _⟩ => ⟨S4096x4096, .bf16⟩
  | .hbm, ⟨2, _⟩ => ⟨S16640x4096, .f32⟩
  | .hbm, ⟨3, _⟩ => ⟨S16640x4096, .f32⟩
  | .hbm, ⟨4, _⟩ => ⟨S16640x4096, .f32⟩
  | _, _ => ⟨S16640x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel8.lean ====
abbrev S16640x4096 : Shape := ⟨2, ![16640, 4096]⟩
abbrev S4096x2048 : Shape := ⟨2, ![4096, 2048]⟩
abbrev S16640x2048 : Shape := ⟨2, ![16640, 2048]⟩
abbrev S1280x4096 : Shape := ⟨2, ![1280, 4096]⟩
abbrev S4096x1024 : Shape := ⟨2, ![4096, 1024]⟩
abbrev S1280x1024 : Shape := ⟨2, ![1280, 1024]⟩
abbrev S320x4096 : Shape := ⟨2, ![320, 4096]⟩
abbrev S320x1024 : Shape := ⟨2, ![320, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16640x4096, .bf16⟩
  | .hbm, ⟨1, _⟩ => ⟨S4096x2048, .bf16⟩
  | .hbm, ⟨2, _⟩ => ⟨S16640x2048, .bf16⟩
  | .local _ .vmem, ⟨0, _⟩ => ⟨S1280x4096, .bf16⟩
  | .local _ .vmem, ⟨1, _⟩ => ⟨S1280x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1280x1024, .bf16⟩
  | .local _ .vmem, ⟨5, _⟩ => ⟨S1280x1024, .bf16⟩
  | _, _ => ⟨S16640x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![13, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1280x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1280x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S16640x4096 : Shape := ⟨2, ![16640, 4096]⟩
abbrev S4096x2048 : Shape := ⟨2, ![4096, 2048]⟩
abbrev S16640x2048 : Shape := ⟨2, ![16640, 2048]⟩

abbrev nBuf : Space → Nat
  | .hbm => 4
  | .vmem => 0
  | .smem => 0
  | _ => 0

abbrev bufTy : (tb : Table) → Fin (tcTables nBuf tb) → BufTy
  | .hbm, ⟨0, _⟩ => ⟨S16640x4096, .bf16⟩
  | .hbm, ⟨1, _⟩ => ⟨S4096x2048, .bf16⟩
  | .hbm, ⟨2, _⟩ => ⟨S16640x2048, .f32⟩
  | .hbm, ⟨3, _⟩ => ⟨S16640x2048, .bf16⟩
  | _, _ => ⟨S16640x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel9.lean ====
abbrev S16640x4096 : Shape := ⟨2, ![16640, 4096]⟩
abbrev S4096x1280 : Shape := ⟨2, ![4096, 1280]⟩
abbrev S16640x1280 : Shape := ⟨2, ![16640, 1280]⟩
abbrev S640x4096 : Shape := ⟨2, ![640, 4096]⟩
abbrev S640x1280 : Shape := ⟨2, ![640, 1280]⟩

abbrev nBuf : Space → Nat
  | .hbm => 3
  | .vmem => 5
  | .smem => 0
  | _ => 0

abbrev bufTy : (tb : Table) → Fin (tcTables nBuf tb) → BufTy
  | .hbm, ⟨0, _⟩ => ⟨S16640x4096, .bf16⟩
  | .hbm, ⟨1, _⟩ => ⟨S4096x1280, .bf16⟩
  | .hbm, ⟨2, _⟩ => ⟨S16640x1280, .f32⟩
  | .local _ .vmem, ⟨0, _⟩ => ⟨S640x4096, .bf16⟩
  | .local _ .vmem, ⟨1, _⟩ => ⟨S640x4096, .bf16⟩
  | .local _ .vmem, ⟨2, _⟩ => ⟨S4096x1280, .bf16⟩
  | .local _ .vmem, ⟨3, _⟩ => ⟨S640x1280, .f32⟩
  | .local _ .vmem, ⟨4, _⟩ => ⟨S640x1280, .f32⟩
  | _, _ => ⟨S16640x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![26, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S640x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1280 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S640x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S16640x4096 : Shape := ⟨2, ![16640, 4096]⟩
abbrev S4096x1280 : Shape := ⟨2, ![4096, 1280]⟩
abbrev S16640x1280 : Shape := ⟨2, ![16640, 1280]⟩

abbrev nBuf : Space → Nat
  | .hbm => 3
  | .vmem => 0
  | .smem => 0
  | _ => 0

abbrev bufTy : (tb : Table) → Fin (tcTables nBuf tb) → BufTy
  | .hbm, ⟨0, _⟩ => ⟨S16640x4096, .bf16⟩
  | .hbm, ⟨1, _⟩ => ⟨S4096x1280, .bf16⟩
  | .hbm, ⟨2, _⟩ => ⟨S16640x1280, .f32⟩
  | _, _ => ⟨S16640x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel11.lean ====
abbrev S16640x4096 : Shape := ⟨2, ![16640, 4096]⟩
abbrev S4096 : Shape := ⟨1, ![4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S16640x4096, .f32⟩
  | .hbm, ⟨1, _⟩ => ⟨S4096, .f32⟩
  | .hbm, ⟨2, _⟩ => ⟨S1x4096, .f32⟩
  | .hbm, ⟨3, _⟩ => ⟨S16640x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .bf16⟩
  | .local _ .vmem, ⟨4, _⟩ => ⟨S256x4096, .bf16⟩
  | _, _ => ⟨S16640x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![65], ![false]⟩

def k0_mult1 (i : grid0.Coords) : BitVec 32 :=
  let arg0 : BitVec 32 := BitVec.ofNat 32 (i 0).val
  let c256_i32 : BitVec 32 := 256#32
  let v0 : BitVec 32 := Scalar.muli arg0 c256_i32
  let c0_i32 : BitVec 32 := 0#32
  let v1 : BitVec 32 := Scalar.addi v0 c0_i32
  v1
def cc0_transform_0 (i : grid0.Coords) : Fin 2 → Nat :=
  let arg0 : BitVec 32 := BitVec.ofNat 32 (i 0).val
  let c256_i32 : BitVec 32 := 256#32
  let v0 : BitVec 32 := Scalar.muli arg0 c256_i32
  let c0_i32 : BitVec 32 := 0#32
  let v1 : BitVec 32 := Scalar.addi v0 c0_i32
  let v2 : BitVec 32 := v1
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference11Ideal.lean ====
abbrev S16640x4096 : Shape := ⟨2, ![16640, 4096]⟩
abbrev S4096 : Shape := ⟨1, ![4096]⟩
abbrev S_ : Shape := ⟨0, ![]⟩
abbrev S16640 : Shape := ⟨1, ![16640]⟩
abbrev S16640x1 : Shape := ⟨2, ![16640, 1]⟩
abbrev S1x4096 : Shape := ⟨2, ![1, 4096]⟩

abbrev nBuf : Space → Nat
  | .hbm => 19
  | .vmem => 0
  | .smem => 0
  | _ => 0

abbrev bufTy : (tb : Table) → Fin (tcTables nBuf tb) → BufTy
  | .hbm, ⟨0, _⟩ => ⟨S16640x4096, .f32⟩
  | .hbm, ⟨1, _⟩ => ⟨S4096, .f32⟩
  | .hbm, ⟨2, _⟩ => ⟨S16640x4096, .f32⟩
  | .hbm, ⟨3, _⟩ => ⟨S_, .f32⟩
  | .hbm, ⟨4, _⟩ => ⟨S16640, .f32⟩
  | .hbm, ⟨5, _⟩ => ⟨S16640x1, .f32⟩
  | .hbm, ⟨6, _⟩ => ⟨S_, .f32⟩
  | .hbm, ⟨7, _⟩ => ⟨S16640x1, .f32⟩
  | .hbm, ⟨8, _⟩ => ⟨S16640x1, .f32⟩
  | .hbm, ⟨9, _⟩ => ⟨S_, .f32⟩
  | .hbm, ⟨10, _⟩ => ⟨S16640x1, .f32⟩
  | .hbm, ⟨11, _⟩ => ⟨S16640x1, .f32⟩
  | .hbm, ⟨12, _⟩ => ⟨S16640x1, .f32⟩
  | .hbm, ⟨13, _⟩ => ⟨S16640x4096, .f32⟩
  | .hbm, ⟨14, _⟩ => ⟨S16640x4096, .f32⟩
  | .hbm, ⟨15, _⟩ => ⟨S1x4096, .f32⟩
  | .hbm, ⟨16, _⟩ => ⟨S16640x4096, .f32⟩
  | .hbm, ⟨17, _⟩ => ⟨S16640x4096, .f32⟩
  | .hbm, ⟨18, _⟩ => ⟨S16640x4096, .bf16⟩
  | _, _ => ⟨S16640x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel12.lean ====
abbrev S16640x4096 : Shape := ⟨2, ![16640, 4096]⟩
abbrev S4096 : Shape := ⟨1, ![4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S16640x4096, .f32⟩
  | .hbm, ⟨1, _⟩ => ⟨S4096, .f32⟩
  | .hbm, ⟨2, _⟩ => ⟨S1x4096, .f32⟩
  | .hbm, ⟨3, _⟩ => ⟨S16640x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .bf16⟩
  | .local _ .vmem, ⟨4, _⟩ => ⟨S256x4096, .bf16⟩
  | _, _ => ⟨S16640x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![65], ![false]⟩

def k0_mult1 (i : grid0.Coords) : BitVec 32 :=
  let arg0 : BitVec 32 := BitVec.ofNat 32 (i 0).val
  let c256_i32 : BitVec 32 := 256#32
  let v0 : BitVec 32 := Scalar.muli arg0 c256_i32
  let c0_i32 : BitVec 32 := 0#32
  let v1 : BitVec 32 := Scalar.addi v0 c0_i32
  v1
def cc0_transform_0 (i : grid0.Coords) : Fin 2 → Nat :=
  let arg0 : BitVec 32 := BitVec.ofNat 32 (i 0).val
  let c256_i32 : BitVec 32 := 256#32
  let v0 : BitVec 32 := Scalar.muli arg0 c256_i32
  let c0_i32 : BitVec 32 := 0#32
  let v1 : BitVec 32 := Scalar.addi v0 c0_i32
  let v2 : BitVec 32 := v1
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference12Ideal.lean ====
abbrev S16640x4096 : Shape := ⟨2, ![16640, 4096]⟩
abbrev S4096 : Shape := ⟨1, ![4096]⟩
abbrev S_ : Shape := ⟨0, ![]⟩
abbrev S16640 : Shape := ⟨1, ![16640]⟩
abbrev S16640x1 : Shape := ⟨2, ![16640, 1]⟩
abbrev S1x4096 : Shape := ⟨2, ![1, 4096]⟩

abbrev nBuf : Space → Nat
  | .hbm => 29
  | .vmem => 0
  | .smem => 0
  | _ => 0

abbrev bufTy : (tb : Table) → Fin (tcTables nBuf tb) → BufTy
  | .hbm, ⟨0, _⟩ => ⟨S16640x4096, .f32⟩
  | .hbm, ⟨1, _⟩ => ⟨S4096, .f32⟩
  | .hbm, ⟨2, _⟩ => ⟨S16640x4096, .f32⟩
  | .hbm, ⟨3, _⟩ => ⟨S_, .f32⟩
  | .hbm, ⟨4, _⟩ => ⟨S16640, .f32⟩
  | .hbm, ⟨5, _⟩ => ⟨S16640x1, .f32⟩
  | .hbm, ⟨6, _⟩ => ⟨S_, .f32⟩
  | .hbm, ⟨7, _⟩ => ⟨S16640x1, .f32⟩
  | .hbm, ⟨8, _⟩ => ⟨S16640x1, .f32⟩
  | .hbm, ⟨9, _⟩ => ⟨S_, .f32⟩
  | .hbm, ⟨10, _⟩ => ⟨S16640x1, .f32⟩
  | .hbm, ⟨11, _⟩ => ⟨S16640x1, .f32⟩
  | .hbm, ⟨12, _⟩ => ⟨S16640x1, .f32⟩
  | .hbm, ⟨13, _⟩ => ⟨S16640x4096, .f32⟩
  | .hbm, ⟨14, _⟩ => ⟨S16640x4096, .f32⟩
  | .hbm, ⟨15, _⟩ => ⟨S1x4096, .f32⟩
  | .hbm, ⟨16, _⟩ => ⟨S16640x4096, .f32⟩
  | .hbm, ⟨17, _⟩ => ⟨S16640x4096, .f32⟩
  | .hbm, ⟨18, _⟩ => ⟨S16640, .i32⟩
  | .hbm, ⟨19, _⟩ => ⟨S16640x1, .i32⟩
  | .hbm, ⟨20, _⟩ => ⟨S_, .i32⟩
  | .hbm, ⟨21, _⟩ => ⟨S16640x1, .i32⟩
  | .hbm, ⟨22, _⟩ => ⟨S16640x1, .i1⟩
  | .hbm, ⟨23, _⟩ => ⟨S_, .f32⟩
  | .hbm, ⟨24, _⟩ => ⟨S_, .f32⟩
  | .hbm, ⟨25, _⟩ => ⟨S16640x4096, .i1⟩
  | .hbm, ⟨26, _⟩ => ⟨S16640x4096, .f32⟩
  | .hbm, ⟨27, _⟩ => ⟨S16640x4096, .f32⟩
  | .hbm, ⟨28, _⟩ => ⟨S16640x4096, .bf16⟩
  | _, _ => ⟨S16640x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_c : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v17 : Ref sig .tc := ⟨.hbm, 27, rfl⟩
abbrev main_v18 : Ref sig .tc := ⟨.hbm, 28, rfl⟩

abbrev nD : Nat := 1
abbrev τ : Topo := Topo.v7x

variable {F : FTy → Type} [FloatOps F]
-- ==== Kernel13.lean ====
abbrev S16640x4096 : Shape := ⟨2, ![16640, 4096]⟩
abbrev S4096 : Shape := ⟨1, ![4096]⟩
abbrev S1x4096 : Shape := ⟨2, ![1, 4096]⟩
abbrev S16384x4096 : Shape := ⟨2, ![16384, 4096]⟩
abbrev S256x4096 : Shape := ⟨2, ![256, 4096]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S16640x4096, .f32⟩
  | .hbm, ⟨1, _⟩ => ⟨S4096, .f32⟩
  | .hbm, ⟨2, _⟩ => ⟨S1x4096, .f32⟩
  | .hbm, ⟨3, _⟩ => ⟨S16384x4096, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .f32⟩
  | .local _ .vmem, ⟨4, _⟩ => ⟨S256x4096, .f32⟩
  | _, _ => ⟨S16640x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def k0_mult1 (i : grid0.Coords) : BitVec 32 :=
  let arg0 : BitVec 32 := BitVec.ofNat 32 (i 0).val
  let c256_i32 : BitVec 32 := 256#32
  let v0 : BitVec 32 := Scalar.muli arg0 c256_i32
  let c64_i32 : BitVec 32 := 64#32
  let v1 : BitVec 32 := Scalar.addi v0 c64_i32
  v1
def cc0_transform_0 (i : grid0.Coords) : Fin 2 → Nat :=
  let arg0 : BitVec 32 := BitVec.ofNat 32 (i 0).val
  let c256_i32 : BitVec 32 := 256#32
  let v0 : BitVec 32 := Scalar.muli arg0 c256_i32
  let c64_i32 : BitVec 32 := 64#32
  let v1 : BitVec 32 := Scalar.addi v0 c64_i32
  let v2 : BitVec 32 := v1
  let c0_i32 : BitVec 32 := 0#32
  let c0_i32_0 : BitVec 32 := 0#32
  ![v2.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference13Ideal.lean ====
abbrev S16640x4096 : Shape := ⟨2, ![16640, 4096]⟩
abbrev S4096 : Shape := ⟨1, ![4096]⟩
abbrev S_ : Shape := ⟨0, ![]⟩
abbrev S16640 : Shape := ⟨1, ![16640]⟩
abbrev S16640x1 : Shape := ⟨2, ![16640, 1]⟩
abbrev S1x4096 : Shape := ⟨2, ![1, 4096]⟩
abbrev S16384x4096 : Shape := ⟨2, ![16384, 4096]⟩

abbrev nBuf : Space → Nat
  | .hbm => 19
  | .vmem => 0
  | .smem => 0
  | _ => 0

abbrev bufTy : (tb : Table) → Fin (tcTables nBuf tb) → BufTy
  | .hbm, ⟨0, _⟩ => ⟨S16640x4096, .f32⟩
  | .hbm, ⟨1, _⟩ => ⟨S4096, .f32⟩
  | .hbm, ⟨2, _⟩ => ⟨S16640x4096, .f32⟩
  | .hbm, ⟨3, _⟩ => ⟨S_, .f32⟩
  | .hbm, ⟨4, _⟩ => ⟨S16640, .f32⟩
  | .hbm, ⟨5, _⟩ => ⟨S16640x1, .f32⟩
  | .hbm, ⟨6, _⟩ => ⟨S_, .f32⟩
  | .hbm, ⟨7, _⟩ => ⟨S16640x1, .f32⟩
  | .hbm, ⟨8, _⟩ => ⟨S16640x1, .f32⟩
  | .hbm, ⟨9, _⟩ => ⟨S_, .f32⟩
  | .hbm, ⟨10, _⟩ => ⟨S16640x1, .f32⟩
  | .hbm, ⟨11, _⟩ => ⟨S16640x1, .f32⟩
  | .hbm, ⟨12, _⟩ => ⟨S16640x1, .f32⟩
  | .hbm, ⟨13, _⟩ => ⟨S16640x4096, .f32⟩
  | .hbm, ⟨14, _⟩ => ⟨S16640x4096, .f32⟩
  | .hbm, ⟨15, _⟩ => ⟨S1x4096, .f32⟩
  | .hbm, ⟨16, _⟩ => ⟨S16640x4096, .f32⟩
  | .hbm, ⟨17, _⟩ => ⟨S16640x4096, .f32⟩
  | .hbm, ⟨18, _⟩ => ⟨S16384x4096, .f32⟩
  | _, _ => ⟨S16640x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Proof.AttnIdeal.Pins.lean ====
/- The two tables of the attention call: which query block and which key tile each grid point works on.
   Follows the text the frame generator writes for a call whose tables are arguments; here the tables are the
   constants the host writes before the call. -/
module

public import proofs.«01_k».proof.KernelIdeal
public import proofs.«01_k».proof.Proof.Gen.KernelIdeal
public import proofs.«01_k».proof.Proof.Gen.KernelIdeal.Launch
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384
-- ONE DECLARATION AT A TIME: a per-path run alone peaks near 3 GB, and a decided theorem's kernel evaluation is freed
-- only when the next declaration begins (side by side, every finished one is held to the module's end)
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The certificate is written at the CLOSED instance `Ideal` (the frame claim's): every pinned word a `BitVec`. -/
local notation "𝕄" => MT nD τ sig Unit (Elt Ideal) ℕ (UR sig nD τ) ℕ

/-- The tables and scratches the kernel is handed, whole, at their literal types. -/
abbrev tbM0_0 : Memref sig .tc .smem S884 .i32 := Memref.whole main_c
abbrev tbM0_1 : Memref sig .tc .smem S884 .i32 := Memref.whole main_c_0
abbrev scM0_0 : Memref sig .tc .vmem S16x8x256 .f32 := Memref.whole cc0_scratch0
abbrev scM0_1 : Memref sig .tc .vmem S16x8x256 .f32 := Memref.whole cc0_scratch1
abbrev scM0_2 : Memref sig .tc .vmem S2048x256 .f32 := Memref.whole cc0_scratch2
abbrev scM0_3 : Memref sig .tc .vmem S640x256 .f32 := Memref.whole cc0_scratch3
abbrev scM0_4 : Memref sig .tc .vmem S16x640x256 .f32 := Memref.whole cc0_scratch4
abbrev scM0_5 : Memref sig .tc .vmem S16x640x256 .bf16 := Memref.whole cc0_scratch5

/-! ## The pinned words: the tables and the steering windows' arrays, closed forms of the schedule index `ch` -/

/- THE SCHEDULE INDEX the whole certificate is stated for: member `ch` of the family of 1 (`schedule`;
    the one witness when 1 = 1). Every definition below that depends on the pinned words takes it first. -/
variable (ch : Fin 1)

/-- Prefetched table 0 (`main_c`, [884]) at member `ch`: the family TRACED (pins.py). -/
def pinT_0 (ch : Fin 1) : S884.Idx → BitVec 32 := fun x => (([0#32, 1#32, 2#32, 2#32, 3#32, 3#32, 4#32, 4#32, 5#32, 5#32, 5#32, 6#32, 6#32, 6#32, 7#32, 7#32, 7#32, 7#32, 8#32, 8#32, 8#32, 8#32, 9#32, 9#32, 9#32, 9#32, 10#32, 10#32, 10#32, 10#32, 10#32, 11#32, 11#32, 11#32, 11#32, 11#32, 12#32, 12#32, 12#32, 12#32, 12#32, 12#32, 13#32, 13#32, 13#32, 13#32, 13#32, 13#32, 14#32, 14#32, 14#32, 14#32, 14#32, 14#32, 15#32, 15#32, 15#32, 15#32, 15#32, 15#32, 15#32, 16#32, 16#32, 16#32, 16#32, 16#32, 16#32, 16#32, 17#32, 17#32, 17#32, 17#32, 17#32, 17#32, 17#32, 17#32, 18#32, 18#32, 18#32, 18#32, 18#32, 18#32, 18#32, 18#32, 19#32, 19#32, 19#32, 19#32, 19#32, 19#32, 19#32, 19#32, 20#32, 20#32, 20#32, 20#32, 20#32, 20#32, 20#32, 20#32, 20#32, 21#32, 21#32, 21#32, 21#32, 21#32, 21#32, 21#32, 21#32, 21#32, 22#32, 22#32, 22#32, 22#32, 22#32, 22#32, 22#32, 22#32, 22#32, 22#32, 23#32, 23#32, 23#32, 23#32, 23#32, 23#32, 23#32, 23#32, 23#32, 23#32, 24#32, 24#32, 24#32, 24#32, 24#32, 24#32, 24#32, 24#32, 24#32, 24#32, 25#32, 25#32, 25#32, 25#32, 25#32, 25#32, 25#32, 25#32, 25#32, 25#32, 25#32, 26#32, 26#32, 26#32, 26#32, 26#32, 26#32, 26#32, 26#32, 26#32, 26#32, 26#32, 27#32, 27#32, 27#32, 27#32, 27#32, 27#32, 27#32, 27#32, 27#32, 27#32, 27#32, 27#32, 28#32, 28#32, 28#32, 28#32, 28#32, 28#32, 28#32, 28#32, 28#32, 28#32, 28#32, 28#32, 29#32, 29#32, 29#32, 29#32, 29#32, 29#32, 29#32, 29#32, 29#32, 29#32, 29#32, 29#32, 30#32, 30#32, 30#32, 30#32, 30#32, 30#32, 30#32, 30#32, 30#32, 30#32, 30#32, 30#32, 30#32, 31#32, 31#32, 31#32, 31#32, 31#32, 31#32, 31#32, 31#32, 31#32, 31#32, 31#32, 31#32, 31#32, 32#32, 32#32, 32#32, 32#32, 32#32, 32#32, 32#32, 32#32, 32#32, 32#32, 32#32, 32#32, 32#32, 32#32, 33#32, 33#32, 33#32, 33#32, 33#32, 33#32, 33#32, 33#32, 33#32, 33#32, 33#32, 33#32, 33#32, 33#32, 34#32, 34#32, 34#32, 34#32, 34#32, 34#32, 34#32, 34#32, 34#32, 34#32, 34#32, 34#32, 34#32, 34#32, 35#32, 35#32, 35#32, 35#32, 35#32, 35#32, 35#32, 35#32, 35#32, 35#32, 35#32, 35#32, 35#32, 35#32, 35#32, 36#32, 36#32, 36#32, 36#32, 36#32, 36#32, 36#32, 36#32, 36#32, 36#32, 36#32, 36#32, 36#32, 36#32, 36#32, 37#32, 37#32, 37#32, 37#32, 37#32, 37#32, 37#32, 37#32, 37#32, 37#32, 37#32, 37#32, 37#32, 37#32, 37#32, 37#32, 38#32, 38#32, 38#32, 38#32, 38#32, 38#32, 38#32, 38#32, 38#32, 38#32, 38#32, 38#32, 38#32, 38#32, 38#32, 38#32, 39#32, 39#32, 39#32, 39#32, 39#32, 39#32, 39#32, 39#32, 39#32, 39#32, 39#32, 39#32, 39#32, 39#32, 39#32, 39#32, 40#32, 40#32, 40#32, 40#32, 40#32, 40#32, 40#32, 40#32, 40#32, 40#32, 40#32, 40#32, 40#32, 40#32, 40#32, 40#32, 40#32, 41#32, 41#32, 41#32, 41#32, 41#32, 41#32, 41#32, 41#32, 41#32, 41#32, 41#32, 41#32, 41#32, 41#32, 41#32, 41#32, 41#32, 42#32, 42#32, 42#32, 42#32, 42#32, 42#32, 42#32, 42#32, 42#32, 42#32, 42#32, 42#32, 42#32, 42#32, 42#32, 42#32, 42#32, 42#32, 43#32, 43#32, 43#32, 43#32, 43#32, 43#32, 43#32, 43#32, 43#32, 43#32, 43#32, 43#32, 43#32, 43#32, 43#32, 43#32, 43#32, 43#32, 44#32, 44#32, 44#32, 44#32, 44#32, 44#32, 44#32, 44#32, 44#32, 44#32, 44#32, 44#32, 44#32, 44#32, 44#32, 44#32, 44#32, 44#32, 45#32, 45#32, 45#32, 45#32, 45#32, 45#32, 45#32, 45#32, 45#32, 45#32, 45#32, 45#32, 45#32, 45#32, 45#32, 45#32, 45#32, 45#32, 45#32, 46#32, 46#32, 46#32, 46#32, 46#32, 46#32, 46#32, 46#32, 46#32, 46#32, 46#32, 46#32, 46#32, 46#32, 46#32, 46#32, 46#32, 46#32, 46#32, 47#32, 47#32, 47#32, 47#32, 47#32, 47#32, 47#32, 47#32, 47#32, 47#32, 47#32, 47#32, 47#32, 47#32, 47#32, 47#32, 47#32, 47#32, 47#32, 47#32, 48#32, 48#32, 48#32, 48#32, 48#32, 48#32, 48#32, 48#32, 48#32, 48#32, 48#32, 48#32, 48#32, 48#32, 48#32, 48#32, 48#32, 48#32, 48#32, 48#32, 49#32, 49#32, 49#32, 49#32, 49#32, 49#32, 49#32, 49#32, 49#32, 49#32, 49#32, 49#32, 49#32, 49#32, 49#32, 49#32, 49#32, 49#32, 49#32, 49#32, 50#32, 50#32, 50#32, 50#32, 50#32, 50#32, 50#32, 50#32, 50#32, 50#32, 50#32, 50#32, 50#32, 50#32, 50#32, 50#32, 50#32, 50#32, 50#32, 50#32, 50#32, 51#32, 51#32, 51#32, 51#32, 51#32, 51#32, 51#32, 51#32, 51#32, 51#32, 51#32, 51#32, 51#32, 51#32, 51#32, 51#32, 51#32, 51#32, 51#32, 51#32, 51#32, 52#32, 52#32, 52#32, 52#32, 52#32, 52#32, 52#32, 52#32, 52#32, 52#32, 52#32, 52#32, 52#32, 52#32, 52#32, 52#32, 52#32, 52#32, 52#32, 52#32, 52#32, 52#32, 53#32, 53#32, 53#32, 53#32, 53#32, 53#32, 53#32, 53#32, 53#32, 53#32, 53#32, 53#32, 53#32, 53#32, 53#32, 53#32, 53#32, 53#32, 53#32, 53#32, 53#32, 53#32, 54#32, 54#32, 54#32, 54#32, 54#32, 54#32, 54#32, 54#32, 54#32, 54#32, 54#32, 54#32, 54#32, 54#32, 54#32, 54#32, 54#32, 54#32, 54#32, 54#32, 54#32, 54#32, 55#32, 55#32, 55#32, 55#32, 55#32, 55#32, 55#32, 55#32, 55#32, 55#32, 55#32, 55#32, 55#32, 55#32, 55#32, 55#32, 55#32, 55#32, 55#32, 55#32, 55#32, 55#32, 55#32, 56#32, 56#32, 56#32, 56#32, 56#32, 56#32, 56#32, 56#32, 56#32, 56#32, 56#32, 56#32, 56#32, 56#32, 56#32, 56#32, 56#32, 56#32, 56#32, 56#32, 56#32, 56#32, 56#32, 57#32, 57#32, 57#32, 57#32, 57#32, 57#32, 57#32, 57#32, 57#32, 57#32, 57#32, 57#32, 57#32, 57#32, 57#32, 57#32, 57#32, 57#32, 57#32, 57#32, 57#32, 57#32, 57#32, 57#32, 58#32, 58#32, 58#32, 58#32, 58#32, 58#32, 58#32, 58#32, 58#32, 58#32, 58#32, 58#32, 58#32, 58#32, 58#32, 58#32, 58#32, 58#32, 58#32, 58#32, 58#32, 58#32, 58#32, 58#32, 59#32, 59#32, 59#32, 59#32, 59#32, 59#32, 59#32, 59#32, 59#32, 59#32, 59#32, 59#32, 59#32, 59#32, 59#32, 59#32, 59#32, 59#32, 59#32, 59#32, 59#32, 59#32, 59#32, 59#32, 60#32, 60#32, 60#32, 60#32, 60#32, 60#32, 60#32, 60#32, 60#32, 60#32, 60#32, 60#32, 60#32, 60#32, 60#32, 60#32, 60#32, 60#32, 60#32, 60#32, 60#32, 60#32, 60#32, 60#32, 60#32, 61#32, 61#32, 61#32, 61#32, 61#32, 61#32, 61#32, 61#32, 61#32, 61#32, 61#32, 61#32, 61#32, 61#32, 61#32, 61#32, 61#32, 61#32, 61#32, 61#32, 61#32, 61#32, 61#32, 61#32, 61#32, 62#32, 62#32, 62#32, 62#32, 62#32, 62#32, 62#32, 62#32, 62#32, 62#32, 62#32, 62#32, 62#32, 62#32, 62#32, 62#32, 62#32, 62#32, 62#32, 62#32, 62#32, 62#32, 62#32, 62#32, 62#32, 62#32, 63#32, 63#32, 63#32, 63#32, 63#32, 63#32, 63#32, 63#32, 63#32, 63#32, 63#32, 63#32, 63#32, 63#32, 63#32, 63#32, 63#32, 63#32, 63#32, 63#32, 63#32, 63#32, 63#32, 63#32, 63#32, 63#32, 64#32, 64#32, 64#32, 64#32, 64#32, 64#32, 64#32, 64#32, 64#32, 64#32, 64#32, 64#32, 64#32, 64#32, 64#32, 64#32, 64#32, 64#32, 64#32, 64#32, 64#32, 64#32, 64#32, 64#32, 64#32, 64#32] : List (BitVec 32)).getD ((x 0).val) 0#32)

/-- Prefetched table 1 (`main_c_0`, [884]) at member `ch`: the family TRACED (pins.py). -/
def pinT_1 (ch : Fin 1) : S884.Idx → BitVec 32 := fun x => (([0#32, 0#32, 0#32, 1#32, 0#32, 1#32, 0#32, 1#32, 0#32, 1#32, 2#32, 0#32, 1#32, 2#32, 0#32, 1#32, 2#32, 3#32, 0#32, 1#32, 2#32, 3#32, 0#32, 1#32, 2#32, 3#32, 0#32, 1#32, 2#32, 3#32, 4#32, 0#32, 1#32, 2#32, 3#32, 4#32, 0#32, 1#32, 2#32, 3#32, 4#32, 5#32, 0#32, 1#32, 2#32, 3#32, 4#32, 5#32, 0#32, 1#32, 2#32, 3#32, 4#32, 5#32, 0#32, 1#32, 2#32, 3#32, 4#32, 5#32, 6#32, 0#32, 1#32, 2#32, 3#32, 4#32, 5#32, 6#32, 0#32, 1#32, 2#32, 3#32, 4#32, 5#32, 6#32, 7#32, 0#32, 1#32, 2#32, 3#32, 4#32, 5#32, 6#32, 7#32, 0#32, 1#32, 2#32, 3#32, 4#32, 5#32, 6#32, 7#32, 0#32, 1#32, 2#32, 3#32, 4#32, 5#32, 6#32, 7#32, 8#32, 0#32, 1#32, 2#32, 3#32, 4#32, 5#32, 6#32, 7#32, 8#32, 0#32, 1#32, 2#32, 3#32, 4#32, 5#32, 6#32, 7#32, 8#32, 9#32, 0#32, 1#32, 2#32, 3#32, 4#32, 5#32, 6#32, 7#32, 8#32, 9#32, 0#32, 1#32, 2#32, 3#32, 4#32, 5#32, 6#32, 7#32, 8#32, 9#32, 0#32, 1#32, 2#32, 3#32, 4#32, 5#32, 6#32, 7#32, 8#32, 9#32, 10#32, 0#32, 1#32, 2#32, 3#32, 4#32, 5#32, 6#32, 7#32, 8#32, 9#32, 10#32, 0#32, 1#32, 2#32, 3#32, 4#32, 5#32, 6#32, 7#32, 8#32, 9#32, 10#32, 11#32, 0#32, 1#32, 2#32, 3#32, 4#32, 5#32, 6#32, 7#32, 8#32, 9#32, 10#32, 11#32, 0#32, 1#32, 2#32, 3#32, 4#32, 5#32, 6#32, 7#32, 8#32, 9#32, 10#32, 11#32, 0#32, 1#32, 2#32, 3#32, 4#32, 5#32, 6#32, 7#32, 8#32, 9#32, 10#32, 11#32, 12#32, 0#32, 1#32, 2#32, 3#32, 4#32, 5#32, 6#32, 7#32, 8#32, 9#32, 10#32, 11#32, 12#32, 0#32, 1#32, 2#32, 3#32, 4#32, 5#32, 6#32, 7#32, 8#32, 9#32, 10#32, 11#32, 12#32, 13#32, 0#32, 1#32, 2#32, 3#32, 4#32, 5#32, 6#32, 7#32, 8#32, 9#32, 10#32, 11#32, 12#32, 13#32, 0#32, 1#32, 2#32, 3#32, 4#32, 5#32, 6#32, 7#32, 8#32, 9#32, 10#32, 11#32, 12#32, 13#32, 0#32, 1#32, 2#32, 3#32, 4#32, 5#32, 6#32, 7#32, 8#32, 9#32, 10#32, 11#32, 12#32, 13#32, 14#32, 0#32, 1#32, 2#32, 3#32, 4#32, 5#32, 6#32, 7#32, 8#32, 9#32, 10#32, 11#32, 12#32, 13#32, 14#32, 0#32, 1#32, 2#32, 3#32, 4#32, 5#32, 6#32, 7#32, 8#32, 9#32, 10#32, 11#32, 12#32, 13#32, 14#32, 15#32, 0#32, 1#32, 2#32, 3#32, 4#32, 5#32, 6#32, 7#32, 8#32, 9#32, 10#32, 11#32, 12#32, 13#32, 14#32, 15#32, 0#32, 1#32, 2#32, 3#32, 4#32, 5#32, 6#32, 7#32, 8#32, 9#32, 10#32, 11#32, 12#32, 13#32, 14#32, 15#32, 0#32, 1#32, 2#32, 3#32, 4#32, 5#32, 6#32, 7#32, 8#32, 9#32, 10#32, 11#32, 12#32, 13#32, 14#32, 15#32, 16#32, 0#32, 1#32, 2#32, 3#32, 4#32, 5#32, 6#32, 7#32, 8#32, 9#32, 10#32, 11#32, 12#32, 13#32, 14#32, 15#32, 16#32, 0#32, 1#32, 2#32, 3#32, 4#32, 5#32, 6#32, 7#32, 8#32, 9#32, 10#32, 11#32, 12#32, 13#32, 14#32, 15#32, 16#32, 17#32, 0#32, 1#32, 2#32, 3#32, 4#32, 5#32, 6#32, 7#32, 8#32, 9#32, 10#32, 11#32, 12#32, 13#32, 14#32, 15#32, 16#32, 17#32, 0#32, 1#32, 2#32, 3#32, 4#32, 5#32, 6#32, 7#32, 8#32, 9#32, 10#32, 11#32, 12#32, 13#32, 14#32, 15#32, 16#32, 17#32, 0#32, 1#32, 2#32, 3#32, 4#32, 5#32, 6#32, 7#32, 8#32, 9#32, 10#32, 11#32, 12#32, 13#32, 14#32, 15#32, 16#32, 17#32, 18#32, 0#32, 1#32, 2#32, 3#32, 4#32, 5#32, 6#32, 7#32, 8#32, 9#32, 10#32, 11#32, 12#32, 13#32, 14#32, 15#32, 16#32, 17#32, 18#32, 0#32, 1#32, 2#32, 3#32, 4#32, 5#32, 6#32, 7#32, 8#32, 9#32, 10#32, 11#32, 12#32, 13#32, 14#32, 15#32, 16#32, 17#32, 18#32, 19#32, 0#32, 1#32, 2#32, 3#32, 4#32, 5#32, 6#32, 7#32, 8#32, 9#32, 10#32, 11#32, 12#32, 13#32, 14#32, 15#32, 16#32, 17#32, 18#32, 19#32, 0#32, 1#32, 2#32, 3#32, 4#32, 5#32, 6#32, 7#32, 8#32, 9#32, 10#32, 11#32, 12#32, 13#32, 14#32, 15#32, 16#32, 17#32, 18#32, 19#32, 0#32, 1#32, 2#32, 3#32, 4#32, 5#32, 6#32, 7#32, 8#32, 9#32, 10#32, 11#32, 12#32, 13#32, 14#32, 15#32, 16#32, 17#32, 18#32, 19#32, 20#32, 0#32, 1#32, 2#32, 3#32, 4#32, 5#32, 6#32, 7#32, 8#32, 9#32, 10#32, 11#32, 12#32, 13#32, 14#32, 15#32, 16#32, 17#32, 18#32, 19#32, 20#32, 0#32, 1#32, 2#32, 3#32, 4#32, 5#32, 6#32, 7#32, 8#32, 9#32, 10#32, 11#32, 12#32, 13#32, 14#32, 15#32, 16#32, 17#32, 18#32, 19#32, 20#32, 21#32, 0#32, 1#32, 2#32, 3#32, 4#32, 5#32, 6#32, 7#32, 8#32, 9#32, 10#32, 11#32, 12#32, 13#32, 14#32, 15#32, 16#32, 17#32, 18#32, 19#32, 20#32, 21#32, 0#32, 1#32, 2#32, 3#32, 4#32, 5#32, 6#32, 7#32, 8#32, 9#32, 10#32, 11#32, 12#32, 13#32, 14#32, 15#32, 16#32, 17#32, 18#32, 19#32, 20#32, 21#32, 0#32, 1#32, 2#32, 3#32, 4#32, 5#32, 6#32, 7#32, 8#32, 9#32, 10#32, 11#32, 12#32, 13#32, 14#32, 15#32, 16#32, 17#32, 18#32, 19#32, 20#32, 21#32, 22#32, 0#32, 1#32, 2#32, 3#32, 4#32, 5#32, 6#32, 7#32, 8#32, 9#32, 10#32, 11#32, 12#32, 13#32, 14#32, 15#32, 16#32, 17#32, 18#32, 19#32, 20#32, 21#32, 22#32, 0#32, 1#32, 2#32, 3#32, 4#32, 5#32, 6#32, 7#32, 8#32, 9#32, 10#32, 11#32, 12#32, 13#32, 14#32, 15#32, 16#32, 17#32, 18#32, 19#32, 20#32, 21#32, 22#32, 23#32, 0#32, 1#32, 2#32, 3#32, 4#32, 5#32, 6#32, 7#32, 8#32, 9#32, 10#32, 11#32, 12#32, 13#32, 14#32, 15#32, 16#32, 17#32, 18#32, 19#32, 20#32, 21#32, 22#32, 23#32, 0#32, 1#32, 2#32, 3#32, 4#32, 5#32, 6#32, 7#32, 8#32, 9#32, 10#32, 11#32, 12#32, 13#32, 14#32, 15#32, 16#32, 17#32, 18#32, 19#32, 20#32, 21#32, 22#32, 23#32, 0#32, 1#32, 2#32, 3#32, 4#32, 5#32, 6#32, 7#32, 8#32, 9#32, 10#32, 11#32, 12#32, 13#32, 14#32, 15#32, 16#32, 17#32, 18#32, 19#32, 20#32, 21#32, 22#32, 23#32, 24#32, 0#32, 1#32, 2#32, 3#32, 4#32, 5#32, 6#32, 7#32, 8#32, 9#32, 10#32, 11#32, 12#32, 13#32, 14#32, 15#32, 16#32, 17#32, 18#32, 19#32, 20#32, 21#32, 22#32, 23#32, 24#32, 0#32, 1#32, 2#32, 3#32, 4#32, 5#32, 6#32, 7#32, 8#32, 9#32, 10#32, 11#32, 12#32, 13#32, 14#32, 15#32, 16#32, 17#32, 18#32, 19#32, 20#32, 21#32, 22#32, 23#32, 24#32, 25#32, 0#32, 1#32, 2#32, 3#32, 4#32, 5#32, 6#32, 7#32, 8#32, 9#32, 10#32, 11#32, 12#32, 13#32, 14#32, 15#32, 16#32, 17#32, 18#32, 19#32, 20#32, 21#32, 22#32, 23#32, 24#32, 25#32, 0#32, 1#32, 2#32, 3#32, 4#32, 5#32, 6#32, 7#32, 8#32, 9#32, 10#32, 11#32, 12#32, 13#32, 14#32, 15#32, 16#32, 17#32, 18#32, 19#32, 20#32, 21#32, 22#32, 23#32, 24#32, 25#32] : List (BitVec 32)).getD ((x 0).val) 0#32)

set_option backward.proofsInPublic true in
/-- The tables' contents the certificate is written at, member `ch`'s. -/
def pfN : pre0.Contents (Elt Ideal) := fun | ⟨0, _⟩ => pinT_0 ch | ⟨1, _⟩ => pinT_1 ch | ⟨_ + 2, h⟩ => absurd h (by simp)
/-- A window's blocks inside its array, entry by entry (the side condition's per-member proofs below assemble each
    entry's bound: a coordinate's, a constant's, or a table word's decided over the coordinates it is read at). -/
theorem okcons {n x lo hi : ℕ} {f g h : Fin n → ℕ} (h0 : (x + 1) * lo ≤ hi) (hr : ∀ a, (f a + 1) * g a ≤ h a) :
    ∀ a : Fin (n + 1), (Matrix.vecCons x f a + 1) * Matrix.vecCons lo g a ≤ Matrix.vecCons hi h a := by
  refine Fin.cases ?_ ?_
  · simpa only [Matrix.cons_val_zero] using h0
  · intro a; simpa only [Matrix.cons_val_succ] using hr a

end Cert.KernelIdeal.Attn

end
-- ==== Proof.AttnIdeal.Runs.lean ====
/- The body run once for each of its four control paths, and what each run leaves in the output and scratch buffers.
   Follows the text the frame generator writes for a call whose tables are arguments; here the tables are the
   constants the host writes before the call. -/
module

public import proofs.«01_k».proof.Proof.Gen.KernelIdeal.Skeleton
public import proofs.«01_k».proof.Proof.AttnIdeal.Pins

@[expose] public section

set_option maxRecDepth 16384
-- ONE DECLARATION AT A TIME: a per-path run alone peaks near 3 GB, and a decided theorem's kernel evaluation is freed
-- only when the next declaration begins (side by side, every finished one is held to the module's end)
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The certificate is written at the CLOSED instance `Ideal` (the frame claim's): every pinned word a `BitVec`. -/
local notation "𝕄" => MT nD τ sig Unit (Elt Ideal) ℕ (UR sig nD τ) ℕ

/-! ## The kernel body per control path, on symbolic staging memrefs: a subtype the run finds -/

/-- One staging buffer of output window 4, through which its contents are stated (`View.read_writes_of_cover`). -/
abbrev VO0_4 : View sig .tc .vmem S256x2048 .bf16 := (Memref.whole cc0_stg4_0 : Memref sig .tc .vmem S256x2048 .bf16).view

set_option backward.proofsInPublic true in
set_option maxHeartbeats 8000000 in
/-- PATH A (points 0, 1): what the body leaves — per stored output its pieces (last first), per scratch its
    contents — WITH the proof that, on whole staging memrefs, from the inputs at their blocks, the tables, the outputs
    (4: stored) and the scratches (0: covered, 1: covered, 2: covered, 3: covered, 4: covered, 5: covered), under the path's decisions as
    hypotheses over the words the body reads (`hc0`; `k0_h2`), the body runs to the continuation holding all of it as stated. The
    skeleton (`Gen.*_eq_skeleton`) run by `sl_exec`, loops of literal trip count unrolled by the run, the others by `sl_unroll`. -/
noncomputable def kernelRun0_A (c : Dev nD) (i : grid0.Coords) (arg3 : Memref sig .tc .vmem S256x2048 .bf16) (harg3 : arg3.IsWhole) (arg4 : Memref sig .tc .vmem S640x2048 .bf16) (harg4 : arg4.IsWhole) (arg5 : Memref sig .tc .vmem S2048x640 .bf16) (harg5 : arg5.IsWhole) (arg6 : Memref sig .tc .vmem S640x256 .bf16) (harg6 : arg6.IsWhole) (arg7 : Memref sig .tc .vmem S256x2048 .bf16) (harg7 : arg7.IsWhole) (T0 : (S884.Idx → Elt Ideal .i32)) (T1 : (S884.Idx → Elt Ideal .i32))
     (x0 : (S256x2048.Idx → Elt Ideal .bf16)) (x1 : (S640x2048.Idx → Elt Ideal .bf16)) (x2 : (S2048x640.Idx → Elt Ideal .bf16)) (x3 : (S640x256.Idx → Elt Ideal .bf16)) (hc0 : (Scalar.cmpi .ne (Scalar.extui (Scalar.cmpi .eq (View.readAt (Elt Ideal) (tbM0_1).view (Rect.unit (s := S884) (k0_off1 i) S1.size (k0_off1_inb i)).toLoadRect T1 (Shape.Idx.first (numel1_S1.symm ▸ Nat.one_pos))) 0#32)) 0#32) = 1#1) (k0_h2 : k0_cond2 (View.readAt (Elt Ideal) (tbM0_0).view (Rect.unit (s := S884) (k0_off1 i) S1.size (k0_off1_inb i)).toLoadRect T0 (Shape.Idx.first (numel1_S1.symm ▸ Nat.one_pos))) (View.readAt (Elt Ideal) (tbM0_1).view (Rect.unit (s := S884) (k0_off1 i) S1.size (k0_off1_inb i)).toLoadRect T1 (Shape.Idx.first (numel1_S1.symm ▸ Nat.one_pos))) = 1#1) :
    Σ' (out0 : List (View.Piece (Elt Ideal) S256x2048 .bf16)) (out1 : Buf (Elt Ideal) ((c : Thread nD τ).loc cc0_scratch0)) (out2 : Buf (Elt Ideal) ((c : Thread nD τ).loc cc0_scratch1)) (out3 : Buf (Elt Ideal) ((c : Thread nD τ).loc cc0_scratch2)) (out4 : Buf (Elt Ideal) ((c : Thread nD τ).loc cc0_scratch3)) (out5 : Buf (Elt Ideal) ((c : Thread nD τ).loc cc0_scratch4)), { out6 : Buf (Elt Ideal) ((c : Thread nD τ).loc cc0_scratch5) //
      ∀ (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (xa3 : Buf (Elt Ideal) ((c : Thread nD τ).loc cc0_scratch3)) (xa4 : Buf (Elt Ideal) ((c : Thread nD τ).loc cc0_scratch4)) (xa5 : Buf (Elt Ideal) ((c : Thread nD τ).loc cc0_scratch5)) (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (tbM0_0.view.loc (c : Thread nD τ) ↦{fullShare.right} T0)
          ∗ (tbM0_1.view.loc (c : Thread nD τ) ↦{fullShare.right} T1)
          ∗ (∃ d, owns (c : Thread nD τ) arg7 fullShare d)
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (scM0_3.view.loc (c : Thread nD τ) ↦{fullShare} xa3)
          ∗ (scM0_4.view.loc (c : Thread nD τ) ↦{fullShare} xa4)
          ∗ (scM0_5.view.loc (c : Thread nD τ) ↦{fullShare} xa5)
          ∗ (iprop((arg3.view.loc (c : Thread nD τ) ↦[arg3.view.set]{fullShare} arg3.view.rep x0)
              ∗ (arg4.view.loc (c : Thread nD τ) ↦[arg4.view.set]{fullShare} arg4.view.rep x1)
              ∗ (arg5.view.loc (c : Thread nD τ) ↦[arg5.view.set]{fullShare} arg5.view.rep x2)
              ∗ (arg6.view.loc (c : Thread nD τ) ↦[arg6.view.set]{fullShare} arg6.view.rep x3)
              ∗ (tbM0_0.view.loc (c : Thread nD τ) ↦{fullShare.right} T0)
              ∗ (tbM0_1.view.loc (c : Thread nD τ) ↦{fullShare.right} T1)
              ∗ (∃ f, arg7.view.loc (c : Thread nD τ) ↦[arg7.view.set]{fullShare} arg7.view.writes (Elt Ideal) f out0)
              ∗ (scM0_0.view.loc (c : Thread nD τ) ↦{fullShare} out1)
              ∗ (scM0_1.view.loc (c : Thread nD τ) ↦{fullShare} out2)
              ∗ (scM0_2.view.loc (c : Thread nD τ) ↦{fullShare} out3)
              ∗ (scM0_3.view.loc (c : Thread nD τ) ↦{fullShare} out4)
              ∗ (scM0_4.view.loc (c : Thread nD τ) ↦{fullShare} out5)
              ∗ (scM0_5.view.loc (c : Thread nD τ) ↦{fullShare} out6)) -∗ K ⟨⟩))
          ⊢ wp frame (wpE (defs₀ (F := Ideal)) Variants.none c none) Set.univ (cc0_dsa_attention i tbM0_0 (Memref.isWhole_whole _) tbM0_1 (Memref.isWhole_whole _) arg3 harg3 arg4 harg4 arg5 harg5 arg6 harg6 arg7 harg7 scM0_0 (Memref.isWhole_whole _) scM0_1 (Memref.isWhole_whole _) scM0_2 (Memref.isWhole_whole _) scM0_3 (Memref.isWhole_whole _) scM0_4 (Memref.isWhole_whole _) scM0_5 (Memref.isWhole_whole _)) K } :=
  ⟨_, _, _, _, _, _, _, fun (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (xa3 : Buf (Elt Ideal) ((c : Thread nD τ).loc cc0_scratch3)) (xa4 : Buf (Elt Ideal) ((c : Thread nD τ).loc cc0_scratch4)) (xa5 : Buf (Elt Ideal) ((c : Thread nD τ).loc cc0_scratch5)) K => by
    unfold owns
    rw [cc0_dsa_attention_eq_skeleton]; unfold cc0_dsa_attention_skel
    iintro ⟨H0, H1, H2, H3, HT0, HT1, ⟨%d4, %f4, -, HO4⟩, HS0, HS1, HS2, HS3, HS4, HS5, Hk⟩
    have hS0 : scM0_0.IsWhole := Memref.isWhole_whole _
    have hS1 : scM0_1.IsWhole := Memref.isWhole_whole _
    have hS2 : scM0_2.IsWhole := Memref.isWhole_whole _
    have hS3 : scM0_3.IsWhole := Memref.isWhole_whole _
    have hS4 : scM0_4.IsWhole := Memref.isWhole_whole _
    have hS5 : scM0_5.IsWhole := Memref.isWhole_whole _
    have hT0 : tbM0_0.IsWhole := Memref.isWhole_whole _
    have hT1 : tbM0_1.IsWhole := Memref.isWhole_whole _
    sl_exec! (disch := first | (guard_target = Scalar.cmpi = _; exact hc0) | (guard_target = k0_cond2 _ _ = _; exact k0_h2))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HO4]; · iexists _; iexact HO4
    isplitl [HS0]; · iexact HS0
    isplitl [HS1]; · iexact HS1
    isplitl [HS2]; · iexact HS2
    isplitl [HS3]; · iexact HS3
    isplitl [HS4]; · iexact HS4
    iexact HS5⟩

/-- Path A's pieces for output 4 tile its block (16 stores of `S256x128`: the kernel evaluates the tiling, Lib/Ring.lean `Piece.tiledL`). -/
theorem cover0_A_4 (c : Dev nD) (i : grid0.Coords) (arg3 : Memref sig .tc .vmem S256x2048 .bf16) (harg3 : arg3.IsWhole) (arg4 : Memref sig .tc .vmem S640x2048 .bf16) (harg4 : arg4.IsWhole) (arg5 : Memref sig .tc .vmem S2048x640 .bf16) (harg5 : arg5.IsWhole) (arg6 : Memref sig .tc .vmem S640x256 .bf16) (harg6 : arg6.IsWhole) (arg7 : Memref sig .tc .vmem S256x2048 .bf16) (harg7 : arg7.IsWhole) (T0 : (S884.Idx → Elt Ideal .i32)) (T1 : (S884.Idx → Elt Ideal .i32))
     (x0 : (S256x2048.Idx → Elt Ideal .bf16)) (x1 : (S640x2048.Idx → Elt Ideal .bf16)) (x2 : (S2048x640.Idx → Elt Ideal .bf16)) (x3 : (S640x256.Idx → Elt Ideal .bf16)) (hc0 : (Scalar.cmpi .ne (Scalar.extui (Scalar.cmpi .eq (View.readAt (Elt Ideal) (tbM0_1).view (Rect.unit (s := S884) (k0_off1 i) S1.size (k0_off1_inb i)).toLoadRect T1 (Shape.Idx.first (numel1_S1.symm ▸ Nat.one_pos))) 0#32)) 0#32) = 1#1) (k0_h2 : k0_cond2 (View.readAt (Elt Ideal) (tbM0_0).view (Rect.unit (s := S884) (k0_off1 i) S1.size (k0_off1_inb i)).toLoadRect T0 (Shape.Idx.first (numel1_S1.symm ▸ Nat.one_pos))) (View.readAt (Elt Ideal) (tbM0_1).view (Rect.unit (s := S884) (k0_off1 i) S1.size (k0_off1_inb i)).toLoadRect T1 (Shape.Idx.first (numel1_S1.symm ▸ Nat.one_pos))) = 1#1) (y : S256x2048.Idx) :
    ∃ pc ∈ (kernelRun0_A c i arg3 harg3 arg4 harg4 arg5 harg5 arg6 harg6 arg7 harg7 T0 T1 x0 x1 x2 x3 hc0 k0_h2).1, y ∈ pc.1.set :=
  View.cover_of_tiledL (kernelRun0_A c i arg3 harg3 arg4 harg4 arg5 harg5 arg6 harg6 arg7 harg7 T0 T1 x0 x1 x2 x3 hc0 k0_h2).1 S256x128.size (by sl_kernel_rfl) y

/-- What path A leaves in output 4's staging buffer: its pieces read back over junk. -/
def out0_A_4 (c : Dev nD) (i : grid0.Coords) (arg3 : Memref sig .tc .vmem S256x2048 .bf16) (harg3 : arg3.IsWhole) (arg4 : Memref sig .tc .vmem S640x2048 .bf16) (harg4 : arg4.IsWhole) (arg5 : Memref sig .tc .vmem S2048x640 .bf16) (harg5 : arg5.IsWhole) (arg6 : Memref sig .tc .vmem S640x256 .bf16) (harg6 : arg6.IsWhole) (arg7 : Memref sig .tc .vmem S256x2048 .bf16) (harg7 : arg7.IsWhole) (T0 : (S884.Idx → Elt Ideal .i32)) (T1 : (S884.Idx → Elt Ideal .i32))
     (x0 : (S256x2048.Idx → Elt Ideal .bf16)) (x1 : (S640x2048.Idx → Elt Ideal .bf16)) (x2 : (S2048x640.Idx → Elt Ideal .bf16)) (x3 : (S640x256.Idx → Elt Ideal .bf16)) (hc0 : (Scalar.cmpi .ne (Scalar.extui (Scalar.cmpi .eq (View.readAt (Elt Ideal) (tbM0_1).view (Rect.unit (s := S884) (k0_off1 i) S1.size (k0_off1_inb i)).toLoadRect T1 (Shape.Idx.first (numel1_S1.symm ▸ Nat.one_pos))) 0#32)) 0#32) = 1#1) (k0_h2 : k0_cond2 (View.readAt (Elt Ideal) (tbM0_0).view (Rect.unit (s := S884) (k0_off1 i) S1.size (k0_off1_inb i)).toLoadRect T0 (Shape.Idx.first (numel1_S1.symm ▸ Nat.one_pos))) (View.readAt (Elt Ideal) (tbM0_1).view (Rect.unit (s := S884) (k0_off1 i) S1.size (k0_off1_inb i)).toLoadRect T1 (Shape.Idx.first (numel1_S1.symm ▸ Nat.one_pos))) = 1#1) : (S256x2048.Idx → Elt Ideal .bf16) :=
  VO0_4.read (Elt Ideal) (VO0_4.writes (Elt Ideal) VO0_4.junk (kernelRun0_A c i arg3 harg3 arg4 harg4 arg5 harg5 arg6 harg6 arg7 harg7 T0 T1 x0 x1 x2 x3 hc0 k0_h2).1)

set_option backward.proofsInPublic true in
set_option maxHeartbeats 8000000 in
/-- PATH B (points 2, 4, … 858: 63 of 884): what the body leaves — per stored output its pieces (last first), per scratch its
    contents — WITH the proof that, on whole staging memrefs, from the inputs at their blocks, the tables, the outputs
    (4: idle) and the scratches (0: covered, 1: covered, 2: covered, 3: covered, 4: covered, 5: covered), under the path's decisions as
    hypotheses over the words the body reads (`hc0`; `k0_h2`), the body runs to the continuation holding all of it as stated. The
    skeleton (`Gen.*_eq_skeleton`) run by `sl_exec`, loops of literal trip count unrolled by the run, the others by `sl_unroll`. -/
noncomputable def kernelRun0_B (c : Dev nD) (i : grid0.Coords) (arg3 : Memref sig .tc .vmem S256x2048 .bf16) (harg3 : arg3.IsWhole) (arg4 : Memref sig .tc .vmem S640x2048 .bf16) (harg4 : arg4.IsWhole) (arg5 : Memref sig .tc .vmem S2048x640 .bf16) (harg5 : arg5.IsWhole) (arg6 : Memref sig .tc .vmem S640x256 .bf16) (harg6 : arg6.IsWhole) (arg7 : Memref sig .tc .vmem S256x2048 .bf16) (harg7 : arg7.IsWhole) (T0 : (S884.Idx → Elt Ideal .i32)) (T1 : (S884.Idx → Elt Ideal .i32))
     (x0 : (S256x2048.Idx → Elt Ideal .bf16)) (x1 : (S640x2048.Idx → Elt Ideal .bf16)) (x2 : (S2048x640.Idx → Elt Ideal .bf16)) (x3 : (S640x256.Idx → Elt Ideal .bf16)) (hc0 : (Scalar.cmpi .ne (Scalar.extui (Scalar.cmpi .eq (View.readAt (Elt Ideal) (tbM0_1).view (Rect.unit (s := S884) (k0_off1 i) S1.size (k0_off1_inb i)).toLoadRect T1 (Shape.Idx.first (numel1_S1.symm ▸ Nat.one_pos))) 0#32)) 0#32) = 1#1) (k0_h2 : ¬(k0_cond2 (View.readAt (Elt Ideal) (tbM0_0).view (Rect.unit (s := S884) (k0_off1 i) S1.size (k0_off1_inb i)).toLoadRect T0 (Shape.Idx.first (numel1_S1.symm ▸ Nat.one_pos))) (View.readAt (Elt Ideal) (tbM0_1).view (Rect.unit (s := S884) (k0_off1 i) S1.size (k0_off1_inb i)).toLoadRect T1 (Shape.Idx.first (numel1_S1.symm ▸ Nat.one_pos))) = 1#1)) :
    Σ' (out0 : Buf (Elt Ideal) ((c : Thread nD τ).loc cc0_scratch0)) (out1 : Buf (Elt Ideal) ((c : Thread nD τ).loc cc0_scratch1)) (out2 : Buf (Elt Ideal) ((c : Thread nD τ).loc cc0_scratch2)) (out3 : Buf (Elt Ideal) ((c : Thread nD τ).loc cc0_scratch3)) (out4 : Buf (Elt Ideal) ((c : Thread nD τ).loc cc0_scratch4)), { out5 : Buf (Elt Ideal) ((c : Thread nD τ).loc cc0_scratch5) //
      ∀ (y4 : (S256x2048.Idx → Elt Ideal .bf16)) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (xa3 : Buf (Elt Ideal) ((c : Thread nD τ).loc cc0_scratch3)) (xa4 : Buf (Elt Ideal) ((c : Thread nD τ).loc cc0_scratch4)) (xa5 : Buf (Elt Ideal) ((c : Thread nD τ).loc cc0_scratch5)) (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (tbM0_0.view.loc (c : Thread nD τ) ↦{fullShare.right} T0)
          ∗ (tbM0_1.view.loc (c : Thread nD τ) ↦{fullShare.right} T1)
          ∗ owns (c : Thread nD τ) arg7 fullShare y4
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (scM0_3.view.loc (c : Thread nD τ) ↦{fullShare} xa3)
          ∗ (scM0_4.view.loc (c : Thread nD τ) ↦{fullShare} xa4)
          ∗ (scM0_5.view.loc (c : Thread nD τ) ↦{fullShare} xa5)
          ∗ (iprop((arg3.view.loc (c : Thread nD τ) ↦[arg3.view.set]{fullShare} arg3.view.rep x0)
              ∗ (arg4.view.loc (c : Thread nD τ) ↦[arg4.view.set]{fullShare} arg4.view.rep x1)
              ∗ (arg5.view.loc (c : Thread nD τ) ↦[arg5.view.set]{fullShare} arg5.view.rep x2)
              ∗ (arg6.view.loc (c : Thread nD τ) ↦[arg6.view.set]{fullShare} arg6.view.rep x3)
              ∗ (tbM0_0.view.loc (c : Thread nD τ) ↦{fullShare.right} T0)
              ∗ (tbM0_1.view.loc (c : Thread nD τ) ↦{fullShare.right} T1)
              ∗ owns (c : Thread nD τ) arg7 fullShare y4
              ∗ (scM0_0.view.loc (c : Thread nD τ) ↦{fullShare} out0)
              ∗ (scM0_1.view.loc (c : Thread nD τ) ↦{fullShare} out1)
              ∗ (scM0_2.view.loc (c : Thread nD τ) ↦{fullShare} out2)
              ∗ (scM0_3.view.loc (c : Thread nD τ) ↦{fullShare} out3)
              ∗ (scM0_4.view.loc (c : Thread nD τ) ↦{fullShare} out4)
              ∗ (scM0_5.view.loc (c : Thread nD τ) ↦{fullShare} out5)) -∗ K ⟨⟩))
          ⊢ wp frame (wpE (defs₀ (F := Ideal)) Variants.none c none) Set.univ (cc0_dsa_attention i tbM0_0 (Memref.isWhole_whole _) tbM0_1 (Memref.isWhole_whole _) arg3 harg3 arg4 harg4 arg5 harg5 arg6 harg6 arg7 harg7 scM0_0 (Memref.isWhole_whole _) scM0_1 (Memref.isWhole_whole _) scM0_2 (Memref.isWhole_whole _) scM0_3 (Memref.isWhole_whole _) scM0_4 (Memref.isWhole_whole _) scM0_5 (Memref.isWhole_whole _)) K } :=
  ⟨_, _, _, _, _, _, fun (y4 : (S256x2048.Idx → Elt Ideal .bf16)) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (xa3 : Buf (Elt Ideal) ((c : Thread nD τ).loc cc0_scratch3)) (xa4 : Buf (Elt Ideal) ((c : Thread nD τ).loc cc0_scratch4)) (xa5 : Buf (Elt Ideal) ((c : Thread nD τ).loc cc0_scratch5)) K => by
    unfold owns
    rw [cc0_dsa_attention_eq_skeleton]; unfold cc0_dsa_attention_skel
    iintro ⟨H0, H1, H2, H3, HT0, HT1, ⟨%f4, %hf4, HO4⟩, HS0, HS1, HS2, HS3, HS4, HS5, Hk⟩
    obtain rfl := harg7.eq_unread hf4
    have hS0 : scM0_0.IsWhole := Memref.isWhole_whole _
    have hS1 : scM0_1.IsWhole := Memref.isWhole_whole _
    have hS2 : scM0_2.IsWhole := Memref.isWhole_whole _
    have hS3 : scM0_3.IsWhole := Memref.isWhole_whole _
    have hS4 : scM0_4.IsWhole := Memref.isWhole_whole _
    have hS5 : scM0_5.IsWhole := Memref.isWhole_whole _
    have hT0 : tbM0_0.IsWhole := Memref.isWhole_whole _
    have hT1 : tbM0_1.IsWhole := Memref.isWhole_whole _
    sl_exec! (disch := first | (guard_target = Scalar.cmpi = _; exact hc0) | (guard_target = ¬(k0_cond2 _ _ = _); exact k0_h2))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HO4]
    · iexists _; isplitr; · ipureintro; exact harg7.read_unread _
      iexact HO4
    isplitl [HS0]; · iexact HS0
    isplitl [HS1]; · iexact HS1
    isplitl [HS2]; · iexact HS2
    isplitl [HS3]; · iexact HS3
    isplitl [HS4]; · iexact HS4
    iexact HS5⟩

set_option backward.proofsInPublic true in
set_option maxHeartbeats 8000000 in
/-- PATH C (points 3, 5, … 883: 63 of 884): what the body leaves — per stored output its pieces (last first), per scratch its
    contents — WITH the proof that, on whole staging memrefs, from the inputs at their blocks, the tables, the outputs
    (4: stored) and the scratches (0: carried, 1: carried, 2: carried, 3: covered, 4: covered, 5: covered), under the path's decisions as
    hypotheses over the words the body reads (`hc0`; `k0_h2`), the body runs to the continuation holding all of it as stated. The
    skeleton (`Gen.*_eq_skeleton`) run by `sl_exec`, loops of literal trip count unrolled by the run, the others by `sl_unroll`. -/
noncomputable def kernelRun0_C (c : Dev nD) (i : grid0.Coords) (arg3 : Memref sig .tc .vmem S256x2048 .bf16) (harg3 : arg3.IsWhole) (arg4 : Memref sig .tc .vmem S640x2048 .bf16) (harg4 : arg4.IsWhole) (arg5 : Memref sig .tc .vmem S2048x640 .bf16) (harg5 : arg5.IsWhole) (arg6 : Memref sig .tc .vmem S640x256 .bf16) (harg6 : arg6.IsWhole) (arg7 : Memref sig .tc .vmem S256x2048 .bf16) (harg7 : arg7.IsWhole) (T0 : (S884.Idx → Elt Ideal .i32)) (T1 : (S884.Idx → Elt Ideal .i32))
     (x0 : (S256x2048.Idx → Elt Ideal .bf16)) (x1 : (S640x2048.Idx → Elt Ideal .bf16)) (x2 : (S2048x640.Idx → Elt Ideal .bf16)) (x3 : (S640x256.Idx → Elt Ideal .bf16)) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (hc0 : ¬((Scalar.cmpi .ne (Scalar.extui (Scalar.cmpi .eq (View.readAt (Elt Ideal) (tbM0_1).view (Rect.unit (s := S884) (k0_off1 i) S1.size (k0_off1_inb i)).toLoadRect T1 (Shape.Idx.first (numel1_S1.symm ▸ Nat.one_pos))) 0#32)) 0#32) = 1#1)) (k0_h2 : k0_cond2 (View.readAt (Elt Ideal) (tbM0_0).view (Rect.unit (s := S884) (k0_off1 i) S1.size (k0_off1_inb i)).toLoadRect T0 (Shape.Idx.first (numel1_S1.symm ▸ Nat.one_pos))) (View.readAt (Elt Ideal) (tbM0_1).view (Rect.unit (s := S884) (k0_off1 i) S1.size (k0_off1_inb i)).toLoadRect T1 (Shape.Idx.first (numel1_S1.symm ▸ Nat.one_pos))) = 1#1) :
    Σ' (out0 : List (View.Piece (Elt Ideal) S256x2048 .bf16)) (out1 : Buf (Elt Ideal) ((c : Thread nD τ).loc cc0_scratch0)) (out2 : Buf (Elt Ideal) ((c : Thread nD τ).loc cc0_scratch1)) (out3 : Buf (Elt Ideal) ((c : Thread nD τ).loc cc0_scratch2)) (out4 : Buf (Elt Ideal) ((c : Thread nD τ).loc cc0_scratch3)) (out5 : Buf (Elt Ideal) ((c : Thread nD τ).loc cc0_scratch4)), { out6 : Buf (Elt Ideal) ((c : Thread nD τ).loc cc0_scratch5) //
      ∀ (xa3 : Buf (Elt Ideal) ((c : Thread nD τ).loc cc0_scratch3)) (xa4 : Buf (Elt Ideal) ((c : Thread nD τ).loc cc0_scratch4)) (xa5 : Buf (Elt Ideal) ((c : Thread nD τ).loc cc0_scratch5)) (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (tbM0_0.view.loc (c : Thread nD τ) ↦{fullShare.right} T0)
          ∗ (tbM0_1.view.loc (c : Thread nD τ) ↦{fullShare.right} T1)
          ∗ (∃ d, owns (c : Thread nD τ) arg7 fullShare d)
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (scM0_3.view.loc (c : Thread nD τ) ↦{fullShare} xa3)
          ∗ (scM0_4.view.loc (c : Thread nD τ) ↦{fullShare} xa4)
          ∗ (scM0_5.view.loc (c : Thread nD τ) ↦{fullShare} xa5)
          ∗ (iprop((arg3.view.loc (c : Thread nD τ) ↦[arg3.view.set]{fullShare} arg3.view.rep x0)
              ∗ (arg4.view.loc (c : Thread nD τ) ↦[arg4.view.set]{fullShare} arg4.view.rep x1)
              ∗ (arg5.view.loc (c : Thread nD τ) ↦[arg5.view.set]{fullShare} arg5.view.rep x2)
              ∗ (arg6.view.loc (c : Thread nD τ) ↦[arg6.view.set]{fullShare} arg6.view.rep x3)
              ∗ (tbM0_0.view.loc (c : Thread nD τ) ↦{fullShare.right} T0)
              ∗ (tbM0_1.view.loc (c : Thread nD τ) ↦{fullShare.right} T1)
              ∗ (∃ f, arg7.view.loc (c : Thread nD τ) ↦[arg7.view.set]{fullShare} arg7.view.writes (Elt Ideal) f out0)
              ∗ (scM0_0.view.loc (c : Thread nD τ) ↦{fullShare} out1)
              ∗ (scM0_1.view.loc (c : Thread nD τ) ↦{fullShare} out2)
              ∗ (scM0_2.view.loc (c : Thread nD τ) ↦{fullShare} out3)
              ∗ (scM0_3.view.loc (c : Thread nD τ) ↦{fullShare} out4)
              ∗ (scM0_4.view.loc (c : Thread nD τ) ↦{fullShare} out5)
              ∗ (scM0_5.view.loc (c : Thread nD τ) ↦{fullShare} out6)) -∗ K ⟨⟩))
          ⊢ wp frame (wpE (defs₀ (F := Ideal)) Variants.none c none) Set.univ (cc0_dsa_attention i tbM0_0 (Memref.isWhole_whole _) tbM0_1 (Memref.isWhole_whole _) arg3 harg3 arg4 harg4 arg5 harg5 arg6 harg6 arg7 harg7 scM0_0 (Memref.isWhole_whole _) scM0_1 (Memref.isWhole_whole _) scM0_2 (Memref.isWhole_whole _) scM0_3 (Memref.isWhole_whole _) scM0_4 (Memref.isWhole_whole _) scM0_5 (Memref.isWhole_whole _)) K } :=
  ⟨_, _, _, _, _, _, _, fun (xa3 : Buf (Elt Ideal) ((c : Thread nD τ).loc cc0_scratch3)) (xa4 : Buf (Elt Ideal) ((c : Thread nD τ).loc cc0_scratch4)) (xa5 : Buf (Elt Ideal) ((c : Thread nD τ).loc cc0_scratch5)) K => by
    unfold owns
    rw [cc0_dsa_attention_eq_skeleton]; unfold cc0_dsa_attention_skel
    iintro ⟨H0, H1, H2, H3, HT0, HT1, ⟨%d4, %f4, -, HO4⟩, HS0, HS1, HS2, HS3, HS4, HS5, Hk⟩
    have hS0 : scM0_0.IsWhole := Memref.isWhole_whole _
    have hS1 : scM0_1.IsWhole := Memref.isWhole_whole _
    have hS2 : scM0_2.IsWhole := Memref.isWhole_whole _
    have hS3 : scM0_3.IsWhole := Memref.isWhole_whole _
    have hS4 : scM0_4.IsWhole := Memref.isWhole_whole _
    have hS5 : scM0_5.IsWhole := Memref.isWhole_whole _
    have hT0 : tbM0_0.IsWhole := Memref.isWhole_whole _
    have hT1 : tbM0_1.IsWhole := Memref.isWhole_whole _
    sl_exec! (disch := first | (guard_target = ¬(Scalar.cmpi = _); exact hc0) | (guard_target = k0_cond2 _ _ = _; exact k0_h2))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HO4]; · iexists _; iexact HO4
    isplitl [HS0]; · iexact HS0
    isplitl [HS1]; · iexact HS1
    isplitl [HS2]; · iexact HS2
    isplitl [HS3]; · iexact HS3
    isplitl [HS4]; · iexact HS4
    iexact HS5⟩

/-- Path C's pieces for output 4 tile its block (16 stores of `S256x128`: the kernel evaluates the tiling, Lib/Ring.lean `Piece.tiledL`). -/
theorem cover0_C_4 (c : Dev nD) (i : grid0.Coords) (arg3 : Memref sig .tc .vmem S256x2048 .bf16) (harg3 : arg3.IsWhole) (arg4 : Memref sig .tc .vmem S640x2048 .bf16) (harg4 : arg4.IsWhole) (arg5 : Memref sig .tc .vmem S2048x640 .bf16) (harg5 : arg5.IsWhole) (arg6 : Memref sig .tc .vmem S640x256 .bf16) (harg6 : arg6.IsWhole) (arg7 : Memref sig .tc .vmem S256x2048 .bf16) (harg7 : arg7.IsWhole) (T0 : (S884.Idx → Elt Ideal .i32)) (T1 : (S884.Idx → Elt Ideal .i32))
     (x0 : (S256x2048.Idx → Elt Ideal .bf16)) (x1 : (S640x2048.Idx → Elt Ideal .bf16)) (x2 : (S2048x640.Idx → Elt Ideal .bf16)) (x3 : (S640x256.Idx → Elt Ideal .bf16)) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (hc0 : ¬((Scalar.cmpi .ne (Scalar.extui (Scalar.cmpi .eq (View.readAt (Elt Ideal) (tbM0_1).view (Rect.unit (s := S884) (k0_off1 i) S1.size (k0_off1_inb i)).toLoadRect T1 (Shape.Idx.first (numel1_S1.symm ▸ Nat.one_pos))) 0#32)) 0#32) = 1#1)) (k0_h2 : k0_cond2 (View.readAt (Elt Ideal) (tbM0_0).view (Rect.unit (s := S884) (k0_off1 i) S1.size (k0_off1_inb i)).toLoadRect T0 (Shape.Idx.first (numel1_S1.symm ▸ Nat.one_pos))) (View.readAt (Elt Ideal) (tbM0_1).view (Rect.unit (s := S884) (k0_off1 i) S1.size (k0_off1_inb i)).toLoadRect T1 (Shape.Idx.first (numel1_S1.symm ▸ Nat.one_pos))) = 1#1) (y : S256x2048.Idx) :
    ∃ pc ∈ (kernelRun0_C c i arg3 harg3 arg4 harg4 arg5 harg5 arg6 harg6 arg7 harg7 T0 T1 x0 x1 x2 x3 xa0 xa1 xa2 hc0 k0_h2).1, y ∈ pc.1.set :=
  View.cover_of_tiledL (kernelRun0_C c i arg3 harg3 arg4 harg4 arg5 harg5 arg6 harg6 arg7 harg7 T0 T1 x0 x1 x2 x3 xa0 xa1 xa2 hc0 k0_h2).1 S256x128.size (by sl_kernel_rfl) y

/-- What path C leaves in output 4's staging buffer: its pieces read back over junk. -/
def out0_C_4 (c : Dev nD) (i : grid0.Coords) (arg3 : Memref sig .tc .vmem S256x2048 .bf16) (harg3 : arg3.IsWhole) (arg4 : Memref sig .tc .vmem S640x2048 .bf16) (harg4 : arg4.IsWhole) (arg5 : Memref sig .tc .vmem S2048x640 .bf16) (harg5 : arg5.IsWhole) (arg6 : Memref sig .tc .vmem S640x256 .bf16) (harg6 : arg6.IsWhole) (arg7 : Memref sig .tc .vmem S256x2048 .bf16) (harg7 : arg7.IsWhole) (T0 : (S884.Idx → Elt Ideal .i32)) (T1 : (S884.Idx → Elt Ideal .i32))
     (x0 : (S256x2048.Idx → Elt Ideal .bf16)) (x1 : (S640x2048.Idx → Elt Ideal .bf16)) (x2 : (S2048x640.Idx → Elt Ideal .bf16)) (x3 : (S640x256.Idx → Elt Ideal .bf16)) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (hc0 : ¬((Scalar.cmpi .ne (Scalar.extui (Scalar.cmpi .eq (View.readAt (Elt Ideal) (tbM0_1).view (Rect.unit (s := S884) (k0_off1 i) S1.size (k0_off1_inb i)).toLoadRect T1 (Shape.Idx.first (numel1_S1.symm ▸ Nat.one_pos))) 0#32)) 0#32) = 1#1)) (k0_h2 : k0_cond2 (View.readAt (Elt Ideal) (tbM0_0).view (Rect.unit (s := S884) (k0_off1 i) S1.size (k0_off1_inb i)).toLoadRect T0 (Shape.Idx.first (numel1_S1.symm ▸ Nat.one_pos))) (View.readAt (Elt Ideal) (tbM0_1).view (Rect.unit (s := S884) (k0_off1 i) S1.size (k0_off1_inb i)).toLoadRect T1 (Shape.Idx.first (numel1_S1.symm ▸ Nat.one_pos))) = 1#1) : (S256x2048.Idx → Elt Ideal .bf16) :=
  VO0_4.read (Elt Ideal) (VO0_4.writes (Elt Ideal) VO0_4.junk (kernelRun0_C c i arg3 harg3 arg4 harg4 arg5 harg5 arg6 harg6 arg7 harg7 T0 T1 x0 x1 x2 x3 xa0 xa1 xa2 hc0 k0_h2).1)

set_option backward.proofsInPublic true in
set_option maxHeartbeats 8000000 in
/-- PATH D (points 9, 12, … 882: 756 of 884): what the body leaves — per stored output its pieces (last first), per scratch its
    contents — WITH the proof that, on whole staging memrefs, from the inputs at their blocks, the tables, the outputs
    (4: idle) and the scratches (0: carried, 1: carried, 2: carried, 3: covered, 4: covered, 5: covered), under the path's decisions as
    hypotheses over the words the body reads (`hc0`; `k0_h2`), the body runs to the continuation holding all of it as stated. The
    skeleton (`Gen.*_eq_skeleton`) run by `sl_exec`, loops of literal trip count unrolled by the run, the others by `sl_unroll`. -/
noncomputable def kernelRun0_D (c : Dev nD) (i : grid0.Coords) (arg3 : Memref sig .tc .vmem S256x2048 .bf16) (harg3 : arg3.IsWhole) (arg4 : Memref sig .tc .vmem S640x2048 .bf16) (harg4 : arg4.IsWhole) (arg5 : Memref sig .tc .vmem S2048x640 .bf16) (harg5 : arg5.IsWhole) (arg6 : Memref sig .tc .vmem S640x256 .bf16) (harg6 : arg6.IsWhole) (arg7 : Memref sig .tc .vmem S256x2048 .bf16) (harg7 : arg7.IsWhole) (T0 : (S884.Idx → Elt Ideal .i32)) (T1 : (S884.Idx → Elt Ideal .i32))
     (x0 : (S256x2048.Idx → Elt Ideal .bf16)) (x1 : (S640x2048.Idx → Elt Ideal .bf16)) (x2 : (S2048x640.Idx → Elt Ideal .bf16)) (x3 : (S640x256.Idx → Elt Ideal .bf16)) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (hc0 : ¬((Scalar.cmpi .ne (Scalar.extui (Scalar.cmpi .eq (View.readAt (Elt Ideal) (tbM0_1).view (Rect.unit (s := S884) (k0_off1 i) S1.size (k0_off1_inb i)).toLoadRect T1 (Shape.Idx.first (numel1_S1.symm ▸ Nat.one_pos))) 0#32)) 0#32) = 1#1)) (k0_h2 : ¬(k0_cond2 (View.readAt (Elt Ideal) (tbM0_0).view (Rect.unit (s := S884) (k0_off1 i) S1.size (k0_off1_inb i)).toLoadRect T0 (Shape.Idx.first (numel1_S1.symm ▸ Nat.one_pos))) (View.readAt (Elt Ideal) (tbM0_1).view (Rect.unit (s := S884) (k0_off1 i) S1.size (k0_off1_inb i)).toLoadRect T1 (Shape.Idx.first (numel1_S1.symm ▸ Nat.one_pos))) = 1#1)) :
    Σ' (out0 : Buf (Elt Ideal) ((c : Thread nD τ).loc cc0_scratch0)) (out1 : Buf (Elt Ideal) ((c : Thread nD τ).loc cc0_scratch1)) (out2 : Buf (Elt Ideal) ((c : Thread nD τ).loc cc0_scratch2)) (out3 : Buf (Elt Ideal) ((c : Thread nD τ).loc cc0_scratch3)) (out4 : Buf (Elt Ideal) ((c : Thread nD τ).loc cc0_scratch4)), { out5 : Buf (Elt Ideal) ((c : Thread nD τ).loc cc0_scratch5) //
      ∀ (y4 : (S256x2048.Idx → Elt Ideal .bf16)) (xa3 : Buf (Elt Ideal) ((c : Thread nD τ).loc cc0_scratch3)) (xa4 : Buf (Elt Ideal) ((c : Thread nD τ).loc cc0_scratch4)) (xa5 : Buf (Elt Ideal) ((c : Thread nD τ).loc cc0_scratch5)) (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (tbM0_0.view.loc (c : Thread nD τ) ↦{fullShare.right} T0)
          ∗ (tbM0_1.view.loc (c : Thread nD τ) ↦{fullShare.right} T1)
          ∗ owns (c : Thread nD τ) arg7 fullShare y4
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (scM0_3.view.loc (c : Thread nD τ) ↦{fullShare} xa3)
          ∗ (scM0_4.view.loc (c : Thread nD τ) ↦{fullShare} xa4)
          ∗ (scM0_5.view.loc (c : Thread nD τ) ↦{fullShare} xa5)
          ∗ (iprop((arg3.view.loc (c : Thread nD τ) ↦[arg3.view.set]{fullShare} arg3.view.rep x0)
              ∗ (arg4.view.loc (c : Thread nD τ) ↦[arg4.view.set]{fullShare} arg4.view.rep x1)
              ∗ (arg5.view.loc (c : Thread nD τ) ↦[arg5.view.set]{fullShare} arg5.view.rep x2)
              ∗ (arg6.view.loc (c : Thread nD τ) ↦[arg6.view.set]{fullShare} arg6.view.rep x3)
              ∗ (tbM0_0.view.loc (c : Thread nD τ) ↦{fullShare.right} T0)
              ∗ (tbM0_1.view.loc (c : Thread nD τ) ↦{fullShare.right} T1)
              ∗ owns (c : Thread nD τ) arg7 fullShare y4
              ∗ (scM0_0.view.loc (c : Thread nD τ) ↦{fullShare} out0)
              ∗ (scM0_1.view.loc (c : Thread nD τ) ↦{fullShare} out1)
              ∗ (scM0_2.view.loc (c : Thread nD τ) ↦{fullShare} out2)
              ∗ (scM0_3.view.loc (c : Thread nD τ) ↦{fullShare} out3)
              ∗ (scM0_4.view.loc (c : Thread nD τ) ↦{fullShare} out4)
              ∗ (scM0_5.view.loc (c : Thread nD τ) ↦{fullShare} out5)) -∗ K ⟨⟩))
          ⊢ wp frame (wpE (defs₀ (F := Ideal)) Variants.none c none) Set.univ (cc0_dsa_attention i tbM0_0 (Memref.isWhole_whole _) tbM0_1 (Memref.isWhole_whole _) arg3 harg3 arg4 harg4 arg5 harg5 arg6 harg6 arg7 harg7 scM0_0 (Memref.isWhole_whole _) scM0_1 (Memref.isWhole_whole _) scM0_2 (Memref.isWhole_whole _) scM0_3 (Memref.isWhole_whole _) scM0_4 (Memref.isWhole_whole _) scM0_5 (Memref.isWhole_whole _)) K } :=
  ⟨_, _, _, _, _, _, fun (y4 : (S256x2048.Idx → Elt Ideal .bf16)) (xa3 : Buf (Elt Ideal) ((c : Thread nD τ).loc cc0_scratch3)) (xa4 : Buf (Elt Ideal) ((c : Thread nD τ).loc cc0_scratch4)) (xa5 : Buf (Elt Ideal) ((c : Thread nD τ).loc cc0_scratch5)) K => by
    unfold owns
    rw [cc0_dsa_attention_eq_skeleton]; unfold cc0_dsa_attention_skel
    iintro ⟨H0, H1, H2, H3, HT0, HT1, ⟨%f4, %hf4, HO4⟩, HS0, HS1, HS2, HS3, HS4, HS5, Hk⟩
    obtain rfl := harg7.eq_unread hf4
    have hS0 : scM0_0.IsWhole := Memref.isWhole_whole _
    have hS1 : scM0_1.IsWhole := Memref.isWhole_whole _
    have hS2 : scM0_2.IsWhole := Memref.isWhole_whole _
    have hS3 : scM0_3.IsWhole := Memref.isWhole_whole _
    have hS4 : scM0_4.IsWhole := Memref.isWhole_whole _
    have hS5 : scM0_5.IsWhole := Memref.isWhole_whole _
    have hT0 : tbM0_0.IsWhole := Memref.isWhole_whole _
    have hT1 : tbM0_1.IsWhole := Memref.isWhole_whole _
    sl_exec! (disch := first | (guard_target = ¬(Scalar.cmpi = _); exact hc0) | (guard_target = ¬(k0_cond2 _ _ = _); exact k0_h2))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HO4]
    · iexists _; isplitr; · ipureintro; exact harg7.read_unread _
      iexact HO4
    isplitl [HS0]; · iexact HS0
    isplitl [HS1]; · iexact HS1
    isplitl [HS2]; · iexact HS2
    isplitl [HS3]; · iexact HS3
    isplitl [HS4]; · iexact HS4
    iexact HS5⟩

end Cert.KernelIdeal.Attn

end
-- ==== Proof.AttnIdeal.Ok0.lean ====
/- Every block the tables select lies inside its array.
   Follows the text the frame generator writes for a call whose tables are arguments; here the tables are the
   constants the host writes before the call. -/
module

public import proofs.«01_k».proof.Proof.AttnIdeal.Pins

@[expose] public section

set_option maxRecDepth 16384
-- ONE DECLARATION AT A TIME: a per-path run alone peaks near 3 GB, and a decided theorem's kernel evaluation is freed
-- only when the next declaration begins (side by side, every finished one is held to the module's end)
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The certificate is written at the CLOSED instance `Ideal` (the frame claim's): every pinned word a `BitVec`. -/
local notation "𝕄" => MT nD τ sig Unit (Elt Ideal) ℕ (UR sig nD τ) ℕ

theorem ok_pfN_0_0_inb : ∀ i : grid0.Coords, ∀ a, (cc0_transform_0 k0_off1_inb numel1_S1 (pfN (⟨0, by omega⟩ : Fin 1)) i a + 1) * S256x2048.size a ≤ S16640x2048.size a := by decide +kernel
theorem ok_pfN_0_0 : (∀ i : grid0.Coords, ∃ h : (∀ a, (cc0_transform_0 k0_off1_inb numel1_S1 (pfN (⟨0, by omega⟩ : Fin 1)) i a + 1) * S256x2048.size a ≤ S16640x2048.size a), EltTy.bits .bf16 = 32 ∨ (Rect.block (s := S16640x2048) S256x2048.size (cc0_transform_0 k0_off1_inb numel1_S1 (pfN (⟨0, by omega⟩ : Fin 1)) i) h).WholeWords (EltTy.packing .bf16)) := fun i => ⟨ok_pfN_0_0_inb i, .inr (Affine.block_words_dvd (s := S16640x2048) (p := EltTy.packing .bf16) (by decide) (by decide))⟩
theorem ok_pfN_0_1_inb : ∀ i : grid0.Coords, ∀ a, (cc0_transform_1 k0_off1_inb numel1_S1 (pfN (⟨0, by omega⟩ : Fin 1)) i a + 1) * S640x2048.size a ≤ S16640x2048.size a := by decide +kernel
theorem ok_pfN_0_1 : (∀ i : grid0.Coords, ∃ h : (∀ a, (cc0_transform_1 k0_off1_inb numel1_S1 (pfN (⟨0, by omega⟩ : Fin 1)) i a + 1) * S640x2048.size a ≤ S16640x2048.size a), EltTy.bits .bf16 = 32 ∨ (Rect.block (s := S16640x2048) S640x2048.size (cc0_transform_1 k0_off1_inb numel1_S1 (pfN (⟨0, by omega⟩ : Fin 1)) i) h).WholeWords (EltTy.packing .bf16)) := fun i => ⟨ok_pfN_0_1_inb i, .inr (Affine.block_words_dvd (s := S16640x2048) (p := EltTy.packing .bf16) (by decide) (by decide))⟩
theorem ok_pfN_0_2_inb : ∀ i : grid0.Coords, ∀ a, (cc0_transform_2 k0_off1_inb numel1_S1 (pfN (⟨0, by omega⟩ : Fin 1)) i a + 1) * S2048x640.size a ≤ S2048x16640.size a := by decide +kernel
theorem ok_pfN_0_2 : (∀ i : grid0.Coords, ∃ h : (∀ a, (cc0_transform_2 k0_off1_inb numel1_S1 (pfN (⟨0, by omega⟩ : Fin 1)) i a + 1) * S2048x640.size a ≤ S2048x16640.size a), EltTy.bits .bf16 = 32 ∨ (Rect.block (s := S2048x16640) S2048x640.size (cc0_transform_2 k0_off1_inb numel1_S1 (pfN (⟨0, by omega⟩ : Fin 1)) i) h).WholeWords (EltTy.packing .bf16)) := fun i => ⟨ok_pfN_0_2_inb i, .inr (Affine.block_words_dvd (s := S2048x16640) (p := EltTy.packing .bf16) (by decide) (by decide))⟩
theorem ok_pfN_0_3_inb : ∀ i : grid0.Coords, ∀ a, (cc0_transform_3 k0_off1_inb numel1_S1 (pfN (⟨0, by omega⟩ : Fin 1)) i a + 1) * S640x256.size a ≤ S16640x16640.size a := by decide +kernel
theorem ok_pfN_0_3 : (∀ i : grid0.Coords, ∃ h : (∀ a, (cc0_transform_3 k0_off1_inb numel1_S1 (pfN (⟨0, by omega⟩ : Fin 1)) i a + 1) * S640x256.size a ≤ S16640x16640.size a), EltTy.bits .bf16 = 32 ∨ (Rect.block (s := S16640x16640) S640x256.size (cc0_transform_3 k0_off1_inb numel1_S1 (pfN (⟨0, by omega⟩ : Fin 1)) i) h).WholeWords (EltTy.packing .bf16)) := fun i => ⟨ok_pfN_0_3_inb i, .inr (Affine.block_words_dvd (s := S16640x16640) (p := EltTy.packing .bf16) (by decide) (by decide))⟩
theorem ok_pfN_0_4_inb : ∀ i : grid0.Coords, ∀ a, (cc0_transform_4 k0_off1_inb numel1_S1 (pfN (⟨0, by omega⟩ : Fin 1)) i a + 1) * S256x2048.size a ≤ S16640x2048.size a := by decide +kernel
theorem ok_pfN_0_4 : (∀ i : grid0.Coords, ∃ h : (∀ a, (cc0_transform_4 k0_off1_inb numel1_S1 (pfN (⟨0, by omega⟩ : Fin 1)) i a + 1) * S256x2048.size a ≤ S16640x2048.size a), EltTy.bits .bf16 = 32 ∨ (Rect.block (s := S16640x2048) S256x2048.size (cc0_transform_4 k0_off1_inb numel1_S1 (pfN (⟨0, by omega⟩ : Fin 1)) i) h).WholeWords (EltTy.packing .bf16)) := fun i => ⟨ok_pfN_0_4_inb i, .inr (Affine.block_words_dvd (s := S16640x2048) (p := EltTy.packing .bf16) (by decide) (by decide))⟩
theorem ok_pfN_0 : ok0 (F := Ideal) (pfN (⟨0, by omega⟩ : Fin 1)) := ⟨ok_pfN_0_0, ok_pfN_0_1, ok_pfN_0_2, ok_pfN_0_3, ok_pfN_0_4⟩

end Cert.KernelIdeal.Attn

end
-- ==== Proof.AttnIdeal.Cfg.lean ====
/- The pipeline at the two tables: its points, staging buffers, blocks and the decisions the body takes at a point.
   Follows the text the frame generator writes for a call whose tables are arguments; here the tables are the
   constants the host writes before the call. -/
module

public import proofs.«01_k».proof.Proof.AttnIdeal.Ok0

@[expose] public section

set_option maxRecDepth 16384
-- ONE DECLARATION AT A TIME: a per-path run alone peaks near 3 GB, and a decided theorem's kernel evaluation is freed
-- only when the next declaration begins (side by side, every finished one is held to the module's end)
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The certificate is written at the CLOSED instance `Ideal` (the frame claim's): every pinned word a `BitVec`. -/
local notation "𝕄" => MT nD τ sig Unit (Elt Ideal) ℕ (UR sig nD τ) ℕ
variable (ch : Fin 1)

/-- The side condition holds of the pinned tables at EVERY member (the grid at them one the call takes, every block
    inside its array): decided member by member (Flash/OkJ.lean), matched here. -/
theorem ok_pfN : ∀ ch : Fin 1, ok0 (F := Ideal) (pfN ch) := fun ch => match ch with
  | ⟨0, _⟩ => ok_pfN_0
  | ⟨_ + 1, h⟩ => absurd h (by omega)

/-- The admissible contents, the pipeline at them (`cfgA ch`: member `ch`'s grid, 884 points), as @main's one. -/
def adm : (pcfg0 (F := Ideal)).Adm := ⟨pfN ch, ok_pfN ch⟩
abbrev cfgA : Pipeline.Cfg sig Λ₀ := cfg0 (F := Ideal) (adm ch)
abbrev pcs : Fin 1 → Pipeline.Cfg sig Λ₀ := Pipeline.pin (pcfgs (F := Ideal)) fun _ => adm ch

variable (m : (ℓ : Loc nD τ sig) → Buf (Elt Ideal) ℓ) (ρ : Dev nD → PrngReg)

/-! ## A point's coordinates, words and staging memrefs -/

/-- Point `t`'s coordinates. -/
abbrev crd (t : Fin (cfgA ch).N) : (cfgA ch).grid.Coords := (cfgA ch).grid.coords t

/-- Each window's current staging memref at point `t`, spelled as the pipeline passes it, and its wholeness. -/
abbrev ms0_0 (t : Fin (cfgA ch).N) : Memref sig .tc .vmem S256x2048 .bf16 := spec0_0.stage ((cfgA ch).slots t (0 : Fin 5))
abbrev hs0_0 (t : Fin (cfgA ch).N) : (ms0_0 ch t).IsWhole := hstage0_0 (((cfgA ch).slots t (0 : Fin 5)).cast nbuf0_0)
abbrev ms0_1 (t : Fin (cfgA ch).N) : Memref sig .tc .vmem S640x2048 .bf16 := spec0_1.stage ((cfgA ch).slots t (1 : Fin 5))
abbrev hs0_1 (t : Fin (cfgA ch).N) : (ms0_1 ch t).IsWhole := hstage0_1 (((cfgA ch).slots t (1 : Fin 5)).cast nbuf0_1)
abbrev ms0_2 (t : Fin (cfgA ch).N) : Memref sig .tc .vmem S2048x640 .bf16 := spec0_2.stage ((cfgA ch).slots t (2 : Fin 5))
abbrev hs0_2 (t : Fin (cfgA ch).N) : (ms0_2 ch t).IsWhole := hstage0_2 (((cfgA ch).slots t (2 : Fin 5)).cast nbuf0_2)
abbrev ms0_3 (t : Fin (cfgA ch).N) : Memref sig .tc .vmem S640x256 .bf16 := spec0_3.stage ((cfgA ch).slots t (3 : Fin 5))
abbrev hs0_3 (t : Fin (cfgA ch).N) : (ms0_3 ch t).IsWhole := hstage0_3 (((cfgA ch).slots t (3 : Fin 5)).cast nbuf0_3)
abbrev ms0_4 (t : Fin (cfgA ch).N) : Memref sig .tc .vmem S256x2048 .bf16 := spec0_4.stage ((cfgA ch).slots t (4 : Fin 5))
abbrev hs0_4 (t : Fin (cfgA ch).N) : (ms0_4 ch t).IsWhole := hstage0_4 (((cfgA ch).slots t (4 : Fin 5)).cast nbuf0_4)

/-! ## The windows' blocks -/

/-- Window `w`'s block at point `t`, read off its array at launch. -/
def iblk (c : Dev nD) (w : Fin (cfgA ch).W) (t : Fin (cfgA ch).N) : (((cfgA ch).win w).xblock (crd ch t)).Idx → Elt Ideal ((cfgA ch).win w).elt :=
  (((cfgA ch).win w).blk t).view.read (Elt Ideal) ((s₀ m ρ).mem (((cfgA ch).win w).arr.view.loc (c : Thread nD τ)))

/-! ## The control's decisions at a point, at the pinned words (what tells the paths apart) -/

abbrev P0_0 (t : Fin (cfgA ch).N) : Prop := (Scalar.cmpi .ne (Scalar.extui (Scalar.cmpi .eq (View.readAt (Elt Ideal) (tbM0_1).view (Rect.unit (s := S884) (k0_off1 (crd ch t)) S1.size (k0_off1_inb (crd ch t))).toLoadRect (pinT_1 ch) (Shape.Idx.first (numel1_S1.symm ▸ Nat.one_pos))) 0#32)) 0#32) = 1#1
abbrev P0_1 (t : Fin (cfgA ch).N) : Prop := k0_cond2 (View.readAt (Elt Ideal) (tbM0_0).view (Rect.unit (s := S884) (k0_off1 (crd ch t)) S1.size (k0_off1_inb (crd ch t))).toLoadRect (pinT_0 ch) (Shape.Idx.first (numel1_S1.symm ▸ Nat.one_pos))) (View.readAt (Elt Ideal) (tbM0_1).view (Rect.unit (s := S884) (k0_off1 (crd ch t)) S1.size (k0_off1_inb (crd ch t))).toLoadRect (pinT_1 ch) (Shape.Idx.first (numel1_S1.symm ▸ Nat.one_pos))) = 1#1

/-- Whether scratch 0 (`cc0_scratch0`) holds nothing a point has determined, before position `n`: until a path that stores it
    whole first (A, B) has run. -/
def sfresh0_0 : ℕ → Bool
  | 0 => true
  | n + 1 => if h : n < (cfgA ch).N then (if P0_0 ch ⟨n, h⟩ then (if P0_1 ch ⟨n, h⟩ then false else false) else (if P0_1 ch ⟨n, h⟩ then sfresh0_0 n else sfresh0_0 n)) else true

/-- Its CLOSED FORM: fresh before position `n` iff no point below `n` covers it — `n` at most member `ch`'s first covering
    point (read off the walk; the recursion's step is decided against it point by point, the recursion never run). -/
def sfirst0_0 (ch : Fin 1) : ℕ := 0
def sfrTab0_0 : ℕ → Bool := fun n => decide (n ≤ sfirst0_0 ch)

/-- Whether scratch 1 (`cc0_scratch1`) holds nothing a point has determined, before position `n`: until a path that stores it
    whole first (A, B) has run. -/
def sfresh0_1 : ℕ → Bool
  | 0 => true
  | n + 1 => if h : n < (cfgA ch).N then (if P0_0 ch ⟨n, h⟩ then (if P0_1 ch ⟨n, h⟩ then false else false) else (if P0_1 ch ⟨n, h⟩ then sfresh0_1 n else sfresh0_1 n)) else true

/-- Its CLOSED FORM: fresh before position `n` iff no point below `n` covers it — `n` at most member `ch`'s first covering
    point (read off the walk; the recursion's step is decided against it point by point, the recursion never run). -/
def sfirst0_1 (ch : Fin 1) : ℕ := 0
def sfrTab0_1 : ℕ → Bool := fun n => decide (n ≤ sfirst0_1 ch)

/-- Whether scratch 2 (`cc0_scratch2`) holds nothing a point has determined, before position `n`: until a path that stores it
    whole first (A, B) has run. -/
def sfresh0_2 : ℕ → Bool
  | 0 => true
  | n + 1 => if h : n < (cfgA ch).N then (if P0_0 ch ⟨n, h⟩ then (if P0_1 ch ⟨n, h⟩ then false else false) else (if P0_1 ch ⟨n, h⟩ then sfresh0_2 n else sfresh0_2 n)) else true

/-- Its CLOSED FORM: fresh before position `n` iff no point below `n` covers it — `n` at most member `ch`'s first covering
    point (read off the walk; the recursion's step is decided against it point by point, the recursion never run). -/
def sfirst0_2 (ch : Fin 1) : ℕ := 0
def sfrTab0_2 : ℕ → Bool := fun n => decide (n ≤ sfirst0_2 ch)

/-- Whether scratch 3 (`cc0_scratch3`) holds nothing a point has determined, before position `n`: until a path that stores it
    whole first (A, B, C, D) has run. -/
def sfresh0_3 : ℕ → Bool
  | 0 => true
  | n + 1 => if h : n < (cfgA ch).N then (if P0_0 ch ⟨n, h⟩ then (if P0_1 ch ⟨n, h⟩ then false else false) else (if P0_1 ch ⟨n, h⟩ then false else false)) else true

/-- Its CLOSED FORM: fresh before position `n` iff no point below `n` covers it — `n` at most member `ch`'s first covering
    point (read off the walk; the recursion's step is decided against it point by point, the recursion never run). -/
def sfirst0_3 (ch : Fin 1) : ℕ := 0
def sfrTab0_3 : ℕ → Bool := fun n => decide (n ≤ sfirst0_3 ch)

/-- Whether scratch 4 (`cc0_scratch4`) holds nothing a point has determined, before position `n`: until a path that stores it
    whole first (A, B, C, D) has run. -/
def sfresh0_4 : ℕ → Bool
  | 0 => true
  | n + 1 => if h : n < (cfgA ch).N then (if P0_0 ch ⟨n, h⟩ then (if P0_1 ch ⟨n, h⟩ then false else false) else (if P0_1 ch ⟨n, h⟩ then false else false)) else true

/-- Its CLOSED FORM: fresh before position `n` iff no point below `n` covers it — `n` at most member `ch`'s first covering
    point (read off the walk; the recursion's step is decided against it point by point, the recursion never run). -/
def sfirst0_4 (ch : Fin 1) : ℕ := 0
def sfrTab0_4 : ℕ → Bool := fun n => decide (n ≤ sfirst0_4 ch)

/-- Whether scratch 5 (`cc0_scratch5`) holds nothing a point has determined, before position `n`: until a path that stores it
    whole first (A, B, C, D) has run. -/
def sfresh0_5 : ℕ → Bool
  | 0 => true
  | n + 1 => if h : n < (cfgA ch).N then (if P0_0 ch ⟨n, h⟩ then (if P0_1 ch ⟨n, h⟩ then false else false) else (if P0_1 ch ⟨n, h⟩ then false else false)) else true

/-- Its CLOSED FORM: fresh before position `n` iff no point below `n` covers it — `n` at most member `ch`'s first covering
    point (read off the walk; the recursion's step is decided against it point by point, the recursion never run). -/
def sfirst0_5 (ch : Fin 1) : ℕ := 0
def sfrTab0_5 : ℕ → Bool := fun n => decide (n ≤ sfirst0_5 ch)

set_option backward.proofsInPublic true in
/-- Whether output 4 holds junk BEFORE each position `1 ‥ N` of member `ch`'s grid — nothing stored into it since
    its last write-back —: the classifier's table (written back at the point before, or idle there and junk
    before it) as a bitmask, bit `n` for position `n + 1`, which `frTab0_4_step` checks against the pipeline's
    own recursion point by point (a bit test is one kernel step; a list walk or the recursion, hundreds). -/
def frMask0_4 : Fin 1 → ℕ
  | ⟨0, _⟩ => 0xfffffffffffffffffffffffffffffffffffffffffffffffffffffffffffffffffffffffffffffffffffffffffffffffffffffffffffffffffffffffffffffffffffffffffffffffffffffffffffffffffffffffffffffffffffffffffffffffffffffffffffffffffffffffffffff
  | ⟨_ + 1, h⟩ => absurd h (by omega)
/-- `(cfgA ch).fresh 4` TABULATED (TableIdle.lean `Cfg.fresh_tab`): true before the first point, then the table. -/
def frTab0_4 : ℕ → Bool
  | 0 => true
  | n + 1 => (frMask0_4 ch).testBit n

end Cert.KernelIdeal.Attn

end
-- ==== Proof.AttnIdeal.Facts.lean ====
/- The finite facts about a grid point, gathered into one decidable proposition.
   Follows the text the frame generator writes for a call whose tables are arguments; here the tables are the
   constants the host writes before the call. -/
module

public import proofs.«01_k».proof.Proof.AttnIdeal.Cfg

@[expose] public section

set_option maxRecDepth 16384
-- ONE DECLARATION AT A TIME: a per-path run alone peaks near 3 GB, and a decided theorem's kernel evaluation is freed
-- only when the next declaration begins (side by side, every finished one is held to the module's end)
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The certificate is written at the CLOSED instance `Ideal` (the frame claim's): every pinned word a `BitVec`. -/
local notation "𝕄" => MT nD τ sig Unit (Elt Ideal) ℕ (UR sig nD τ) ℕ
variable (ch : Fin 1)
variable (m : (ℓ : Loc nD τ sig) → Buf (Elt Ideal) ℓ) (ρ : Dev nD → PrngReg)

/-! ## Every per-point fact as ONE proposition, decided member by member; the named facts its projections -/

/-- EVERY FACT THE CERTIFICATE DECIDES at point `t` of member `ch` past the checks — the freshness tables' steps, each
    path's hypotheses and schedule at its points —, as one proposition: ONE kernel evaluation per member
    decides it over the member's points, sharing each point's words, table reads and block indices between the
    facts (Lib/Decide.lean halves the range; a declaration per member bounds the kernel's evaluation cache). -/
abbrev FactsAt (ch : Fin 1) (t : Fin (cfgA ch).N) : Prop :=
  -- sfrTab0_0_step, sfrTab0_1_step, sfrTab0_2_step, sfrTab0_3_step, sfrTab0_4_step, sfrTab0_5_step, frTab0_4_step, hyps0_A, sched0_A, hyps0_B, sched0_B, hyps0_C, sched0_C, hyps0_D, sched0_D
  (sfrTab0_0 ch (t.val + 1) = (if P0_0 ch t then (if P0_1 ch t then false else false) else (if P0_1 ch t then sfrTab0_0 ch t.val else sfrTab0_0 ch t.val)))
  ∧ (sfrTab0_1 ch (t.val + 1) = (if P0_0 ch t then (if P0_1 ch t then false else false) else (if P0_1 ch t then sfrTab0_1 ch t.val else sfrTab0_1 ch t.val)))
  ∧ (sfrTab0_2 ch (t.val + 1) = (if P0_0 ch t then (if P0_1 ch t then false else false) else (if P0_1 ch t then sfrTab0_2 ch t.val else sfrTab0_2 ch t.val)))
  ∧ (sfrTab0_3 ch (t.val + 1) = (if P0_0 ch t then (if P0_1 ch t then false else false) else (if P0_1 ch t then false else false)))
  ∧ (sfrTab0_4 ch (t.val + 1) = (if P0_0 ch t then (if P0_1 ch t then false else false) else (if P0_1 ch t then false else false)))
  ∧ (sfrTab0_5 ch (t.val + 1) = (if P0_0 ch t then (if P0_1 ch t then false else false) else (if P0_1 ch t then false else false)))
  ∧ (frTab0_4 ch (t.val + 1) = (((cfgA ch).win (4 : Fin 5)).flush t || ((cfgA ch).idle (4 : Fin 5) ((cfgA ch).grid.coords t) && frTab0_4 ch t.val)))
  ∧ (P0_0 ch t → P0_1 ch t → ((Scalar.cmpi .ne (Scalar.extui (Scalar.cmpi .eq (View.readAt (Elt Ideal) (tbM0_1).view (Rect.unit (s := S884) (k0_off1 (crd ch t)) S1.size (k0_off1_inb (crd ch t))).toLoadRect (pinT_1 ch) (Shape.Idx.first (numel1_S1.symm ▸ Nat.one_pos))) 0#32)) 0#32) = 1#1) ∧ ((k0_cond2 (View.readAt (Elt Ideal) (tbM0_0).view (Rect.unit (s := S884) (k0_off1 (crd ch t)) S1.size (k0_off1_inb (crd ch t))).toLoadRect (pinT_0 ch) (Shape.Idx.first (numel1_S1.symm ▸ Nat.one_pos))) (View.readAt (Elt Ideal) (tbM0_1).view (Rect.unit (s := S884) (k0_off1 (crd ch t)) S1.size (k0_off1_inb (crd ch t))).toLoadRect (pinT_1 ch) (Shape.Idx.first (numel1_S1.symm ▸ Nat.one_pos))) = 1#1) ∧ (True)))
  ∧ (P0_0 ch t → P0_1 ch t → (cfgA ch).idle (4 : Fin 5) ((cfgA ch).grid.coords t) = false ∧ ((cfgA ch).win (4 : Fin 5)).flush t = true ∧ frTab0_4 ch t.val = true ∧ sfrTab0_0 ch (t.val + 1) = false ∧ sfrTab0_1 ch (t.val + 1) = false ∧ sfrTab0_2 ch (t.val + 1) = false ∧ sfrTab0_3 ch (t.val + 1) = false ∧ sfrTab0_4 ch (t.val + 1) = false ∧ sfrTab0_5 ch (t.val + 1) = false)
  ∧ (P0_0 ch t → ¬P0_1 ch t → ((Scalar.cmpi .ne (Scalar.extui (Scalar.cmpi .eq (View.readAt (Elt Ideal) (tbM0_1).view (Rect.unit (s := S884) (k0_off1 (crd ch t)) S1.size (k0_off1_inb (crd ch t))).toLoadRect (pinT_1 ch) (Shape.Idx.first (numel1_S1.symm ▸ Nat.one_pos))) 0#32)) 0#32) = 1#1) ∧ ((¬(k0_cond2 (View.readAt (Elt Ideal) (tbM0_0).view (Rect.unit (s := S884) (k0_off1 (crd ch t)) S1.size (k0_off1_inb (crd ch t))).toLoadRect (pinT_0 ch) (Shape.Idx.first (numel1_S1.symm ▸ Nat.one_pos))) (View.readAt (Elt Ideal) (tbM0_1).view (Rect.unit (s := S884) (k0_off1 (crd ch t)) S1.size (k0_off1_inb (crd ch t))).toLoadRect (pinT_1 ch) (Shape.Idx.first (numel1_S1.symm ▸ Nat.one_pos))) = 1#1)) ∧ (True)))
  ∧ (P0_0 ch t → ¬P0_1 ch t → (cfgA ch).idle (4 : Fin 5) ((cfgA ch).grid.coords t) = true ∧ ((cfgA ch).win (4 : Fin 5)).flush t = false ∧ frTab0_4 ch t.val = true ∧ sfrTab0_0 ch t.val = false ∧ sfrTab0_0 ch (t.val + 1) = false ∧ sfrTab0_1 ch t.val = false ∧ sfrTab0_1 ch (t.val + 1) = false ∧ sfrTab0_2 ch t.val = false ∧ sfrTab0_2 ch (t.val + 1) = false ∧ sfrTab0_3 ch t.val = false ∧ sfrTab0_3 ch (t.val + 1) = false ∧ sfrTab0_4 ch t.val = false ∧ sfrTab0_4 ch (t.val + 1) = false ∧ sfrTab0_5 ch t.val = false ∧ sfrTab0_5 ch (t.val + 1) = false)
  ∧ (¬P0_0 ch t → P0_1 ch t → (¬((Scalar.cmpi .ne (Scalar.extui (Scalar.cmpi .eq (View.readAt (Elt Ideal) (tbM0_1).view (Rect.unit (s := S884) (k0_off1 (crd ch t)) S1.size (k0_off1_inb (crd ch t))).toLoadRect (pinT_1 ch) (Shape.Idx.first (numel1_S1.symm ▸ Nat.one_pos))) 0#32)) 0#32) = 1#1)) ∧ ((k0_cond2 (View.readAt (Elt Ideal) (tbM0_0).view (Rect.unit (s := S884) (k0_off1 (crd ch t)) S1.size (k0_off1_inb (crd ch t))).toLoadRect (pinT_0 ch) (Shape.Idx.first (numel1_S1.symm ▸ Nat.one_pos))) (View.readAt (Elt Ideal) (tbM0_1).view (Rect.unit (s := S884) (k0_off1 (crd ch t)) S1.size (k0_off1_inb (crd ch t))).toLoadRect (pinT_1 ch) (Shape.Idx.first (numel1_S1.symm ▸ Nat.one_pos))) = 1#1) ∧ (True)))
  ∧ (¬P0_0 ch t → P0_1 ch t → (cfgA ch).idle (4 : Fin 5) ((cfgA ch).grid.coords t) = false ∧ ((cfgA ch).win (4 : Fin 5)).flush t = true ∧ frTab0_4 ch t.val = true ∧ sfrTab0_0 ch t.val = false ∧ sfrTab0_0 ch (t.val + 1) = false ∧ sfrTab0_1 ch t.val = false ∧ sfrTab0_1 ch (t.val + 1) = false ∧ sfrTab0_2 ch t.val = false ∧ sfrTab0_2 ch (t.val + 1) = false ∧ sfrTab0_3 ch t.val = false ∧ sfrTab0_3 ch (t.val + 1) = false ∧ sfrTab0_4 ch t.val = false ∧ sfrTab0_4 ch (t.val + 1) = false ∧ sfrTab0_5 ch t.val = false ∧ sfrTab0_5 ch (t.val + 1) = false)
  ∧ (¬P0_0 ch t → ¬P0_1 ch t → (¬((Scalar.cmpi .ne (Scalar.extui (Scalar.cmpi .eq (View.readAt (Elt Ideal) (tbM0_1).view (Rect.unit (s := S884) (k0_off1 (crd ch t)) S1.size (k0_off1_inb (crd ch t))).toLoadRect (pinT_1 ch) (Shape.Idx.first (numel1_S1.symm ▸ Nat.one_pos))) 0#32)) 0#32) = 1#1)) ∧ ((¬(k0_cond2 (View.readAt (Elt Ideal) (tbM0_0).view (Rect.unit (s := S884) (k0_off1 (crd ch t)) S1.size (k0_off1_inb (crd ch t))).toLoadRect (pinT_0 ch) (Shape.Idx.first (numel1_S1.symm ▸ Nat.one_pos))) (View.readAt (Elt Ideal) (tbM0_1).view (Rect.unit (s := S884) (k0_off1 (crd ch t)) S1.size (k0_off1_inb (crd ch t))).toLoadRect (pinT_1 ch) (Shape.Idx.first (numel1_S1.symm ▸ Nat.one_pos))) = 1#1)) ∧ (True)))
  ∧ (¬P0_0 ch t → ¬P0_1 ch t → (cfgA ch).idle (4 : Fin 5) ((cfgA ch).grid.coords t) = true ∧ ((cfgA ch).win (4 : Fin 5)).flush t = false ∧ frTab0_4 ch t.val = true ∧ sfrTab0_0 ch t.val = false ∧ sfrTab0_0 ch (t.val + 1) = false ∧ sfrTab0_1 ch t.val = false ∧ sfrTab0_1 ch (t.val + 1) = false ∧ sfrTab0_2 ch t.val = false ∧ sfrTab0_2 ch (t.val + 1) = false ∧ sfrTab0_3 ch t.val = false ∧ sfrTab0_3 ch (t.val + 1) = false ∧ sfrTab0_4 ch t.val = false ∧ sfrTab0_4 ch (t.val + 1) = false ∧ sfrTab0_5 ch t.val = false ∧ sfrTab0_5 ch (t.val + 1) = false)

set_option synthInstance.maxSize 65536 in
instance FactsAt.dec (ch : Fin 1) (t : Fin (cfgA ch).N) : Decidable (FactsAt ch t) :=
  @instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (inferInstance))))))))))))))

end Cert.KernelIdeal.Attn

end
-- ==== Proof.AttnIdeal.Facts0.lean ====
/- The gathered facts hold at every grid point.
   Follows the text the frame generator writes for a call whose tables are arguments; here the tables are the
   constants the host writes before the call. -/
module

public import proofs.«01_k».proof.Proof.AttnIdeal.Facts

@[expose] public section

set_option maxRecDepth 16384
-- ONE DECLARATION AT A TIME: a per-path run alone peaks near 3 GB, and a decided theorem's kernel evaluation is freed
-- only when the next declaration begins (side by side, every finished one is held to the module's end)
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The certificate is written at the CLOSED instance `Ideal` (the frame claim's): every pinned word a `BitVec`. -/
local notation "𝕄" => MT nD τ sig Unit (Elt Ideal) ℕ (UR sig nD τ) ℕ

theorem allFacts_0_0 : ∀ t : Fin (cfgA (⟨0, by omega⟩ : Fin 1)).N, 0 ≤ t.val → t.val < 110 → FactsAt (⟨0, by omega⟩ : Fin 1) t := by decide +kernel
theorem allFacts_0_1 : ∀ t : Fin (cfgA (⟨0, by omega⟩ : Fin 1)).N, 110 ≤ t.val → t.val < 221 → FactsAt (⟨0, by omega⟩ : Fin 1) t := by decide +kernel
theorem allFacts_0_2 : ∀ t : Fin (cfgA (⟨0, by omega⟩ : Fin 1)).N, 221 ≤ t.val → t.val < 331 → FactsAt (⟨0, by omega⟩ : Fin 1) t := by decide +kernel
theorem allFacts_0_3 : ∀ t : Fin (cfgA (⟨0, by omega⟩ : Fin 1)).N, 331 ≤ t.val → t.val < 442 → FactsAt (⟨0, by omega⟩ : Fin 1) t := by decide +kernel
theorem allFacts_0_4 : ∀ t : Fin (cfgA (⟨0, by omega⟩ : Fin 1)).N, 442 ≤ t.val → t.val < 552 → FactsAt (⟨0, by omega⟩ : Fin 1) t := by decide +kernel
theorem allFacts_0_5 : ∀ t : Fin (cfgA (⟨0, by omega⟩ : Fin 1)).N, 552 ≤ t.val → t.val < 663 → FactsAt (⟨0, by omega⟩ : Fin 1) t := by decide +kernel
theorem allFacts_0_6 : ∀ t : Fin (cfgA (⟨0, by omega⟩ : Fin 1)).N, 663 ≤ t.val → t.val < 773 → FactsAt (⟨0, by omega⟩ : Fin 1) t := by decide +kernel
theorem allFacts_0_7 : ∀ t : Fin (cfgA (⟨0, by omega⟩ : Fin 1)).N, 773 ≤ t.val → t.val < 884 → FactsAt (⟨0, by omega⟩ : Fin 1) t := by decide +kernel
theorem allFacts_0 : ∀ t : Fin (cfgA (⟨0, by omega⟩ : Fin 1)).N, FactsAt (⟨0, by omega⟩ : Fin 1) t := fun t => by
  have h0 : 0 ≤ t.val := Nat.zero_le _
  rcases Nat.lt_or_ge t.val 110 with h1 | h1; · exact allFacts_0_0 t h0 h1
  rcases Nat.lt_or_ge t.val 221 with h2 | h2; · exact allFacts_0_1 t h1 h2
  rcases Nat.lt_or_ge t.val 331 with h3 | h3; · exact allFacts_0_2 t h2 h3
  rcases Nat.lt_or_ge t.val 442 with h4 | h4; · exact allFacts_0_3 t h3 h4
  rcases Nat.lt_or_ge t.val 552 with h5 | h5; · exact allFacts_0_4 t h4 h5
  rcases Nat.lt_or_ge t.val 663 with h6 | h6; · exact allFacts_0_5 t h5 h6
  rcases Nat.lt_or_ge t.val 773 with h7 | h7; · exact allFacts_0_6 t h6 h7
  exact allFacts_0_7 t h7 t.isLt

end Cert.KernelIdeal.Attn

end
-- ==== Proof.AttnIdeal.Lits.lean ====
/- The tables the host writes are the tables the schedule is worked out from. -/
module

public import proofs.«01_k».proof.KernelIdeal
public import proofs.«01_k».proof.Proof.Gen.KernelIdeal
public import proofs.«01_k».proof.Proof.Gen.KernelIdeal.Launch
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init
public import proofs.«01_k».proof.Proof.AttnIdeal.Pins

@[expose] public section

set_option maxRecDepth 16384
-- ONE DECLARATION AT A TIME: a per-path run alone peaks near 3 GB, and a decided theorem's kernel evaluation is freed
-- only when the next declaration begins (side by side, every finished one is held to the module's end)
set_option Elab.async false

noncomputable section

namespace Cert.KernelIdeal.Attn

open Cert.KernelIdeal Cert.KernelIdeal.Gen
open Idealize.ShloMosaic

/-- The first table the host writes, entry by entry. -/
theorem lit0_eq : ∀ n : Fin S884.numel, lit0 n = pinT_0 0 (S884.rowMajor.symm n) := by decide +kernel

/-- The second table the host writes, entry by entry. -/
theorem lit1_eq : ∀ n : Fin S884.numel, lit1 n = pinT_1 0 (S884.rowMajor.symm n) := by decide +kernel

end Cert.KernelIdeal.Attn
-- ==== Proof.AttnIdeal.Launch.lean ====
/- What the buffers hold after each grid point, the body at every point, and the launch of the whole call.
   Follows the text the frame generator writes for a call whose tables are arguments; here the tables are the
   constants the host writes before the call. -/
module

public import proofs.«01_k».proof.Proof.AttnIdeal.Runs
public import proofs.«01_k».proof.Proof.AttnIdeal.Facts0
public import proofs.«01_k».proof.Proof.AttnIdeal.Lits
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init
public import Idealize.ShloMosaic.Lib.Pipeline.Frame

@[expose] public section

set_option maxRecDepth 16384
-- ONE DECLARATION AT A TIME: a per-path run alone peaks near 3 GB, and a decided theorem's kernel evaluation is freed
-- only when the next declaration begins (side by side, every finished one is held to the module's end)
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The certificate is written at the CLOSED instance `Ideal` (the frame claim's): every pinned word a `BitVec`. -/
local notation "𝕄" => MT nD τ sig Unit (Elt Ideal) ℕ (UR sig nD τ) ℕ

/-- The proof's resource algebra: the rounds library's, for the pipeline's staging cells, embedded whole. -/
abbrev EP : Emb (UR sig nD τ) 𝕄 := emb₁

variable (ch : Fin 1)
variable (m : (ℓ : Loc nD τ sig) → Buf (Elt Ideal) ℓ) (ρ : Dev nD → PrngReg)

/-- The facts at every point of every member (decided member by member in slices of points, Flash/FactsJ.lean). -/
theorem allFacts : ∀ (ch : Fin 1) (t : Fin (cfgA ch).N), FactsAt ch t := fun ch => match ch with
  | ⟨0, _⟩ => allFacts_0
  | ⟨_ + 1, h⟩ => absurd h (by omega)

/-! ## The named facts — the freshness tables' steps, each path's hypotheses and schedule —: its projections -/

theorem sfrTab0_0_step : ∀ (ch : Fin 1) (t : Fin (cfgA ch).N), sfrTab0_0 ch (t.val + 1) = (if P0_0 ch t then (if P0_1 ch t then false else false) else (if P0_1 ch t then sfrTab0_0 ch t.val else sfrTab0_0 ch t.val)) := fun ch t => (allFacts ch t).1
theorem sfresh0_0_eq : ∀ n, n ≤ (cfgA ch).N → sfresh0_0 ch n = sfrTab0_0 ch n
  | 0, _ => by simp only [sfresh0_0, sfrTab0_0, Nat.zero_le, decide_true]
  | n + 1, h => by simp only [sfresh0_0, dif_pos (show n < (cfgA ch).N from h), sfresh0_0_eq n (Nat.le_of_lt h), sfrTab0_0_step ch ⟨n, h⟩]
theorem sfreshF0_0 (t : Fin (cfgA ch).N) : sfresh0_0 ch t.val = sfrTab0_0 ch t.val := sfresh0_0_eq ch t.val (Nat.le_of_lt t.isLt)
theorem sfreshS0_0 (t : Fin (cfgA ch).N) : sfresh0_0 ch (t.val + 1) = sfrTab0_0 ch (t.val + 1) := sfresh0_0_eq ch (t.val + 1) t.isLt

theorem sfrTab0_1_step : ∀ (ch : Fin 1) (t : Fin (cfgA ch).N), sfrTab0_1 ch (t.val + 1) = (if P0_0 ch t then (if P0_1 ch t then false else false) else (if P0_1 ch t then sfrTab0_1 ch t.val else sfrTab0_1 ch t.val)) := fun ch t => (allFacts ch t).2.1
theorem sfresh0_1_eq : ∀ n, n ≤ (cfgA ch).N → sfresh0_1 ch n = sfrTab0_1 ch n
  | 0, _ => by simp only [sfresh0_1, sfrTab0_1, Nat.zero_le, decide_true]
  | n + 1, h => by simp only [sfresh0_1, dif_pos (show n < (cfgA ch).N from h), sfresh0_1_eq n (Nat.le_of_lt h), sfrTab0_1_step ch ⟨n, h⟩]
theorem sfreshF0_1 (t : Fin (cfgA ch).N) : sfresh0_1 ch t.val = sfrTab0_1 ch t.val := sfresh0_1_eq ch t.val (Nat.le_of_lt t.isLt)
theorem sfreshS0_1 (t : Fin (cfgA ch).N) : sfresh0_1 ch (t.val + 1) = sfrTab0_1 ch (t.val + 1) := sfresh0_1_eq ch (t.val + 1) t.isLt

theorem sfrTab0_2_step : ∀ (ch : Fin 1) (t : Fin (cfgA ch).N), sfrTab0_2 ch (t.val + 1) = (if P0_0 ch t then (if P0_1 ch t then false else false) else (if P0_1 ch t then sfrTab0_2 ch t.val else sfrTab0_2 ch t.val)) := fun ch t => (allFacts ch t).2.2.1
theorem sfresh0_2_eq : ∀ n, n ≤ (cfgA ch).N → sfresh0_2 ch n = sfrTab0_2 ch n
  | 0, _ => by simp only [sfresh0_2, sfrTab0_2, Nat.zero_le, decide_true]
  | n + 1, h => by simp only [sfresh0_2, dif_pos (show n < (cfgA ch).N from h), sfresh0_2_eq n (Nat.le_of_lt h), sfrTab0_2_step ch ⟨n, h⟩]
theorem sfreshF0_2 (t : Fin (cfgA ch).N) : sfresh0_2 ch t.val = sfrTab0_2 ch t.val := sfresh0_2_eq ch t.val (Nat.le_of_lt t.isLt)
theorem sfreshS0_2 (t : Fin (cfgA ch).N) : sfresh0_2 ch (t.val + 1) = sfrTab0_2 ch (t.val + 1) := sfresh0_2_eq ch (t.val + 1) t.isLt

theorem sfrTab0_3_step : ∀ (ch : Fin 1) (t : Fin (cfgA ch).N), sfrTab0_3 ch (t.val + 1) = (if P0_0 ch t then (if P0_1 ch t then false else false) else (if P0_1 ch t then false else false)) := fun ch t => (allFacts ch t).2.2.2.1
theorem sfresh0_3_eq : ∀ n, n ≤ (cfgA ch).N → sfresh0_3 ch n = sfrTab0_3 ch n
  | 0, _ => by simp only [sfresh0_3, sfrTab0_3, Nat.zero_le, decide_true]
  | n + 1, h => by simp only [sfresh0_3, dif_pos (show n < (cfgA ch).N from h), sfresh0_3_eq n (Nat.le_of_lt h), sfrTab0_3_step ch ⟨n, h⟩]
theorem sfreshF0_3 (t : Fin (cfgA ch).N) : sfresh0_3 ch t.val = sfrTab0_3 ch t.val := sfresh0_3_eq ch t.val (Nat.le_of_lt t.isLt)
theorem sfreshS0_3 (t : Fin (cfgA ch).N) : sfresh0_3 ch (t.val + 1) = sfrTab0_3 ch (t.val + 1) := sfresh0_3_eq ch (t.val + 1) t.isLt

theorem sfrTab0_4_step : ∀ (ch : Fin 1) (t : Fin (cfgA ch).N), sfrTab0_4 ch (t.val + 1) = (if P0_0 ch t then (if P0_1 ch t then false else false) else (if P0_1 ch t then false else false)) := fun ch t => (allFacts ch t).2.2.2.2.1
theorem sfresh0_4_eq : ∀ n, n ≤ (cfgA ch).N → sfresh0_4 ch n = sfrTab0_4 ch n
  | 0, _ => by simp only [sfresh0_4, sfrTab0_4, Nat.zero_le, decide_true]
  | n + 1, h => by simp only [sfresh0_4, dif_pos (show n < (cfgA ch).N from h), sfresh0_4_eq n (Nat.le_of_lt h), sfrTab0_4_step ch ⟨n, h⟩]
theorem sfreshF0_4 (t : Fin (cfgA ch).N) : sfresh0_4 ch t.val = sfrTab0_4 ch t.val := sfresh0_4_eq ch t.val (Nat.le_of_lt t.isLt)
theorem sfreshS0_4 (t : Fin (cfgA ch).N) : sfresh0_4 ch (t.val + 1) = sfrTab0_4 ch (t.val + 1) := sfresh0_4_eq ch (t.val + 1) t.isLt

theorem sfrTab0_5_step : ∀ (ch : Fin 1) (t : Fin (cfgA ch).N), sfrTab0_5 ch (t.val + 1) = (if P0_0 ch t then (if P0_1 ch t then false else false) else (if P0_1 ch t then false else false)) := fun ch t => (allFacts ch t).2.2.2.2.2.1
theorem sfresh0_5_eq : ∀ n, n ≤ (cfgA ch).N → sfresh0_5 ch n = sfrTab0_5 ch n
  | 0, _ => by simp only [sfresh0_5, sfrTab0_5, Nat.zero_le, decide_true]
  | n + 1, h => by simp only [sfresh0_5, dif_pos (show n < (cfgA ch).N from h), sfresh0_5_eq n (Nat.le_of_lt h), sfrTab0_5_step ch ⟨n, h⟩]
theorem sfreshF0_5 (t : Fin (cfgA ch).N) : sfresh0_5 ch t.val = sfrTab0_5 ch t.val := sfresh0_5_eq ch t.val (Nat.le_of_lt t.isLt)
theorem sfreshS0_5 (t : Fin (cfgA ch).N) : sfresh0_5 ch (t.val + 1) = sfrTab0_5 ch (t.val + 1) := sfresh0_5_eq ch (t.val + 1) t.isLt

theorem frTab0_4_step : ∀ (ch : Fin 1) (t : Fin (cfgA ch).N),
    frTab0_4 ch (t.val + 1) = (((cfgA ch).win (4 : Fin 5)).flush t || ((cfgA ch).idle (4 : Fin 5) ((cfgA ch).grid.coords t) && frTab0_4 ch t.val)) := fun ch t => (allFacts ch t).2.2.2.2.2.2.1
theorem freshF0_4 (t : Fin (cfgA ch).N) : (cfgA ch).fresh (4 : Fin 5) t.val = frTab0_4 ch t.val :=
  Pipeline.Cfg.fresh_tab (cfgA ch) (4 : Fin 5) (frTab0_4 ch) rfl (frTab0_4_step ch) t.val (Nat.le_of_lt t.isLt)

/-- At a point of path A, the path's hypotheses hold of the words the body reads there (the pinned tables read,
    a pinned window's word AS the word `pinBlk ch t (r.idx x)`; the checks among them cited from `ChecksAt`). -/
theorem hyps0_A : ∀ (ch : Fin 1) (t : Fin (cfgA ch).N), P0_0 ch t → P0_1 ch t →
    ((Scalar.cmpi .ne (Scalar.extui (Scalar.cmpi .eq (View.readAt (Elt Ideal) (tbM0_1).view (Rect.unit (s := S884) (k0_off1 (crd ch t)) S1.size (k0_off1_inb (crd ch t))).toLoadRect (pinT_1 ch) (Shape.Idx.first (numel1_S1.symm ▸ Nat.one_pos))) 0#32)) 0#32) = 1#1) ∧ ((k0_cond2 (View.readAt (Elt Ideal) (tbM0_0).view (Rect.unit (s := S884) (k0_off1 (crd ch t)) S1.size (k0_off1_inb (crd ch t))).toLoadRect (pinT_0 ch) (Shape.Idx.first (numel1_S1.symm ▸ Nat.one_pos))) (View.readAt (Elt Ideal) (tbM0_1).view (Rect.unit (s := S884) (k0_off1 (crd ch t)) S1.size (k0_off1_inb (crd ch t))).toLoadRect (pinT_1 ch) (Shape.Idx.first (numel1_S1.symm ▸ Nat.one_pos))) = 1#1) ∧ (True)) := fun ch t => (allFacts ch t).2.2.2.2.2.2.2.1

theorem hypsR0_A : ∀ (ch : Fin 1) (t : Fin (cfgA ch).N), P0_0 ch t → P0_1 ch t →
    ((Scalar.cmpi .ne (Scalar.extui (Scalar.cmpi .eq (View.readAt (Elt Ideal) (tbM0_1).view (Rect.unit (s := S884) (k0_off1 (crd ch t)) S1.size (k0_off1_inb (crd ch t))).toLoadRect (pinT_1 ch) (Shape.Idx.first (numel1_S1.symm ▸ Nat.one_pos))) 0#32)) 0#32) = 1#1) ∧ ((k0_cond2 (View.readAt (Elt Ideal) (tbM0_0).view (Rect.unit (s := S884) (k0_off1 (crd ch t)) S1.size (k0_off1_inb (crd ch t))).toLoadRect (pinT_0 ch) (Shape.Idx.first (numel1_S1.symm ▸ Nat.one_pos))) (View.readAt (Elt Ideal) (tbM0_1).view (Rect.unit (s := S884) (k0_off1 (crd ch t)) S1.size (k0_off1_inb (crd ch t))).toLoadRect (pinT_1 ch) (Shape.Idx.first (numel1_S1.symm ▸ Nat.one_pos))) = 1#1) ∧ (True)) := hyps0_A

/-- At a point of path A: the idle table, the write-backs and which buffers hold junk (decided over the
    freshness tables `frTab`/`sfrTab`, restated over `Cfg.fresh`/`sfresh` by their agreement). -/
theorem sched0_A : ∀ (ch : Fin 1) (t : Fin (cfgA ch).N), P0_0 ch t → P0_1 ch t →
    (cfgA ch).idle (4 : Fin 5) ((cfgA ch).grid.coords t) = false ∧ ((cfgA ch).win (4 : Fin 5)).flush t = true ∧ (cfgA ch).fresh (4 : Fin 5) t.val = true ∧ sfresh0_0 ch (t.val + 1) = false ∧ sfresh0_1 ch (t.val + 1) = false ∧ sfresh0_2 ch (t.val + 1) = false ∧ sfresh0_3 ch (t.val + 1) = false ∧ sfresh0_4 ch (t.val + 1) = false ∧ sfresh0_5 ch (t.val + 1) = false := by
  intro ch t; rw [freshF0_4 ch t, sfreshS0_0 ch t, sfreshS0_1 ch t, sfreshS0_2 ch t, sfreshS0_3 ch t, sfreshS0_4 ch t, sfreshS0_5 ch t]; exact (fun ch t => (allFacts ch t).2.2.2.2.2.2.2.2.1) ch t

/-- At a point of path B, the path's hypotheses hold of the words the body reads there (the pinned tables read,
    a pinned window's word AS the word `pinBlk ch t (r.idx x)`; the checks among them cited from `ChecksAt`). -/
theorem hyps0_B : ∀ (ch : Fin 1) (t : Fin (cfgA ch).N), P0_0 ch t → ¬P0_1 ch t →
    ((Scalar.cmpi .ne (Scalar.extui (Scalar.cmpi .eq (View.readAt (Elt Ideal) (tbM0_1).view (Rect.unit (s := S884) (k0_off1 (crd ch t)) S1.size (k0_off1_inb (crd ch t))).toLoadRect (pinT_1 ch) (Shape.Idx.first (numel1_S1.symm ▸ Nat.one_pos))) 0#32)) 0#32) = 1#1) ∧ ((¬(k0_cond2 (View.readAt (Elt Ideal) (tbM0_0).view (Rect.unit (s := S884) (k0_off1 (crd ch t)) S1.size (k0_off1_inb (crd ch t))).toLoadRect (pinT_0 ch) (Shape.Idx.first (numel1_S1.symm ▸ Nat.one_pos))) (View.readAt (Elt Ideal) (tbM0_1).view (Rect.unit (s := S884) (k0_off1 (crd ch t)) S1.size (k0_off1_inb (crd ch t))).toLoadRect (pinT_1 ch) (Shape.Idx.first (numel1_S1.symm ▸ Nat.one_pos))) = 1#1)) ∧ (True)) := fun ch t => (allFacts ch t).2.2.2.2.2.2.2.2.2.1

theorem hypsR0_B : ∀ (ch : Fin 1) (t : Fin (cfgA ch).N), P0_0 ch t → ¬P0_1 ch t →
    ((Scalar.cmpi .ne (Scalar.extui (Scalar.cmpi .eq (View.readAt (Elt Ideal) (tbM0_1).view (Rect.unit (s := S884) (k0_off1 (crd ch t)) S1.size (k0_off1_inb (crd ch t))).toLoadRect (pinT_1 ch) (Shape.Idx.first (numel1_S1.symm ▸ Nat.one_pos))) 0#32)) 0#32) = 1#1) ∧ ((¬(k0_cond2 (View.readAt (Elt Ideal) (tbM0_0).view (Rect.unit (s := S884) (k0_off1 (crd ch t)) S1.size (k0_off1_inb (crd ch t))).toLoadRect (pinT_0 ch) (Shape.Idx.first (numel1_S1.symm ▸ Nat.one_pos))) (View.readAt (Elt Ideal) (tbM0_1).view (Rect.unit (s := S884) (k0_off1 (crd ch t)) S1.size (k0_off1_inb (crd ch t))).toLoadRect (pinT_1 ch) (Shape.Idx.first (numel1_S1.symm ▸ Nat.one_pos))) = 1#1)) ∧ (True)) := hyps0_B

/-- At a point of path B: the idle table, the write-backs and which buffers hold junk (decided over the
    freshness tables `frTab`/`sfrTab`, restated over `Cfg.fresh`/`sfresh` by their agreement). -/
theorem sched0_B : ∀ (ch : Fin 1) (t : Fin (cfgA ch).N), P0_0 ch t → ¬P0_1 ch t →
    (cfgA ch).idle (4 : Fin 5) ((cfgA ch).grid.coords t) = true ∧ ((cfgA ch).win (4 : Fin 5)).flush t = false ∧ (cfgA ch).fresh (4 : Fin 5) t.val = true ∧ sfresh0_0 ch t.val = false ∧ sfresh0_0 ch (t.val + 1) = false ∧ sfresh0_1 ch t.val = false ∧ sfresh0_1 ch (t.val + 1) = false ∧ sfresh0_2 ch t.val = false ∧ sfresh0_2 ch (t.val + 1) = false ∧ sfresh0_3 ch t.val = false ∧ sfresh0_3 ch (t.val + 1) = false ∧ sfresh0_4 ch t.val = false ∧ sfresh0_4 ch (t.val + 1) = false ∧ sfresh0_5 ch t.val = false ∧ sfresh0_5 ch (t.val + 1) = false := by
  intro ch t; rw [freshF0_4 ch t, sfreshF0_0 ch t, sfreshS0_0 ch t, sfreshF0_1 ch t, sfreshS0_1 ch t, sfreshF0_2 ch t, sfreshS0_2 ch t, sfreshF0_3 ch t, sfreshS0_3 ch t, sfreshF0_4 ch t, sfreshS0_4 ch t, sfreshF0_5 ch t, sfreshS0_5 ch t]; exact (fun ch t => (allFacts ch t).2.2.2.2.2.2.2.2.2.2.1) ch t

/-- At a point of path C, the path's hypotheses hold of the words the body reads there (the pinned tables read,
    a pinned window's word AS the word `pinBlk ch t (r.idx x)`; the checks among them cited from `ChecksAt`). -/
theorem hyps0_C : ∀ (ch : Fin 1) (t : Fin (cfgA ch).N), ¬P0_0 ch t → P0_1 ch t →
    (¬((Scalar.cmpi .ne (Scalar.extui (Scalar.cmpi .eq (View.readAt (Elt Ideal) (tbM0_1).view (Rect.unit (s := S884) (k0_off1 (crd ch t)) S1.size (k0_off1_inb (crd ch t))).toLoadRect (pinT_1 ch) (Shape.Idx.first (numel1_S1.symm ▸ Nat.one_pos))) 0#32)) 0#32) = 1#1)) ∧ ((k0_cond2 (View.readAt (Elt Ideal) (tbM0_0).view (Rect.unit (s := S884) (k0_off1 (crd ch t)) S1.size (k0_off1_inb (crd ch t))).toLoadRect (pinT_0 ch) (Shape.Idx.first (numel1_S1.symm ▸ Nat.one_pos))) (View.readAt (Elt Ideal) (tbM0_1).view (Rect.unit (s := S884) (k0_off1 (crd ch t)) S1.size (k0_off1_inb (crd ch t))).toLoadRect (pinT_1 ch) (Shape.Idx.first (numel1_S1.symm ▸ Nat.one_pos))) = 1#1) ∧ (True)) := fun ch t => (allFacts ch t).2.2.2.2.2.2.2.2.2.2.2.1

theorem hypsR0_C : ∀ (ch : Fin 1) (t : Fin (cfgA ch).N), ¬P0_0 ch t → P0_1 ch t →
    (¬((Scalar.cmpi .ne (Scalar.extui (Scalar.cmpi .eq (View.readAt (Elt Ideal) (tbM0_1).view (Rect.unit (s := S884) (k0_off1 (crd ch t)) S1.size (k0_off1_inb (crd ch t))).toLoadRect (pinT_1 ch) (Shape.Idx.first (numel1_S1.symm ▸ Nat.one_pos))) 0#32)) 0#32) = 1#1)) ∧ ((k0_cond2 (View.readAt (Elt Ideal) (tbM0_0).view (Rect.unit (s := S884) (k0_off1 (crd ch t)) S1.size (k0_off1_inb (crd ch t))).toLoadRect (pinT_0 ch) (Shape.Idx.first (numel1_S1.symm ▸ Nat.one_pos))) (View.readAt (Elt Ideal) (tbM0_1).view (Rect.unit (s := S884) (k0_off1 (crd ch t)) S1.size (k0_off1_inb (crd ch t))).toLoadRect (pinT_1 ch) (Shape.Idx.first (numel1_S1.symm ▸ Nat.one_pos))) = 1#1) ∧ (True)) := hyps0_C

/-- At a point of path C: the idle table, the write-backs and which buffers hold junk (decided over the
    freshness tables `frTab`/`sfrTab`, restated over `Cfg.fresh`/`sfresh` by their agreement). -/
theorem sched0_C : ∀ (ch : Fin 1) (t : Fin (cfgA ch).N), ¬P0_0 ch t → P0_1 ch t →
    (cfgA ch).idle (4 : Fin 5) ((cfgA ch).grid.coords t) = false ∧ ((cfgA ch).win (4 : Fin 5)).flush t = true ∧ (cfgA ch).fresh (4 : Fin 5) t.val = true ∧ sfresh0_0 ch t.val = false ∧ sfresh0_0 ch (t.val + 1) = false ∧ sfresh0_1 ch t.val = false ∧ sfresh0_1 ch (t.val + 1) = false ∧ sfresh0_2 ch t.val = false ∧ sfresh0_2 ch (t.val + 1) = false ∧ sfresh0_3 ch t.val = false ∧ sfresh0_3 ch (t.val + 1) = false ∧ sfresh0_4 ch t.val = false ∧ sfresh0_4 ch (t.val + 1) = false ∧ sfresh0_5 ch t.val = false ∧ sfresh0_5 ch (t.val + 1) = false := by
  intro ch t; rw [freshF0_4 ch t, sfreshF0_0 ch t, sfreshS0_0 ch t, sfreshF0_1 ch t, sfreshS0_1 ch t, sfreshF0_2 ch t, sfreshS0_2 ch t, sfreshF0_3 ch t, sfreshS0_3 ch t, sfreshF0_4 ch t, sfreshS0_4 ch t, sfreshF0_5 ch t, sfreshS0_5 ch t]; exact (fun ch t => (allFacts ch t).2.2.2.2.2.2.2.2.2.2.2.2.1) ch t

/-- At a point of path D, the path's hypotheses hold of the words the body reads there (the pinned tables read,
    a pinned window's word AS the word `pinBlk ch t (r.idx x)`; the checks among them cited from `ChecksAt`). -/
theorem hyps0_D : ∀ (ch : Fin 1) (t : Fin (cfgA ch).N), ¬P0_0 ch t → ¬P0_1 ch t →
    (¬((Scalar.cmpi .ne (Scalar.extui (Scalar.cmpi .eq (View.readAt (Elt Ideal) (tbM0_1).view (Rect.unit (s := S884) (k0_off1 (crd ch t)) S1.size (k0_off1_inb (crd ch t))).toLoadRect (pinT_1 ch) (Shape.Idx.first (numel1_S1.symm ▸ Nat.one_pos))) 0#32)) 0#32) = 1#1)) ∧ ((¬(k0_cond2 (View.readAt (Elt Ideal) (tbM0_0).view (Rect.unit (s := S884) (k0_off1 (crd ch t)) S1.size (k0_off1_inb (crd ch t))).toLoadRect (pinT_0 ch) (Shape.Idx.first (numel1_S1.symm ▸ Nat.one_pos))) (View.readAt (Elt Ideal) (tbM0_1).view (Rect.unit (s := S884) (k0_off1 (crd ch t)) S1.size (k0_off1_inb (crd ch t))).toLoadRect (pinT_1 ch) (Shape.Idx.first (numel1_S1.symm ▸ Nat.one_pos))) = 1#1)) ∧ (True)) := fun ch t => (allFacts ch t).2.2.2.2.2.2.2.2.2.2.2.2.2.1

theorem hypsR0_D : ∀ (ch : Fin 1) (t : Fin (cfgA ch).N), ¬P0_0 ch t → ¬P0_1 ch t →
    (¬((Scalar.cmpi .ne (Scalar.extui (Scalar.cmpi .eq (View.readAt (Elt Ideal) (tbM0_1).view (Rect.unit (s := S884) (k0_off1 (crd ch t)) S1.size (k0_off1_inb (crd ch t))).toLoadRect (pinT_1 ch) (Shape.Idx.first (numel1_S1.symm ▸ Nat.one_pos))) 0#32)) 0#32) = 1#1)) ∧ ((¬(k0_cond2 (View.readAt (Elt Ideal) (tbM0_0).view (Rect.unit (s := S884) (k0_off1 (crd ch t)) S1.size (k0_off1_inb (crd ch t))).toLoadRect (pinT_0 ch) (Shape.Idx.first (numel1_S1.symm ▸ Nat.one_pos))) (View.readAt (Elt Ideal) (tbM0_1).view (Rect.unit (s := S884) (k0_off1 (crd ch t)) S1.size (k0_off1_inb (crd ch t))).toLoadRect (pinT_1 ch) (Shape.Idx.first (numel1_S1.symm ▸ Nat.one_pos))) = 1#1)) ∧ (True)) := hyps0_D

/-- At a point of path D: the idle table, the write-backs and which buffers hold junk (decided over the
    freshness tables `frTab`/`sfrTab`, restated over `Cfg.fresh`/`sfresh` by their agreement). -/
theorem sched0_D : ∀ (ch : Fin 1) (t : Fin (cfgA ch).N), ¬P0_0 ch t → ¬P0_1 ch t →
    (cfgA ch).idle (4 : Fin 5) ((cfgA ch).grid.coords t) = true ∧ ((cfgA ch).win (4 : Fin 5)).flush t = false ∧ (cfgA ch).fresh (4 : Fin 5) t.val = true ∧ sfresh0_0 ch t.val = false ∧ sfresh0_0 ch (t.val + 1) = false ∧ sfresh0_1 ch t.val = false ∧ sfresh0_1 ch (t.val + 1) = false ∧ sfresh0_2 ch t.val = false ∧ sfresh0_2 ch (t.val + 1) = false ∧ sfresh0_3 ch t.val = false ∧ sfresh0_3 ch (t.val + 1) = false ∧ sfresh0_4 ch t.val = false ∧ sfresh0_4 ch (t.val + 1) = false ∧ sfresh0_5 ch t.val = false ∧ sfresh0_5 ch (t.val + 1) = false := by
  intro ch t; rw [freshF0_4 ch t, sfreshF0_0 ch t, sfreshS0_0 ch t, sfreshF0_1 ch t, sfreshS0_1 ch t, sfreshF0_2 ch t, sfreshS0_2 ch t, sfreshF0_3 ch t, sfreshS0_3 ch t, sfreshF0_4 ch t, sfreshS0_4 ch t, sfreshF0_5 ch t, sfreshS0_5 ch t]; exact (fun ch t => (allFacts ch t).2.2.2.2.2.2.2.2.2.2.2.2.2.2) ch t

/-! ## What the outputs and scratches hold after each point -/

/-- ONE STEP of the trajectory: what the outputs' current buffers and the scratches hold after the body at point `t`
    (output 4, scratch 0, scratch 1, scratch 2, scratch 3, scratch 4, scratch 5), from what they held before (`prev`): the path the decisions select at `t`, its
    run's contents; an output the path leaves idle keeps what it held (junk — `default`, named by nothing — where fresh). -/
def step0 (c : Dev nD) (t : Fin (cfgA ch).N) (prev : (S256x2048.Idx → Elt Ideal .bf16) × Buf (Elt Ideal) ((c : Thread nD τ).loc cc0_scratch0) × Buf (Elt Ideal) ((c : Thread nD τ).loc cc0_scratch1) × Buf (Elt Ideal) ((c : Thread nD τ).loc cc0_scratch2) × Buf (Elt Ideal) ((c : Thread nD τ).loc cc0_scratch3) × Buf (Elt Ideal) ((c : Thread nD τ).loc cc0_scratch4) × Buf (Elt Ideal) ((c : Thread nD τ).loc cc0_scratch5)) : (S256x2048.Idx → Elt Ideal .bf16) × Buf (Elt Ideal) ((c : Thread nD τ).loc cc0_scratch0) × Buf (Elt Ideal) ((c : Thread nD τ).loc cc0_scratch1) × Buf (Elt Ideal) ((c : Thread nD τ).loc cc0_scratch2) × Buf (Elt Ideal) ((c : Thread nD τ).loc cc0_scratch3) × Buf (Elt Ideal) ((c : Thread nD τ).loc cc0_scratch4) × Buf (Elt Ideal) ((c : Thread nD τ).loc cc0_scratch5) :=
  if q0 : P0_0 ch t then
    if q1 : P0_1 ch t then
      (out0_A_4 c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) (hypsR0_A ch t q0 q1).1 (hypsR0_A ch t q0 q1).2.1, (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) (hypsR0_A ch t q0 q1).1 (hypsR0_A ch t q0 q1).2.1).2.1, (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) (hypsR0_A ch t q0 q1).1 (hypsR0_A ch t q0 q1).2.1).2.2.1, (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) (hypsR0_A ch t q0 q1).1 (hypsR0_A ch t q0 q1).2.1).2.2.2.1, (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) (hypsR0_A ch t q0 q1).1 (hypsR0_A ch t q0 q1).2.1).2.2.2.2.1, (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) (hypsR0_A ch t q0 q1).1 (hypsR0_A ch t q0 q1).2.1).2.2.2.2.2.1, (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) (hypsR0_A ch t q0 q1).1 (hypsR0_A ch t q0 q1).2.1).2.2.2.2.2.2.1)
    else
      ((if (cfgA ch).fresh (4 : Fin 5) t.val then default else prev.1), (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) (hypsR0_B ch t q0 q1).1 (hypsR0_B ch t q0 q1).2.1).1, (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) (hypsR0_B ch t q0 q1).1 (hypsR0_B ch t q0 q1).2.1).2.1, (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) (hypsR0_B ch t q0 q1).1 (hypsR0_B ch t q0 q1).2.1).2.2.1, (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) (hypsR0_B ch t q0 q1).1 (hypsR0_B ch t q0 q1).2.1).2.2.2.1, (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) (hypsR0_B ch t q0 q1).1 (hypsR0_B ch t q0 q1).2.1).2.2.2.2.1, (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) (hypsR0_B ch t q0 q1).1 (hypsR0_B ch t q0 q1).2.1).2.2.2.2.2.1)
  else
    if q1 : P0_1 ch t then
      (out0_C_4 c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2.1 prev.2.2.2.1 (hypsR0_C ch t q0 q1).1 (hypsR0_C ch t q0 q1).2.1, (kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2.1 prev.2.2.2.1 (hypsR0_C ch t q0 q1).1 (hypsR0_C ch t q0 q1).2.1).2.1, (kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2.1 prev.2.2.2.1 (hypsR0_C ch t q0 q1).1 (hypsR0_C ch t q0 q1).2.1).2.2.1, (kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2.1 prev.2.2.2.1 (hypsR0_C ch t q0 q1).1 (hypsR0_C ch t q0 q1).2.1).2.2.2.1, (kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2.1 prev.2.2.2.1 (hypsR0_C ch t q0 q1).1 (hypsR0_C ch t q0 q1).2.1).2.2.2.2.1, (kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2.1 prev.2.2.2.1 (hypsR0_C ch t q0 q1).1 (hypsR0_C ch t q0 q1).2.1).2.2.2.2.2.1, (kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2.1 prev.2.2.2.1 (hypsR0_C ch t q0 q1).1 (hypsR0_C ch t q0 q1).2.1).2.2.2.2.2.2.1)
    else
      ((if (cfgA ch).fresh (4 : Fin 5) t.val then default else prev.1), (kernelRun0_D c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2.1 prev.2.2.2.1 (hypsR0_D ch t q0 q1).1 (hypsR0_D ch t q0 q1).2.1).1, (kernelRun0_D c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2.1 prev.2.2.2.1 (hypsR0_D ch t q0 q1).1 (hypsR0_D ch t q0 q1).2.1).2.1, (kernelRun0_D c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2.1 prev.2.2.2.1 (hypsR0_D ch t q0 q1).1 (hypsR0_D ch t q0 q1).2.1).2.2.1, (kernelRun0_D c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2.1 prev.2.2.2.1 (hypsR0_D ch t q0 q1).1 (hypsR0_D ch t q0 q1).2.1).2.2.2.1, (kernelRun0_D c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2.1 prev.2.2.2.1 (hypsR0_D ch t q0 q1).1 (hypsR0_D ch t q0 q1).2.1).2.2.2.2.1, (kernelRun0_D c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2.1 prev.2.2.2.1 (hypsR0_D ch t q0 q1).1 (hypsR0_D ch t q0 q1).2.1).2.2.2.2.2.1)

/-- THE TRAJECTORY: after position `n`. -/
def traj0 (c : Dev nD) : (n : ℕ) → n < (cfgA ch).N → (S256x2048.Idx → Elt Ideal .bf16) × Buf (Elt Ideal) ((c : Thread nD τ).loc cc0_scratch0) × Buf (Elt Ideal) ((c : Thread nD τ).loc cc0_scratch1) × Buf (Elt Ideal) ((c : Thread nD τ).loc cc0_scratch2) × Buf (Elt Ideal) ((c : Thread nD τ).loc cc0_scratch3) × Buf (Elt Ideal) ((c : Thread nD τ).loc cc0_scratch4) × Buf (Elt Ideal) ((c : Thread nD τ).loc cc0_scratch5)
  | 0, h => step0 ch m ρ c ⟨0, h⟩ (default, default, default, default, default, default, default)
  | n + 1, h => step0 ch m ρ c ⟨n + 1, h⟩ (traj0 c n (Nat.lt_of_succ_lt h))

/-- What they held BEFORE point `t` (junk before the first). -/
def prev0 (c : Dev nD) (t : Fin (cfgA ch).N) : (S256x2048.Idx → Elt Ideal .bf16) × Buf (Elt Ideal) ((c : Thread nD τ).loc cc0_scratch0) × Buf (Elt Ideal) ((c : Thread nD τ).loc cc0_scratch1) × Buf (Elt Ideal) ((c : Thread nD τ).loc cc0_scratch2) × Buf (Elt Ideal) ((c : Thread nD τ).loc cc0_scratch3) × Buf (Elt Ideal) ((c : Thread nD τ).loc cc0_scratch4) × Buf (Elt Ideal) ((c : Thread nD τ).loc cc0_scratch5) :=
  if h : t.val = 0 then (default, default, default, default, default, default, default) else traj0 ch m ρ c (t.val - 1) (by omega)

theorem traj0_eq (c : Dev nD) (t : Fin (cfgA ch).N) : traj0 ch m ρ c t.val t.isLt = step0 ch m ρ c t (prev0 ch m ρ c t) := by
  obtain ⟨n, hn⟩ := t
  cases n with
  | zero => rfl
  | succ n => unfold prev0; simp only [Nat.add_one_ne_zero, dif_neg, not_false_eq_true]; rfl

/-- `step0` at a point of path A. -/
theorem step0_A (c : Dev nD) (t : Fin (cfgA ch).N) (prev : (S256x2048.Idx → Elt Ideal .bf16) × Buf (Elt Ideal) ((c : Thread nD τ).loc cc0_scratch0) × Buf (Elt Ideal) ((c : Thread nD τ).loc cc0_scratch1) × Buf (Elt Ideal) ((c : Thread nD τ).loc cc0_scratch2) × Buf (Elt Ideal) ((c : Thread nD τ).loc cc0_scratch3) × Buf (Elt Ideal) ((c : Thread nD τ).loc cc0_scratch4) × Buf (Elt Ideal) ((c : Thread nD τ).loc cc0_scratch5)) (q0 : P0_0 ch t) (q1 : P0_1 ch t) :
    step0 ch m ρ c t prev = (out0_A_4 c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) (hypsR0_A ch t q0 q1).1 (hypsR0_A ch t q0 q1).2.1, (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) (hypsR0_A ch t q0 q1).1 (hypsR0_A ch t q0 q1).2.1).2.1, (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) (hypsR0_A ch t q0 q1).1 (hypsR0_A ch t q0 q1).2.1).2.2.1, (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) (hypsR0_A ch t q0 q1).1 (hypsR0_A ch t q0 q1).2.1).2.2.2.1, (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) (hypsR0_A ch t q0 q1).1 (hypsR0_A ch t q0 q1).2.1).2.2.2.2.1, (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) (hypsR0_A ch t q0 q1).1 (hypsR0_A ch t q0 q1).2.1).2.2.2.2.2.1, (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) (hypsR0_A ch t q0 q1).1 (hypsR0_A ch t q0 q1).2.1).2.2.2.2.2.2.1) := by
  unfold step0; simp only [dif_pos q0, dif_pos q1]

/-- `step0` at a point of path B. -/
theorem step0_B (c : Dev nD) (t : Fin (cfgA ch).N) (prev : (S256x2048.Idx → Elt Ideal .bf16) × Buf (Elt Ideal) ((c : Thread nD τ).loc cc0_scratch0) × Buf (Elt Ideal) ((c : Thread nD τ).loc cc0_scratch1) × Buf (Elt Ideal) ((c : Thread nD τ).loc cc0_scratch2) × Buf (Elt Ideal) ((c : Thread nD τ).loc cc0_scratch3) × Buf (Elt Ideal) ((c : Thread nD τ).loc cc0_scratch4) × Buf (Elt Ideal) ((c : Thread nD τ).loc cc0_scratch5)) (q0 : P0_0 ch t) (q1 : ¬P0_1 ch t) :
    step0 ch m ρ c t prev = ((if (cfgA ch).fresh (4 : Fin 5) t.val then default else prev.1), (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) (hypsR0_B ch t q0 q1).1 (hypsR0_B ch t q0 q1).2.1).1, (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) (hypsR0_B ch t q0 q1).1 (hypsR0_B ch t q0 q1).2.1).2.1, (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) (hypsR0_B ch t q0 q1).1 (hypsR0_B ch t q0 q1).2.1).2.2.1, (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) (hypsR0_B ch t q0 q1).1 (hypsR0_B ch t q0 q1).2.1).2.2.2.1, (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) (hypsR0_B ch t q0 q1).1 (hypsR0_B ch t q0 q1).2.1).2.2.2.2.1, (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) (hypsR0_B ch t q0 q1).1 (hypsR0_B ch t q0 q1).2.1).2.2.2.2.2.1) := by
  unfold step0; simp only [dif_pos q0, dif_neg q1]

/-- `step0` at a point of path C. -/
theorem step0_C (c : Dev nD) (t : Fin (cfgA ch).N) (prev : (S256x2048.Idx → Elt Ideal .bf16) × Buf (Elt Ideal) ((c : Thread nD τ).loc cc0_scratch0) × Buf (Elt Ideal) ((c : Thread nD τ).loc cc0_scratch1) × Buf (Elt Ideal) ((c : Thread nD τ).loc cc0_scratch2) × Buf (Elt Ideal) ((c : Thread nD τ).loc cc0_scratch3) × Buf (Elt Ideal) ((c : Thread nD τ).loc cc0_scratch4) × Buf (Elt Ideal) ((c : Thread nD τ).loc cc0_scratch5)) (q0 : ¬P0_0 ch t) (q1 : P0_1 ch t) :
    step0 ch m ρ c t prev = (out0_C_4 c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2.1 prev.2.2.2.1 (hypsR0_C ch t q0 q1).1 (hypsR0_C ch t q0 q1).2.1, (kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2.1 prev.2.2.2.1 (hypsR0_C ch t q0 q1).1 (hypsR0_C ch t q0 q1).2.1).2.1, (kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2.1 prev.2.2.2.1 (hypsR0_C ch t q0 q1).1 (hypsR0_C ch t q0 q1).2.1).2.2.1, (kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2.1 prev.2.2.2.1 (hypsR0_C ch t q0 q1).1 (hypsR0_C ch t q0 q1).2.1).2.2.2.1, (kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2.1 prev.2.2.2.1 (hypsR0_C ch t q0 q1).1 (hypsR0_C ch t q0 q1).2.1).2.2.2.2.1, (kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2.1 prev.2.2.2.1 (hypsR0_C ch t q0 q1).1 (hypsR0_C ch t q0 q1).2.1).2.2.2.2.2.1, (kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2.1 prev.2.2.2.1 (hypsR0_C ch t q0 q1).1 (hypsR0_C ch t q0 q1).2.1).2.2.2.2.2.2.1) := by
  unfold step0; simp only [dif_neg q0, dif_pos q1]

/-- `step0` at a point of path D. -/
theorem step0_D (c : Dev nD) (t : Fin (cfgA ch).N) (prev : (S256x2048.Idx → Elt Ideal .bf16) × Buf (Elt Ideal) ((c : Thread nD τ).loc cc0_scratch0) × Buf (Elt Ideal) ((c : Thread nD τ).loc cc0_scratch1) × Buf (Elt Ideal) ((c : Thread nD τ).loc cc0_scratch2) × Buf (Elt Ideal) ((c : Thread nD τ).loc cc0_scratch3) × Buf (Elt Ideal) ((c : Thread nD τ).loc cc0_scratch4) × Buf (Elt Ideal) ((c : Thread nD τ).loc cc0_scratch5)) (q0 : ¬P0_0 ch t) (q1 : ¬P0_1 ch t) :
    step0 ch m ρ c t prev = ((if (cfgA ch).fresh (4 : Fin 5) t.val then default else prev.1), (kernelRun0_D c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2.1 prev.2.2.2.1 (hypsR0_D ch t q0 q1).1 (hypsR0_D ch t q0 q1).2.1).1, (kernelRun0_D c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2.1 prev.2.2.2.1 (hypsR0_D ch t q0 q1).1 (hypsR0_D ch t q0 q1).2.1).2.1, (kernelRun0_D c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2.1 prev.2.2.2.1 (hypsR0_D ch t q0 q1).1 (hypsR0_D ch t q0 q1).2.1).2.2.1, (kernelRun0_D c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2.1 prev.2.2.2.1 (hypsR0_D ch t q0 q1).1 (hypsR0_D ch t q0 q1).2.1).2.2.2.1, (kernelRun0_D c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2.1 prev.2.2.2.1 (hypsR0_D ch t q0 q1).1 (hypsR0_D ch t q0 q1).2.1).2.2.2.2.1, (kernelRun0_D c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2.1 prev.2.2.2.1 (hypsR0_D ch t q0 q1).1 (hypsR0_D ch t q0 q1).2.1).2.2.2.2.2.1) := by
  unfold step0; simp only [dif_neg q0, dif_neg q1]

/-! ## The pipeline's proof data -/

/-- What the tracked buffers held before position `t` of `Fin (N+1)` (the invariant's index). -/
def prev0T (c : Dev nD) (t : Fin ((cfgA ch).N + 1)) : (S256x2048.Idx → Elt Ideal .bf16) × Buf (Elt Ideal) ((c : Thread nD τ).loc cc0_scratch0) × Buf (Elt Ideal) ((c : Thread nD τ).loc cc0_scratch1) × Buf (Elt Ideal) ((c : Thread nD τ).loc cc0_scratch2) × Buf (Elt Ideal) ((c : Thread nD τ).loc cc0_scratch3) × Buf (Elt Ideal) ((c : Thread nD τ).loc cc0_scratch4) × Buf (Elt Ideal) ((c : Thread nD τ).loc cc0_scratch5) :=
  if h : t.val = 0 then (default, default, default, default, default, default, default) else traj0 ch m ρ c (t.val - 1) (by omega)

theorem prev0T_castSucc (c : Dev nD) (t : Fin (cfgA ch).N) : prev0T ch m ρ c t.castSucc = prev0 ch m ρ c t := by
  unfold prev0T prev0; simp only [Fin.val_castSucc]
theorem prev0T_succ (c : Dev nD) (t : Fin (cfgA ch).N) : prev0T ch m ρ c t.succ = traj0 ch m ρ c t.val t.isLt := by
  unfold prev0T; simp only [Fin.val_succ, Nat.add_one_ne_zero, ↓reduceDIte, Nat.add_one_sub_one]

/-- THE INVARIANT before point `t`: each scratch at what the trajectory says once a point has determined it (anything
    before), the body's halves of the tables. -/
def Phi (m : (ℓ : Loc nD τ sig) → Buf (Elt Ideal) ℓ) (ρ : Dev nD → PrngReg) (c : Dev nD) (t : Fin ((cfgA ch).N + 1)) : sProp 𝕄 :=
  iprop((∃ a, ⌜sfresh0_0 ch t.val = false → a = (prev0T ch m ρ c t).2.1⌝ ∗ (scM0_0.view.loc (c : Thread nD τ) ↦{fullShare} a)) ∗ (∃ a, ⌜sfresh0_1 ch t.val = false → a = (prev0T ch m ρ c t).2.2.1⌝ ∗ (scM0_1.view.loc (c : Thread nD τ) ↦{fullShare} a)) ∗ (∃ a, ⌜sfresh0_2 ch t.val = false → a = (prev0T ch m ρ c t).2.2.2.1⌝ ∗ (scM0_2.view.loc (c : Thread nD τ) ↦{fullShare} a)) ∗ (∃ a, ⌜sfresh0_3 ch t.val = false → a = (prev0T ch m ρ c t).2.2.2.2.1⌝ ∗ (scM0_3.view.loc (c : Thread nD τ) ↦{fullShare} a)) ∗ (∃ a, ⌜sfresh0_4 ch t.val = false → a = (prev0T ch m ρ c t).2.2.2.2.2.1⌝ ∗ (scM0_4.view.loc (c : Thread nD τ) ↦{fullShare} a)) ∗ (∃ a, ⌜sfresh0_5 ch t.val = false → a = (prev0T ch m ρ c t).2.2.2.2.2.2⌝ ∗ (scM0_5.view.loc (c : Thread nD τ) ↦{fullShare} a)) ∗ (tbM0_0.view.loc (c : Thread nD τ) ↦{fullShare.right} pinT_0 ch) ∗ (tbM0_1.view.loc (c : Thread nD τ) ↦{fullShare.right} pinT_1 ch))

/-- The proof data of the one pipeline on core `c`. -/
def dats (_ : Fin 1) (c : Dev nD) : Dat τ (Elt Ideal) Unit ℕ (UR sig nD τ) ℕ (cfgA ch) c where
  A w := (s₀ m ρ).mem (((cfgA ch).win w).arr.view.loc (c : Thread nD τ))
  after w t := match w with
    | ⟨0, _⟩ => iblk ch m ρ c (0 : Fin 5) t
    | ⟨1, _⟩ => iblk ch m ρ c (1 : Fin 5) t
    | ⟨2, _⟩ => iblk ch m ρ c (2 : Fin 5) t
    | ⟨3, _⟩ => iblk ch m ρ c (3 : Fin 5) t
    | ⟨4, _⟩ => (traj0 ch m ρ c t.val t.isLt).1
  Φ t := Phi ch m ρ c t
  q _ := fullShare
  owed _ := 0

theorem after0_0 (c : Dev nD) (t : Fin (cfgA ch).N) : (dats ch m ρ 0 c).after (0 : Fin 5) t = iblk ch m ρ c (0 : Fin 5) t := rfl
theorem after0_1 (c : Dev nD) (t : Fin (cfgA ch).N) : (dats ch m ρ 0 c).after (1 : Fin 5) t = iblk ch m ρ c (1 : Fin 5) t := rfl
theorem after0_2 (c : Dev nD) (t : Fin (cfgA ch).N) : (dats ch m ρ 0 c).after (2 : Fin 5) t = iblk ch m ρ c (2 : Fin 5) t := rfl
theorem after0_3 (c : Dev nD) (t : Fin (cfgA ch).N) : (dats ch m ρ 0 c).after (3 : Fin 5) t = iblk ch m ρ c (3 : Fin 5) t := rfl
theorem after0_4 (c : Dev nD) (t : Fin (cfgA ch).N) : (dats ch m ρ 0 c).after (4 : Fin 5) t = (traj0 ch m ρ c t.val t.isLt).1 := rfl

/-! ## What each window's staging buffer holds when the body runs -/

/-- Input window 0 holds its block, fetched there or not (Lib/Pipeline/FrameBody.lean `Dat.before_in_eq_fetched`). -/
theorem before0_0 (c : Dev nD) (t : Fin (cfgA ch).N) (d) : (dats ch m ρ 0 c).before (0 : Fin 5) t d = iblk ch m ρ c (0 : Fin 5) t :=
  ((dats ch m ρ 0 c).before_in_eq_fetched (0 : Fin 5) rfl (fun _ => rfl) (fun _ _ _ => rfl) (fun t => by rw [after0_0]; unfold Dat.blockOf iblk; rfl) t d).trans
    (by unfold Dat.fetched Dat.blockOf iblk; rfl)

/-- Input window 1 holds its block, fetched there or not (Lib/Pipeline/FrameBody.lean `Dat.before_in_eq_fetched`). -/
theorem before0_1 (c : Dev nD) (t : Fin (cfgA ch).N) (d) : (dats ch m ρ 0 c).before (1 : Fin 5) t d = iblk ch m ρ c (1 : Fin 5) t :=
  ((dats ch m ρ 0 c).before_in_eq_fetched (1 : Fin 5) rfl (fun _ => rfl) (fun _ _ _ => rfl) (fun t => by rw [after0_1]; unfold Dat.blockOf iblk; rfl) t d).trans
    (by unfold Dat.fetched Dat.blockOf iblk; rfl)

/-- Input window 2 holds its block, fetched there or not (Lib/Pipeline/FrameBody.lean `Dat.before_in_eq_fetched`). -/
theorem before0_2 (c : Dev nD) (t : Fin (cfgA ch).N) (d) : (dats ch m ρ 0 c).before (2 : Fin 5) t d = iblk ch m ρ c (2 : Fin 5) t :=
  ((dats ch m ρ 0 c).before_in_eq_fetched (2 : Fin 5) rfl (fun _ => rfl) (fun _ _ _ => rfl) (fun t => by rw [after0_2]; unfold Dat.blockOf iblk; rfl) t d).trans
    (by unfold Dat.fetched Dat.blockOf iblk; rfl)

/-- Input window 3 holds its block, fetched there or not (Lib/Pipeline/FrameBody.lean `Dat.before_in_eq_fetched`). -/
theorem before0_3 (c : Dev nD) (t : Fin (cfgA ch).N) (d) : (dats ch m ρ 0 c).before (3 : Fin 5) t d = iblk ch m ρ c (3 : Fin 5) t :=
  ((dats ch m ρ 0 c).before_in_eq_fetched (3 : Fin 5) rfl (fun _ => rfl) (fun _ _ _ => rfl) (fun t => by rw [after0_3]; unfold Dat.blockOf iblk; rfl) t d).trans
    (by unfold Dat.fetched Dat.blockOf iblk; rfl)

/-- Output 4's `after` carries through the points that leave it idle. -/
theorem hcarry0_4 (c : Dev nD) : ∀ (t : Fin (cfgA ch).N) (ht : t.val ≠ 0), (cfgA ch).idle (4 : Fin 5) ((cfgA ch).grid.coords t) = true → (cfgA ch).fresh (4 : Fin 5) t.val = false →
    (dats ch m ρ 0 c).after (4 : Fin 5) t = (dats ch m ρ 0 c).after (4 : Fin 5) ⟨t.val - 1, by omega⟩ := by
  intro t ht hi hf
  rw [after0_4, after0_4, traj0_eq]
  by_cases q0 : P0_0 ch t
  · by_cases q1 : P0_1 ch t
    · obtain ⟨i4, -, -, -, -, -, -, -, -⟩ := sched0_A ch t q0 q1
      rw [i4] at hi; exact absurd hi (by decide)
    · rw [step0_B ch m ρ c t _ q0 q1]
      simp only [hf, Bool.false_eq_true, ↓reduceIte]
      unfold prev0; rw [dif_neg ht]
  · by_cases q1 : P0_1 ch t
    · obtain ⟨i4, -, -, -, -, -, -, -, -, -, -, -, -, -, -⟩ := sched0_C ch t q0 q1
      rw [i4] at hi; exact absurd hi (by decide)
    · rw [step0_D ch m ρ c t _ q0 q1]
      simp only [hf, Bool.false_eq_true, ↓reduceIte]
      unfold prev0; rw [dif_neg ht]

/-- Output window 4 holds, when the body runs at `t`: junk if nothing was stored since its last write-back (`Cfg.fresh`),
    else what the point before left (TableIdle.lean `Dat.before_out_traj`). -/
theorem before0_4 (c : Dev nD) (t : Fin (cfgA ch).N) (d) :
    (dats ch m ρ 0 c).before (4 : Fin 5) t d = if (cfgA ch).fresh (4 : Fin 5) t.val then d else (prev0 ch m ρ c t).1 := by
  rw [(dats ch m ρ 0 c).before_out_traj (4 : Fin 5) rfl (fun _ _ => rfl) (hcarry0_4 ch m ρ c) t.val t rfl d]
  by_cases hf : (cfgA ch).fresh (4 : Fin 5) t.val = true
  · simp only [hf, ↓reduceIte]
  · have h0 : t.val ≠ 0 := fun h0 => hf (by rw [h0]; exact Pipeline.Cfg.fresh_zero _ _)
    rw [Bool.not_eq_true] at hf
    simp only [hf, Bool.false_eq_true, ↓reduceIte, after0_4]; unfold prev0; rw [dif_neg h0]

/-! ## The body obligation, at a generic point, by path -/

/-- The body at point `t` on its staging memrefs, as the pipeline calls it. -/
abbrev bodyAt0 (t : Fin (cfgA ch).N) : Prog (TpuEff nD τ sig (Elt Ideal) Λ₀ .tc) PUnit :=
  cc0_dsa_attention (crd ch t) (Memref.whole main_c) (Memref.isWhole_whole _) (Memref.whole main_c_0) (Memref.isWhole_whole _) (ms0_0 ch t) (hs0_0 ch t) (ms0_1 ch t) (hs0_1 ch t) (ms0_2 ch t) (hs0_2 ch t) (ms0_3 ch t) (hs0_3 ch t) (ms0_4 ch t) (hs0_4 ch t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _)

set_option maxHeartbeats 4000000 in
/-- THE BODY OBLIGATION at point `t`: the decisions there tell the path (`by_cases` on `P0_·`); its hypotheses and schedule are
    the decided facts'; the inputs hold their blocks, a live buffer what the trajectory says; the path's run applies; the
    idle windows' matches in the post reduce by the decided idle table. -/
theorem sound_body (c : Dev nD) (t : Fin (cfgA ch).N) :
    iprop((dats ch m ρ 0 c).Φ t.castSucc ∗ (dats ch m ρ 0 c).owesAt () t.castSucc
        ∗ (∃ d, owns (c : Thread nD τ) (ms0_0 ch t) fullShare ((dats ch m ρ 0 c).before (0 : Fin 5) t d))
        ∗ (∃ d, owns (c : Thread nD τ) (ms0_1 ch t) fullShare ((dats ch m ρ 0 c).before (1 : Fin 5) t d))
        ∗ (∃ d, owns (c : Thread nD τ) (ms0_2 ch t) fullShare ((dats ch m ρ 0 c).before (2 : Fin 5) t d))
        ∗ (∃ d, owns (c : Thread nD τ) (ms0_3 ch t) fullShare ((dats ch m ρ 0 c).before (3 : Fin 5) t d))
        ∗ (∃ d, owns (c : Thread nD τ) (ms0_4 ch t) fullShare ((dats ch m ρ 0 c).before (4 : Fin 5) t d)))
      ⊢ wp frame (wpE (defs₀ (F := Ideal)) Variants.none c none) Set.univ (bodyAt0 ch t) fun _ =>
          iprop((dats ch m ρ 0 c).Φ t.succ ∗ (dats ch m ρ 0 c).owesAt () t.succ
            ∗ bigSep Finset.univ fun w : Fin (cfgA ch).W =>
                match (cfgA ch).idle w ((cfgA ch).grid.coords t) with
                | true =>
                  match ((cfgA ch).win w).flush t with
                  | false => iprop(∃ d, owns (c : Thread nD τ) (((cfgA ch).win w).stage ((cfgA ch).slots t w)) fullShare ((dats ch m ρ 0 c).before w t d))
                  | true => owns (c : Thread nD τ) (((cfgA ch).win w).stage ((cfgA ch).slots t w)) fullShare ((dats ch m ρ 0 c).after w t)
                | false => owns (c : Thread nD τ) (((cfgA ch).win w).stage ((cfgA ch).slots t w)) fullShare ((dats ch m ρ 0 c).after w t)) := by
  rw [bigSep_W0]
  by_cases q0 : P0_0 ch t
  · by_cases q1 : P0_1 ch t
    · obtain ⟨i4, f4, fr4, sfn0, sfn1, sfn2, sfn3, sfn4, sfn5⟩ := sched0_A ch t q0 q1
      have F0 := hypsR0_A ch t q0 q1
      have hc0 := F0.1; have F1 := F0.2
      have k0_h2 := F1.1; have F2 := F1.2
      clear F0 F1 F2
      rewrite [i4]
      simp only [before0_0, before0_1, before0_2, before0_3, before0_4, after0_0, after0_1, after0_2, after0_3, after0_4, f4]
      simp only [fr4, Bool.false_eq_true, ↓reduceIte]
      rewrite [show (dats ch m ρ 0 c).Φ t.succ = Phi ch m ρ c t.succ from rfl, show (dats ch m ρ 0 c).Φ t.castSucc = Phi ch m ρ c t.castSucc from rfl,
        show (dats ch m ρ 0 c).owesAt () t.succ = (dats ch m ρ 0 c).owesAt () t.castSucc from rfl]
      try rewrite [traj0_eq, step0_A ch m ρ c t _ q0 q1]
      unfold Phi; simp only [prev0T_castSucc, prev0T_succ, traj0_eq, step0_A ch m ρ c t _ q0 q1, Fin.val_castSucc, Fin.val_succ]
      iintro ⟨⟨⟨%a0, %ha0, HS0⟩, ⟨%a1, %ha1, HS1⟩, ⟨%a2, %ha2, HS2⟩, ⟨%a3, %ha3, HS3⟩, ⟨%a4, %ha4, HS4⟩, ⟨%a5, %ha5, HS5⟩, HT0, HT1⟩, Ho, ⟨%d0, H0⟩, ⟨%d1, H1⟩, ⟨%d2, H2⟩, ⟨%d3, H3⟩, ⟨%d4, H4⟩⟩
      iapply ((kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) hc0 k0_h2).2.2.2.2.2.2.2 a0 a1 a2 a3 a4 a5 _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexists _; iexact H4
      isplitl [HS0]; · iexact HS0
      isplitl [HS1]; · iexact HS1
      isplitl [HS2]; · iexact HS2
      isplitl [HS3]; · iexact HS3
      isplitl [HS4]; · iexact HS4
      isplitl [HS5]; · iexact HS5
      iintro ⟨H0, H1, H2, H3, HT0, HT1, ⟨%e4, H4⟩, HS0, HS1, HS2, HS3, HS4, HS5⟩
      isplitl [HS0 HS1 HS2 HS3 HS4 HS5 HT0 HT1]
      · isplitl [HS0]
        · iexists _; isplitr; swap
          · iexact HS0
          · ipureintro; intro hn; first | rfl | exact absurd hn (by first | (rw [sfn0]; decide) | decide)
        isplitl [HS1]
        · iexists _; isplitr; swap
          · iexact HS1
          · ipureintro; intro hn; first | rfl | exact absurd hn (by first | (rw [sfn1]; decide) | decide)
        isplitl [HS2]
        · iexists _; isplitr; swap
          · iexact HS2
          · ipureintro; intro hn; first | rfl | exact absurd hn (by first | (rw [sfn2]; decide) | decide)
        isplitl [HS3]
        · iexists _; isplitr; swap
          · iexact HS3
          · ipureintro; intro hn; first | rfl | exact absurd hn (by first | (rw [sfn3]; decide) | decide)
        isplitl [HS4]
        · iexists _; isplitr; swap
          · iexact HS4
          · ipureintro; intro hn; first | rfl | exact absurd hn (by first | (rw [sfn4]; decide) | decide)
        isplitl [HS5]
        · iexists _; isplitr; swap
          · iexact HS5
          · ipureintro; intro hn; first | rfl | exact absurd hn (by first | (rw [sfn5]; decide) | decide)
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      unfold owns; iexists _; isplitr; swap
      · iexact H4
      · ipureintro; exact View.read_writes_of_cover _ _ _ _ _ (cover0_A_4 c _ _ _ _ _ _ _ _ _ _ _ _ _ _ _ _ _ _ _)
    · obtain ⟨i4, f4, fr4, sf0, sfn0, sf1, sfn1, sf2, sfn2, sf3, sfn3, sf4, sfn4, sf5, sfn5⟩ := sched0_B ch t q0 q1
      have F0 := hypsR0_B ch t q0 q1
      have hc0 := F0.1; have F1 := F0.2
      have k0_h2 := F1.1; have F2 := F1.2
      clear F0 F1 F2
      rewrite [i4]
      simp only [before0_0, before0_1, before0_2, before0_3, before0_4, after0_0, after0_1, after0_2, after0_3, after0_4, f4]
      simp only [fr4, Bool.false_eq_true, ↓reduceIte]
      rewrite [show (dats ch m ρ 0 c).Φ t.succ = Phi ch m ρ c t.succ from rfl, show (dats ch m ρ 0 c).Φ t.castSucc = Phi ch m ρ c t.castSucc from rfl,
        show (dats ch m ρ 0 c).owesAt () t.succ = (dats ch m ρ 0 c).owesAt () t.castSucc from rfl]
      try rewrite [traj0_eq, step0_B ch m ρ c t _ q0 q1]
      unfold Phi; simp only [prev0T_castSucc, prev0T_succ, traj0_eq, step0_B ch m ρ c t _ q0 q1, Fin.val_castSucc, Fin.val_succ]
      iintro ⟨⟨⟨%a0, %ha0, HS0⟩, ⟨%a1, %ha1, HS1⟩, ⟨%a2, %ha2, HS2⟩, ⟨%a3, %ha3, HS3⟩, ⟨%a4, %ha4, HS4⟩, ⟨%a5, %ha5, HS5⟩, HT0, HT1⟩, Ho, ⟨%d0, H0⟩, ⟨%d1, H1⟩, ⟨%d2, H2⟩, ⟨%d3, H3⟩, ⟨%d4, H4⟩⟩
      iapply ((kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) hc0 k0_h2).2.2.2.2.2.2 _ a0 a1 a2 a3 a4 a5 _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexact H4
      isplitl [HS0]; · iexact HS0
      isplitl [HS1]; · iexact HS1
      isplitl [HS2]; · iexact HS2
      isplitl [HS3]; · iexact HS3
      isplitl [HS4]; · iexact HS4
      isplitl [HS5]; · iexact HS5
      iintro ⟨H0, H1, H2, H3, HT0, HT1, H4, HS0, HS1, HS2, HS3, HS4, HS5⟩
      isplitl [HS0 HS1 HS2 HS3 HS4 HS5 HT0 HT1]
      · isplitl [HS0]
        · iexists _; isplitr; swap
          · iexact HS0
          · ipureintro; intro hn; first | rfl | exact absurd hn (by first | (rw [sfn0]; decide) | decide)
        isplitl [HS1]
        · iexists _; isplitr; swap
          · iexact HS1
          · ipureintro; intro hn; first | rfl | exact absurd hn (by first | (rw [sfn1]; decide) | decide)
        isplitl [HS2]
        · iexists _; isplitr; swap
          · iexact HS2
          · ipureintro; intro hn; first | rfl | exact absurd hn (by first | (rw [sfn2]; decide) | decide)
        isplitl [HS3]
        · iexists _; isplitr; swap
          · iexact HS3
          · ipureintro; intro hn; first | rfl | exact absurd hn (by first | (rw [sfn3]; decide) | decide)
        isplitl [HS4]
        · iexists _; isplitr; swap
          · iexact HS4
          · ipureintro; intro hn; first | rfl | exact absurd hn (by first | (rw [sfn4]; decide) | decide)
        isplitl [HS5]
        · iexists _; isplitr; swap
          · iexact HS5
          · ipureintro; intro hn; first | rfl | exact absurd hn (by first | (rw [sfn5]; decide) | decide)
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      first | (iexists d4; iexact H4) | iexact H4
  · by_cases q1 : P0_1 ch t
    · obtain ⟨i4, f4, fr4, sf0, sfn0, sf1, sfn1, sf2, sfn2, sf3, sfn3, sf4, sfn4, sf5, sfn5⟩ := sched0_C ch t q0 q1
      have F0 := hypsR0_C ch t q0 q1
      have hc0 := F0.1; have F1 := F0.2
      have k0_h2 := F1.1; have F2 := F1.2
      clear F0 F1 F2
      rewrite [i4]
      simp only [before0_0, before0_1, before0_2, before0_3, before0_4, after0_0, after0_1, after0_2, after0_3, after0_4, f4]
      simp only [fr4, Bool.false_eq_true, ↓reduceIte]
      rewrite [show (dats ch m ρ 0 c).Φ t.succ = Phi ch m ρ c t.succ from rfl, show (dats ch m ρ 0 c).Φ t.castSucc = Phi ch m ρ c t.castSucc from rfl,
        show (dats ch m ρ 0 c).owesAt () t.succ = (dats ch m ρ 0 c).owesAt () t.castSucc from rfl]
      try rewrite [traj0_eq, step0_C ch m ρ c t _ q0 q1]
      unfold Phi; simp only [prev0T_castSucc, prev0T_succ, traj0_eq, step0_C ch m ρ c t _ q0 q1, Fin.val_castSucc, Fin.val_succ]
      simp only [exists_held sf0, exists_held sf1, exists_held sf2]
      iintro ⟨⟨HS0, HS1, HS2, ⟨%a3, %ha3, HS3⟩, ⟨%a4, %ha4, HS4⟩, ⟨%a5, %ha5, HS5⟩, HT0, HT1⟩, Ho, ⟨%d0, H0⟩, ⟨%d1, H1⟩, ⟨%d2, H2⟩, ⟨%d3, H3⟩, ⟨%d4, H4⟩⟩
      iapply ((kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) _ _ _ hc0 k0_h2).2.2.2.2.2.2.2 a3 a4 a5 _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexists _; iexact H4
      isplitl [HS0]; · iexact HS0
      isplitl [HS1]; · iexact HS1
      isplitl [HS2]; · iexact HS2
      isplitl [HS3]; · iexact HS3
      isplitl [HS4]; · iexact HS4
      isplitl [HS5]; · iexact HS5
      iintro ⟨H0, H1, H2, H3, HT0, HT1, ⟨%e4, H4⟩, HS0, HS1, HS2, HS3, HS4, HS5⟩
      isplitl [HS0 HS1 HS2 HS3 HS4 HS5 HT0 HT1]
      · isplitl [HS0]
        · iexists _; isplitr; swap
          · iexact HS0
          · ipureintro; intro hn; first | rfl | exact absurd hn (by first | (rw [sfn0]; decide) | decide)
        isplitl [HS1]
        · iexists _; isplitr; swap
          · iexact HS1
          · ipureintro; intro hn; first | rfl | exact absurd hn (by first | (rw [sfn1]; decide) | decide)
        isplitl [HS2]
        · iexists _; isplitr; swap
          · iexact HS2
          · ipureintro; intro hn; first | rfl | exact absurd hn (by first | (rw [sfn2]; decide) | decide)
        isplitl [HS3]
        · iexists _; isplitr; swap
          · iexact HS3
          · ipureintro; intro hn; first | rfl | exact absurd hn (by first | (rw [sfn3]; decide) | decide)
        isplitl [HS4]
        · iexists _; isplitr; swap
          · iexact HS4
          · ipureintro; intro hn; first | rfl | exact absurd hn (by first | (rw [sfn4]; decide) | decide)
        isplitl [HS5]
        · iexists _; isplitr; swap
          · iexact HS5
          · ipureintro; intro hn; first | rfl | exact absurd hn (by first | (rw [sfn5]; decide) | decide)
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      unfold owns; iexists _; isplitr; swap
      · iexact H4
      · ipureintro; exact View.read_writes_of_cover _ _ _ _ _ (cover0_C_4 c _ _ _ _ _ _ _ _ _ _ _ _ _ _ _ _ _ _ _ _ _ _)
    · obtain ⟨i4, f4, fr4, sf0, sfn0, sf1, sfn1, sf2, sfn2, sf3, sfn3, sf4, sfn4, sf5, sfn5⟩ := sched0_D ch t q0 q1
      have F0 := hypsR0_D ch t q0 q1
      have hc0 := F0.1; have F1 := F0.2
      have k0_h2 := F1.1; have F2 := F1.2
      clear F0 F1 F2
      rewrite [i4]
      simp only [before0_0, before0_1, before0_2, before0_3, before0_4, after0_0, after0_1, after0_2, after0_3, after0_4, f4]
      simp only [fr4, Bool.false_eq_true, ↓reduceIte]
      rewrite [show (dats ch m ρ 0 c).Φ t.succ = Phi ch m ρ c t.succ from rfl, show (dats ch m ρ 0 c).Φ t.castSucc = Phi ch m ρ c t.castSucc from rfl,
        show (dats ch m ρ 0 c).owesAt () t.succ = (dats ch m ρ 0 c).owesAt () t.castSucc from rfl]
      try rewrite [traj0_eq, step0_D ch m ρ c t _ q0 q1]
      unfold Phi; simp only [prev0T_castSucc, prev0T_succ, traj0_eq, step0_D ch m ρ c t _ q0 q1, Fin.val_castSucc, Fin.val_succ]
      simp only [exists_held sf0, exists_held sf1, exists_held sf2]
      iintro ⟨⟨HS0, HS1, HS2, ⟨%a3, %ha3, HS3⟩, ⟨%a4, %ha4, HS4⟩, ⟨%a5, %ha5, HS5⟩, HT0, HT1⟩, Ho, ⟨%d0, H0⟩, ⟨%d1, H1⟩, ⟨%d2, H2⟩, ⟨%d3, H3⟩, ⟨%d4, H4⟩⟩
      iapply ((kernelRun0_D c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) _ _ _ hc0 k0_h2).2.2.2.2.2.2 _ a3 a4 a5 _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexact H4
      isplitl [HS0]; · iexact HS0
      isplitl [HS1]; · iexact HS1
      isplitl [HS2]; · iexact HS2
      isplitl [HS3]; · iexact HS3
      isplitl [HS4]; · iexact HS4
      isplitl [HS5]; · iexact HS5
      iintro ⟨H0, H1, H2, H3, HT0, HT1, H4, HS0, HS1, HS2, HS3, HS4, HS5⟩
      isplitl [HS0 HS1 HS2 HS3 HS4 HS5 HT0 HT1]
      · isplitl [HS0]
        · iexists _; isplitr; swap
          · iexact HS0
          · ipureintro; intro hn; first | rfl | exact absurd hn (by first | (rw [sfn0]; decide) | decide)
        isplitl [HS1]
        · iexists _; isplitr; swap
          · iexact HS1
          · ipureintro; intro hn; first | rfl | exact absurd hn (by first | (rw [sfn1]; decide) | decide)
        isplitl [HS2]
        · iexists _; isplitr; swap
          · iexact HS2
          · ipureintro; intro hn; first | rfl | exact absurd hn (by first | (rw [sfn2]; decide) | decide)
        isplitl [HS3]
        · iexists _; isplitr; swap
          · iexact HS3
          · ipureintro; intro hn; first | rfl | exact absurd hn (by first | (rw [sfn3]; decide) | decide)
        isplitl [HS4]
        · iexists _; isplitr; swap
          · iexact HS4
          · ipureintro; intro hn; first | rfl | exact absurd hn (by first | (rw [sfn4]; decide) | decide)
        isplitl [HS5]
        · iexists _; isplitr; swap
          · iexact HS5
          · ipureintro; intro hn; first | rfl | exact absurd hn (by first | (rw [sfn5]; decide) | decide)
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      first | (iexists d4; iexact H4) | iexact H4

/-- The library's body obligation, at every point. -/
theorem body_obligation (c : Dev nD) : BodyObligation (dats ch m ρ 0 c) (defs₀ (F := Ideal)) Variants.none () Set.univ := fun t => by
  rw [bigSep_W0]
  exact sound_body ch m ρ c t

/-! ## The launch -/

/-- The rounds library's launch element. -/
def u₀ : UR sig nD τ :=
  initOf (Pipeline.cells (pcs ch) ((launch0 (F := Ideal)).cellOf_inj fun _ => adm ch))
    (Pipeline.launchToks (pcs ch) ((launch0 (F := Ideal)).cellOf_inj fun _ => adm ch))

theorem share_eq (c : Dev nD) (w : Fin (cfgA ch).W) : (dats ch m ρ 0 c).share w = fullShare := by unfold Dat.share; split <;> rfl

/-- The tables as the launch hands them to the region, one by one. -/
theorem prefHeld_eq (c : Dev nD) (q : Fin 2 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_c) ↦{q 0} v 0) ∗ (((c : Thread nD τ).loc main_c_0) ↦{q 1} v 1)) := by
  unfold Pipeline.prefHeld
  rw [show (Finset.univ : Finset (Fin 2)) = insert (0 : Fin 2) {(1 : Fin 2)} from by decide,
    bigSep_insert (by decide), bigSep_singleton]
  rfl

/-- The invariant at the first point from the tables and the scratch buffers (`hin`); -/
theorem phi0_intro (c : Dev nD) :
    iprop(BI.emp ∗ Pipeline.prefHeld pre0 c (fun _ => fullShare.right) (adm ch).1 ∗ Pipeline.scopedRest spec0 c) ⊢ (dats ch m ρ 0 c).Φ 0 := by
  rw [prefHeld_eq, scopedRest0_eq, show (dats ch m ρ 0 c).Φ 0 = Phi ch m ρ c 0 from rfl]
  unfold Phi
  iintro ⟨-, ⟨HT0, HT1⟩, ⟨%a0, HS0⟩, ⟨%a1, HS1⟩, ⟨%a2, HS2⟩, ⟨%a3, HS3⟩, ⟨%a4, HS4⟩, ⟨%a5, HS5⟩⟩
  isplitl [HS0]
  · iexists a0; isplitr; swap
    · iexact HS0
    · ipureintro; intro h; exact absurd (h.symm.trans (show sfresh0_0 ch 0 = true from rfl)) Bool.false_ne_true
  isplitl [HS1]
  · iexists a1; isplitr; swap
    · iexact HS1
    · ipureintro; intro h; exact absurd (h.symm.trans (show sfresh0_1 ch 0 = true from rfl)) Bool.false_ne_true
  isplitl [HS2]
  · iexists a2; isplitr; swap
    · iexact HS2
    · ipureintro; intro h; exact absurd (h.symm.trans (show sfresh0_2 ch 0 = true from rfl)) Bool.false_ne_true
  isplitl [HS3]
  · iexists a3; isplitr; swap
    · iexact HS3
    · ipureintro; intro h; exact absurd (h.symm.trans (show sfresh0_3 ch 0 = true from rfl)) Bool.false_ne_true
  isplitl [HS4]
  · iexists a4; isplitr; swap
    · iexact HS4
    · ipureintro; intro h; exact absurd (h.symm.trans (show sfresh0_4 ch 0 = true from rfl)) Bool.false_ne_true
  isplitl [HS5]
  · iexists a5; isplitr; swap
    · iexact HS5
    · ipureintro; intro h; exact absurd (h.symm.trans (show sfresh0_5 ch 0 = true from rfl)) Bool.false_ne_true
  isplitl [HT0]
  · iexact HT0
  iexact HT1

/-- at the last point it gives the scratch buffers back (`hout`), the tables let go. -/
theorem phiN_exit (c : Dev nD) : (dats ch m ρ 0 c).Φ (Fin.last (cfgA ch).N) ⊢ iprop(BI.emp ∗ Pipeline.scopedRest spec0 c) := by
  rw [scopedRest0_eq, show (dats ch m ρ 0 c).Φ (Fin.last (cfgA ch).N) = Phi ch m ρ c (Fin.last _) from rfl]
  unfold Phi
  iintro ⟨⟨%a0, -, HS0⟩, ⟨%a1, -, HS1⟩, ⟨%a2, -, HS2⟩, ⟨%a3, -, HS3⟩, ⟨%a4, -, HS4⟩, ⟨%a5, -, HS5⟩, -, -⟩
  isplitr; · iempintro
  isplitl [HS0]
  · iexists a0; iexact HS0
  isplitl [HS1]
  · iexists a1; iexact HS1
  isplitl [HS2]
  · iexists a2; iexact HS2
  isplitl [HS3]
  · iexists a3; iexact HS3
  isplitl [HS4]
  · iexists a4; iexact HS4
  iexists a5; iexact HS5

/-- The physical post: every array at what the library computes, every table at what the pipeline ran at. -/
def QC : PUnit × MemSt nD τ sig (Elt Ideal) → Prop := fun r =>
  ∀ c : Dev nD, (∀ w : Fin (cfgA ch).W, r.2.mem (((cfgA ch).win w).arr.view.loc (c : Thread nD τ)) = (dats ch m ρ 0 c).arrAt w (cfgA ch).N)
    ∧ ∀ j, r.2.mem ((c : Thread nD τ).loc (pre0.ref j)) = (adm ch).1 j

/-- Each host operation before the region writes a buffer of its own. -/
theorem hostOps0_fresh : (hostOps0 (F := Ideal)).Forall fun op => op.fresh = ∅ := ⟨rfl, rfl⟩

/-- Core `c`'s buffers when the region is entered: after the two host operations that write the tables. -/
abbrev V (c : Dev nD) (b : Ref sig .tc) : Buf (Elt Ideal) ((c : Thread nD τ).loc b) :=
  StableHlo.after (hostOps0 (F := Ideal)) (fun b => m (c, b)) b

set_option maxHeartbeats 4000000 in
/-- The program up to the region: the two host operations, then the region. -/
theorem hmain (𝒱₀ : Variants) :
    Pipeline.HMainP (Ix := Unit) (Name := ℕ) (U := UR sig nD τ) (Lvl := ℕ) (pcfgs (F := Ideal)) (0 : Fin 1) defs₀ 𝒱₀ m
      (main (F := Ideal)) (V m) :=
  Pipeline.hmainP_prefix (pcfgs (F := Ideal)) (0 : Fin 1) defs₀ 𝒱₀ m main hostOps0 hostOps0_sub hostOps0_fresh main_chain

/-- The tables at the region's entry. -/
theorem V_pre (c : Dev nD) (j : Fin 2) : V m c (pre0.ref j) = (adm ch).1 j := by
  obtain rfl : ch = 0 := Subsingleton.elim _ _
  fin_cases j
  · show V m c main_c = pinT_0 0
    have h : V m c main_c = fun i => lit0 (S884.rowMajor i) := by
      unfold V hostOps0
      rw [StableHlo.after_cons, StableHlo.after_cons, StableHlo.after_nil]
      refine (StableHlo.nullary_result_ne _ _ _ _ (show main_c ≠ main_c_0 by decide)).trans ?_
      exact StableHlo.nullary_result _ _ _ _
    rw [h]; funext i; exact (lit0_eq (S884.rowMajor i)).trans (congrArg (pinT_0 0) (S884.rowMajor.symm_apply_apply i))
  · show V m c main_c_0 = pinT_1 0
    have h : V m c main_c_0 = fun i => lit1 (S884.rowMajor i) := by
      unfold V hostOps0
      rw [StableHlo.after_cons, StableHlo.after_cons, StableHlo.after_nil]
      exact StableHlo.nullary_result _ _ _ _
    rw [h]; funext i; exact (lit1_eq (S884.rowMajor i)).trans (congrArg (pinT_1 0) (S884.rowMajor.symm_apply_apply i))

/-- A buffer that is neither table is as launched at the region's entry. -/
theorem V_other (c : Dev nD) (b : Ref sig .tc) (h0 : b ≠ main_c) (h1 : b ≠ main_c_0) : V m c b = m (c, b) :=
  (StableHlo.nullary_result_ne _ _ _ _ h1).trans (StableHlo.nullary_result_ne _ _ _ _ h0)

/-- The windows' arrays at the region's entry are as launched. -/
theorem V_arr (c : Dev nD) (w : Fin (cfgA ch).W) :
    m (((cfgA ch).win w).arr.view.loc (c : Thread nD τ)) = V m c (Pipeline.arrRef ((cfgA ch).spec) w) := by
  fin_cases w
  · exact (V_other m c main_arg0 (by decide) (by decide)).symm
  · exact (V_other m c main_arg1 (by decide) (by decide)).symm
  · exact (V_other m c main_arg2 (by decide) (by decide)).symm
  · exact (V_other m c main_arg3 (by decide) (by decide)).symm
  · exact (V_other m c main_v0 (by decide) (by decide)).symm

set_option backward.isDefEq.respectTransparency.types false in
set_option maxHeartbeats 4000000 in
/-- At the compiled mesh, from any memory with zero counters whose tables and steering words are member `ch`'s: every weakly
    fair execution of @main on the TensorCores terminates, and every final state has each array at the computed contents,
    and every semaphore counter of the machine at zero. -/
theorem run_main_quiescent : θ_run (defs (F := Ideal)) (onTc (τ := τ) (main (F := Ideal))) (s₀ m ρ) (fun r => QC ch m ρ r ∧ r.2.sem = fun _ => 0) :=
  Pipeline.θ_run_region_noSem_pf_quiescent pcfgs (fun _ => adm ch) (dats ch m ρ) () ((launch0 (F := Ideal)).cellOf_inj fun _ => adm ch) (0 : Fin 1)
    (launch0 (F := Ideal)).win.to₀ (launch0 (F := Ideal)).pre EP defs₀ Variants.none m ρ main
    (hbody := fun c => (body_obligation ch m ρ c).loose) (hne := (launch0 (F := Ideal)).block_pos)
    (harr := (launch0 (F := Ideal)).arr_whole) (hstage := (launch0 (F := Ideal)).stage_whole) (howed := fun _ _ => rfl)
    (u₀ := u₀ ch) (hu₀ := .rfl)
    (V := V m)
    (hmain := hmain m Variants.none)
    (hsplit := fun c => Pipeline.arrays_split (pcs ch) (dats ch m ρ) 0 (launch0 (F := Ideal)).win.arr_inj c (launch0 (F := Ideal)).arr_whole
      (share_eq ch m ρ c) _ _ (V_arr ch m c))
    (hpf := V_pre ch m)
    (X := fun _ => iprop(emp)) (Y := fun _ => iprop(emp)) (Z := fun _ => iprop(emp))
    (hX := fun c => by rw [unscopedRestP0_eq]; iintro -; isplitr <;> iempintro)
    (hin := phi0_intro ch m ρ)
    (hout := phiN_exit ch m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- `run_main_quiescent` without the counters. -/
theorem run_main : θ_run (defs (F := Ideal)) (onTc (τ := τ) (main (F := Ideal))) (s₀ m ρ) (QC ch m ρ) :=
  (θ_run defs _ _).mono (fun _ h => h.1) (run_main_quiescent ch m ρ)

/-- `frame` without the counters: the argument arrays end unchanged. -/
theorem unchanged :
    θ_run (defs (F := Ideal)) (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 (0 : Fin 5)).trans ((dats 0 m ρ 0 c).arrAt_in (0 : Fin 5) rfl _), ((h c).1 (1 : Fin 5)).trans ((dats 0 m ρ 0 c).arrAt_in (1 : Fin 5) rfl _), ((h c).1 (2 : Fin 5)).trans ((dats 0 m ρ 0 c).arrAt_in (2 : Fin 5) rfl _), ((h c).1 (3 : Fin 5)).trans ((dats 0 m ρ 0 c).arrAt_in (3 : Fin 5) rfl _)⟩) (run_main 0 m ρ)

/-- The frame of the call: every weakly fair execution terminates, nothing faults, every argument array ends unchanged
    and every semaphore counter of the machine reads zero at every final state. -/
theorem frame :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent 0 m ρ))

end Cert.KernelIdeal.Attn

end
-- ==== Proof.AttnBits.Runs.lean ====
/- The body run once for each of its four control paths, and what each run leaves in the output and scratch buffers.
   Follows the text the frame generator writes for a call whose tables are arguments; here the tables are the
   constants the host writes before the call. -/
module

public import proofs.«01_k».proof.Proof.Gen.Kernel.Skeleton
public import proofs.«01_k».proof.Proof.AttnBits.Pins

@[expose] public section

set_option maxRecDepth 16384
-- ONE DECLARATION AT A TIME: a per-path run alone peaks near 3 GB, and a decided theorem's kernel evaluation is freed
-- only when the next declaration begins (side by side, every finished one is held to the module's end)
set_option Elab.async false

noncomputable section

namespace Cert.Kernel.Attn

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The certificate is written at the CLOSED instance `Bits` (the frame claim's): every pinned word a `BitVec`. -/
local notation "𝕄" => MT nD τ sig Unit (Elt Bits) ℕ (UR sig nD τ) ℕ

/-! ## The kernel body per control path, on symbolic staging memrefs: a subtype the run finds -/

/-- One staging buffer of output window 4, through which its contents are stated (`View.read_writes_of_cover`). -/
abbrev VO0_4 : View sig .tc .vmem S256x2048 .bf16 := (Memref.whole cc0_stg4_0 : Memref sig .tc .vmem S256x2048 .bf16).view

set_option backward.proofsInPublic true in
set_option maxHeartbeats 8000000 in
/-- PATH A (points 0, 1): what the body leaves — per stored output its pieces (last first), per scratch its
    contents — WITH the proof that, on whole staging memrefs, from the inputs at their blocks, the tables, the outputs
    (4: stored) and the scratches (0: covered, 1: covered, 2: covered, 3: covered, 4: covered, 5: covered), under the path's decisions as
    hypotheses over the words the body reads (`hc0`; `k0_h2`), the body runs to the continuation holding all of it as stated. The
    skeleton (`Gen.*_eq_skeleton`) run by `sl_exec`, loops of literal trip count unrolled by the run, the others by `sl_unroll`. -/
noncomputable def kernelRun0_A (c : Dev nD) (i : grid0.Coords) (arg3 : Memref sig .tc .vmem S256x2048 .bf16) (harg3 : arg3.IsWhole) (arg4 : Memref sig .tc .vmem S640x2048 .bf16) (harg4 : arg4.IsWhole) (arg5 : Memref sig .tc .vmem S2048x640 .bf16) (harg5 : arg5.IsWhole) (arg6 : Memref sig .tc .vmem S640x256 .bf16) (harg6 : arg6.IsWhole) (arg7 : Memref sig .tc .vmem S256x2048 .bf16) (harg7 : arg7.IsWhole) (T0 : (S884.Idx → Elt Bits .i32)) (T1 : (S884.Idx → Elt Bits .i32))
     (x0 : (S256x2048.Idx → Elt Bits .bf16)) (x1 : (S640x2048.Idx → Elt Bits .bf16)) (x2 : (S2048x640.Idx → Elt Bits .bf16)) (x3 : (S640x256.Idx → Elt Bits .bf16)) (hc0 : (Scalar.cmpi .ne (Scalar.extui (Scalar.cmpi .eq (View.readAt (Elt Bits) (tbM0_1).view (Rect.unit (s := S884) (k0_off1 i) S1.size (k0_off1_inb i)).toLoadRect T1 (Shape.Idx.first (numel1_S1.symm ▸ Nat.one_pos))) 0#32)) 0#32) = 1#1) (k0_h2 : k0_cond2 (View.readAt (Elt Bits) (tbM0_0).view (Rect.unit (s := S884) (k0_off1 i) S1.size (k0_off1_inb i)).toLoadRect T0 (Shape.Idx.first (numel1_S1.symm ▸ Nat.one_pos))) (View.readAt (Elt Bits) (tbM0_1).view (Rect.unit (s := S884) (k0_off1 i) S1.size (k0_off1_inb i)).toLoadRect T1 (Shape.Idx.first (numel1_S1.symm ▸ Nat.one_pos))) = 1#1) :
    Σ' (out0 : List (View.Piece (Elt Bits) S256x2048 .bf16)) (out1 : Buf (Elt Bits) ((c : Thread nD τ).loc cc0_scratch0)) (out2 : Buf (Elt Bits) ((c : Thread nD τ).loc cc0_scratch1)) (out3 : Buf (Elt Bits) ((c : Thread nD τ).loc cc0_scratch2)) (out4 : Buf (Elt Bits) ((c : Thread nD τ).loc cc0_scratch3)) (out5 : Buf (Elt Bits) ((c : Thread nD τ).loc cc0_scratch4)), { out6 : Buf (Elt Bits) ((c : Thread nD τ).loc cc0_scratch5) //
      ∀ (xa0 : Buf (Elt Bits) ((c : Thread nD τ).loc cc0_scratch0)) (xa1 : Buf (Elt Bits) ((c : Thread nD τ).loc cc0_scratch1)) (xa2 : Buf (Elt Bits) ((c : Thread nD τ).loc cc0_scratch2)) (xa3 : Buf (Elt Bits) ((c : Thread nD τ).loc cc0_scratch3)) (xa4 : Buf (Elt Bits) ((c : Thread nD τ).loc cc0_scratch4)) (xa5 : Buf (Elt Bits) ((c : Thread nD τ).loc cc0_scratch5)) (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (tbM0_0.view.loc (c : Thread nD τ) ↦{fullShare.right} T0)
          ∗ (tbM0_1.view.loc (c : Thread nD τ) ↦{fullShare.right} T1)
          ∗ (∃ d, owns (c : Thread nD τ) arg7 fullShare d)
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (scM0_3.view.loc (c : Thread nD τ) ↦{fullShare} xa3)
          ∗ (scM0_4.view.loc (c : Thread nD τ) ↦{fullShare} xa4)
          ∗ (scM0_5.view.loc (c : Thread nD τ) ↦{fullShare} xa5)
          ∗ (iprop((arg3.view.loc (c : Thread nD τ) ↦[arg3.view.set]{fullShare} arg3.view.rep x0)
              ∗ (arg4.view.loc (c : Thread nD τ) ↦[arg4.view.set]{fullShare} arg4.view.rep x1)
              ∗ (arg5.view.loc (c : Thread nD τ) ↦[arg5.view.set]{fullShare} arg5.view.rep x2)
              ∗ (arg6.view.loc (c : Thread nD τ) ↦[arg6.view.set]{fullShare} arg6.view.rep x3)
              ∗ (tbM0_0.view.loc (c : Thread nD τ) ↦{fullShare.right} T0)
              ∗ (tbM0_1.view.loc (c : Thread nD τ) ↦{fullShare.right} T1)
              ∗ (∃ f, arg7.view.loc (c : Thread nD τ) ↦[arg7.view.set]{fullShare} arg7.view.writes (Elt Bits) f out0)
              ∗ (scM0_0.view.loc (c : Thread nD τ) ↦{fullShare} out1)
              ∗ (scM0_1.view.loc (c : Thread nD τ) ↦{fullShare} out2)
              ∗ (scM0_2.view.loc (c : Thread nD τ) ↦{fullShare} out3)
              ∗ (scM0_3.view.loc (c : Thread nD τ) ↦{fullShare} out4)
              ∗ (scM0_4.view.loc (c : Thread nD τ) ↦{fullShare} out5)
              ∗ (scM0_5.view.loc (c : Thread nD τ) ↦{fullShare} out6)) -∗ K ⟨⟩))
          ⊢ wp frame (wpE (defs₀ (F := Bits)) Variants.none c none) Set.univ (cc0_dsa_attention i tbM0_0 (Memref.isWhole_whole _) tbM0_1 (Memref.isWhole_whole _) arg3 harg3 arg4 harg4 arg5 harg5 arg6 harg6 arg7 harg7 scM0_0 (Memref.isWhole_whole _) scM0_1 (Memref.isWhole_whole _) scM0_2 (Memref.isWhole_whole _) scM0_3 (Memref.isWhole_whole _) scM0_4 (Memref.isWhole_whole _) scM0_5 (Memref.isWhole_whole _)) K } :=
  ⟨_, _, _, _, _, _, _, fun (xa0 : Buf (Elt Bits) ((c : Thread nD τ).loc cc0_scratch0)) (xa1 : Buf (Elt Bits) ((c : Thread nD τ).loc cc0_scratch1)) (xa2 : Buf (Elt Bits) ((c : Thread nD τ).loc cc0_scratch2)) (xa3 : Buf (Elt Bits) ((c : Thread nD τ).loc cc0_scratch3)) (xa4 : Buf (Elt Bits) ((c : Thread nD τ).loc cc0_scratch4)) (xa5 : Buf (Elt Bits) ((c : Thread nD τ).loc cc0_scratch5)) K => by
    unfold owns
    rw [cc0_dsa_attention_eq_skeleton]; unfold cc0_dsa_attention_skel
    iintro ⟨H0, H1, H2, H3, HT0, HT1, ⟨%d4, %f4, -, HO4⟩, HS0, HS1, HS2, HS3, HS4, HS5, Hk⟩
    have hS0 : scM0_0.IsWhole := Memref.isWhole_whole _
    have hS1 : scM0_1.IsWhole := Memref.isWhole_whole _
    have hS2 : scM0_2.IsWhole := Memref.isWhole_whole _
    have hS3 : scM0_3.IsWhole := Memref.isWhole_whole _
    have hS4 : scM0_4.IsWhole := Memref.isWhole_whole _
    have hS5 : scM0_5.IsWhole := Memref.isWhole_whole _
    have hT0 : tbM0_0.IsWhole := Memref.isWhole_whole _
    have hT1 : tbM0_1.IsWhole := Memref.isWhole_whole _
    sl_exec! (disch := first | (guard_target = Scalar.cmpi = _; exact hc0) | (guard_target = k0_cond2 _ _ = _; exact k0_h2))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HO4]; · iexists _; iexact HO4
    isplitl [HS0]; · iexact HS0
    isplitl [HS1]; · iexact HS1
    isplitl [HS2]; · iexact HS2
    isplitl [HS3]; · iexact HS3
    isplitl [HS4]; · iexact HS4
    iexact HS5⟩

/-- Path A's pieces for output 4 tile its block (16 stores of `S256x128`: the kernel evaluates the tiling, Lib/Ring.lean `Piece.tiledL`). -/
theorem cover0_A_4 (c : Dev nD) (i : grid0.Coords) (arg3 : Memref sig .tc .vmem S256x2048 .bf16) (harg3 : arg3.IsWhole) (arg4 : Memref sig .tc .vmem S640x2048 .bf16) (harg4 : arg4.IsWhole) (arg5 : Memref sig .tc .vmem S2048x640 .bf16) (harg5 : arg5.IsWhole) (arg6 : Memref sig .tc .vmem S640x256 .bf16) (harg6 : arg6.IsWhole) (arg7 : Memref sig .tc .vmem S256x2048 .bf16) (harg7 : arg7.IsWhole) (T0 : (S884.Idx → Elt Bits .i32)) (T1 : (S884.Idx → Elt Bits .i32))
     (x0 : (S256x2048.Idx → Elt Bits .bf16)) (x1 : (S640x2048.Idx → Elt Bits .bf16)) (x2 : (S2048x640.Idx → Elt Bits .bf16)) (x3 : (S640x256.Idx → Elt Bits .bf16)) (hc0 : (Scalar.cmpi .ne (Scalar.extui (Scalar.cmpi .eq (View.readAt (Elt Bits) (tbM0_1).view (Rect.unit (s := S884) (k0_off1 i) S1.size (k0_off1_inb i)).toLoadRect T1 (Shape.Idx.first (numel1_S1.symm ▸ Nat.one_pos))) 0#32)) 0#32) = 1#1) (k0_h2 : k0_cond2 (View.readAt (Elt Bits) (tbM0_0).view (Rect.unit (s := S884) (k0_off1 i) S1.size (k0_off1_inb i)).toLoadRect T0 (Shape.Idx.first (numel1_S1.symm ▸ Nat.one_pos))) (View.readAt (Elt Bits) (tbM0_1).view (Rect.unit (s := S884) (k0_off1 i) S1.size (k0_off1_inb i)).toLoadRect T1 (Shape.Idx.first (numel1_S1.symm ▸ Nat.one_pos))) = 1#1) (y : S256x2048.Idx) :
    ∃ pc ∈ (kernelRun0_A c i arg3 harg3 arg4 harg4 arg5 harg5 arg6 harg6 arg7 harg7 T0 T1 x0 x1 x2 x3 hc0 k0_h2).1, y ∈ pc.1.set :=
  View.cover_of_tiledL (kernelRun0_A c i arg3 harg3 arg4 harg4 arg5 harg5 arg6 harg6 arg7 harg7 T0 T1 x0 x1 x2 x3 hc0 k0_h2).1 S256x128.size (by sl_kernel_rfl) y

/-- What path A leaves in output 4's staging buffer: its pieces read back over junk. -/
def out0_A_4 (c : Dev nD) (i : grid0.Coords) (arg3 : Memref sig .tc .vmem S256x2048 .bf16) (harg3 : arg3.IsWhole) (arg4 : Memref sig .tc .vmem S640x2048 .bf16) (harg4 : arg4.IsWhole) (arg5 : Memref sig .tc .vmem S2048x640 .bf16) (harg5 : arg5.IsWhole) (arg6 : Memref sig .tc .vmem S640x256 .bf16) (harg6 : arg6.IsWhole) (arg7 : Memref sig .tc .vmem S256x2048 .bf16) (harg7 : arg7.IsWhole) (T0 : (S884.Idx → Elt Bits .i32)) (T1 : (S884.Idx → Elt Bits .i32))
     (x0 : (S256x2048.Idx → Elt Bits .bf16)) (x1 : (S640x2048.Idx → Elt Bits .bf16)) (x2 : (S2048x640.Idx → Elt Bits .bf16)) (x3 : (S640x256.Idx → Elt Bits .bf16)) (hc0 : (Scalar.cmpi .ne (Scalar.extui (Scalar.cmpi .eq (View.readAt (Elt Bits) (tbM0_1).view (Rect.unit (s := S884) (k0_off1 i) S1.size (k0_off1_inb i)).toLoadRect T1 (Shape.Idx.first (numel1_S1.symm ▸ Nat.one_pos))) 0#32)) 0#32) = 1#1) (k0_h2 : k0_cond2 (View.readAt (Elt Bits) (tbM0_0).view (Rect.unit (s := S884) (k0_off1 i) S1.size (k0_off1_inb i)).toLoadRect T0 (Shape.Idx.first (numel1_S1.symm ▸ Nat.one_pos))) (View.readAt (Elt Bits) (tbM0_1).view (Rect.unit (s := S884) (k0_off1 i) S1.size (k0_off1_inb i)).toLoadRect T1 (Shape.Idx.first (numel1_S1.symm ▸ Nat.one_pos))) = 1#1) : (S256x2048.Idx → Elt Bits .bf16) :=
  VO0_4.read (Elt Bits) (VO0_4.writes (Elt Bits) VO0_4.junk (kernelRun0_A c i arg3 harg3 arg4 harg4 arg5 harg5 arg6 harg6 arg7 harg7 T0 T1 x0 x1 x2 x3 hc0 k0_h2).1)

set_option backward.proofsInPublic true in
set_option maxHeartbeats 8000000 in
/-- PATH B (points 2, 4, … 858: 63 of 884): what the body leaves — per stored output its pieces (last first), per scratch its
    contents — WITH the proof that, on whole staging memrefs, from the inputs at their blocks, the tables, the outputs
    (4: idle) and the scratches (0: covered, 1: covered, 2: covered, 3: covered, 4: covered, 5: covered), under the path's decisions as
    hypotheses over the words the body reads (`hc0`; `k0_h2`), the body runs to the continuation holding all of it as stated. The
    skeleton (`Gen.*_eq_skeleton`) run by `sl_exec`, loops of literal trip count unrolled by the run, the others by `sl_unroll`. -/
noncomputable def kernelRun0_B (c : Dev nD) (i : grid0.Coords) (arg3 : Memref sig .tc .vmem S256x2048 .bf16) (harg3 : arg3.IsWhole) (arg4 : Memref sig .tc .vmem S640x2048 .bf16) (harg4 : arg4.IsWhole) (arg5 : Memref sig .tc .vmem S2048x640 .bf16) (harg5 : arg5.IsWhole) (arg6 : Memref sig .tc .vmem S640x256 .bf16) (harg6 : arg6.IsWhole) (arg7 : Memref sig .tc .vmem S256x2048 .bf16) (harg7 : arg7.IsWhole) (T0 : (S884.Idx → Elt Bits .i32)) (T1 : (S884.Idx → Elt Bits .i32))
     (x0 : (S256x2048.Idx → Elt Bits .bf16)) (x1 : (S640x2048.Idx → Elt Bits .bf16)) (x2 : (S2048x640.Idx → Elt Bits .bf16)) (x3 : (S640x256.Idx → Elt Bits .bf16)) (hc0 : (Scalar.cmpi .ne (Scalar.extui (Scalar.cmpi .eq (View.readAt (Elt Bits) (tbM0_1).view (Rect.unit (s := S884) (k0_off1 i) S1.size (k0_off1_inb i)).toLoadRect T1 (Shape.Idx.first (numel1_S1.symm ▸ Nat.one_pos))) 0#32)) 0#32) = 1#1) (k0_h2 : ¬(k0_cond2 (View.readAt (Elt Bits) (tbM0_0).view (Rect.unit (s := S884) (k0_off1 i) S1.size (k0_off1_inb i)).toLoadRect T0 (Shape.Idx.first (numel1_S1.symm ▸ Nat.one_pos))) (View.readAt (Elt Bits) (tbM0_1).view (Rect.unit (s := S884) (k0_off1 i) S1.size (k0_off1_inb i)).toLoadRect T1 (Shape.Idx.first (numel1_S1.symm ▸ Nat.one_pos))) = 1#1)) :
    Σ' (out0 : Buf (Elt Bits) ((c : Thread nD τ).loc cc0_scratch0)) (out1 : Buf (Elt Bits) ((c : Thread nD τ).loc cc0_scratch1)) (out2 : Buf (Elt Bits) ((c : Thread nD τ).loc cc0_scratch2)) (out3 : Buf (Elt Bits) ((c : Thread nD τ).loc cc0_scratch3)) (out4 : Buf (Elt Bits) ((c : Thread nD τ).loc cc0_scratch4)), { out5 : Buf (Elt Bits) ((c : Thread nD τ).loc cc0_scratch5) //
      ∀ (y4 : (S256x2048.Idx → Elt Bits .bf16)) (xa0 : Buf (Elt Bits) ((c : Thread nD τ).loc cc0_scratch0)) (xa1 : Buf (Elt Bits) ((c : Thread nD τ).loc cc0_scratch1)) (xa2 : Buf (Elt Bits) ((c : Thread nD τ).loc cc0_scratch2)) (xa3 : Buf (Elt Bits) ((c : Thread nD τ).loc cc0_scratch3)) (xa4 : Buf (Elt Bits) ((c : Thread nD τ).loc cc0_scratch4)) (xa5 : Buf (Elt Bits) ((c : Thread nD τ).loc cc0_scratch5)) (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (tbM0_0.view.loc (c : Thread nD τ) ↦{fullShare.right} T0)
          ∗ (tbM0_1.view.loc (c : Thread nD τ) ↦{fullShare.right} T1)
          ∗ owns (c : Thread nD τ) arg7 fullShare y4
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (scM0_3.view.loc (c : Thread nD τ) ↦{fullShare} xa3)
          ∗ (scM0_4.view.loc (c : Thread nD τ) ↦{fullShare} xa4)
          ∗ (scM0_5.view.loc (c : Thread nD τ) ↦{fullShare} xa5)
          ∗ (iprop((arg3.view.loc (c : Thread nD τ) ↦[arg3.view.set]{fullShare} arg3.view.rep x0)
              ∗ (arg4.view.loc (c : Thread nD τ) ↦[arg4.view.set]{fullShare} arg4.view.rep x1)
              ∗ (arg5.view.loc (c : Thread nD τ) ↦[arg5.view.set]{fullShare} arg5.view.rep x2)
              ∗ (arg6.view.loc (c : Thread nD τ) ↦[arg6.view.set]{fullShare} arg6.view.rep x3)
              ∗ (tbM0_0.view.loc (c : Thread nD τ) ↦{fullShare.right} T0)
              ∗ (tbM0_1.view.loc (c : Thread nD τ) ↦{fullShare.right} T1)
              ∗ owns (c : Thread nD τ) arg7 fullShare y4
              ∗ (scM0_0.view.loc (c : Thread nD τ) ↦{fullShare} out0)
              ∗ (scM0_1.view.loc (c : Thread nD τ) ↦{fullShare} out1)
              ∗ (scM0_2.view.loc (c : Thread nD τ) ↦{fullShare} out2)
              ∗ (scM0_3.view.loc (c : Thread nD τ) ↦{fullShare} out3)
              ∗ (scM0_4.view.loc (c : Thread nD τ) ↦{fullShare} out4)
              ∗ (scM0_5.view.loc (c : Thread nD τ) ↦{fullShare} out5)) -∗ K ⟨⟩))
          ⊢ wp frame (wpE (defs₀ (F := Bits)) Variants.none c none) Set.univ (cc0_dsa_attention i tbM0_0 (Memref.isWhole_whole _) tbM0_1 (Memref.isWhole_whole _) arg3 harg3 arg4 harg4 arg5 harg5 arg6 harg6 arg7 harg7 scM0_0 (Memref.isWhole_whole _) scM0_1 (Memref.isWhole_whole _) scM0_2 (Memref.isWhole_whole _) scM0_3 (Memref.isWhole_whole _) scM0_4 (Memref.isWhole_whole _) scM0_5 (Memref.isWhole_whole _)) K } :=
  ⟨_, _, _, _, _, _, fun (y4 : (S256x2048.Idx → Elt Bits .bf16)) (xa0 : Buf (Elt Bits) ((c : Thread nD τ).loc cc0_scratch0)) (xa1 : Buf (Elt Bits) ((c : Thread nD τ).loc cc0_scratch1)) (xa2 : Buf (Elt Bits) ((c : Thread nD τ).loc cc0_scratch2)) (xa3 : Buf (Elt Bits) ((c : Thread nD τ).loc cc0_scratch3)) (xa4 : Buf (Elt Bits) ((c : Thread nD τ).loc cc0_scratch4)) (xa5 : Buf (Elt Bits) ((c : Thread nD τ).loc cc0_scratch5)) K => by
    unfold owns
    rw [cc0_dsa_attention_eq_skeleton]; unfold cc0_dsa_attention_skel
    iintro ⟨H0, H1, H2, H3, HT0, HT1, ⟨%f4, %hf4, HO4⟩, HS0, HS1, HS2, HS3, HS4, HS5, Hk⟩
    obtain rfl := harg7.eq_unread hf4
    have hS0 : scM0_0.IsWhole := Memref.isWhole_whole _
    have hS1 : scM0_1.IsWhole := Memref.isWhole_whole _
    have hS2 : scM0_2.IsWhole := Memref.isWhole_whole _
    have hS3 : scM0_3.IsWhole := Memref.isWhole_whole _
    have hS4 : scM0_4.IsWhole := Memref.isWhole_whole _
    have hS5 : scM0_5.IsWhole := Memref.isWhole_whole _
    have hT0 : tbM0_0.IsWhole := Memref.isWhole_whole _
    have hT1 : tbM0_1.IsWhole := Memref.isWhole_whole _
    sl_exec! (disch := first | (guard_target = Scalar.cmpi = _; exact hc0) | (guard_target = ¬(k0_cond2 _ _ = _); exact k0_h2))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HO4]
    · iexists _; isplitr; · ipureintro; exact harg7.read_unread _
      iexact HO4
    isplitl [HS0]; · iexact HS0
    isplitl [HS1]; · iexact HS1
    isplitl [HS2]; · iexact HS2
    isplitl [HS3]; · iexact HS3
    isplitl [HS4]; · iexact HS4
    iexact HS5⟩

set_option backward.proofsInPublic true in
set_option maxHeartbeats 8000000 in
/-- PATH C (points 3, 5, … 883: 63 of 884): what the body leaves — per stored output its pieces (last first), per scratch its
    contents — WITH the proof that, on whole staging memrefs, from the inputs at their blocks, the tables, the outputs
    (4: stored) and the scratches (0: carried, 1: carried, 2: carried, 3: covered, 4: covered, 5: covered), under the path's decisions as
    hypotheses over the words the body reads (`hc0`; `k0_h2`), the body runs to the continuation holding all of it as stated. The
    skeleton (`Gen.*_eq_skeleton`) run by `sl_exec`, loops of literal trip count unrolled by the run, the others by `sl_unroll`. -/
noncomputable def kernelRun0_C (c : Dev nD) (i : grid0.Coords) (arg3 : Memref sig .tc .vmem S256x2048 .bf16) (harg3 : arg3.IsWhole) (arg4 : Memref sig .tc .vmem S640x2048 .bf16) (harg4 : arg4.IsWhole) (arg5 : Memref sig .tc .vmem S2048x640 .bf16) (harg5 : arg5.IsWhole) (arg6 : Memref sig .tc .vmem S640x256 .bf16) (harg6 : arg6.IsWhole) (arg7 : Memref sig .tc .vmem S256x2048 .bf16) (harg7 : arg7.IsWhole) (T0 : (S884.Idx → Elt Bits .i32)) (T1 : (S884.Idx → Elt Bits .i32))
     (x0 : (S256x2048.Idx → Elt Bits .bf16)) (x1 : (S640x2048.Idx → Elt Bits .bf16)) (x2 : (S2048x640.Idx → Elt Bits .bf16)) (x3 : (S640x256.Idx → Elt Bits .bf16)) (xa0 : Buf (Elt Bits) ((c : Thread nD τ).loc cc0_scratch0)) (xa1 : Buf (Elt Bits) ((c : Thread nD τ).loc cc0_scratch1)) (xa2 : Buf (Elt Bits) ((c : Thread nD τ).loc cc0_scratch2)) (hc0 : ¬((Scalar.cmpi .ne (Scalar.extui (Scalar.cmpi .eq (View.readAt (Elt Bits) (tbM0_1).view (Rect.unit (s := S884) (k0_off1 i) S1.size (k0_off1_inb i)).toLoadRect T1 (Shape.Idx.first (numel1_S1.symm ▸ Nat.one_pos))) 0#32)) 0#32) = 1#1)) (k0_h2 : k0_cond2 (View.readAt (Elt Bits) (tbM0_0).view (Rect.unit (s := S884) (k0_off1 i) S1.size (k0_off1_inb i)).toLoadRect T0 (Shape.Idx.first (numel1_S1.symm ▸ Nat.one_pos))) (View.readAt (Elt Bits) (tbM0_1).view (Rect.unit (s := S884) (k0_off1 i) S1.size (k0_off1_inb i)).toLoadRect T1 (Shape.Idx.first (numel1_S1.symm ▸ Nat.one_pos))) = 1#1) :
    Σ' (out0 : List (View.Piece (Elt Bits) S256x2048 .bf16)) (out1 : Buf (Elt Bits) ((c : Thread nD τ).loc cc0_scratch0)) (out2 : Buf (Elt Bits) ((c : Thread nD τ).loc cc0_scratch1)) (out3 : Buf (Elt Bits) ((c : Thread nD τ).loc cc0_scratch2)) (out4 : Buf (Elt Bits) ((c : Thread nD τ).loc cc0_scratch3)) (out5 : Buf (Elt Bits) ((c : Thread nD τ).loc cc0_scratch4)), { out6 : Buf (Elt Bits) ((c : Thread nD τ).loc cc0_scratch5) //
      ∀ (xa3 : Buf (Elt Bits) ((c : Thread nD τ).loc cc0_scratch3)) (xa4 : Buf (Elt Bits) ((c : Thread nD τ).loc cc0_scratch4)) (xa5 : Buf (Elt Bits) ((c : Thread nD τ).loc cc0_scratch5)) (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (tbM0_0.view.loc (c : Thread nD τ) ↦{fullShare.right} T0)
          ∗ (tbM0_1.view.loc (c : Thread nD τ) ↦{fullShare.right} T1)
          ∗ (∃ d, owns (c : Thread nD τ) arg7 fullShare d)
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (scM0_3.view.loc (c : Thread nD τ) ↦{fullShare} xa3)
          ∗ (scM0_4.view.loc (c : Thread nD τ) ↦{fullShare} xa4)
          ∗ (scM0_5.view.loc (c : Thread nD τ) ↦{fullShare} xa5)
          ∗ (iprop((arg3.view.loc (c : Thread nD τ) ↦[arg3.view.set]{fullShare} arg3.view.rep x0)
              ∗ (arg4.view.loc (c : Thread nD τ) ↦[arg4.view.set]{fullShare} arg4.view.rep x1)
              ∗ (arg5.view.loc (c : Thread nD τ) ↦[arg5.view.set]{fullShare} arg5.view.rep x2)
              ∗ (arg6.view.loc (c : Thread nD τ) ↦[arg6.view.set]{fullShare} arg6.view.rep x3)
              ∗ (tbM0_0.view.loc (c : Thread nD τ) ↦{fullShare.right} T0)
              ∗ (tbM0_1.view.loc (c : Thread nD τ) ↦{fullShare.right} T1)
              ∗ (∃ f, arg7.view.loc (c : Thread nD τ) ↦[arg7.view.set]{fullShare} arg7.view.writes (Elt Bits) f out0)
              ∗ (scM0_0.view.loc (c : Thread nD τ) ↦{fullShare} out1)
              ∗ (scM0_1.view.loc (c : Thread nD τ) ↦{fullShare} out2)
              ∗ (scM0_2.view.loc (c : Thread nD τ) ↦{fullShare} out3)
              ∗ (scM0_3.view.loc (c : Thread nD τ) ↦{fullShare} out4)
              ∗ (scM0_4.view.loc (c : Thread nD τ) ↦{fullShare} out5)
              ∗ (scM0_5.view.loc (c : Thread nD τ) ↦{fullShare} out6)) -∗ K ⟨⟩))
          ⊢ wp frame (wpE (defs₀ (F := Bits)) Variants.none c none) Set.univ (cc0_dsa_attention i tbM0_0 (Memref.isWhole_whole _) tbM0_1 (Memref.isWhole_whole _) arg3 harg3 arg4 harg4 arg5 harg5 arg6 harg6 arg7 harg7 scM0_0 (Memref.isWhole_whole _) scM0_1 (Memref.isWhole_whole _) scM0_2 (Memref.isWhole_whole _) scM0_3 (Memref.isWhole_whole _) scM0_4 (Memref.isWhole_whole _) scM0_5 (Memref.isWhole_whole _)) K } :=
  ⟨_, _, _, _, _, _, _, fun (xa3 : Buf (Elt Bits) ((c : Thread nD τ).loc cc0_scratch3)) (xa4 : Buf (Elt Bits) ((c : Thread nD τ).loc cc0_scratch4)) (xa5 : Buf (Elt Bits) ((c : Thread nD τ).loc cc0_scratch5)) K => by
    unfold owns
    rw [cc0_dsa_attention_eq_skeleton]; unfold cc0_dsa_attention_skel
    iintro ⟨H0, H1, H2, H3, HT0, HT1, ⟨%d4, %f4, -, HO4⟩, HS0, HS1, HS2, HS3, HS4, HS5, Hk⟩
    have hS0 : scM0_0.IsWhole := Memref.isWhole_whole _
    have hS1 : scM0_1.IsWhole := Memref.isWhole_whole _
    have hS2 : scM0_2.IsWhole := Memref.isWhole_whole _
    have hS3 : scM0_3.IsWhole := Memref.isWhole_whole _
    have hS4 : scM0_4.IsWhole := Memref.isWhole_whole _
    have hS5 : scM0_5.IsWhole := Memref.isWhole_whole _
    have hT0 : tbM0_0.IsWhole := Memref.isWhole_whole _
    have hT1 : tbM0_1.IsWhole := Memref.isWhole_whole _
    sl_exec! (disch := first | (guard_target = ¬(Scalar.cmpi = _); exact hc0) | (guard_target = k0_cond2 _ _ = _; exact k0_h2))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HO4]; · iexists _; iexact HO4
    isplitl [HS0]; · iexact HS0
    isplitl [HS1]; · iexact HS1
    isplitl [HS2]; · iexact HS2
    isplitl [HS3]; · iexact HS3
    isplitl [HS4]; · iexact HS4
    iexact HS5⟩

/-- Path C's pieces for output 4 tile its block (16 stores of `S256x128`: the kernel evaluates the tiling, Lib/Ring.lean `Piece.tiledL`). -/
theorem cover0_C_4 (c : Dev nD) (i : grid0.Coords) (arg3 : Memref sig .tc .vmem S256x2048 .bf16) (harg3 : arg3.IsWhole) (arg4 : Memref sig .tc .vmem S640x2048 .bf16) (harg4 : arg4.IsWhole) (arg5 : Memref sig .tc .vmem S2048x640 .bf16) (harg5 : arg5.IsWhole) (arg6 : Memref sig .tc .vmem S640x256 .bf16) (harg6 : arg6.IsWhole) (arg7 : Memref sig .tc .vmem S256x2048 .bf16) (harg7 : arg7.IsWhole) (T0 : (S884.Idx → Elt Bits .i32)) (T1 : (S884.Idx → Elt Bits .i32))
     (x0 : (S256x2048.Idx → Elt Bits .bf16)) (x1 : (S640x2048.Idx → Elt Bits .bf16)) (x2 : (S2048x640.Idx → Elt Bits .bf16)) (x3 : (S640x256.Idx → Elt Bits .bf16)) (xa0 : Buf (Elt Bits) ((c : Thread nD τ).loc cc0_scratch0)) (xa1 : Buf (Elt Bits) ((c : Thread nD τ).loc cc0_scratch1)) (xa2 : Buf (Elt Bits) ((c : Thread nD τ).loc cc0_scratch2)) (hc0 : ¬((Scalar.cmpi .ne (Scalar.extui (Scalar.cmpi .eq (View.readAt (Elt Bits) (tbM0_1).view (Rect.unit (s := S884) (k0_off1 i) S1.size (k0_off1_inb i)).toLoadRect T1 (Shape.Idx.first (numel1_S1.symm ▸ Nat.one_pos))) 0#32)) 0#32) = 1#1)) (k0_h2 : k0_cond2 (View.readAt (Elt Bits) (tbM0_0).view (Rect.unit (s := S884) (k0_off1 i) S1.size (k0_off1_inb i)).toLoadRect T0 (Shape.Idx.first (numel1_S1.symm ▸ Nat.one_pos))) (View.readAt (Elt Bits) (tbM0_1).view (Rect.unit (s := S884) (k0_off1 i) S1.size (k0_off1_inb i)).toLoadRect T1 (Shape.Idx.first (numel1_S1.symm ▸ Nat.one_pos))) = 1#1) (y : S256x2048.Idx) :
    ∃ pc ∈ (kernelRun0_C c i arg3 harg3 arg4 harg4 arg5 harg5 arg6 harg6 arg7 harg7 T0 T1 x0 x1 x2 x3 xa0 xa1 xa2 hc0 k0_h2).1, y ∈ pc.1.set :=
  View.cover_of_tiledL (kernelRun0_C c i arg3 harg3 arg4 harg4 arg5 harg5 arg6 harg6 arg7 harg7 T0 T1 x0 x1 x2 x3 xa0 xa1 xa2 hc0 k0_h2).1 S256x128.size (by sl_kernel_rfl) y

/-- What path C leaves in output 4's staging buffer: its pieces read back over junk. -/
def out0_C_4 (c : Dev nD) (i : grid0.Coords) (arg3 : Memref sig .tc .vmem S256x2048 .bf16) (harg3 : arg3.IsWhole) (arg4 : Memref sig .tc .vmem S640x2048 .bf16) (harg4 : arg4.IsWhole) (arg5 : Memref sig .tc .vmem S2048x640 .bf16) (harg5 : arg5.IsWhole) (arg6 : Memref sig .tc .vmem S640x256 .bf16) (harg6 : arg6.IsWhole) (arg7 : Memref sig .tc .vmem S256x2048 .bf16) (harg7 : arg7.IsWhole) (T0 : (S884.Idx → Elt Bits .i32)) (T1 : (S884.Idx → Elt Bits .i32))
     (x0 : (S256x2048.Idx → Elt Bits .bf16)) (x1 : (S640x2048.Idx → Elt Bits .bf16)) (x2 : (S2048x640.Idx → Elt Bits .bf16)) (x3 : (S640x256.Idx → Elt Bits .bf16)) (xa0 : Buf (Elt Bits) ((c : Thread nD τ).loc cc0_scratch0)) (xa1 : Buf (Elt Bits) ((c : Thread nD τ).loc cc0_scratch1)) (xa2 : Buf (Elt Bits) ((c : Thread nD τ).loc cc0_scratch2)) (hc0 : ¬((Scalar.cmpi .ne (Scalar.extui (Scalar.cmpi .eq (View.readAt (Elt Bits) (tbM0_1).view (Rect.unit (s := S884) (k0_off1 i) S1.size (k0_off1_inb i)).toLoadRect T1 (Shape.Idx.first (numel1_S1.symm ▸ Nat.one_pos))) 0#32)) 0#32) = 1#1)) (k0_h2 : k0_cond2 (View.readAt (Elt Bits) (tbM0_0).view (Rect.unit (s := S884) (k0_off1 i) S1.size (k0_off1_inb i)).toLoadRect T0 (Shape.Idx.first (numel1_S1.symm ▸ Nat.one_pos))) (View.readAt (Elt Bits) (tbM0_1).view (Rect.unit (s := S884) (k0_off1 i) S1.size (k0_off1_inb i)).toLoadRect T1 (Shape.Idx.first (numel1_S1.symm ▸ Nat.one_pos))) = 1#1) : (S256x2048.Idx → Elt Bits .bf16) :=
  VO0_4.read (Elt Bits) (VO0_4.writes (Elt Bits) VO0_4.junk (kernelRun0_C c i arg3 harg3 arg4 harg4 arg5 harg5 arg6 harg6 arg7 harg7 T0 T1 x0 x1 x2 x3 xa0 xa1 xa2 hc0 k0_h2).1)

set_option backward.proofsInPublic true in
set_option maxHeartbeats 8000000 in
/-- PATH D (points 9, 12, … 882: 756 of 884): what the body leaves — per stored output its pieces (last first), per scratch its
    contents — WITH the proof that, on whole staging memrefs, from the inputs at their blocks, the tables, the outputs
    (4: idle) and the scratches (0: carried, 1: carried, 2: carried, 3: covered, 4: covered, 5: covered), under the path's decisions as
    hypotheses over the words the body reads (`hc0`; `k0_h2`), the body runs to the continuation holding all of it as stated. The
    skeleton (`Gen.*_eq_skeleton`) run by `sl_exec`, loops of literal trip count unrolled by the run, the others by `sl_unroll`. -/
noncomputable def kernelRun0_D (c : Dev nD) (i : grid0.Coords) (arg3 : Memref sig .tc .vmem S256x2048 .bf16) (harg3 : arg3.IsWhole) (arg4 : Memref sig .tc .vmem S640x2048 .bf16) (harg4 : arg4.IsWhole) (arg5 : Memref sig .tc .vmem S2048x640 .bf16) (harg5 : arg5.IsWhole) (arg6 : Memref sig .tc .vmem S640x256 .bf16) (harg6 : arg6.IsWhole) (arg7 : Memref sig .tc .vmem S256x2048 .bf16) (harg7 : arg7.IsWhole) (T0 : (S884.Idx → Elt Bits .i32)) (T1 : (S884.Idx → Elt Bits .i32))
     (x0 : (S256x2048.Idx → Elt Bits .bf16)) (x1 : (S640x2048.Idx → Elt Bits .bf16)) (x2 : (S2048x640.Idx → Elt Bits .bf16)) (x3 : (S640x256.Idx → Elt Bits .bf16)) (xa0 : Buf (Elt Bits) ((c : Thread nD τ).loc cc0_scratch0)) (xa1 : Buf (Elt Bits) ((c : Thread nD τ).loc cc0_scratch1)) (xa2 : Buf (Elt Bits) ((c : Thread nD τ).loc cc0_scratch2)) (hc0 : ¬((Scalar.cmpi .ne (Scalar.extui (Scalar.cmpi .eq (View.readAt (Elt Bits) (tbM0_1).view (Rect.unit (s := S884) (k0_off1 i) S1.size (k0_off1_inb i)).toLoadRect T1 (Shape.Idx.first (numel1_S1.symm ▸ Nat.one_pos))) 0#32)) 0#32) = 1#1)) (k0_h2 : ¬(k0_cond2 (View.readAt (Elt Bits) (tbM0_0).view (Rect.unit (s := S884) (k0_off1 i) S1.size (k0_off1_inb i)).toLoadRect T0 (Shape.Idx.first (numel1_S1.symm ▸ Nat.one_pos))) (View.readAt (Elt Bits) (tbM0_1).view (Rect.unit (s := S884) (k0_off1 i) S1.size (k0_off1_inb i)).toLoadRect T1 (Shape.Idx.first (numel1_S1.symm ▸ Nat.one_pos))) = 1#1)) :
    Σ' (out0 : Buf (Elt Bits) ((c : Thread nD τ).loc cc0_scratch0)) (out1 : Buf (Elt Bits) ((c : Thread nD τ).loc cc0_scratch1)) (out2 : Buf (Elt Bits) ((c : Thread nD τ).loc cc0_scratch2)) (out3 : Buf (Elt Bits) ((c : Thread nD τ).loc cc0_scratch3)) (out4 : Buf (Elt Bits) ((c : Thread nD τ).loc cc0_scratch4)), { out5 : Buf (Elt Bits) ((c : Thread nD τ).loc cc0_scratch5) //
      ∀ (y4 : (S256x2048.Idx → Elt Bits .bf16)) (xa3 : Buf (Elt Bits) ((c : Thread nD τ).loc cc0_scratch3)) (xa4 : Buf (Elt Bits) ((c : Thread nD τ).loc cc0_scratch4)) (xa5 : Buf (Elt Bits) ((c : Thread nD τ).loc cc0_scratch5)) (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (tbM0_0.view.loc (c : Thread nD τ) ↦{fullShare.right} T0)
          ∗ (tbM0_1.view.loc (c : Thread nD τ) ↦{fullShare.right} T1)
          ∗ owns (c : Thread nD τ) arg7 fullShare y4
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (scM0_3.view.loc (c : Thread nD τ) ↦{fullShare} xa3)
          ∗ (scM0_4.view.loc (c : Thread nD τ) ↦{fullShare} xa4)
          ∗ (scM0_5.view.loc (c : Thread nD τ) ↦{fullShare} xa5)
          ∗ (iprop((arg3.view.loc (c : Thread nD τ) ↦[arg3.view.set]{fullShare} arg3.view.rep x0)
              ∗ (arg4.view.loc (c : Thread nD τ) ↦[arg4.view.set]{fullShare} arg4.view.rep x1)
              ∗ (arg5.view.loc (c : Thread nD τ) ↦[arg5.view.set]{fullShare} arg5.view.rep x2)
              ∗ (arg6.view.loc (c : Thread nD τ) ↦[arg6.view.set]{fullShare} arg6.view.rep x3)
              ∗ (tbM0_0.view.loc (c : Thread nD τ) ↦{fullShare.right} T0)
              ∗ (tbM0_1.view.loc (c : Thread nD τ) ↦{fullShare.right} T1)
              ∗ owns (c : Thread nD τ) arg7 fullShare y4
              ∗ (scM0_0.view.loc (c : Thread nD τ) ↦{fullShare} out0)
              ∗ (scM0_1.view.loc (c : Thread nD τ) ↦{fullShare} out1)
              ∗ (scM0_2.view.loc (c : Thread nD τ) ↦{fullShare} out2)
              ∗ (scM0_3.view.loc (c : Thread nD τ) ↦{fullShare} out3)
              ∗ (scM0_4.view.loc (c : Thread nD τ) ↦{fullShare} out4)
              ∗ (scM0_5.view.loc (c : Thread nD τ) ↦{fullShare} out5)) -∗ K ⟨⟩))
          ⊢ wp frame (wpE (defs₀ (F := Bits)) Variants.none c none) Set.univ (cc0_dsa_attention i tbM0_0 (Memref.isWhole_whole _) tbM0_1 (Memref.isWhole_whole _) arg3 harg3 arg4 harg4 arg5 harg5 arg6 harg6 arg7 harg7 scM0_0 (Memref.isWhole_whole _) scM0_1 (Memref.isWhole_whole _) scM0_2 (Memref.isWhole_whole _) scM0_3 (Memref.isWhole_whole _) scM0_4 (Memref.isWhole_whole _) scM0_5 (Memref.isWhole_whole _)) K } :=
  ⟨_, _, _, _, _, _, fun (y4 : (S256x2048.Idx → Elt Bits .bf16)) (xa3 : Buf (Elt Bits) ((c : Thread nD τ).loc cc0_scratch3)) (xa4 : Buf (Elt Bits) ((c : Thread nD τ).loc cc0_scratch4)) (xa5 : Buf (Elt Bits) ((c : Thread nD τ).loc cc0_scratch5)) K => by
    unfold owns
    rw [cc0_dsa_attention_eq_skeleton]; unfold cc0_dsa_attention_skel
    iintro ⟨H0, H1, H2, H3, HT0, HT1, ⟨%f4, %hf4, HO4⟩, HS0, HS1, HS2, HS3, HS4, HS5, Hk⟩
    obtain rfl := harg7.eq_unread hf4
    have hS0 : scM0_0.IsWhole := Memref.isWhole_whole _
    have hS1 : scM0_1.IsWhole := Memref.isWhole_whole _
    have hS2 : scM0_2.IsWhole := Memref.isWhole_whole _
    have hS3 : scM0_3.IsWhole := Memref.isWhole_whole _
    have hS4 : scM0_4.IsWhole := Memref.isWhole_whole _
    have hS5 : scM0_5.IsWhole := Memref.isWhole_whole _
    have hT0 : tbM0_0.IsWhole := Memref.isWhole_whole _
    have hT1 : tbM0_1.IsWhole := Memref.isWhole_whole _
    sl_exec! (disch := first | (guard_target = ¬(Scalar.cmpi = _); exact hc0) | (guard_target = ¬(k0_cond2 _ _ = _); exact k0_h2))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HO4]
    · iexists _; isplitr; · ipureintro; exact harg7.read_unread _
      iexact HO4
    isplitl [HS0]; · iexact HS0
    isplitl [HS1]; · iexact HS1
    isplitl [HS2]; · iexact HS2
    isplitl [HS3]; · iexact HS3
    isplitl [HS4]; · iexact HS4
    iexact HS5⟩

end Cert.Kernel.Attn

end
-- ==== Proof.AttnBits.Ok0.lean ====
/- Every block the tables select lies inside its array.
   Follows the text the frame generator writes for a call whose tables are arguments; here the tables are the
   constants the host writes before the call. -/
module

public import proofs.«01_k».proof.Proof.AttnBits.Pins

@[expose] public section

set_option maxRecDepth 16384
-- ONE DECLARATION AT A TIME: a per-path run alone peaks near 3 GB, and a decided theorem's kernel evaluation is freed
-- only when the next declaration begins (side by side, every finished one is held to the module's end)
set_option Elab.async false

noncomputable section

namespace Cert.Kernel.Attn

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The certificate is written at the CLOSED instance `Bits` (the frame claim's): every pinned word a `BitVec`. -/
local notation "𝕄" => MT nD τ sig Unit (Elt Bits) ℕ (UR sig nD τ) ℕ

theorem ok_pfN_0_0_inb : ∀ i : grid0.Coords, ∀ a, (cc0_transform_0 k0_off1_inb numel1_S1 (pfN (⟨0, by omega⟩ : Fin 1)) i a + 1) * S256x2048.size a ≤ S16640x2048.size a := by decide +kernel
theorem ok_pfN_0_0 : (∀ i : grid0.Coords, ∃ h : (∀ a, (cc0_transform_0 k0_off1_inb numel1_S1 (pfN (⟨0, by omega⟩ : Fin 1)) i a + 1) * S256x2048.size a ≤ S16640x2048.size a), EltTy.bits .bf16 = 32 ∨ (Rect.block (s := S16640x2048) S256x2048.size (cc0_transform_0 k0_off1_inb numel1_S1 (pfN (⟨0, by omega⟩ : Fin 1)) i) h).WholeWords (EltTy.packing .bf16)) := fun i => ⟨ok_pfN_0_0_inb i, .inr (Affine.block_words_dvd (s := S16640x2048) (p := EltTy.packing .bf16) (by decide) (by decide))⟩
theorem ok_pfN_0_1_inb : ∀ i : grid0.Coords, ∀ a, (cc0_transform_1 k0_off1_inb numel1_S1 (pfN (⟨0, by omega⟩ : Fin 1)) i a + 1) * S640x2048.size a ≤ S16640x2048.size a := by decide +kernel
theorem ok_pfN_0_1 : (∀ i : grid0.Coords, ∃ h : (∀ a, (cc0_transform_1 k0_off1_inb numel1_S1 (pfN (⟨0, by omega⟩ : Fin 1)) i a + 1) * S640x2048.size a ≤ S16640x2048.size a), EltTy.bits .bf16 = 32 ∨ (Rect.block (s := S16640x2048) S640x2048.size (cc0_transform_1 k0_off1_inb numel1_S1 (pfN (⟨0, by omega⟩ : Fin 1)) i) h).WholeWords (EltTy.packing .bf16)) := fun i => ⟨ok_pfN_0_1_inb i, .inr (Affine.block_words_dvd (s := S16640x2048) (p := EltTy.packing .bf16) (by decide) (by decide))⟩
theorem ok_pfN_0_2_inb : ∀ i : grid0.Coords, ∀ a, (cc0_transform_2 k0_off1_inb numel1_S1 (pfN (⟨0, by omega⟩ : Fin 1)) i a + 1) * S2048x640.size a ≤ S2048x16640.size a := by decide +kernel
theorem ok_pfN_0_2 : (∀ i : grid0.Coords, ∃ h : (∀ a, (cc0_transform_2 k0_off1_inb numel1_S1 (pfN (⟨0, by omega⟩ : Fin 1)) i a + 1) * S2048x640.size a ≤ S2048x16640.size a), EltTy.bits .bf16 = 32 ∨ (Rect.block (s := S2048x16640) S2048x640.size (cc0_transform_2 k0_off1_inb numel1_S1 (pfN (⟨0, by omega⟩ : Fin 1)) i) h).WholeWords (EltTy.packing .bf16)) := fun i => ⟨ok_pfN_0_2_inb i, .inr (Affine.block_words_dvd (s := S2048x16640) (p := EltTy.packing .bf16) (by decide) (by decide))⟩
theorem ok_pfN_0_3_inb : ∀ i : grid0.Coords, ∀ a, (cc0_transform_3 k0_off1_inb numel1_S1 (pfN (⟨0, by omega⟩ : Fin 1)) i a + 1) * S640x256.size a ≤ S16640x16640.size a := by decide +kernel
theorem ok_pfN_0_3 : (∀ i : grid0.Coords, ∃ h : (∀ a, (cc0_transform_3 k0_off1_inb numel1_S1 (pfN (⟨0, by omega⟩ : Fin 1)) i a + 1) * S640x256.size a ≤ S16640x16640.size a), EltTy.bits .bf16 = 32 ∨ (Rect.block (s := S16640x16640) S640x256.size (cc0_transform_3 k0_off1_inb numel1_S1 (pfN (⟨0, by omega⟩ : Fin 1)) i) h).WholeWords (EltTy.packing .bf16)) := fun i => ⟨ok_pfN_0_3_inb i, .inr (Affine.block_words_dvd (s := S16640x16640) (p := EltTy.packing .bf16) (by decide) (by decide))⟩
theorem ok_pfN_0_4_inb : ∀ i : grid0.Coords, ∀ a, (cc0_transform_4 k0_off1_inb numel1_S1 (pfN (⟨0, by omega⟩ : Fin 1)) i a + 1) * S256x2048.size a ≤ S16640x2048.size a := by decide +kernel
theorem ok_pfN_0_4 : (∀ i : grid0.Coords, ∃ h : (∀ a, (cc0_transform_4 k0_off1_inb numel1_S1 (pfN (⟨0, by omega⟩ : Fin 1)) i a + 1) * S256x2048.size a ≤ S16640x2048.size a), EltTy.bits .bf16 = 32 ∨ (Rect.block (s := S16640x2048) S256x2048.size (cc0_transform_4 k0_off1_inb numel1_S1 (pfN (⟨0, by omega⟩ : Fin 1)) i) h).WholeWords (EltTy.packing .bf16)) := fun i => ⟨ok_pfN_0_4_inb i, .inr (Affine.block_words_dvd (s := S16640x2048) (p := EltTy.packing .bf16) (by decide) (by decide))⟩
theorem ok_pfN_0 : ok0 (F := Bits) (pfN (⟨0, by omega⟩ : Fin 1)) := ⟨ok_pfN_0_0, ok_pfN_0_1, ok_pfN_0_2, ok_pfN_0_3, ok_pfN_0_4⟩

end Cert.Kernel.Attn

end
-- ==== Proof.AttnBits.Cfg.lean ====
/- The pipeline at the two tables: its points, staging buffers, blocks and the decisions the body takes at a point.
   Follows the text the frame generator writes for a call whose tables are arguments; here the tables are the
   constants the host writes before the call. -/
module

public import proofs.«01_k».proof.Proof.AttnBits.Ok0

@[expose] public section

set_option maxRecDepth 16384
-- ONE DECLARATION AT A TIME: a per-path run alone peaks near 3 GB, and a decided theorem's kernel evaluation is freed
-- only when the next declaration begins (side by side, every finished one is held to the module's end)
set_option Elab.async false

noncomputable section

namespace Cert.Kernel.Attn

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The certificate is written at the CLOSED instance `Bits` (the frame claim's): every pinned word a `BitVec`. -/
local notation "𝕄" => MT nD τ sig Unit (Elt Bits) ℕ (UR sig nD τ) ℕ
variable (ch : Fin 1)

/-- The side condition holds of the pinned tables at EVERY member (the grid at them one the call takes, every block
    inside its array): decided member by member (Flash/OkJ.lean), matched here. -/
theorem ok_pfN : ∀ ch : Fin 1, ok0 (F := Bits) (pfN ch) := fun ch => match ch with
  | ⟨0, _⟩ => ok_pfN_0
  | ⟨_ + 1, h⟩ => absurd h (by omega)

/-- The admissible contents, the pipeline at them (`cfgA ch`: member `ch`'s grid, 884 points), as @main's one. -/
def adm : (pcfg0 (F := Bits)).Adm := ⟨pfN ch, ok_pfN ch⟩
abbrev cfgA : Pipeline.Cfg sig Λ₀ := cfg0 (F := Bits) (adm ch)
abbrev pcs : Fin 1 → Pipeline.Cfg sig Λ₀ := Pipeline.pin (pcfgs (F := Bits)) fun _ => adm ch

variable (m : (ℓ : Loc nD τ sig) → Buf (Elt Bits) ℓ) (ρ : Dev nD → PrngReg)

/-! ## A point's coordinates, words and staging memrefs -/

/-- Point `t`'s coordinates. -/
abbrev crd (t : Fin (cfgA ch).N) : (cfgA ch).grid.Coords := (cfgA ch).grid.coords t

/-- Each window's current staging memref at point `t`, spelled as the pipeline passes it, and its wholeness. -/
abbrev ms0_0 (t : Fin (cfgA ch).N) : Memref sig .tc .vmem S256x2048 .bf16 := spec0_0.stage ((cfgA ch).slots t (0 : Fin 5))
abbrev hs0_0 (t : Fin (cfgA ch).N) : (ms0_0 ch t).IsWhole := hstage0_0 (((cfgA ch).slots t (0 : Fin 5)).cast nbuf0_0)
abbrev ms0_1 (t : Fin (cfgA ch).N) : Memref sig .tc .vmem S640x2048 .bf16 := spec0_1.stage ((cfgA ch).slots t (1 : Fin 5))
abbrev hs0_1 (t : Fin (cfgA ch).N) : (ms0_1 ch t).IsWhole := hstage0_1 (((cfgA ch).slots t (1 : Fin 5)).cast nbuf0_1)
abbrev ms0_2 (t : Fin (cfgA ch).N) : Memref sig .tc .vmem S2048x640 .bf16 := spec0_2.stage ((cfgA ch).slots t (2 : Fin 5))
abbrev hs0_2 (t : Fin (cfgA ch).N) : (ms0_2 ch t).IsWhole := hstage0_2 (((cfgA ch).slots t (2 : Fin 5)).cast nbuf0_2)
abbrev ms0_3 (t : Fin (cfgA ch).N) : Memref sig .tc .vmem S640x256 .bf16 := spec0_3.stage ((cfgA ch).slots t (3 : Fin 5))
abbrev hs0_3 (t : Fin (cfgA ch).N) : (ms0_3 ch t).IsWhole := hstage0_3 (((cfgA ch).slots t (3 : Fin 5)).cast nbuf0_3)
abbrev ms0_4 (t : Fin (cfgA ch).N) : Memref sig .tc .vmem S256x2048 .bf16 := spec0_4.stage ((cfgA ch).slots t (4 : Fin 5))
abbrev hs0_4 (t : Fin (cfgA ch).N) : (ms0_4 ch t).IsWhole := hstage0_4 (((cfgA ch).slots t (4 : Fin 5)).cast nbuf0_4)

/-! ## The windows' blocks -/

/-- Window `w`'s block at point `t`, read off its array at launch. -/
def iblk (c : Dev nD) (w : Fin (cfgA ch).W) (t : Fin (cfgA ch).N) : (((cfgA ch).win w).xblock (crd ch t)).Idx → Elt Bits ((cfgA ch).win w).elt :=
  (((cfgA ch).win w).blk t).view.read (Elt Bits) ((s₀ m ρ).mem (((cfgA ch).win w).arr.view.loc (c : Thread nD τ)))

/-! ## The control's decisions at a point, at the pinned words (what tells the paths apart) -/

abbrev P0_0 (t : Fin (cfgA ch).N) : Prop := (Scalar.cmpi .ne (Scalar.extui (Scalar.cmpi .eq (View.readAt (Elt Bits) (tbM0_1).view (Rect.unit (s := S884) (k0_off1 (crd ch t)) S1.size (k0_off1_inb (crd ch t))).toLoadRect (pinT_1 ch) (Shape.Idx.first (numel1_S1.symm ▸ Nat.one_pos))) 0#32)) 0#32) = 1#1
abbrev P0_1 (t : Fin (cfgA ch).N) : Prop := k0_cond2 (View.readAt (Elt Bits) (tbM0_0).view (Rect.unit (s := S884) (k0_off1 (crd ch t)) S1.size (k0_off1_inb (crd ch t))).toLoadRect (pinT_0 ch) (Shape.Idx.first (numel1_S1.symm ▸ Nat.one_pos))) (View.readAt (Elt Bits) (tbM0_1).view (Rect.unit (s := S884) (k0_off1 (crd ch t)) S1.size (k0_off1_inb (crd ch t))).toLoadRect (pinT_1 ch) (Shape.Idx.first (numel1_S1.symm ▸ Nat.one_pos))) = 1#1

/-- Whether scratch 0 (`cc0_scratch0`) holds nothing a point has determined, before position `n`: until a path that stores it
    whole first (A, B) has run. -/
def sfresh0_0 : ℕ → Bool
  | 0 => true
  | n + 1 => if h : n < (cfgA ch).N then (if P0_0 ch ⟨n, h⟩ then (if P0_1 ch ⟨n, h⟩ then false else false) else (if P0_1 ch ⟨n, h⟩ then sfresh0_0 n else sfresh0_0 n)) else true

/-- Its CLOSED FORM: fresh before position `n` iff no point below `n` covers it — `n` at most member `ch`'s first covering
    point (read off the walk; the recursion's step is decided against it point by point, the recursion never run). -/
def sfirst0_0 (ch : Fin 1) : ℕ := 0
def sfrTab0_0 : ℕ → Bool := fun n => decide (n ≤ sfirst0_0 ch)

/-- Whether scratch 1 (`cc0_scratch1`) holds nothing a point has determined, before position `n`: until a path that stores it
    whole first (A, B) has run. -/
def sfresh0_1 : ℕ → Bool
  | 0 => true
  | n + 1 => if h : n < (cfgA ch).N then (if P0_0 ch ⟨n, h⟩ then (if P0_1 ch ⟨n, h⟩ then false else false) else (if P0_1 ch ⟨n, h⟩ then sfresh0_1 n else sfresh0_1 n)) else true

/-- Its CLOSED FORM: fresh before position `n` iff no point below `n` covers it — `n` at most member `ch`'s first covering
    point (read off the walk; the recursion's step is decided against it point by point, the recursion never run). -/
def sfirst0_1 (ch : Fin 1) : ℕ := 0
def sfrTab0_1 : ℕ → Bool := fun n => decide (n ≤ sfirst0_1 ch)

/-- Whether scratch 2 (`cc0_scratch2`) holds nothing a point has determined, before position `n`: until a path that stores it
    whole first (A, B) has run. -/
def sfresh0_2 : ℕ → Bool
  | 0 => true
  | n + 1 => if h : n < (cfgA ch).N then (if P0_0 ch ⟨n, h⟩ then (if P0_1 ch ⟨n, h⟩ then false else false) else (if P0_1 ch ⟨n, h⟩ then sfresh0_2 n else sfresh0_2 n)) else true

/-- Its CLOSED FORM: fresh before position `n` iff no point below `n` covers it — `n` at most member `ch`'s first covering
    point (read off the walk; the recursion's step is decided against it point by point, the recursion never run). -/
def sfirst0_2 (ch : Fin 1) : ℕ := 0
def sfrTab0_2 : ℕ → Bool := fun n => decide (n ≤ sfirst0_2 ch)

/-- Whether scratch 3 (`cc0_scratch3`) holds nothing a point has determined, before position `n`: until a path that stores it
    whole first (A, B, C, D) has run. -/
def sfresh0_3 : ℕ → Bool
  | 0 => true
  | n + 1 => if h : n < (cfgA ch).N then (if P0_0 ch ⟨n, h⟩ then (if P0_1 ch ⟨n, h⟩ then false else false) else (if P0_1 ch ⟨n, h⟩ then false else false)) else true

/-- Its CLOSED FORM: fresh before position `n` iff no point below `n` covers it — `n` at most member `ch`'s first covering
    point (read off the walk; the recursion's step is decided against it point by point, the recursion never run). -/
def sfirst0_3 (ch : Fin 1) : ℕ := 0
def sfrTab0_3 : ℕ → Bool := fun n => decide (n ≤ sfirst0_3 ch)

/-- Whether scratch 4 (`cc0_scratch4`) holds nothing a point has determined, before position `n`: until a path that stores it
    whole first (A, B, C, D) has run. -/
def sfresh0_4 : ℕ → Bool
  | 0 => true
  | n + 1 => if h : n < (cfgA ch).N then (if P0_0 ch ⟨n, h⟩ then (if P0_1 ch ⟨n, h⟩ then false else false) else (if P0_1 ch ⟨n, h⟩ then false else false)) else true

/-- Its CLOSED FORM: fresh before position `n` iff no point below `n` covers it — `n` at most member `ch`'s first covering
    point (read off the walk; the recursion's step is decided against it point by point, the recursion never run). -/
def sfirst0_4 (ch : Fin 1) : ℕ := 0
def sfrTab0_4 : ℕ → Bool := fun n => decide (n ≤ sfirst0_4 ch)

/-- Whether scratch 5 (`cc0_scratch5`) holds nothing a point has determined, before position `n`: until a path that stores it
    whole first (A, B, C, D) has run. -/
def sfresh0_5 : ℕ → Bool
  | 0 => true
  | n + 1 => if h : n < (cfgA ch).N then (if P0_0 ch ⟨n, h⟩ then (if P0_1 ch ⟨n, h⟩ then false else false) else (if P0_1 ch ⟨n, h⟩ then false else false)) else true

/-- Its CLOSED FORM: fresh before position `n` iff no point below `n` covers it — `n` at most member `ch`'s first covering
    point (read off the walk; the recursion's step is decided against it point by point, the recursion never run). -/
def sfirst0_5 (ch : Fin 1) : ℕ := 0
def sfrTab0_5 : ℕ → Bool := fun n => decide (n ≤ sfirst0_5 ch)

set_option backward.proofsInPublic true in
/-- Whether output 4 holds junk BEFORE each position `1 ‥ N` of member `ch`'s grid — nothing stored into it since
    its last write-back —: the classifier's table (written back at the point before, or idle there and junk
    before it) as a bitmask, bit `n` for position `n + 1`, which `frTab0_4_step` checks against the pipeline's
    own recursion point by point (a bit test is one kernel step; a list walk or the recursion, hundreds). -/
def frMask0_4 : Fin 1 → ℕ
  | ⟨0, _⟩ => 0xfffffffffffffffffffffffffffffffffffffffffffffffffffffffffffffffffffffffffffffffffffffffffffffffffffffffffffffffffffffffffffffffffffffffffffffffffffffffffffffffffffffffffffffffffffffffffffffffffffffffffffffffffffffffffffff
  | ⟨_ + 1, h⟩ => absurd h (by omega)
/-- `(cfgA ch).fresh 4` TABULATED (TableIdle.lean `Cfg.fresh_tab`): true before the first point, then the table. -/
def frTab0_4 : ℕ → Bool
  | 0 => true
  | n + 1 => (frMask0_4 ch).testBit n

end Cert.Kernel.Attn

end
-- ==== Proof.AttnBits.Facts.lean ====
/- The finite facts about a grid point, gathered into one decidable proposition.
   Follows the text the frame generator writes for a call whose tables are arguments; here the tables are the
   constants the host writes before the call. -/
module

public import proofs.«01_k».proof.Proof.AttnBits.Cfg

@[expose] public section

set_option maxRecDepth 16384
-- ONE DECLARATION AT A TIME: a per-path run alone peaks near 3 GB, and a decided theorem's kernel evaluation is freed
-- only when the next declaration begins (side by side, every finished one is held to the module's end)
set_option Elab.async false

noncomputable section

namespace Cert.Kernel.Attn

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The certificate is written at the CLOSED instance `Bits` (the frame claim's): every pinned word a `BitVec`. -/
local notation "𝕄" => MT nD τ sig Unit (Elt Bits) ℕ (UR sig nD τ) ℕ
variable (ch : Fin 1)
variable (m : (ℓ : Loc nD τ sig) → Buf (Elt Bits) ℓ) (ρ : Dev nD → PrngReg)

/-! ## Every per-point fact as ONE proposition, decided member by member; the named facts its projections -/

/-- EVERY FACT THE CERTIFICATE DECIDES at point `t` of member `ch` past the checks — the freshness tables' steps, each
    path's hypotheses and schedule at its points —, as one proposition: ONE kernel evaluation per member
    decides it over the member's points, sharing each point's words, table reads and block indices between the
    facts (Lib/Decide.lean halves the range; a declaration per member bounds the kernel's evaluation cache). -/
abbrev FactsAt (ch : Fin 1) (t : Fin (cfgA ch).N) : Prop :=
  -- sfrTab0_0_step, sfrTab0_1_step, sfrTab0_2_step, sfrTab0_3_step, sfrTab0_4_step, sfrTab0_5_step, frTab0_4_step, hyps0_A, sched0_A, hyps0_B, sched0_B, hyps0_C, sched0_C, hyps0_D, sched0_D
  (sfrTab0_0 ch (t.val + 1) = (if P0_0 ch t then (if P0_1 ch t then false else false) else (if P0_1 ch t then sfrTab0_0 ch t.val else sfrTab0_0 ch t.val)))
  ∧ (sfrTab0_1 ch (t.val + 1) = (if P0_0 ch t then (if P0_1 ch t then false else false) else (if P0_1 ch t then sfrTab0_1 ch t.val else sfrTab0_1 ch t.val)))
  ∧ (sfrTab0_2 ch (t.val + 1) = (if P0_0 ch t then (if P0_1 ch t then false else false) else (if P0_1 ch t then sfrTab0_2 ch t.val else sfrTab0_2 ch t.val)))
  ∧ (sfrTab0_3 ch (t.val + 1) = (if P0_0 ch t then (if P0_1 ch t then false else false) else (if P0_1 ch t then false else false)))
  ∧ (sfrTab0_4 ch (t.val + 1) = (if P0_0 ch t then (if P0_1 ch t then false else false) else (if P0_1 ch t then false else false)))
  ∧ (sfrTab0_5 ch (t.val + 1) = (if P0_0 ch t then (if P0_1 ch t then false else false) else (if P0_1 ch t then false else false)))
  ∧ (frTab0_4 ch (t.val + 1) = (((cfgA ch).win (4 : Fin 5)).flush t || ((cfgA ch).idle (4 : Fin 5) ((cfgA ch).grid.coords t) && frTab0_4 ch t.val)))
  ∧ (P0_0 ch t → P0_1 ch t → ((Scalar.cmpi .ne (Scalar.extui (Scalar.cmpi .eq (View.readAt (Elt Bits) (tbM0_1).view (Rect.unit (s := S884) (k0_off1 (crd ch t)) S1.size (k0_off1_inb (crd ch t))).toLoadRect (pinT_1 ch) (Shape.Idx.first (numel1_S1.symm ▸ Nat.one_pos))) 0#32)) 0#32) = 1#1) ∧ ((k0_cond2 (View.readAt (Elt Bits) (tbM0_0).view (Rect.unit (s := S884) (k0_off1 (crd ch t)) S1.size (k0_off1_inb (crd ch t))).toLoadRect (pinT_0 ch) (Shape.Idx.first (numel1_S1.symm ▸ Nat.one_pos))) (View.readAt (Elt Bits) (tbM0_1).view (Rect.unit (s := S884) (k0_off1 (crd ch t)) S1.size (k0_off1_inb (crd ch t))).toLoadRect (pinT_1 ch) (Shape.Idx.first (numel1_S1.symm ▸ Nat.one_pos))) = 1#1) ∧ (True)))
  ∧ (P0_0 ch t → P0_1 ch t → (cfgA ch).idle (4 : Fin 5) ((cfgA ch).grid.coords t) = false ∧ ((cfgA ch).win (4 : Fin 5)).flush t = true ∧ frTab0_4 ch t.val = true ∧ sfrTab0_0 ch (t.val + 1) = false ∧ sfrTab0_1 ch (t.val + 1) = false ∧ sfrTab0_2 ch (t.val + 1) = false ∧ sfrTab0_3 ch (t.val + 1) = false ∧ sfrTab0_4 ch (t.val + 1) = false ∧ sfrTab0_5 ch (t.val + 1) = false)
  ∧ (P0_0 ch t → ¬P0_1 ch t → ((Scalar.cmpi .ne (Scalar.extui (Scalar.cmpi .eq (View.readAt (Elt Bits) (tbM0_1).view (Rect.unit (s := S884) (k0_off1 (crd ch t)) S1.size (k0_off1_inb (crd ch t))).toLoadRect (pinT_1 ch) (Shape.Idx.first (numel1_S1.symm ▸ Nat.one_pos))) 0#32)) 0#32) = 1#1) ∧ ((¬(k0_cond2 (View.readAt (Elt Bits) (tbM0_0).view (Rect.unit (s := S884) (k0_off1 (crd ch t)) S1.size (k0_off1_inb (crd ch t))).toLoadRect (pinT_0 ch) (Shape.Idx.first (numel1_S1.symm ▸ Nat.one_pos))) (View.readAt (Elt Bits) (tbM0_1).view (Rect.unit (s := S884) (k0_off1 (crd ch t)) S1.size (k0_off1_inb (crd ch t))).toLoadRect (pinT_1 ch) (Shape.Idx.first (numel1_S1.symm ▸ Nat.one_pos))) = 1#1)) ∧ (True)))
  ∧ (P0_0 ch t → ¬P0_1 ch t → (cfgA ch).idle (4 : Fin 5) ((cfgA ch).grid.coords t) = true ∧ ((cfgA ch).win (4 : Fin 5)).flush t = false ∧ frTab0_4 ch t.val = true ∧ sfrTab0_0 ch t.val = false ∧ sfrTab0_0 ch (t.val + 1) = false ∧ sfrTab0_1 ch t.val = false ∧ sfrTab0_1 ch (t.val + 1) = false ∧ sfrTab0_2 ch t.val = false ∧ sfrTab0_2 ch (t.val + 1) = false ∧ sfrTab0_3 ch t.val = false ∧ sfrTab0_3 ch (t.val + 1) = false ∧ sfrTab0_4 ch t.val = false ∧ sfrTab0_4 ch (t.val + 1) = false ∧ sfrTab0_5 ch t.val = false ∧ sfrTab0_5 ch (t.val + 1) = false)
  ∧ (¬P0_0 ch t → P0_1 ch t → (¬((Scalar.cmpi .ne (Scalar.extui (Scalar.cmpi .eq (View.readAt (Elt Bits) (tbM0_1).view (Rect.unit (s := S884) (k0_off1 (crd ch t)) S1.size (k0_off1_inb (crd ch t))).toLoadRect (pinT_1 ch) (Shape.Idx.first (numel1_S1.symm ▸ Nat.one_pos))) 0#32)) 0#32) = 1#1)) ∧ ((k0_cond2 (View.readAt (Elt Bits) (tbM0_0).view (Rect.unit (s := S884) (k0_off1 (crd ch t)) S1.size (k0_off1_inb (crd ch t))).toLoadRect (pinT_0 ch) (Shape.Idx.first (numel1_S1.symm ▸ Nat.one_pos))) (View.readAt (Elt Bits) (tbM0_1).view (Rect.unit (s := S884) (k0_off1 (crd ch t)) S1.size (k0_off1_inb (crd ch t))).toLoadRect (pinT_1 ch) (Shape.Idx.first (numel1_S1.symm ▸ Nat.one_pos))) = 1#1) ∧ (True)))
  ∧ (¬P0_0 ch t → P0_1 ch t → (cfgA ch).idle (4 : Fin 5) ((cfgA ch).grid.coords t) = false ∧ ((cfgA ch).win (4 : Fin 5)).flush t = true ∧ frTab0_4 ch t.val = true ∧ sfrTab0_0 ch t.val = false ∧ sfrTab0_0 ch (t.val + 1) = false ∧ sfrTab0_1 ch t.val = false ∧ sfrTab0_1 ch (t.val + 1) = false ∧ sfrTab0_2 ch t.val = false ∧ sfrTab0_2 ch (t.val + 1) = false ∧ sfrTab0_3 ch t.val = false ∧ sfrTab0_3 ch (t.val + 1) = false ∧ sfrTab0_4 ch t.val = false ∧ sfrTab0_4 ch (t.val + 1) = false ∧ sfrTab0_5 ch t.val = false ∧ sfrTab0_5 ch (t.val + 1) = false)
  ∧ (¬P0_0 ch t → ¬P0_1 ch t → (¬((Scalar.cmpi .ne (Scalar.extui (Scalar.cmpi .eq (View.readAt (Elt Bits) (tbM0_1).view (Rect.unit (s := S884) (k0_off1 (crd ch t)) S1.size (k0_off1_inb (crd ch t))).toLoadRect (pinT_1 ch) (Shape.Idx.first (numel1_S1.symm ▸ Nat.one_pos))) 0#32)) 0#32) = 1#1)) ∧ ((¬(k0_cond2 (View.readAt (Elt Bits) (tbM0_0).view (Rect.unit (s := S884) (k0_off1 (crd ch t)) S1.size (k0_off1_inb (crd ch t))).toLoadRect (pinT_0 ch) (Shape.Idx.first (numel1_S1.symm ▸ Nat.one_pos))) (View.readAt (Elt Bits) (tbM0_1).view (Rect.unit (s := S884) (k0_off1 (crd ch t)) S1.size (k0_off1_inb (crd ch t))).toLoadRect (pinT_1 ch) (Shape.Idx.first (numel1_S1.symm ▸ Nat.one_pos))) = 1#1)) ∧ (True)))
  ∧ (¬P0_0 ch t → ¬P0_1 ch t → (cfgA ch).idle (4 : Fin 5) ((cfgA ch).grid.coords t) = true ∧ ((cfgA ch).win (4 : Fin 5)).flush t = false ∧ frTab0_4 ch t.val = true ∧ sfrTab0_0 ch t.val = false ∧ sfrTab0_0 ch (t.val + 1) = false ∧ sfrTab0_1 ch t.val = false ∧ sfrTab0_1 ch (t.val + 1) = false ∧ sfrTab0_2 ch t.val = false ∧ sfrTab0_2 ch (t.val + 1) = false ∧ sfrTab0_3 ch t.val = false ∧ sfrTab0_3 ch (t.val + 1) = false ∧ sfrTab0_4 ch t.val = false ∧ sfrTab0_4 ch (t.val + 1) = false ∧ sfrTab0_5 ch t.val = false ∧ sfrTab0_5 ch (t.val + 1) = false)

set_option synthInstance.maxSize 65536 in
instance FactsAt.dec (ch : Fin 1) (t : Fin (cfgA ch).N) : Decidable (FactsAt ch t) :=
  @instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (inferInstance))))))))))))))

end Cert.Kernel.Attn

end
-- ==== Proof.AttnBits.Launch.lean ====
/- What the buffers hold after each grid point, the body at every point, and the launch of the whole call.
   Follows the text the frame generator writes for a call whose tables are arguments; here the tables are the
   constants the host writes before the call. -/
module

public import proofs.«01_k».proof.Proof.AttnBits.Runs
public import proofs.«01_k».proof.Proof.AttnBits.Facts0
public import proofs.«01_k».proof.Proof.AttnBits.Lits
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.BitExact
public import Idealize.ShloMosaic.Adequacy
public import Idealize.ShloMosaic.Init
public import Idealize.ShloMosaic.Lib.Pipeline.Frame

@[expose] public section

set_option maxRecDepth 16384
-- ONE DECLARATION AT A TIME: a per-path run alone peaks near 3 GB, and a decided theorem's kernel evaluation is freed
-- only when the next declaration begins (side by side, every finished one is held to the module's end)
set_option Elab.async false

noncomputable section

namespace Cert.Kernel.Attn

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The certificate is written at the CLOSED instance `Bits` (the frame claim's): every pinned word a `BitVec`. -/
local notation "𝕄" => MT nD τ sig Unit (Elt Bits) ℕ (UR sig nD τ) ℕ

/-- The proof's resource algebra: the rounds library's, for the pipeline's staging cells, embedded whole. -/
abbrev EP : Emb (UR sig nD τ) 𝕄 := emb₁

variable (ch : Fin 1)
variable (m : (ℓ : Loc nD τ sig) → Buf (Elt Bits) ℓ) (ρ : Dev nD → PrngReg)

/-- The facts at every point of every member (decided member by member in slices of points, Flash/FactsJ.lean). -/
theorem allFacts : ∀ (ch : Fin 1) (t : Fin (cfgA ch).N), FactsAt ch t := fun ch => match ch with
  | ⟨0, _⟩ => allFacts_0
  | ⟨_ + 1, h⟩ => absurd h (by omega)

/-! ## The named facts — the freshness tables' steps, each path's hypotheses and schedule —: its projections -/

theorem sfrTab0_0_step : ∀ (ch : Fin 1) (t : Fin (cfgA ch).N), sfrTab0_0 ch (t.val + 1) = (if P0_0 ch t then (if P0_1 ch t then false else false) else (if P0_1 ch t then sfrTab0_0 ch t.val else sfrTab0_0 ch t.val)) := fun ch t => (allFacts ch t).1
theorem sfresh0_0_eq : ∀ n, n ≤ (cfgA ch).N → sfresh0_0 ch n = sfrTab0_0 ch n
  | 0, _ => by simp only [sfresh0_0, sfrTab0_0, Nat.zero_le, decide_true]
  | n + 1, h => by simp only [sfresh0_0, dif_pos (show n < (cfgA ch).N from h), sfresh0_0_eq n (Nat.le_of_lt h), sfrTab0_0_step ch ⟨n, h⟩]
theorem sfreshF0_0 (t : Fin (cfgA ch).N) : sfresh0_0 ch t.val = sfrTab0_0 ch t.val := sfresh0_0_eq ch t.val (Nat.le_of_lt t.isLt)
theorem sfreshS0_0 (t : Fin (cfgA ch).N) : sfresh0_0 ch (t.val + 1) = sfrTab0_0 ch (t.val + 1) := sfresh0_0_eq ch (t.val + 1) t.isLt

theorem sfrTab0_1_step : ∀ (ch : Fin 1) (t : Fin (cfgA ch).N), sfrTab0_1 ch (t.val + 1) = (if P0_0 ch t then (if P0_1 ch t then false else false) else (if P0_1 ch t then sfrTab0_1 ch t.val else sfrTab0_1 ch t.val)) := fun ch t => (allFacts ch t).2.1
theorem sfresh0_1_eq : ∀ n, n ≤ (cfgA ch).N → sfresh0_1 ch n = sfrTab0_1 ch n
  | 0, _ => by simp only [sfresh0_1, sfrTab0_1, Nat.zero_le, decide_true]
  | n + 1, h => by simp only [sfresh0_1, dif_pos (show n < (cfgA ch).N from h), sfresh0_1_eq n (Nat.le_of_lt h), sfrTab0_1_step ch ⟨n, h⟩]
theorem sfreshF0_1 (t : Fin (cfgA ch).N) : sfresh0_1 ch t.val = sfrTab0_1 ch t.val := sfresh0_1_eq ch t.val (Nat.le_of_lt t.isLt)
theorem sfreshS0_1 (t : Fin (cfgA ch).N) : sfresh0_1 ch (t.val + 1) = sfrTab0_1 ch (t.val + 1) := sfresh0_1_eq ch (t.val + 1) t.isLt

theorem sfrTab0_2_step : ∀ (ch : Fin 1) (t : Fin (cfgA ch).N), sfrTab0_2 ch (t.val + 1) = (if P0_0 ch t then (if P0_1 ch t then false else false) else (if P0_1 ch t then sfrTab0_2 ch t.val else sfrTab0_2 ch t.val)) := fun ch t => (allFacts ch t).2.2.1
theorem sfresh0_2_eq : ∀ n, n ≤ (cfgA ch).N → sfresh0_2 ch n = sfrTab0_2 ch n
  | 0, _ => by simp only [sfresh0_2, sfrTab0_2, Nat.zero_le, decide_true]
  | n + 1, h => by simp only [sfresh0_2, dif_pos (show n < (cfgA ch).N from h), sfresh0_2_eq n (Nat.le_of_lt h), sfrTab0_2_step ch ⟨n, h⟩]
theorem sfreshF0_2 (t : Fin (cfgA ch).N) : sfresh0_2 ch t.val = sfrTab0_2 ch t.val := sfresh0_2_eq ch t.val (Nat.le_of_lt t.isLt)
theorem sfreshS0_2 (t : Fin (cfgA ch).N) : sfresh0_2 ch (t.val + 1) = sfrTab0_2 ch (t.val + 1) := sfresh0_2_eq ch (t.val + 1) t.isLt

theorem sfrTab0_3_step : ∀ (ch : Fin 1) (t : Fin (cfgA ch).N), sfrTab0_3 ch (t.val + 1) = (if P0_0 ch t then (if P0_1 ch t then false else false) else (if P0_1 ch t then false else false)) := fun ch t => (allFacts ch t).2.2.2.1
theorem sfresh0_3_eq : ∀ n, n ≤ (cfgA ch).N → sfresh0_3 ch n = sfrTab0_3 ch n
  | 0, _ => by simp only [sfresh0_3, sfrTab0_3, Nat.zero_le, decide_true]
  | n + 1, h => by simp only [sfresh0_3, dif_pos (show n < (cfgA ch).N from h), sfresh0_3_eq n (Nat.le_of_lt h), sfrTab0_3_step ch ⟨n, h⟩]
theorem sfreshF0_3 (t : Fin (cfgA ch).N) : sfresh0_3 ch t.val = sfrTab0_3 ch t.val := sfresh0_3_eq ch t.val (Nat.le_of_lt t.isLt)
theorem sfreshS0_3 (t : Fin (cfgA ch).N) : sfresh0_3 ch (t.val + 1) = sfrTab0_3 ch (t.val + 1) := sfresh0_3_eq ch (t.val + 1) t.isLt

theorem sfrTab0_4_step : ∀ (ch : Fin 1) (t : Fin (cfgA ch).N), sfrTab0_4 ch (t.val + 1) = (if P0_0 ch t then (if P0_1 ch t then false else false) else (if P0_1 ch t then false else false)) := fun ch t => (allFacts ch t).2.2.2.2.1
theorem sfresh0_4_eq : ∀ n, n ≤ (cfgA ch).N → sfresh0_4 ch n = sfrTab0_4 ch n
  | 0, _ => by simp only [sfresh0_4, sfrTab0_4, Nat.zero_le, decide_true]
  | n + 1, h => by simp only [sfresh0_4, dif_pos (show n < (cfgA ch).N from h), sfresh0_4_eq n (Nat.le_of_lt h), sfrTab0_4_step ch ⟨n, h⟩]
theorem sfreshF0_4 (t : Fin (cfgA ch).N) : sfresh0_4 ch t.val = sfrTab0_4 ch t.val := sfresh0_4_eq ch t.val (Nat.le_of_lt t.isLt)
theorem sfreshS0_4 (t : Fin (cfgA ch).N) : sfresh0_4 ch (t.val + 1) = sfrTab0_4 ch (t.val + 1) := sfresh0_4_eq ch (t.val + 1) t.isLt

theorem sfrTab0_5_step : ∀ (ch : Fin 1) (t : Fin (cfgA ch).N), sfrTab0_5 ch (t.val + 1) = (if P0_0 ch t then (if P0_1 ch t then false else false) else (if P0_1 ch t then false else false)) := fun ch t => (allFacts ch t).2.2.2.2.2.1
theorem sfresh0_5_eq : ∀ n, n ≤ (cfgA ch).N → sfresh0_5 ch n = sfrTab0_5 ch n
  | 0, _ => by simp only [sfresh0_5, sfrTab0_5, Nat.zero_le, decide_true]
  | n + 1, h => by simp only [sfresh0_5, dif_pos (show n < (cfgA ch).N from h), sfresh0_5_eq n (Nat.le_of_lt h), sfrTab0_5_step ch ⟨n, h⟩]
theorem sfreshF0_5 (t : Fin (cfgA ch).N) : sfresh0_5 ch t.val = sfrTab0_5 ch t.val := sfresh0_5_eq ch t.val (Nat.le_of_lt t.isLt)
theorem sfreshS0_5 (t : Fin (cfgA ch).N) : sfresh0_5 ch (t.val + 1) = sfrTab0_5 ch (t.val + 1) := sfresh0_5_eq ch (t.val + 1) t.isLt

theorem frTab0_4_step : ∀ (ch : Fin 1) (t : Fin (cfgA ch).N),
    frTab0_4 ch (t.val + 1) = (((cfgA ch).win (4 : Fin 5)).flush t || ((cfgA ch).idle (4 : Fin 5) ((cfgA ch).grid.coords t) && frTab0_4 ch t.val)) := fun ch t => (allFacts ch t).2.2.2.2.2.2.1
theorem freshF0_4 (t : Fin (cfgA ch).N) : (cfgA ch).fresh (4 : Fin 5) t.val = frTab0_4 ch t.val :=
  Pipeline.Cfg.fresh_tab (cfgA ch) (4 : Fin 5) (frTab0_4 ch) rfl (frTab0_4_step ch) t.val (Nat.le_of_lt t.isLt)

/-- At a point of path A, the path's hypotheses hold of the words the body reads there (the pinned tables read,
    a pinned window's word AS the word `pinBlk ch t (r.idx x)`; the checks among them cited from `ChecksAt`). -/
theorem hyps0_A : ∀ (ch : Fin 1) (t : Fin (cfgA ch).N), P0_0 ch t → P0_1 ch t →
    ((Scalar.cmpi .ne (Scalar.extui (Scalar.cmpi .eq (View.readAt (Elt Bits) (tbM0_1).view (Rect.unit (s := S884) (k0_off1 (crd ch t)) S1.size (k0_off1_inb (crd ch t))).toLoadRect (pinT_1 ch) (Shape.Idx.first (numel1_S1.symm ▸ Nat.one_pos))) 0#32)) 0#32) = 1#1) ∧ ((k0_cond2 (View.readAt (Elt Bits) (tbM0_0).view (Rect.unit (s := S884) (k0_off1 (crd ch t)) S1.size (k0_off1_inb (crd ch t))).toLoadRect (pinT_0 ch) (Shape.Idx.first (numel1_S1.symm ▸ Nat.one_pos))) (View.readAt (Elt Bits) (tbM0_1).view (Rect.unit (s := S884) (k0_off1 (crd ch t)) S1.size (k0_off1_inb (crd ch t))).toLoadRect (pinT_1 ch) (Shape.Idx.first (numel1_S1.symm ▸ Nat.one_pos))) = 1#1) ∧ (True)) := fun ch t => (allFacts ch t).2.2.2.2.2.2.2.1

theorem hypsR0_A : ∀ (ch : Fin 1) (t : Fin (cfgA ch).N), P0_0 ch t → P0_1 ch t →
    ((Scalar.cmpi .ne (Scalar.extui (Scalar.cmpi .eq (View.readAt (Elt Bits) (tbM0_1).view (Rect.unit (s := S884) (k0_off1 (crd ch t)) S1.size (k0_off1_inb (crd ch t))).toLoadRect (pinT_1 ch) (Shape.Idx.first (numel1_S1.symm ▸ Nat.one_pos))) 0#32)) 0#32) = 1#1) ∧ ((k0_cond2 (View.readAt (Elt Bits) (tbM0_0).view (Rect.unit (s := S884) (k0_off1 (crd ch t)) S1.size (k0_off1_inb (crd ch t))).toLoadRect (pinT_0 ch) (Shape.Idx.first (numel1_S1.symm ▸ Nat.one_pos))) (View.readAt (Elt Bits) (tbM0_1).view (Rect.unit (s := S884) (k0_off1 (crd ch t)) S1.size (k0_off1_inb (crd ch t))).toLoadRect (pinT_1 ch) (Shape.Idx.first (numel1_S1.symm ▸ Nat.one_pos))) = 1#1) ∧ (True)) := hyps0_A

/-- At a point of path A: the idle table, the write-backs and which buffers hold junk (decided over the
    freshness tables `frTab`/`sfrTab`, restated over `Cfg.fresh`/`sfresh` by their agreement). -/
theorem sched0_A : ∀ (ch : Fin 1) (t : Fin (cfgA ch).N), P0_0 ch t → P0_1 ch t →
    (cfgA ch).idle (4 : Fin 5) ((cfgA ch).grid.coords t) = false ∧ ((cfgA ch).win (4 : Fin 5)).flush t = true ∧ (cfgA ch).fresh (4 : Fin 5) t.val = true ∧ sfresh0_0 ch (t.val + 1) = false ∧ sfresh0_1 ch (t.val + 1) = false ∧ sfresh0_2 ch (t.val + 1) = false ∧ sfresh0_3 ch (t.val + 1) = false ∧ sfresh0_4 ch (t.val + 1) = false ∧ sfresh0_5 ch (t.val + 1) = false := by
  intro ch t; rw [freshF0_4 ch t, sfreshS0_0 ch t, sfreshS0_1 ch t, sfreshS0_2 ch t, sfreshS0_3 ch t, sfreshS0_4 ch t, sfreshS0_5 ch t]; exact (fun ch t => (allFacts ch t).2.2.2.2.2.2.2.2.1) ch t

/-- At a point of path B, the path's hypotheses hold of the words the body reads there (the pinned tables read,
    a pinned window's word AS the word `pinBlk ch t (r.idx x)`; the checks among them cited from `ChecksAt`). -/
theorem hyps0_B : ∀ (ch : Fin 1) (t : Fin (cfgA ch).N), P0_0 ch t → ¬P0_1 ch t →
    ((Scalar.cmpi .ne (Scalar.extui (Scalar.cmpi .eq (View.readAt (Elt Bits) (tbM0_1).view (Rect.unit (s := S884) (k0_off1 (crd ch t)) S1.size (k0_off1_inb (crd ch t))).toLoadRect (pinT_1 ch) (Shape.Idx.first (numel1_S1.symm ▸ Nat.one_pos))) 0#32)) 0#32) = 1#1) ∧ ((¬(k0_cond2 (View.readAt (Elt Bits) (tbM0_0).view (Rect.unit (s := S884) (k0_off1 (crd ch t)) S1.size (k0_off1_inb (crd ch t))).toLoadRect (pinT_0 ch) (Shape.Idx.first (numel1_S1.symm ▸ Nat.one_pos))) (View.readAt (Elt Bits) (tbM0_1).view (Rect.unit (s := S884) (k0_off1 (crd ch t)) S1.size (k0_off1_inb (crd ch t))).toLoadRect (pinT_1 ch) (Shape.Idx.first (numel1_S1.symm ▸ Nat.one_pos))) = 1#1)) ∧ (True)) := fun ch t => (allFacts ch t).2.2.2.2.2.2.2.2.2.1

theorem hypsR0_B : ∀ (ch : Fin 1) (t : Fin (cfgA ch).N), P0_0 ch t → ¬P0_1 ch t →
    ((Scalar.cmpi .ne (Scalar.extui (Scalar.cmpi .eq (View.readAt (Elt Bits) (tbM0_1).view (Rect.unit (s := S884) (k0_off1 (crd ch t)) S1.size (k0_off1_inb (crd ch t))).toLoadRect (pinT_1 ch) (Shape.Idx.first (numel1_S1.symm ▸ Nat.one_pos))) 0#32)) 0#32) = 1#1) ∧ ((¬(k0_cond2 (View.readAt (Elt Bits) (tbM0_0).view (Rect.unit (s := S884) (k0_off1 (crd ch t)) S1.size (k0_off1_inb (crd ch t))).toLoadRect (pinT_0 ch) (Shape.Idx.first (numel1_S1.symm ▸ Nat.one_pos))) (View.readAt (Elt Bits) (tbM0_1).view (Rect.unit (s := S884) (k0_off1 (crd ch t)) S1.size (k0_off1_inb (crd ch t))).toLoadRect (pinT_1 ch) (Shape.Idx.first (numel1_S1.symm ▸ Nat.one_pos))) = 1#1)) ∧ (True)) := hyps0_B

/-- At a point of path B: the idle table, the write-backs and which buffers hold junk (decided over the
    freshness tables `frTab`/`sfrTab`, restated over `Cfg.fresh`/`sfresh` by their agreement). -/
theorem sched0_B : ∀ (ch : Fin 1) (t : Fin (cfgA ch).N), P0_0 ch t → ¬P0_1 ch t →
    (cfgA ch).idle (4 : Fin 5) ((cfgA ch).grid.coords t) = true ∧ ((cfgA ch).win (4 : Fin 5)).flush t = false ∧ (cfgA ch).fresh (4 : Fin 5) t.val = true ∧ sfresh0_0 ch t.val = false ∧ sfresh0_0 ch (t.val + 1) = false ∧ sfresh0_1 ch t.val = false ∧ sfresh0_1 ch (t.val + 1) = false ∧ sfresh0_2 ch t.val = false ∧ sfresh0_2 ch (t.val + 1) = false ∧ sfresh0_3 ch t.val = false ∧ sfresh0_3 ch (t.val + 1) = false ∧ sfresh0_4 ch t.val = false ∧ sfresh0_4 ch (t.val + 1) = false ∧ sfresh0_5 ch t.val = false ∧ sfresh0_5 ch (t.val + 1) = false := by
  intro ch t; rw [freshF0_4 ch t, sfreshF0_0 ch t, sfreshS0_0 ch t, sfreshF0_1 ch t, sfreshS0_1 ch t, sfreshF0_2 ch t, sfreshS0_2 ch t, sfreshF0_3 ch t, sfreshS0_3 ch t, sfreshF0_4 ch t, sfreshS0_4 ch t, sfreshF0_5 ch t, sfreshS0_5 ch t]; exact (fun ch t => (allFacts ch t).2.2.2.2.2.2.2.2.2.2.1) ch t

/-- At a point of path C, the path's hypotheses hold of the words the body reads there (the pinned tables read,
    a pinned window's word AS the word `pinBlk ch t (r.idx x)`; the checks among them cited from `ChecksAt`). -/
theorem hyps0_C : ∀ (ch : Fin 1) (t : Fin (cfgA ch).N), ¬P0_0 ch t → P0_1 ch t →
    (¬((Scalar.cmpi .ne (Scalar.extui (Scalar.cmpi .eq (View.readAt (Elt Bits) (tbM0_1).view (Rect.unit (s := S884) (k0_off1 (crd ch t)) S1.size (k0_off1_inb (crd ch t))).toLoadRect (pinT_1 ch) (Shape.Idx.first (numel1_S1.symm ▸ Nat.one_pos))) 0#32)) 0#32) = 1#1)) ∧ ((k0_cond2 (View.readAt (Elt Bits) (tbM0_0).view (Rect.unit (s := S884) (k0_off1 (crd ch t)) S1.size (k0_off1_inb (crd ch t))).toLoadRect (pinT_0 ch) (Shape.Idx.first (numel1_S1.symm ▸ Nat.one_pos))) (View.readAt (Elt Bits) (tbM0_1).view (Rect.unit (s := S884) (k0_off1 (crd ch t)) S1.size (k0_off1_inb (crd ch t))).toLoadRect (pinT_1 ch) (Shape.Idx.first (numel1_S1.symm ▸ Nat.one_pos))) = 1#1) ∧ (True)) := fun ch t => (allFacts ch t).2.2.2.2.2.2.2.2.2.2.2.1

theorem hypsR0_C : ∀ (ch : Fin 1) (t : Fin (cfgA ch).N), ¬P0_0 ch t → P0_1 ch t →
    (¬((Scalar.cmpi .ne (Scalar.extui (Scalar.cmpi .eq (View.readAt (Elt Bits) (tbM0_1).view (Rect.unit (s := S884) (k0_off1 (crd ch t)) S1.size (k0_off1_inb (crd ch t))).toLoadRect (pinT_1 ch) (Shape.Idx.first (numel1_S1.symm ▸ Nat.one_pos))) 0#32)) 0#32) = 1#1)) ∧ ((k0_cond2 (View.readAt (Elt Bits) (tbM0_0).view (Rect.unit (s := S884) (k0_off1 (crd ch t)) S1.size (k0_off1_inb (crd ch t))).toLoadRect (pinT_0 ch) (Shape.Idx.first (numel1_S1.symm ▸ Nat.one_pos))) (View.readAt (Elt Bits) (tbM0_1).view (Rect.unit (s := S884) (k0_off1 (crd ch t)) S1.size (k0_off1_inb (crd ch t))).toLoadRect (pinT_1 ch) (Shape.Idx.first (numel1_S1.symm ▸ Nat.one_pos))) = 1#1) ∧ (True)) := hyps0_C

/-- At a point of path C: the idle table, the write-backs and which buffers hold junk (decided over the
    freshness tables `frTab`/`sfrTab`, restated over `Cfg.fresh`/`sfresh` by their agreement). -/
theorem sched0_C : ∀ (ch : Fin 1) (t : Fin (cfgA ch).N), ¬P0_0 ch t → P0_1 ch t →
    (cfgA ch).idle (4 : Fin 5) ((cfgA ch).grid.coords t) = false ∧ ((cfgA ch).win (4 : Fin 5)).flush t = true ∧ (cfgA ch).fresh (4 : Fin 5) t.val = true ∧ sfresh0_0 ch t.val = false ∧ sfresh0_0 ch (t.val + 1) = false ∧ sfresh0_1 ch t.val = false ∧ sfresh0_1 ch (t.val + 1) = false ∧ sfresh0_2 ch t.val = false ∧ sfresh0_2 ch (t.val + 1) = false ∧ sfresh0_3 ch t.val = false ∧ sfresh0_3 ch (t.val + 1) = false ∧ sfresh0_4 ch t.val = false ∧ sfresh0_4 ch (t.val + 1) = false ∧ sfresh0_5 ch t.val = false ∧ sfresh0_5 ch (t.val + 1) = false := by
  intro ch t; rw [freshF0_4 ch t, sfreshF0_0 ch t, sfreshS0_0 ch t, sfreshF0_1 ch t, sfreshS0_1 ch t, sfreshF0_2 ch t, sfreshS0_2 ch t, sfreshF0_3 ch t, sfreshS0_3 ch t, sfreshF0_4 ch t, sfreshS0_4 ch t, sfreshF0_5 ch t, sfreshS0_5 ch t]; exact (fun ch t => (allFacts ch t).2.2.2.2.2.2.2.2.2.2.2.2.1) ch t

/-- At a point of path D, the path's hypotheses hold of the words the body reads there (the pinned tables read,
    a pinned window's word AS the word `pinBlk ch t (r.idx x)`; the checks among them cited from `ChecksAt`). -/
theorem hyps0_D : ∀ (ch : Fin 1) (t : Fin (cfgA ch).N), ¬P0_0 ch t → ¬P0_1 ch t →
    (¬((Scalar.cmpi .ne (Scalar.extui (Scalar.cmpi .eq (View.readAt (Elt Bits) (tbM0_1).view (Rect.unit (s := S884) (k0_off1 (crd ch t)) S1.size (k0_off1_inb (crd ch t))).toLoadRect (pinT_1 ch) (Shape.Idx.first (numel1_S1.symm ▸ Nat.one_pos))) 0#32)) 0#32) = 1#1)) ∧ ((¬(k0_cond2 (View.readAt (Elt Bits) (tbM0_0).view (Rect.unit (s := S884) (k0_off1 (crd ch t)) S1.size (k0_off1_inb (crd ch t))).toLoadRect (pinT_0 ch) (Shape.Idx.first (numel1_S1.symm ▸ Nat.one_pos))) (View.readAt (Elt Bits) (tbM0_1).view (Rect.unit (s := S884) (k0_off1 (crd ch t)) S1.size (k0_off1_inb (crd ch t))).toLoadRect (pinT_1 ch) (Shape.Idx.first (numel1_S1.symm ▸ Nat.one_pos))) = 1#1)) ∧ (True)) := fun ch t => (allFacts ch t).2.2.2.2.2.2.2.2.2.2.2.2.2.1

theorem hypsR0_D : ∀ (ch : Fin 1) (t : Fin (cfgA ch).N), ¬P0_0 ch t → ¬P0_1 ch t →
    (¬((Scalar.cmpi .ne (Scalar.extui (Scalar.cmpi .eq (View.readAt (Elt Bits) (tbM0_1).view (Rect.unit (s := S884) (k0_off1 (crd ch t)) S1.size (k0_off1_inb (crd ch t))).toLoadRect (pinT_1 ch) (Shape.Idx.first (numel1_S1.symm ▸ Nat.one_pos))) 0#32)) 0#32) = 1#1)) ∧ ((¬(k0_cond2 (View.readAt (Elt Bits) (tbM0_0).view (Rect.unit (s := S884) (k0_off1 (crd ch t)) S1.size (k0_off1_inb (crd ch t))).toLoadRect (pinT_0 ch) (Shape.Idx.first (numel1_S1.symm ▸ Nat.one_pos))) (View.readAt (Elt Bits) (tbM0_1).view (Rect.unit (s := S884) (k0_off1 (crd ch t)) S1.size (k0_off1_inb (crd ch t))).toLoadRect (pinT_1 ch) (Shape.Idx.first (numel1_S1.symm ▸ Nat.one_pos))) = 1#1)) ∧ (True)) := hyps0_D

/-- At a point of path D: the idle table, the write-backs and which buffers hold junk (decided over the
    freshness tables `frTab`/`sfrTab`, restated over `Cfg.fresh`/`sfresh` by their agreement). -/
theorem sched0_D : ∀ (ch : Fin 1) (t : Fin (cfgA ch).N), ¬P0_0 ch t → ¬P0_1 ch t →
    (cfgA ch).idle (4 : Fin 5) ((cfgA ch).grid.coords t) = true ∧ ((cfgA ch).win (4 : Fin 5)).flush t = false ∧ (cfgA ch).fresh (4 : Fin 5) t.val = true ∧ sfresh0_0 ch t.val = false ∧ sfresh0_0 ch (t.val + 1) = false ∧ sfresh0_1 ch t.val = false ∧ sfresh0_1 ch (t.val + 1) = false ∧ sfresh0_2 ch t.val = false ∧ sfresh0_2 ch (t.val + 1) = false ∧ sfresh0_3 ch t.val = false ∧ sfresh0_3 ch (t.val + 1) = false ∧ sfresh0_4 ch t.val = false ∧ sfresh0_4 ch (t.val + 1) = false ∧ sfresh0_5 ch t.val = false ∧ sfresh0_5 ch (t.val + 1) = false := by
  intro ch t; rw [freshF0_4 ch t, sfreshF0_0 ch t, sfreshS0_0 ch t, sfreshF0_1 ch t, sfreshS0_1 ch t, sfreshF0_2 ch t, sfreshS0_2 ch t, sfreshF0_3 ch t, sfreshS0_3 ch t, sfreshF0_4 ch t, sfreshS0_4 ch t, sfreshF0_5 ch t, sfreshS0_5 ch t]; exact (fun ch t => (allFacts ch t).2.2.2.2.2.2.2.2.2.2.2.2.2.2) ch t

/-! ## What the outputs and scratches hold after each point -/

/-- ONE STEP of the trajectory: what the outputs' current buffers and the scratches hold after the body at point `t`
    (output 4, scratch 0, scratch 1, scratch 2, scratch 3, scratch 4, scratch 5), from what they held before (`prev`): the path the decisions select at `t`, its
    run's contents; an output the path leaves idle keeps what it held (junk — `default`, named by nothing — where fresh). -/
def step0 (c : Dev nD) (t : Fin (cfgA ch).N) (prev : (S256x2048.Idx → Elt Bits .bf16) × Buf (Elt Bits) ((c : Thread nD τ).loc cc0_scratch0) × Buf (Elt Bits) ((c : Thread nD τ).loc cc0_scratch1) × Buf (Elt Bits) ((c : Thread nD τ).loc cc0_scratch2) × Buf (Elt Bits) ((c : Thread nD τ).loc cc0_scratch3) × Buf (Elt Bits) ((c : Thread nD τ).loc cc0_scratch4) × Buf (Elt Bits) ((c : Thread nD τ).loc cc0_scratch5)) : (S256x2048.Idx → Elt Bits .bf16) × Buf (Elt Bits) ((c : Thread nD τ).loc cc0_scratch0) × Buf (Elt Bits) ((c : Thread nD τ).loc cc0_scratch1) × Buf (Elt Bits) ((c : Thread nD τ).loc cc0_scratch2) × Buf (Elt Bits) ((c : Thread nD τ).loc cc0_scratch3) × Buf (Elt Bits) ((c : Thread nD τ).loc cc0_scratch4) × Buf (Elt Bits) ((c : Thread nD τ).loc cc0_scratch5) :=
  if q0 : P0_0 ch t then
    if q1 : P0_1 ch t then
      (out0_A_4 c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) (hypsR0_A ch t q0 q1).1 (hypsR0_A ch t q0 q1).2.1, (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) (hypsR0_A ch t q0 q1).1 (hypsR0_A ch t q0 q1).2.1).2.1, (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) (hypsR0_A ch t q0 q1).1 (hypsR0_A ch t q0 q1).2.1).2.2.1, (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) (hypsR0_A ch t q0 q1).1 (hypsR0_A ch t q0 q1).2.1).2.2.2.1, (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) (hypsR0_A ch t q0 q1).1 (hypsR0_A ch t q0 q1).2.1).2.2.2.2.1, (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) (hypsR0_A ch t q0 q1).1 (hypsR0_A ch t q0 q1).2.1).2.2.2.2.2.1, (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) (hypsR0_A ch t q0 q1).1 (hypsR0_A ch t q0 q1).2.1).2.2.2.2.2.2.1)
    else
      ((if (cfgA ch).fresh (4 : Fin 5) t.val then default else prev.1), (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) (hypsR0_B ch t q0 q1).1 (hypsR0_B ch t q0 q1).2.1).1, (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) (hypsR0_B ch t q0 q1).1 (hypsR0_B ch t q0 q1).2.1).2.1, (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) (hypsR0_B ch t q0 q1).1 (hypsR0_B ch t q0 q1).2.1).2.2.1, (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) (hypsR0_B ch t q0 q1).1 (hypsR0_B ch t q0 q1).2.1).2.2.2.1, (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) (hypsR0_B ch t q0 q1).1 (hypsR0_B ch t q0 q1).2.1).2.2.2.2.1, (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) (hypsR0_B ch t q0 q1).1 (hypsR0_B ch t q0 q1).2.1).2.2.2.2.2.1)
  else
    if q1 : P0_1 ch t then
      (out0_C_4 c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2.1 prev.2.2.2.1 (hypsR0_C ch t q0 q1).1 (hypsR0_C ch t q0 q1).2.1, (kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2.1 prev.2.2.2.1 (hypsR0_C ch t q0 q1).1 (hypsR0_C ch t q0 q1).2.1).2.1, (kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2.1 prev.2.2.2.1 (hypsR0_C ch t q0 q1).1 (hypsR0_C ch t q0 q1).2.1).2.2.1, (kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2.1 prev.2.2.2.1 (hypsR0_C ch t q0 q1).1 (hypsR0_C ch t q0 q1).2.1).2.2.2.1, (kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2.1 prev.2.2.2.1 (hypsR0_C ch t q0 q1).1 (hypsR0_C ch t q0 q1).2.1).2.2.2.2.1, (kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2.1 prev.2.2.2.1 (hypsR0_C ch t q0 q1).1 (hypsR0_C ch t q0 q1).2.1).2.2.2.2.2.1, (kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2.1 prev.2.2.2.1 (hypsR0_C ch t q0 q1).1 (hypsR0_C ch t q0 q1).2.1).2.2.2.2.2.2.1)
    else
      ((if (cfgA ch).fresh (4 : Fin 5) t.val then default else prev.1), (kernelRun0_D c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2.1 prev.2.2.2.1 (hypsR0_D ch t q0 q1).1 (hypsR0_D ch t q0 q1).2.1).1, (kernelRun0_D c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2.1 prev.2.2.2.1 (hypsR0_D ch t q0 q1).1 (hypsR0_D ch t q0 q1).2.1).2.1, (kernelRun0_D c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2.1 prev.2.2.2.1 (hypsR0_D ch t q0 q1).1 (hypsR0_D ch t q0 q1).2.1).2.2.1, (kernelRun0_D c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2.1 prev.2.2.2.1 (hypsR0_D ch t q0 q1).1 (hypsR0_D ch t q0 q1).2.1).2.2.2.1, (kernelRun0_D c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2.1 prev.2.2.2.1 (hypsR0_D ch t q0 q1).1 (hypsR0_D ch t q0 q1).2.1).2.2.2.2.1, (kernelRun0_D c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2.1 prev.2.2.2.1 (hypsR0_D ch t q0 q1).1 (hypsR0_D ch t q0 q1).2.1).2.2.2.2.2.1)

/-- THE TRAJECTORY: after position `n`. -/
def traj0 (c : Dev nD) : (n : ℕ) → n < (cfgA ch).N → (S256x2048.Idx → Elt Bits .bf16) × Buf (Elt Bits) ((c : Thread nD τ).loc cc0_scratch0) × Buf (Elt Bits) ((c : Thread nD τ).loc cc0_scratch1) × Buf (Elt Bits) ((c : Thread nD τ).loc cc0_scratch2) × Buf (Elt Bits) ((c : Thread nD τ).loc cc0_scratch3) × Buf (Elt Bits) ((c : Thread nD τ).loc cc0_scratch4) × Buf (Elt Bits) ((c : Thread nD τ).loc cc0_scratch5)
  | 0, h => step0 ch m ρ c ⟨0, h⟩ (default, default, default, default, default, default, default)
  | n + 1, h => step0 ch m ρ c ⟨n + 1, h⟩ (traj0 c n (Nat.lt_of_succ_lt h))

/-- What they held BEFORE point `t` (junk before the first). -/
def prev0 (c : Dev nD) (t : Fin (cfgA ch).N) : (S256x2048.Idx → Elt Bits .bf16) × Buf (Elt Bits) ((c : Thread nD τ).loc cc0_scratch0) × Buf (Elt Bits) ((c : Thread nD τ).loc cc0_scratch1) × Buf (Elt Bits) ((c : Thread nD τ).loc cc0_scratch2) × Buf (Elt Bits) ((c : Thread nD τ).loc cc0_scratch3) × Buf (Elt Bits) ((c : Thread nD τ).loc cc0_scratch4) × Buf (Elt Bits) ((c : Thread nD τ).loc cc0_scratch5) :=
  if h : t.val = 0 then (default, default, default, default, default, default, default) else traj0 ch m ρ c (t.val - 1) (by omega)

theorem traj0_eq (c : Dev nD) (t : Fin (cfgA ch).N) : traj0 ch m ρ c t.val t.isLt = step0 ch m ρ c t (prev0 ch m ρ c t) := by
  obtain ⟨n, hn⟩ := t
  cases n with
  | zero => rfl
  | succ n => unfold prev0; simp only [Nat.add_one_ne_zero, dif_neg, not_false_eq_true]; rfl

/-- `step0` at a point of path A. -/
theorem step0_A (c : Dev nD) (t : Fin (cfgA ch).N) (prev : (S256x2048.Idx → Elt Bits .bf16) × Buf (Elt Bits) ((c : Thread nD τ).loc cc0_scratch0) × Buf (Elt Bits) ((c : Thread nD τ).loc cc0_scratch1) × Buf (Elt Bits) ((c : Thread nD τ).loc cc0_scratch2) × Buf (Elt Bits) ((c : Thread nD τ).loc cc0_scratch3) × Buf (Elt Bits) ((c : Thread nD τ).loc cc0_scratch4) × Buf (Elt Bits) ((c : Thread nD τ).loc cc0_scratch5)) (q0 : P0_0 ch t) (q1 : P0_1 ch t) :
    step0 ch m ρ c t prev = (out0_A_4 c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) (hypsR0_A ch t q0 q1).1 (hypsR0_A ch t q0 q1).2.1, (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) (hypsR0_A ch t q0 q1).1 (hypsR0_A ch t q0 q1).2.1).2.1, (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) (hypsR0_A ch t q0 q1).1 (hypsR0_A ch t q0 q1).2.1).2.2.1, (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) (hypsR0_A ch t q0 q1).1 (hypsR0_A ch t q0 q1).2.1).2.2.2.1, (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) (hypsR0_A ch t q0 q1).1 (hypsR0_A ch t q0 q1).2.1).2.2.2.2.1, (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) (hypsR0_A ch t q0 q1).1 (hypsR0_A ch t q0 q1).2.1).2.2.2.2.2.1, (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) (hypsR0_A ch t q0 q1).1 (hypsR0_A ch t q0 q1).2.1).2.2.2.2.2.2.1) := by
  unfold step0; simp only [dif_pos q0, dif_pos q1]

/-- `step0` at a point of path B. -/
theorem step0_B (c : Dev nD) (t : Fin (cfgA ch).N) (prev : (S256x2048.Idx → Elt Bits .bf16) × Buf (Elt Bits) ((c : Thread nD τ).loc cc0_scratch0) × Buf (Elt Bits) ((c : Thread nD τ).loc cc0_scratch1) × Buf (Elt Bits) ((c : Thread nD τ).loc cc0_scratch2) × Buf (Elt Bits) ((c : Thread nD τ).loc cc0_scratch3) × Buf (Elt Bits) ((c : Thread nD τ).loc cc0_scratch4) × Buf (Elt Bits) ((c : Thread nD τ).loc cc0_scratch5)) (q0 : P0_0 ch t) (q1 : ¬P0_1 ch t) :
    step0 ch m ρ c t prev = ((if (cfgA ch).fresh (4 : Fin 5) t.val then default else prev.1), (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) (hypsR0_B ch t q0 q1).1 (hypsR0_B ch t q0 q1).2.1).1, (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) (hypsR0_B ch t q0 q1).1 (hypsR0_B ch t q0 q1).2.1).2.1, (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) (hypsR0_B ch t q0 q1).1 (hypsR0_B ch t q0 q1).2.1).2.2.1, (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) (hypsR0_B ch t q0 q1).1 (hypsR0_B ch t q0 q1).2.1).2.2.2.1, (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) (hypsR0_B ch t q0 q1).1 (hypsR0_B ch t q0 q1).2.1).2.2.2.2.1, (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) (hypsR0_B ch t q0 q1).1 (hypsR0_B ch t q0 q1).2.1).2.2.2.2.2.1) := by
  unfold step0; simp only [dif_pos q0, dif_neg q1]

/-- `step0` at a point of path C. -/
theorem step0_C (c : Dev nD) (t : Fin (cfgA ch).N) (prev : (S256x2048.Idx → Elt Bits .bf16) × Buf (Elt Bits) ((c : Thread nD τ).loc cc0_scratch0) × Buf (Elt Bits) ((c : Thread nD τ).loc cc0_scratch1) × Buf (Elt Bits) ((c : Thread nD τ).loc cc0_scratch2) × Buf (Elt Bits) ((c : Thread nD τ).loc cc0_scratch3) × Buf (Elt Bits) ((c : Thread nD τ).loc cc0_scratch4) × Buf (Elt Bits) ((c : Thread nD τ).loc cc0_scratch5)) (q0 : ¬P0_0 ch t) (q1 : P0_1 ch t) :
    step0 ch m ρ c t prev = (out0_C_4 c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2.1 prev.2.2.2.1 (hypsR0_C ch t q0 q1).1 (hypsR0_C ch t q0 q1).2.1, (kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2.1 prev.2.2.2.1 (hypsR0_C ch t q0 q1).1 (hypsR0_C ch t q0 q1).2.1).2.1, (kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2.1 prev.2.2.2.1 (hypsR0_C ch t q0 q1).1 (hypsR0_C ch t q0 q1).2.1).2.2.1, (kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2.1 prev.2.2.2.1 (hypsR0_C ch t q0 q1).1 (hypsR0_C ch t q0 q1).2.1).2.2.2.1, (kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2.1 prev.2.2.2.1 (hypsR0_C ch t q0 q1).1 (hypsR0_C ch t q0 q1).2.1).2.2.2.2.1, (kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2.1 prev.2.2.2.1 (hypsR0_C ch t q0 q1).1 (hypsR0_C ch t q0 q1).2.1).2.2.2.2.2.1, (kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2.1 prev.2.2.2.1 (hypsR0_C ch t q0 q1).1 (hypsR0_C ch t q0 q1).2.1).2.2.2.2.2.2.1) := by
  unfold step0; simp only [dif_neg q0, dif_pos q1]

/-- `step0` at a point of path D. -/
theorem step0_D (c : Dev nD) (t : Fin (cfgA ch).N) (prev : (S256x2048.Idx → Elt Bits .bf16) × Buf (Elt Bits) ((c : Thread nD τ).loc cc0_scratch0) × Buf (Elt Bits) ((c : Thread nD τ).loc cc0_scratch1) × Buf (Elt Bits) ((c : Thread nD τ).loc cc0_scratch2) × Buf (Elt Bits) ((c : Thread nD τ).loc cc0_scratch3) × Buf (Elt Bits) ((c : Thread nD τ).loc cc0_scratch4) × Buf (Elt Bits) ((c : Thread nD τ).loc cc0_scratch5)) (q0 : ¬P0_0 ch t) (q1 : ¬P0_1 ch t) :
    step0 ch m ρ c t prev = ((if (cfgA ch).fresh (4 : Fin 5) t.val then default else prev.1), (kernelRun0_D c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2.1 prev.2.2.2.1 (hypsR0_D ch t q0 q1).1 (hypsR0_D ch t q0 q1).2.1).1, (kernelRun0_D c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2.1 prev.2.2.2.1 (hypsR0_D ch t q0 q1).1 (hypsR0_D ch t q0 q1).2.1).2.1, (kernelRun0_D c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2.1 prev.2.2.2.1 (hypsR0_D ch t q0 q1).1 (hypsR0_D ch t q0 q1).2.1).2.2.1, (kernelRun0_D c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2.1 prev.2.2.2.1 (hypsR0_D ch t q0 q1).1 (hypsR0_D ch t q0 q1).2.1).2.2.2.1, (kernelRun0_D c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2.1 prev.2.2.2.1 (hypsR0_D ch t q0 q1).1 (hypsR0_D ch t q0 q1).2.1).2.2.2.2.1, (kernelRun0_D c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2.1 prev.2.2.2.1 (hypsR0_D ch t q0 q1).1 (hypsR0_D ch t q0 q1).2.1).2.2.2.2.2.1) := by
  unfold step0; simp only [dif_neg q0, dif_neg q1]

/-! ## The pipeline's proof data -/

/-- What the tracked buffers held before position `t` of `Fin (N+1)` (the invariant's index). -/
def prev0T (c : Dev nD) (t : Fin ((cfgA ch).N + 1)) : (S256x2048.Idx → Elt Bits .bf16) × Buf (Elt Bits) ((c : Thread nD τ).loc cc0_scratch0) × Buf (Elt Bits) ((c : Thread nD τ).loc cc0_scratch1) × Buf (Elt Bits) ((c : Thread nD τ).loc cc0_scratch2) × Buf (Elt Bits) ((c : Thread nD τ).loc cc0_scratch3) × Buf (Elt Bits) ((c : Thread nD τ).loc cc0_scratch4) × Buf (Elt Bits) ((c : Thread nD τ).loc cc0_scratch5) :=
  if h : t.val = 0 then (default, default, default, default, default, default, default) else traj0 ch m ρ c (t.val - 1) (by omega)

theorem prev0T_castSucc (c : Dev nD) (t : Fin (cfgA ch).N) : prev0T ch m ρ c t.castSucc = prev0 ch m ρ c t := by
  unfold prev0T prev0; simp only [Fin.val_castSucc]
theorem prev0T_succ (c : Dev nD) (t : Fin (cfgA ch).N) : prev0T ch m ρ c t.succ = traj0 ch m ρ c t.val t.isLt := by
  unfold prev0T; simp only [Fin.val_succ, Nat.add_one_ne_zero, ↓reduceDIte, Nat.add_one_sub_one]

/-- THE INVARIANT before point `t`: each scratch at what the trajectory says once a point has determined it (anything
    before), the body's halves of the tables. -/
def Phi (m : (ℓ : Loc nD τ sig) → Buf (Elt Bits) ℓ) (ρ : Dev nD → PrngReg) (c : Dev nD) (t : Fin ((cfgA ch).N + 1)) : sProp 𝕄 :=
  iprop((∃ a, ⌜sfresh0_0 ch t.val = false → a = (prev0T ch m ρ c t).2.1⌝ ∗ (scM0_0.view.loc (c : Thread nD τ) ↦{fullShare} a)) ∗ (∃ a, ⌜sfresh0_1 ch t.val = false → a = (prev0T ch m ρ c t).2.2.1⌝ ∗ (scM0_1.view.loc (c : Thread nD τ) ↦{fullShare} a)) ∗ (∃ a, ⌜sfresh0_2 ch t.val = false → a = (prev0T ch m ρ c t).2.2.2.1⌝ ∗ (scM0_2.view.loc (c : Thread nD τ) ↦{fullShare} a)) ∗ (∃ a, ⌜sfresh0_3 ch t.val = false → a = (prev0T ch m ρ c t).2.2.2.2.1⌝ ∗ (scM0_3.view.loc (c : Thread nD τ) ↦{fullShare} a)) ∗ (∃ a, ⌜sfresh0_4 ch t.val = false → a = (prev0T ch m ρ c t).2.2.2.2.2.1⌝ ∗ (scM0_4.view.loc (c : Thread nD τ) ↦{fullShare} a)) ∗ (∃ a, ⌜sfresh0_5 ch t.val = false → a = (prev0T ch m ρ c t).2.2.2.2.2.2⌝ ∗ (scM0_5.view.loc (c : Thread nD τ) ↦{fullShare} a)) ∗ (tbM0_0.view.loc (c : Thread nD τ) ↦{fullShare.right} pinT_0 ch) ∗ (tbM0_1.view.loc (c : Thread nD τ) ↦{fullShare.right} pinT_1 ch))

/-- The proof data of the one pipeline on core `c`. -/
def dats (_ : Fin 1) (c : Dev nD) : Dat τ (Elt Bits) Unit ℕ (UR sig nD τ) ℕ (cfgA ch) c where
  A w := (s₀ m ρ).mem (((cfgA ch).win w).arr.view.loc (c : Thread nD τ))
  after w t := match w with
    | ⟨0, _⟩ => iblk ch m ρ c (0 : Fin 5) t
    | ⟨1, _⟩ => iblk ch m ρ c (1 : Fin 5) t
    | ⟨2, _⟩ => iblk ch m ρ c (2 : Fin 5) t
    | ⟨3, _⟩ => iblk ch m ρ c (3 : Fin 5) t
    | ⟨4, _⟩ => (traj0 ch m ρ c t.val t.isLt).1
  Φ t := Phi ch m ρ c t
  q _ := fullShare
  owed _ := 0

theorem after0_0 (c : Dev nD) (t : Fin (cfgA ch).N) : (dats ch m ρ 0 c).after (0 : Fin 5) t = iblk ch m ρ c (0 : Fin 5) t := rfl
theorem after0_1 (c : Dev nD) (t : Fin (cfgA ch).N) : (dats ch m ρ 0 c).after (1 : Fin 5) t = iblk ch m ρ c (1 : Fin 5) t := rfl
theorem after0_2 (c : Dev nD) (t : Fin (cfgA ch).N) : (dats ch m ρ 0 c).after (2 : Fin 5) t = iblk ch m ρ c (2 : Fin 5) t := rfl
theorem after0_3 (c : Dev nD) (t : Fin (cfgA ch).N) : (dats ch m ρ 0 c).after (3 : Fin 5) t = iblk ch m ρ c (3 : Fin 5) t := rfl
theorem after0_4 (c : Dev nD) (t : Fin (cfgA ch).N) : (dats ch m ρ 0 c).after (4 : Fin 5) t = (traj0 ch m ρ c t.val t.isLt).1 := rfl

/-! ## What each window's staging buffer holds when the body runs -/

/-- Input window 0 holds its block, fetched there or not (Lib/Pipeline/FrameBody.lean `Dat.before_in_eq_fetched`). -/
theorem before0_0 (c : Dev nD) (t : Fin (cfgA ch).N) (d) : (dats ch m ρ 0 c).before (0 : Fin 5) t d = iblk ch m ρ c (0 : Fin 5) t :=
  ((dats ch m ρ 0 c).before_in_eq_fetched (0 : Fin 5) rfl (fun _ => rfl) (fun _ _ _ => rfl) (fun t => by rw [after0_0]; unfold Dat.blockOf iblk; rfl) t d).trans
    (by unfold Dat.fetched Dat.blockOf iblk; rfl)

/-- Input window 1 holds its block, fetched there or not (Lib/Pipeline/FrameBody.lean `Dat.before_in_eq_fetched`). -/
theorem before0_1 (c : Dev nD) (t : Fin (cfgA ch).N) (d) : (dats ch m ρ 0 c).before (1 : Fin 5) t d = iblk ch m ρ c (1 : Fin 5) t :=
  ((dats ch m ρ 0 c).before_in_eq_fetched (1 : Fin 5) rfl (fun _ => rfl) (fun _ _ _ => rfl) (fun t => by rw [after0_1]; unfold Dat.blockOf iblk; rfl) t d).trans
    (by unfold Dat.fetched Dat.blockOf iblk; rfl)

/-- Input window 2 holds its block, fetched there or not (Lib/Pipeline/FrameBody.lean `Dat.before_in_eq_fetched`). -/
theorem before0_2 (c : Dev nD) (t : Fin (cfgA ch).N) (d) : (dats ch m ρ 0 c).before (2 : Fin 5) t d = iblk ch m ρ c (2 : Fin 5) t :=
  ((dats ch m ρ 0 c).before_in_eq_fetched (2 : Fin 5) rfl (fun _ => rfl) (fun _ _ _ => rfl) (fun t => by rw [after0_2]; unfold Dat.blockOf iblk; rfl) t d).trans
    (by unfold Dat.fetched Dat.blockOf iblk; rfl)

/-- Input window 3 holds its block, fetched there or not (Lib/Pipeline/FrameBody.lean `Dat.before_in_eq_fetched`). -/
theorem before0_3 (c : Dev nD) (t : Fin (cfgA ch).N) (d) : (dats ch m ρ 0 c).before (3 : Fin 5) t d = iblk ch m ρ c (3 : Fin 5) t :=
  ((dats ch m ρ 0 c).before_in_eq_fetched (3 : Fin 5) rfl (fun _ => rfl) (fun _ _ _ => rfl) (fun t => by rw [after0_3]; unfold Dat.blockOf iblk; rfl) t d).trans
    (by unfold Dat.fetched Dat.blockOf iblk; rfl)

/-- Output 4's `after` carries through the points that leave it idle. -/
theorem hcarry0_4 (c : Dev nD) : ∀ (t : Fin (cfgA ch).N) (ht : t.val ≠ 0), (cfgA ch).idle (4 : Fin 5) ((cfgA ch).grid.coords t) = true → (cfgA ch).fresh (4 : Fin 5) t.val = false →
    (dats ch m ρ 0 c).after (4 : Fin 5) t = (dats ch m ρ 0 c).after (4 : Fin 5) ⟨t.val - 1, by omega⟩ := by
  intro t ht hi hf
  rw [after0_4, after0_4, traj0_eq]
  by_cases q0 : P0_0 ch t
  · by_cases q1 : P0_1 ch t
    · obtain ⟨i4, -, -, -, -, -, -, -, -⟩ := sched0_A ch t q0 q1
      rw [i4] at hi; exact absurd hi (by decide)
    · rw [step0_B ch m ρ c t _ q0 q1]
      simp only [hf, Bool.false_eq_true, ↓reduceIte]
      unfold prev0; rw [dif_neg ht]
  · by_cases q1 : P0_1 ch t
    · obtain ⟨i4, -, -, -, -, -, -, -, -, -, -, -, -, -, -⟩ := sched0_C ch t q0 q1
      rw [i4] at hi; exact absurd hi (by decide)
    · rw [step0_D ch m ρ c t _ q0 q1]
      simp only [hf, Bool.false_eq_true, ↓reduceIte]
      unfold prev0; rw [dif_neg ht]

/-- Output window 4 holds, when the body runs at `t`: junk if nothing was stored since its last write-back (`Cfg.fresh`),
    else what the point before left (TableIdle.lean `Dat.before_out_traj`). -/
theorem before0_4 (c : Dev nD) (t : Fin (cfgA ch).N) (d) :
    (dats ch m ρ 0 c).before (4 : Fin 5) t d = if (cfgA ch).fresh (4 : Fin 5) t.val then d else (prev0 ch m ρ c t).1 := by
  rw [(dats ch m ρ 0 c).before_out_traj (4 : Fin 5) rfl (fun _ _ => rfl) (hcarry0_4 ch m ρ c) t.val t rfl d]
  by_cases hf : (cfgA ch).fresh (4 : Fin 5) t.val = true
  · simp only [hf, ↓reduceIte]
  · have h0 : t.val ≠ 0 := fun h0 => hf (by rw [h0]; exact Pipeline.Cfg.fresh_zero _ _)
    rw [Bool.not_eq_true] at hf
    simp only [hf, Bool.false_eq_true, ↓reduceIte, after0_4]; unfold prev0; rw [dif_neg h0]

/-! ## The body obligation, at a generic point, by path -/

/-- The body at point `t` on its staging memrefs, as the pipeline calls it. -/
abbrev bodyAt0 (t : Fin (cfgA ch).N) : Prog (TpuEff nD τ sig (Elt Bits) Λ₀ .tc) PUnit :=
  cc0_dsa_attention (crd ch t) (Memref.whole main_c) (Memref.isWhole_whole _) (Memref.whole main_c_0) (Memref.isWhole_whole _) (ms0_0 ch t) (hs0_0 ch t) (ms0_1 ch t) (hs0_1 ch t) (ms0_2 ch t) (hs0_2 ch t) (ms0_3 ch t) (hs0_3 ch t) (ms0_4 ch t) (hs0_4 ch t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _)

set_option maxHeartbeats 4000000 in
/-- THE BODY OBLIGATION at point `t`: the decisions there tell the path (`by_cases` on `P0_·`); its hypotheses and schedule are
    the decided facts'; the inputs hold their blocks, a live buffer what the trajectory says; the path's run applies; the
    idle windows' matches in the post reduce by the decided idle table. -/
theorem sound_body (c : Dev nD) (t : Fin (cfgA ch).N) :
    iprop((dats ch m ρ 0 c).Φ t.castSucc ∗ (dats ch m ρ 0 c).owesAt () t.castSucc
        ∗ (∃ d, owns (c : Thread nD τ) (ms0_0 ch t) fullShare ((dats ch m ρ 0 c).before (0 : Fin 5) t d))
        ∗ (∃ d, owns (c : Thread nD τ) (ms0_1 ch t) fullShare ((dats ch m ρ 0 c).before (1 : Fin 5) t d))
        ∗ (∃ d, owns (c : Thread nD τ) (ms0_2 ch t) fullShare ((dats ch m ρ 0 c).before (2 : Fin 5) t d))
        ∗ (∃ d, owns (c : Thread nD τ) (ms0_3 ch t) fullShare ((dats ch m ρ 0 c).before (3 : Fin 5) t d))
        ∗ (∃ d, owns (c : Thread nD τ) (ms0_4 ch t) fullShare ((dats ch m ρ 0 c).before (4 : Fin 5) t d)))
      ⊢ wp frame (wpE (defs₀ (F := Bits)) Variants.none c none) Set.univ (bodyAt0 ch t) fun _ =>
          iprop((dats ch m ρ 0 c).Φ t.succ ∗ (dats ch m ρ 0 c).owesAt () t.succ
            ∗ bigSep Finset.univ fun w : Fin (cfgA ch).W =>
                match (cfgA ch).idle w ((cfgA ch).grid.coords t) with
                | true =>
                  match ((cfgA ch).win w).flush t with
                  | false => iprop(∃ d, owns (c : Thread nD τ) (((cfgA ch).win w).stage ((cfgA ch).slots t w)) fullShare ((dats ch m ρ 0 c).before w t d))
                  | true => owns (c : Thread nD τ) (((cfgA ch).win w).stage ((cfgA ch).slots t w)) fullShare ((dats ch m ρ 0 c).after w t)
                | false => owns (c : Thread nD τ) (((cfgA ch).win w).stage ((cfgA ch).slots t w)) fullShare ((dats ch m ρ 0 c).after w t)) := by
  rw [bigSep_W0]
  by_cases q0 : P0_0 ch t
  · by_cases q1 : P0_1 ch t
    · obtain ⟨i4, f4, fr4, sfn0, sfn1, sfn2, sfn3, sfn4, sfn5⟩ := sched0_A ch t q0 q1
      have F0 := hypsR0_A ch t q0 q1
      have hc0 := F0.1; have F1 := F0.2
      have k0_h2 := F1.1; have F2 := F1.2
      clear F0 F1 F2
      rewrite [i4]
      simp only [before0_0, before0_1, before0_2, before0_3, before0_4, after0_0, after0_1, after0_2, after0_3, after0_4, f4]
      simp only [fr4, Bool.false_eq_true, ↓reduceIte]
      rewrite [show (dats ch m ρ 0 c).Φ t.succ = Phi ch m ρ c t.succ from rfl, show (dats ch m ρ 0 c).Φ t.castSucc = Phi ch m ρ c t.castSucc from rfl,
        show (dats ch m ρ 0 c).owesAt () t.succ = (dats ch m ρ 0 c).owesAt () t.castSucc from rfl]
      try rewrite [traj0_eq, step0_A ch m ρ c t _ q0 q1]
      unfold Phi; simp only [prev0T_castSucc, prev0T_succ, traj0_eq, step0_A ch m ρ c t _ q0 q1, Fin.val_castSucc, Fin.val_succ]
      iintro ⟨⟨⟨%a0, %ha0, HS0⟩, ⟨%a1, %ha1, HS1⟩, ⟨%a2, %ha2, HS2⟩, ⟨%a3, %ha3, HS3⟩, ⟨%a4, %ha4, HS4⟩, ⟨%a5, %ha5, HS5⟩, HT0, HT1⟩, Ho, ⟨%d0, H0⟩, ⟨%d1, H1⟩, ⟨%d2, H2⟩, ⟨%d3, H3⟩, ⟨%d4, H4⟩⟩
      iapply ((kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) hc0 k0_h2).2.2.2.2.2.2.2 a0 a1 a2 a3 a4 a5 _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexists _; iexact H4
      isplitl [HS0]; · iexact HS0
      isplitl [HS1]; · iexact HS1
      isplitl [HS2]; · iexact HS2
      isplitl [HS3]; · iexact HS3
      isplitl [HS4]; · iexact HS4
      isplitl [HS5]; · iexact HS5
      iintro ⟨H0, H1, H2, H3, HT0, HT1, ⟨%e4, H4⟩, HS0, HS1, HS2, HS3, HS4, HS5⟩
      isplitl [HS0 HS1 HS2 HS3 HS4 HS5 HT0 HT1]
      · isplitl [HS0]
        · iexists _; isplitr; swap
          · iexact HS0
          · ipureintro; intro hn; first | rfl | exact absurd hn (by first | (rw [sfn0]; decide) | decide)
        isplitl [HS1]
        · iexists _; isplitr; swap
          · iexact HS1
          · ipureintro; intro hn; first | rfl | exact absurd hn (by first | (rw [sfn1]; decide) | decide)
        isplitl [HS2]
        · iexists _; isplitr; swap
          · iexact HS2
          · ipureintro; intro hn; first | rfl | exact absurd hn (by first | (rw [sfn2]; decide) | decide)
        isplitl [HS3]
        · iexists _; isplitr; swap
          · iexact HS3
          · ipureintro; intro hn; first | rfl | exact absurd hn (by first | (rw [sfn3]; decide) | decide)
        isplitl [HS4]
        · iexists _; isplitr; swap
          · iexact HS4
          · ipureintro; intro hn; first | rfl | exact absurd hn (by first | (rw [sfn4]; decide) | decide)
        isplitl [HS5]
        · iexists _; isplitr; swap
          · iexact HS5
          · ipureintro; intro hn; first | rfl | exact absurd hn (by first | (rw [sfn5]; decide) | decide)
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      unfold owns; iexists _; isplitr; swap
      · iexact H4
      · ipureintro; exact View.read_writes_of_cover _ _ _ _ _ (cover0_A_4 c _ _ _ _ _ _ _ _ _ _ _ _ _ _ _ _ _ _ _)
    · obtain ⟨i4, f4, fr4, sf0, sfn0, sf1, sfn1, sf2, sfn2, sf3, sfn3, sf4, sfn4, sf5, sfn5⟩ := sched0_B ch t q0 q1
      have F0 := hypsR0_B ch t q0 q1
      have hc0 := F0.1; have F1 := F0.2
      have k0_h2 := F1.1; have F2 := F1.2
      clear F0 F1 F2
      rewrite [i4]
      simp only [before0_0, before0_1, before0_2, before0_3, before0_4, after0_0, after0_1, after0_2, after0_3, after0_4, f4]
      simp only [fr4, Bool.false_eq_true, ↓reduceIte]
      rewrite [show (dats ch m ρ 0 c).Φ t.succ = Phi ch m ρ c t.succ from rfl, show (dats ch m ρ 0 c).Φ t.castSucc = Phi ch m ρ c t.castSucc from rfl,
        show (dats ch m ρ 0 c).owesAt () t.succ = (dats ch m ρ 0 c).owesAt () t.castSucc from rfl]
      try rewrite [traj0_eq, step0_B ch m ρ c t _ q0 q1]
      unfold Phi; simp only [prev0T_castSucc, prev0T_succ, traj0_eq, step0_B ch m ρ c t _ q0 q1, Fin.val_castSucc, Fin.val_succ]
      iintro ⟨⟨⟨%a0, %ha0, HS0⟩, ⟨%a1, %ha1, HS1⟩, ⟨%a2, %ha2, HS2⟩, ⟨%a3, %ha3, HS3⟩, ⟨%a4, %ha4, HS4⟩, ⟨%a5, %ha5, HS5⟩, HT0, HT1⟩, Ho, ⟨%d0, H0⟩, ⟨%d1, H1⟩, ⟨%d2, H2⟩, ⟨%d3, H3⟩, ⟨%d4, H4⟩⟩
      iapply ((kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) hc0 k0_h2).2.2.2.2.2.2 _ a0 a1 a2 a3 a4 a5 _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexact H4
      isplitl [HS0]; · iexact HS0
      isplitl [HS1]; · iexact HS1
      isplitl [HS2]; · iexact HS2
      isplitl [HS3]; · iexact HS3
      isplitl [HS4]; · iexact HS4
      isplitl [HS5]; · iexact HS5
      iintro ⟨H0, H1, H2, H3, HT0, HT1, H4, HS0, HS1, HS2, HS3, HS4, HS5⟩
      isplitl [HS0 HS1 HS2 HS3 HS4 HS5 HT0 HT1]
      · isplitl [HS0]
        · iexists _; isplitr; swap
          · iexact HS0
          · ipureintro; intro hn; first | rfl | exact absurd hn (by first | (rw [sfn0]; decide) | decide)
        isplitl [HS1]
        · iexists _; isplitr; swap
          · iexact HS1
          · ipureintro; intro hn; first | rfl | exact absurd hn (by first | (rw [sfn1]; decide) | decide)
        isplitl [HS2]
        · iexists _; isplitr; swap
          · iexact HS2
          · ipureintro; intro hn; first | rfl | exact absurd hn (by first | (rw [sfn2]; decide) | decide)
        isplitl [HS3]
        · iexists _; isplitr; swap
          · iexact HS3
          · ipureintro; intro hn; first | rfl | exact absurd hn (by first | (rw [sfn3]; decide) | decide)
        isplitl [HS4]
        · iexists _; isplitr; swap
          · iexact HS4
          · ipureintro; intro hn; first | rfl | exact absurd hn (by first | (rw [sfn4]; decide) | decide)
        isplitl [HS5]
        · iexists _; isplitr; swap
          · iexact HS5
          · ipureintro; intro hn; first | rfl | exact absurd hn (by first | (rw [sfn5]; decide) | decide)
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      first | (iexists d4; iexact H4) | iexact H4
  · by_cases q1 : P0_1 ch t
    · obtain ⟨i4, f4, fr4, sf0, sfn0, sf1, sfn1, sf2, sfn2, sf3, sfn3, sf4, sfn4, sf5, sfn5⟩ := sched0_C ch t q0 q1
      have F0 := hypsR0_C ch t q0 q1
      have hc0 := F0.1; have F1 := F0.2
      have k0_h2 := F1.1; have F2 := F1.2
      clear F0 F1 F2
      rewrite [i4]
      simp only [before0_0, before0_1, before0_2, before0_3, before0_4, after0_0, after0_1, after0_2, after0_3, after0_4, f4]
      simp only [fr4, Bool.false_eq_true, ↓reduceIte]
      rewrite [show (dats ch m ρ 0 c).Φ t.succ = Phi ch m ρ c t.succ from rfl, show (dats ch m ρ 0 c).Φ t.castSucc = Phi ch m ρ c t.castSucc from rfl,
        show (dats ch m ρ 0 c).owesAt () t.succ = (dats ch m ρ 0 c).owesAt () t.castSucc from rfl]
      try rewrite [traj0_eq, step0_C ch m ρ c t _ q0 q1]
      unfold Phi; simp only [prev0T_castSucc, prev0T_succ, traj0_eq, step0_C ch m ρ c t _ q0 q1, Fin.val_castSucc, Fin.val_succ]
      simp only [exists_held sf0, exists_held sf1, exists_held sf2]
      iintro ⟨⟨HS0, HS1, HS2, ⟨%a3, %ha3, HS3⟩, ⟨%a4, %ha4, HS4⟩, ⟨%a5, %ha5, HS5⟩, HT0, HT1⟩, Ho, ⟨%d0, H0⟩, ⟨%d1, H1⟩, ⟨%d2, H2⟩, ⟨%d3, H3⟩, ⟨%d4, H4⟩⟩
      iapply ((kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) _ _ _ hc0 k0_h2).2.2.2.2.2.2.2 a3 a4 a5 _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexists _; iexact H4
      isplitl [HS0]; · iexact HS0
      isplitl [HS1]; · iexact HS1
      isplitl [HS2]; · iexact HS2
      isplitl [HS3]; · iexact HS3
      isplitl [HS4]; · iexact HS4
      isplitl [HS5]; · iexact HS5
      iintro ⟨H0, H1, H2, H3, HT0, HT1, ⟨%e4, H4⟩, HS0, HS1, HS2, HS3, HS4, HS5⟩
      isplitl [HS0 HS1 HS2 HS3 HS4 HS5 HT0 HT1]
      · isplitl [HS0]
        · iexists _; isplitr; swap
          · iexact HS0
          · ipureintro; intro hn; first | rfl | exact absurd hn (by first | (rw [sfn0]; decide) | decide)
        isplitl [HS1]
        · iexists _; isplitr; swap
          · iexact HS1
          · ipureintro; intro hn; first | rfl | exact absurd hn (by first | (rw [sfn1]; decide) | decide)
        isplitl [HS2]
        · iexists _; isplitr; swap
          · iexact HS2
          · ipureintro; intro hn; first | rfl | exact absurd hn (by first | (rw [sfn2]; decide) | decide)
        isplitl [HS3]
        · iexists _; isplitr; swap
          · iexact HS3
          · ipureintro; intro hn; first | rfl | exact absurd hn (by first | (rw [sfn3]; decide) | decide)
        isplitl [HS4]
        · iexists _; isplitr; swap
          · iexact HS4
          · ipureintro; intro hn; first | rfl | exact absurd hn (by first | (rw [sfn4]; decide) | decide)
        isplitl [HS5]
        · iexists _; isplitr; swap
          · iexact HS5
          · ipureintro; intro hn; first | rfl | exact absurd hn (by first | (rw [sfn5]; decide) | decide)
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      unfold owns; iexists _; isplitr; swap
      · iexact H4
      · ipureintro; exact View.read_writes_of_cover _ _ _ _ _ (cover0_C_4 c _ _ _ _ _ _ _ _ _ _ _ _ _ _ _ _ _ _ _ _ _ _)
    · obtain ⟨i4, f4, fr4, sf0, sfn0, sf1, sfn1, sf2, sfn2, sf3, sfn3, sf4, sfn4, sf5, sfn5⟩ := sched0_D ch t q0 q1
      have F0 := hypsR0_D ch t q0 q1
      have hc0 := F0.1; have F1 := F0.2
      have k0_h2 := F1.1; have F2 := F1.2
      clear F0 F1 F2
      rewrite [i4]
      simp only [before0_0, before0_1, before0_2, before0_3, before0_4, after0_0, after0_1, after0_2, after0_3, after0_4, f4]
      simp only [fr4, Bool.false_eq_true, ↓reduceIte]
      rewrite [show (dats ch m ρ 0 c).Φ t.succ = Phi ch m ρ c t.succ from rfl, show (dats ch m ρ 0 c).Φ t.castSucc = Phi ch m ρ c t.castSucc from rfl,
        show (dats ch m ρ 0 c).owesAt () t.succ = (dats ch m ρ 0 c).owesAt () t.castSucc from rfl]
      try rewrite [traj0_eq, step0_D ch m ρ c t _ q0 q1]
      unfold Phi; simp only [prev0T_castSucc, prev0T_succ, traj0_eq, step0_D ch m ρ c t _ q0 q1, Fin.val_castSucc, Fin.val_succ]
      simp only [exists_held sf0, exists_held sf1, exists_held sf2]
      iintro ⟨⟨HS0, HS1, HS2, ⟨%a3, %ha3, HS3⟩, ⟨%a4, %ha4, HS4⟩, ⟨%a5, %ha5, HS5⟩, HT0, HT1⟩, Ho, ⟨%d0, H0⟩, ⟨%d1, H1⟩, ⟨%d2, H2⟩, ⟨%d3, H3⟩, ⟨%d4, H4⟩⟩
      iapply ((kernelRun0_D c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) _ _ _ hc0 k0_h2).2.2.2.2.2.2 _ a3 a4 a5 _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexact H4
      isplitl [HS0]; · iexact HS0
      isplitl [HS1]; · iexact HS1
      isplitl [HS2]; · iexact HS2
      isplitl [HS3]; · iexact HS3
      isplitl [HS4]; · iexact HS4
      isplitl [HS5]; · iexact HS5
      iintro ⟨H0, H1, H2, H3, HT0, HT1, H4, HS0, HS1, HS2, HS3, HS4, HS5⟩
      isplitl [HS0 HS1 HS2 HS3 HS4 HS5 HT0 HT1]
      · isplitl [HS0]
        · iexists _; isplitr; swap
          · iexact HS0
          · ipureintro; intro hn; first | rfl | exact absurd hn (by first | (rw [sfn0]; decide) | decide)
        isplitl [HS1]
        · iexists _; isplitr; swap
          · iexact HS1
          · ipureintro; intro hn; first | rfl | exact absurd hn (by first | (rw [sfn1]; decide) | decide)
        isplitl [HS2]
        · iexists _; isplitr; swap
          · iexact HS2
          · ipureintro; intro hn; first | rfl | exact absurd hn (by first | (rw [sfn2]; decide) | decide)
        isplitl [HS3]
        · iexists _; isplitr; swap
          · iexact HS3
          · ipureintro; intro hn; first | rfl | exact absurd hn (by first | (rw [sfn3]; decide) | decide)
        isplitl [HS4]
        · iexists _; isplitr; swap
          · iexact HS4
          · ipureintro; intro hn; first | rfl | exact absurd hn (by first | (rw [sfn4]; decide) | decide)
        isplitl [HS5]
        · iexists _; isplitr; swap
          · iexact HS5
          · ipureintro; intro hn; first | rfl | exact absurd hn (by first | (rw [sfn5]; decide) | decide)
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      first | (iexists d4; iexact H4) | iexact H4

/-- The library's body obligation, at every point. -/
theorem body_obligation (c : Dev nD) : BodyObligation (dats ch m ρ 0 c) (defs₀ (F := Bits)) Variants.none () Set.univ := fun t => by
  rw [bigSep_W0]
  exact sound_body ch m ρ c t

/-! ## The launch -/

/-- The rounds library's launch element. -/
def u₀ : UR sig nD τ :=
  initOf (Pipeline.cells (pcs ch) ((launch0 (F := Bits)).cellOf_inj fun _ => adm ch))
    (Pipeline.launchToks (pcs ch) ((launch0 (F := Bits)).cellOf_inj fun _ => adm ch))

theorem share_eq (c : Dev nD) (w : Fin (cfgA ch).W) : (dats ch m ρ 0 c).share w = fullShare := by unfold Dat.share; split <;> rfl

/-- The tables as the launch hands them to the region, one by one. -/
theorem prefHeld_eq (c : Dev nD) (q : Fin 2 → PosShare TreeShare) (v : pre0.Contents (Elt Bits)) :
    (Pipeline.prefHeld (Ix := Unit) (Name := ℕ) (U := UR sig nD τ) (Lvl := ℕ) pre0 c q v : sProp 𝕄)
      = iprop((((c : Thread nD τ).loc main_c) ↦{q 0} v 0) ∗ (((c : Thread nD τ).loc main_c_0) ↦{q 1} v 1)) := by
  unfold Pipeline.prefHeld
  rw [show (Finset.univ : Finset (Fin 2)) = insert (0 : Fin 2) {(1 : Fin 2)} from by decide,
    bigSep_insert (by decide), bigSep_singleton]
  rfl

/-- The invariant at the first point from the tables and the scratch buffers (`hin`); -/
theorem phi0_intro (c : Dev nD) :
    iprop(BI.emp ∗ Pipeline.prefHeld pre0 c (fun _ => fullShare.right) (adm ch).1 ∗ Pipeline.scopedRest spec0 c) ⊢ (dats ch m ρ 0 c).Φ 0 := by
  rw [prefHeld_eq, scopedRest0_eq, show (dats ch m ρ 0 c).Φ 0 = Phi ch m ρ c 0 from rfl]
  unfold Phi
  iintro ⟨-, ⟨HT0, HT1⟩, ⟨%a0, HS0⟩, ⟨%a1, HS1⟩, ⟨%a2, HS2⟩, ⟨%a3, HS3⟩, ⟨%a4, HS4⟩, ⟨%a5, HS5⟩⟩
  isplitl [HS0]
  · iexists a0; isplitr; swap
    · iexact HS0
    · ipureintro; intro h; exact absurd (h.symm.trans (show sfresh0_0 ch 0 = true from rfl)) Bool.false_ne_true
  isplitl [HS1]
  · iexists a1; isplitr; swap
    · iexact HS1
    · ipureintro; intro h; exact absurd (h.symm.trans (show sfresh0_1 ch 0 = true from rfl)) Bool.false_ne_true
  isplitl [HS2]
  · iexists a2; isplitr; swap
    · iexact HS2
    · ipureintro; intro h; exact absurd (h.symm.trans (show sfresh0_2 ch 0 = true from rfl)) Bool.false_ne_true
  isplitl [HS3]
  · iexists a3; isplitr; swap
    · iexact HS3
    · ipureintro; intro h; exact absurd (h.symm.trans (show sfresh0_3 ch 0 = true from rfl)) Bool.false_ne_true
  isplitl [HS4]
  · iexists a4; isplitr; swap
    · iexact HS4
    · ipureintro; intro h; exact absurd (h.symm.trans (show sfresh0_4 ch 0 = true from rfl)) Bool.false_ne_true
  isplitl [HS5]
  · iexists a5; isplitr; swap
    · iexact HS5
    · ipureintro; intro h; exact absurd (h.symm.trans (show sfresh0_5 ch 0 = true from rfl)) Bool.false_ne_true
  isplitl [HT0]
  · iexact HT0
  iexact HT1

/-- at the last point it gives the scratch buffers back (`hout`), the tables let go. -/
theorem phiN_exit (c : Dev nD) : (dats ch m ρ 0 c).Φ (Fin.last (cfgA ch).N) ⊢ iprop(BI.emp ∗ Pipeline.scopedRest spec0 c) := by
  rw [scopedRest0_eq, show (dats ch m ρ 0 c).Φ (Fin.last (cfgA ch).N) = Phi ch m ρ c (Fin.last _) from rfl]
  unfold Phi
  iintro ⟨⟨%a0, -, HS0⟩, ⟨%a1, -, HS1⟩, ⟨%a2, -, HS2⟩, ⟨%a3, -, HS3⟩, ⟨%a4, -, HS4⟩, ⟨%a5, -, HS5⟩, -, -⟩
  isplitr; · iempintro
  isplitl [HS0]
  · iexists a0; iexact HS0
  isplitl [HS1]
  · iexists a1; iexact HS1
  isplitl [HS2]
  · iexists a2; iexact HS2
  isplitl [HS3]
  · iexists a3; iexact HS3
  isplitl [HS4]
  · iexists a4; iexact HS4
  iexists a5; iexact HS5

/-- The physical post: every array at what the library computes, every table at what the pipeline ran at. -/
def QC : PUnit × MemSt nD τ sig (Elt Bits) → Prop := fun r =>
  ∀ c : Dev nD, (∀ w : Fin (cfgA ch).W, r.2.mem (((cfgA ch).win w).arr.view.loc (c : Thread nD τ)) = (dats ch m ρ 0 c).arrAt w (cfgA ch).N)
    ∧ ∀ j, r.2.mem ((c : Thread nD τ).loc (pre0.ref j)) = (adm ch).1 j

/-- Each host operation before the region writes a buffer of its own. -/
theorem hostOps0_fresh : (hostOps0 (F := Bits)).Forall fun op => op.fresh = ∅ := ⟨rfl, rfl⟩

/-- Core `c`'s buffers when the region is entered: after the two host operations that write the tables. -/
abbrev V (c : Dev nD) (b : Ref sig .tc) : Buf (Elt Bits) ((c : Thread nD τ).loc b) :=
  StableHlo.after (hostOps0 (F := Bits)) (fun b => m (c, b)) b

set_option maxHeartbeats 4000000 in
/-- The program up to the region: the two host operations, then the region. -/
theorem hmain (𝒱₀ : Variants) :
    Pipeline.HMainP (Ix := Unit) (Name := ℕ) (U := UR sig nD τ) (Lvl := ℕ) (pcfgs (F := Bits)) (0 : Fin 1) defs₀ 𝒱₀ m
      (main (F := Bits)) (V m) :=
  Pipeline.hmainP_prefix (pcfgs (F := Bits)) (0 : Fin 1) defs₀ 𝒱₀ m main hostOps0 hostOps0_sub hostOps0_fresh main_chain

/-- The tables at the region's entry. -/
theorem V_pre (c : Dev nD) (j : Fin 2) : V m c (pre0.ref j) = (adm ch).1 j := by
  obtain rfl : ch = 0 := Subsingleton.elim _ _
  fin_cases j
  · show V m c main_c = pinT_0 0
    have h : V m c main_c = fun i => lit0 (S884.rowMajor i) := by
      unfold V hostOps0
      rw [StableHlo.after_cons, StableHlo.after_cons, StableHlo.after_nil]
      refine (StableHlo.nullary_result_ne _ _ _ _ (show main_c ≠ main_c_0 by decide)).trans ?_
      exact StableHlo.nullary_result _ _ _ _
    rw [h]; funext i; exact (lit0_eq (S884.rowMajor i)).trans (congrArg (pinT_0 0) (S884.rowMajor.symm_apply_apply i))
  · show V m c main_c_0 = pinT_1 0
    have h : V m c main_c_0 = fun i => lit1 (S884.rowMajor i) := by
      unfold V hostOps0
      rw [StableHlo.after_cons, StableHlo.after_cons, StableHlo.after_nil]
      exact StableHlo.nullary_result _ _ _ _
    rw [h]; funext i; exact (lit1_eq (S884.rowMajor i)).trans (congrArg (pinT_1 0) (S884.rowMajor.symm_apply_apply i))

/-- A buffer that is neither table is as launched at the region's entry. -/
theorem V_other (c : Dev nD) (b : Ref sig .tc) (h0 : b ≠ main_c) (h1 : b ≠ main_c_0) : V m c b = m (c, b) :=
  (StableHlo.nullary_result_ne _ _ _ _ h1).trans (StableHlo.nullary_result_ne _ _ _ _ h0)

/-- The windows' arrays at the region's entry are as launched. -/
theorem V_arr (c : Dev nD) (w : Fin (cfgA ch).W) :
    m (((cfgA ch).win w).arr.view.loc (c : Thread nD τ)) = V m c (Pipeline.arrRef ((cfgA ch).spec) w) := by
  fin_cases w
  · exact (V_other m c main_arg0 (by decide) (by decide)).symm
  · exact (V_other m c main_arg1 (by decide) (by decide)).symm
  · exact (V_other m c main_arg2 (by decide) (by decide)).symm
  · exact (V_other m c main_arg3 (by decide) (by decide)).symm
  · exact (V_other m c main_v0 (by decide) (by decide)).symm

set_option backward.isDefEq.respectTransparency.types false in
set_option maxHeartbeats 4000000 in
/-- At the compiled mesh, from any memory with zero counters whose tables and steering words are member `ch`'s: every weakly
    fair execution of @main on the TensorCores terminates, and every final state has each array at the computed contents,
    and every semaphore counter of the machine at zero. -/
theorem run_main_quiescent : θ_run (defs (F := Bits)) (onTc (τ := τ) (main (F := Bits))) (s₀ m ρ) (fun r => QC ch m ρ r ∧ r.2.sem = fun _ => 0) :=
  Pipeline.θ_run_region_noSem_pf_quiescent pcfgs (fun _ => adm ch) (dats ch m ρ) () ((launch0 (F := Bits)).cellOf_inj fun _ => adm ch) (0 : Fin 1)
    (launch0 (F := Bits)).win.to₀ (launch0 (F := Bits)).pre EP defs₀ Variants.none m ρ main
    (hbody := fun c => (body_obligation ch m ρ c).loose) (hne := (launch0 (F := Bits)).block_pos)
    (harr := (launch0 (F := Bits)).arr_whole) (hstage := (launch0 (F := Bits)).stage_whole) (howed := fun _ _ => rfl)
    (u₀ := u₀ ch) (hu₀ := .rfl)
    (V := V m)
    (hmain := hmain m Variants.none)
    (hsplit := fun c => Pipeline.arrays_split (pcs ch) (dats ch m ρ) 0 (launch0 (F := Bits)).win.arr_inj c (launch0 (F := Bits)).arr_whole
      (share_eq ch m ρ c) _ _ (V_arr ch m c))
    (hpf := V_pre ch m)
    (X := fun _ => iprop(emp)) (Y := fun _ => iprop(emp)) (Z := fun _ => iprop(emp))
    (hX := fun c => by rw [unscopedRestP0_eq]; iintro -; isplitr <;> iempintro)
    (hin := phi0_intro ch m ρ)
    (hout := phiN_exit ch m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- `run_main_quiescent` without the counters. -/
theorem run_main : θ_run (defs (F := Bits)) (onTc (τ := τ) (main (F := Bits))) (s₀ m ρ) (QC ch m ρ) :=
  (θ_run defs _ _).mono (fun _ h => h.1) (run_main_quiescent ch m ρ)

/-- `frame` without the counters: the argument arrays end unchanged. -/
theorem unchanged :
    θ_run (defs (F := Bits)) (onTc (τ := τ) (main (F := Bits))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 (0 : Fin 5)).trans ((dats 0 m ρ 0 c).arrAt_in (0 : Fin 5) rfl _), ((h c).1 (1 : Fin 5)).trans ((dats 0 m ρ 0 c).arrAt_in (1 : Fin 5) rfl _), ((h c).1 (2 : Fin 5)).trans ((dats 0 m ρ 0 c).arrAt_in (2 : Fin 5) rfl _), ((h c).1 (3 : Fin 5)).trans ((dats 0 m ρ 0 c).arrAt_in (3 : Fin 5) rfl _)⟩) (run_main 0 m ρ)

/-- The frame of the call: every weakly fair execution terminates, nothing faults, every argument array ends unchanged
    and every semaphore counter of the machine reads zero at every final state. -/
theorem frame :
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent 0 m ρ))

end Cert.Kernel.Attn

end
-- ==== Proof.Attn.Sched.lean ====
module

public import proofs.«01_k».proof.Proof.AttnIdeal.Launch

/-!
The schedule of the grid points: which query block and which key block each point takes, decided over the 884 points.
-/

@[expose] public section

set_option maxRecDepth 16384
set_option Elab.async false

noncomputable section

namespace Cert.KernelIdeal.Attn

open Cert.KernelIdeal Cert.KernelIdeal.Gen
open Idealize.ShloMosaic Idealize.ShloMosaic.TcCoe Idealize.ShloMosaic.Tactic

/-- The query block of point `t`. -/
abbrev qi (t : Fin (cfgA 0).N) : ℕ := cc0_transform_0 (F := Ideal) k0_off1_inb numel1_S1 (pfN 0) (crd 0 t) 0
/-- The key block of point `t`. -/
abbrev ki (t : Fin (cfgA 0).N) : ℕ := cc0_transform_1 (F := Ideal) k0_off1_inb numel1_S1 (pfN 0) (crd 0 t) 0

/-- A point resets when it takes key block 0, and writes the output when it takes the last key block its queries see. -/
theorem sched : ∀ t : Fin (cfgA 0).N, qi t < 65 ∧ ki t < 26 ∧ (P0_0 0 t ↔ ki t = 0) ∧
    (P0_1 0 t ↔ ki t = (256 * qi t + 255) / 640) := by decide +kernel

/-- A point that does not reset takes the same queries as the one before, and the next keys. -/
theorem sched_next : ∀ t : Fin (cfgA 0).N, ∀ h : t.val + 1 < (cfgA 0).N, ¬P0_0 0 ⟨t.val + 1, h⟩ →
    qi ⟨t.val + 1, h⟩ = qi t ∧ ki ⟨t.val + 1, h⟩ = ki t + 1 := by decide +kernel

theorem sched_zero : ∀ t : Fin (cfgA 0).N, t.val = 0 → P0_0 0 t := by decide +kernel

/-- The point that writes query block `i`. -/
def lastT (i : ℕ) : ℕ := ((List.range (i + 1)).map fun i => (256 * i + 255) / 640 + 1).sum - 1

theorem sched_last : ∀ i : Fin 65, ∃ h : lastT i.val < (cfgA 0).N, P0_1 0 ⟨lastT i.val, h⟩ ∧ qi ⟨lastT i.val, h⟩ = i.val := by
  decide +kernel

end Cert.KernelIdeal.Attn
-- ==== Proof.Attn.Head.lean ====
module

public import proofs.«01_k».proof.Proof.Gen.KernelIdeal.Skeleton
public import Idealize.ShloMosaic.Lib.Pointwise

/-!
One head's share of one grid point, read at an index: the scores of 640 keys against 256 queries, the running
maximum, the rescaling factor, the weights, the running sum of weights and the running weighted sum of values.
-/

@[expose] public section

open Idealize.ShloMosaic

noncomputable section

namespace Cert.KernelIdeal.Attn

open Cert.KernelIdeal Cert.KernelIdeal.Gen

/-- A score: the inner product of a key and a query, plus the bias. -/
theorem score_apply (q : Vec Ideal S256x128 .bf16) (k : Vec Ideal S640x128 .bf16) (b : Vec Ideal S640x256 .f32)
    (a : Fin 640) (c : Fin 256) :
    k0_pay23 (F := Ideal) q k b (ix2 a c) = (∑ d : Fin 128, k (ix2 a d) * q (ix2 c d)) + b (ix2 a c) := by
  pointwise [k0_pay23]

theorem top_apply (q : Vec Ideal S256x128 .bf16) (k : Vec Ideal S640x128 .bf16) (b : Vec Ideal S640x256 .f32)
    (c : Fin 256) :
    k0_pay25 (F := Ideal) q k b (ix2 0 c) = Finset.univ.sup fun a : Fin 640 => k0_pay23 (F := Ideal) q k b (ix2 a c) := by
  pointwise [k0_pay25]
  rw [show Ideal.ofBits .f32 0xFF800000#32 = ⊥ by simp [Ideal.ofBits, Ideal.ieee]]
  rfl

theorem saved_apply (q : Vec Ideal S256x128 .bf16) (k : Vec Ideal S640x128 .bf16) (b : Vec Ideal S640x256 .f32)
    (z : Fin 1) (a : Fin 640) (c : Fin 256) :
    k0_pay24 (F := Ideal) q k b (ix3 z a c) = k0_pay23 (F := Ideal) q k b (ix2 a c) := by
  pointwise [k0_pay24]

theorem newTop_apply (x : FVec Ideal S1x256 .f32) (mp : Vec Ideal S1x8x256 .f32) (z : Fin 1) (r : Fin 8) (c : Fin 256) :
    k0_pay79 (F := Ideal) x mp (ix3 z r c) = max (mp (ix3 0 r c)) (x (ix2 0 c)) := by
  pointwise [k0_pay79, k0_pay75, k0_pay74]

theorem shrink_apply (x : FVec Ideal S1x256 .f32) (mp : Vec Ideal S1x8x256 .f32) (r : Fin 1) (c : Fin 256) :
    k0_pay82 (F := Ideal) (k0_pay76 x mp) (ix2 r c)
      = Ideal.exp2 (mp (ix3 0 0 c) - max (mp (ix3 0 0 c)) (x (ix2 0 c))) := by
  pointwise [k0_pay82, k0_pay76, k0_pay75, k0_pay74]
  rfl

theorem weight_apply (x : FVec Ideal S1x256 .f32) (mp : Vec Ideal S1x8x256 .f32) (s : Vec Ideal S1x640x256 .f32)
    (z : Fin 1) (a : Fin 640) (c : Fin 256) :
    k0_pay81 (F := Ideal) (k0_pay80 x mp s) (ix3 z a c)
      = Ideal.exp2 (s (ix3 0 a c) - max (mp (ix3 0 0 c)) (x (ix2 0 c))) := by
  pointwise [k0_pay81, k0_pay80, k0_pay77, k0_pay75, k0_pay74]
  rfl

theorem newSum_apply (x : FVec Ideal S1x256 .f32) (mp : Vec Ideal S1x8x256 .f32) (s : Vec Ideal S1x640x256 .f32)
    (lp : Vec Ideal S1x8x256 .f32) (z : Fin 1) (r : Fin 8) (c : Fin 256) :
    k0_pay78 (F := Ideal) x mp s lp (ix3 z r c)
      = Ideal.exp2 (mp (ix3 0 r c) - max (mp (ix3 0 r c)) (x (ix2 0 c))) * lp (ix3 0 r c)
        + ∑ a : Fin 640, Ideal.exp2 (s (ix3 0 a c) - max (mp (ix3 0 0 c)) (x (ix2 0 c))) := by
  pointwise [k0_pay78, k0_pay77, k0_pay76, k0_pay75, k0_pay74]
  rfl

theorem newAcc_apply (x : FVec Ideal S1x256 .f32) (v : Vec Ideal S128x640 .bf16) (ap : Vec Ideal S128x256 .f32)
    (p : Vec Ideal S1x640x256 .bf16) (d : Fin 128) (c : Fin 256) :
    k0_pay210 (F := Ideal) x v ap p (ix2 d c)
      = x (ix2 0 c) * ap (ix2 d c) + ∑ a : Fin 640, v (ix2 d a) * p (ix3 0 a c) := by
  pointwise [k0_pay210]

theorem mean_apply (a : Vec Ideal S128x256 .f32) (l : Vec Ideal S1x8x256 .f32) (c : Fin 256) (d : Fin 128) :
    k0_pay3 (F := Ideal) a l (ix2 c d) = Ideal.div (a (ix2 d c)) (l (ix3 0 0 c)) := by
  pointwise [k0_pay3]

theorem bias_apply (b : Vec Ideal S640x256 .bf16) (j : S640x256.Idx) : k0_pay22 (F := Ideal) b j = b j := by
  pointwise [k0_pay22]

/-- The value the running maximum starts at. -/
def start : ℝ := -(13234890 * 2 ^ 76)

theorem start_apply (j : S16x8x256.Idx) : k0_pay19 (F := Ideal) j = (start : EReal) := by
  pointwise [k0_pay19]
  simp [Ideal.ofBits, Ideal.ieee, start, EReal.coe_mul, EReal.coe_pow]

theorem zeros_apply (j : S16x8x256.Idx) : k0_pay20 (F := Ideal) j = 0 := by
  pointwise [k0_pay20]

theorem zeros2_apply (j : S2048x256.Idx) : k0_pay21 (F := Ideal) j = 0 := by
  pointwise [k0_pay21]

end Cert.KernelIdeal.Attn
-- ==== Proof.Attn.Online.lean ====
/- The online softmax, on extended reals: a running maximum, a running denominator and a running numerator, rescaled when
   the maximum grows, give the softmax-weighted mean over all keys. -/
module

public import Mathlib.Data.EReal.Inv
public import Mathlib.Algebra.BigOperators.Intervals
public import Idealize.ShloMosaic.PureOps.Ideal

@[expose] public section

noncomputable section

namespace Cert.Online

open Idealize.ShloMosaic Finset

/-- A power of two is never negative. -/
theorem exp2_nonneg (x : EReal) : 0 ≤ Ideal.exp2 x := by
  induction x with
  | bot => simp
  | top => simp
  | coe r =>
    simp only [Ideal.exp2_coe]
    exact_mod_cast (Real.rpow_pos_of_pos (by norm_num) r).le

/-- The weight of a smaller exponent against a larger one is not infinite. -/
theorem exp2_sub_ne_top {x y : EReal} (h : x ≤ y) : Ideal.exp2 (x - y) ≠ ⊤ := by
  induction y with
  | bot => obtain rfl := le_bot_iff.mp h; simp
  | top => simp [sub_eq_add_neg]
  | coe r =>
    induction x with
    | bot => simp [sub_eq_add_neg]
    | top => simp at h
    | coe q => rw [← EReal.coe_sub, Ideal.exp2_coe]; exact EReal.coe_ne_top _

/-- Rescaling a weight from one maximum to a larger one. -/
theorem exp2_rescale {s m m' : EReal} (hs : s ≤ m) (hm : m ≤ m') (hb : m ≠ ⊥) :
    Ideal.exp2 (m - m') * Ideal.exp2 (s - m) = Ideal.exp2 (s - m') := by
  induction m' with
  | bot => exact absurd (le_bot_iff.mp hm) hb
  | top => simp [sub_eq_add_neg]
  | coe r' =>
    induction m with
    | bot => exact absurd rfl hb
    | top => simp at hm
    | coe r =>
      induction s with
      | bot => simp [sub_eq_add_neg]
      | top => simp at hs
      | coe q =>
        rw [← EReal.coe_sub, ← EReal.coe_sub, ← EReal.coe_sub, Ideal.exp2_coe, Ideal.exp2_coe, Ideal.exp2_coe, ← EReal.coe_mul]
        congr 1
        show (2 : ℝ) ^ (r - r') * (2 : ℝ) ^ (q - r) = (2 : ℝ) ^ (q - r')
        rw [← Real.rpow_add (by norm_num)]
        congr 1; ring

/-- A factor that is neither negative nor infinite goes into a sum. -/
theorem mul_sum_of_nonneg {ι : Type*} (S : Finset ι) (f : ι → EReal) {a : EReal} (h0 : 0 ≤ a) (ht : a ≠ ⊤) :
    a * ∑ i ∈ S, f i = ∑ i ∈ S, a * f i := by
  classical
  induction S using Finset.induction_on with
  | empty => simp
  | insert i S hi ih => rw [sum_insert hi, sum_insert hi, EReal.left_distrib_of_nonneg_of_ne_top h0 ht, ih]

/-- The running maximum over the first `n` keys, started at `c`. -/
def peak (c : EReal) (s : ℕ → EReal) (n : ℕ) : EReal := max c ((range n).sup s)

/-- The running denominator over the first `n` keys. -/
def den (c : EReal) (s : ℕ → EReal) (n : ℕ) : EReal := ∑ k ∈ range n, Ideal.exp2 (s k - peak c s n)

/-- The running numerator over the first `n` keys, values `v`. -/
def num (c : EReal) (s v : ℕ → EReal) (n : ℕ) : EReal := ∑ k ∈ range n, v k * Ideal.exp2 (s k - peak c s n)

variable (c : EReal) (s v : ℕ → EReal)

theorem peak_zero : peak c s 0 = c := by simp [peak]
theorem den_zero : den c s 0 = 0 := by simp [den]
theorem num_zero : num c s v 0 = 0 := by simp [num]

/-- The peak over `t` more keys. -/
theorem peak_add (n t : ℕ) : peak c s (n + t) = max (peak c s n) ((range t).sup fun i => s (n + i)) := by
  unfold peak
  rw [max_assoc]; congr 1
  apply le_antisymm
  · refine Finset.sup_le fun k hk => ?_
    by_cases h : k < n
    · exact le_max_of_le_left (Finset.le_sup (f := s) (mem_range.mpr h))
    · refine le_max_of_le_right ?_
      have := Finset.le_sup (f := fun i => s (n + i)) (s := range t) (b := k - n) (by simp at hk ⊢; omega)
      simpa [Nat.add_sub_cancel' (not_lt.mp h)] using this
  · refine max_le (Finset.sup_le fun k hk => Finset.le_sup (f := s) (by simp at hk ⊢; omega)) (Finset.sup_le fun i hi => ?_)
    exact Finset.le_sup (f := s) (by simp at hi ⊢; omega)

theorem peak_mono (n t : ℕ) : peak c s n ≤ peak c s (n + t) := by rw [peak_add]; exact le_max_left _ _

theorem le_peak {n k : ℕ} (h : k < n) : s k ≤ peak c s n := le_max_of_le_right (Finset.le_sup (f := s) (mem_range.mpr h))

theorem peak_ne_bot (hc : c ≠ ⊥) (n : ℕ) : peak c s n ≠ ⊥ := fun h => hc (le_bot_iff.mp (h ▸ le_max_left _ _))

/-- The denominator over `t` more keys: the old one rescaled, plus the new weights. -/
theorem den_add (hc : c ≠ ⊥) (n t : ℕ) :
    den c s (n + t) = Ideal.exp2 (peak c s n - peak c s (n + t)) * den c s n
      + ∑ i ∈ range t, Ideal.exp2 (s (n + i) - peak c s (n + t)) := by
  unfold den
  rw [sum_range_add, mul_sum_of_nonneg _ _ (exp2_nonneg _) (exp2_sub_ne_top (peak_mono c s n t))]
  congr 1
  refine sum_congr rfl fun k hk => ?_
  rw [exp2_rescale (le_peak c s (mem_range.mp hk)) (peak_mono c s n t) (peak_ne_bot c s hc n)]

/-- The numerator over `t` more keys: the old one rescaled, plus the new weighted values. -/
theorem num_add (hc : c ≠ ⊥) (n t : ℕ) :
    num c s v (n + t) = Ideal.exp2 (peak c s n - peak c s (n + t)) * num c s v n
      + ∑ i ∈ range t, v (n + i) * Ideal.exp2 (s (n + i) - peak c s (n + t)) := by
  unfold num
  rw [sum_range_add, mul_sum_of_nonneg _ _ (exp2_nonneg _) (exp2_sub_ne_top (peak_mono c s n t))]
  congr 1
  refine sum_congr rfl fun k hk => ?_
  rw [mul_left_comm, exp2_rescale (le_peak c s (mem_range.mp hk)) (peak_mono c s n t) (peak_ne_bot c s hc n)]

/-- A quotient does not change when both sides are multiplied by a positive real. -/
theorem div_mul_mul {a : ℝ} (ha : 0 < a) (x y : EReal) : Ideal.div (a * x) (a * y) = Ideal.div x y := by
  have ha' : (a : EReal) ≠ 0 := by exact_mod_cast ha.ne'
  have h0 : (a : EReal) * y = 0 ↔ y = 0 := by rw [mul_eq_zero]; simp [ha']
  have hx : 0 < (a : EReal) * x ↔ 0 < x := by
    rw [EReal.mul_pos_iff]
    have h1 : (0 : EReal) < a := by exact_mod_cast ha
    simp [h1, h1.not_gt]
  unfold Ideal.div
  simp only [h0, hx]
  split_ifs with hy
  · rfl
  · rfl
  · have hi : (a : EReal) * (a : EReal)⁻¹ = 1 := by
      rw [← EReal.coe_inv, ← EReal.coe_mul, mul_inv_cancel₀ ha.ne', EReal.coe_one]
    rw [EReal.mul_inv, mul_mul_mul_comm, hi, one_mul]

/-- The running quotient over the first `n` keys is the softmax-weighted mean over all `N`, when the keys from `n` on
    carry the logit `-∞`. -/
theorem mean_eq {c : ℝ} {n N : ℕ} (hn : n ≤ N) (hs : ∀ k, n ≤ k → k < N → s k = ⊥) :
    Ideal.div (num c s v n) (den c s n)
      = Ideal.div (∑ k ∈ range N, v k * Ideal.exp2 (s k - (range N).sup s)) (∑ k ∈ range N, Ideal.exp2 (s k - (range N).sup s)) := by
  have hsup : (range N).sup s = (range n).sup s := by
    apply le_antisymm
    · refine Finset.sup_le fun k hk => ?_
      by_cases h : k < n
      · exact Finset.le_sup (f := s) (mem_range.mpr h)
      · rw [hs k (not_lt.mp h) (mem_range.mp hk)]; exact bot_le
    · exact Finset.sup_mono (by simpa using hn)
  have hbot : ∀ M : EReal, Ideal.exp2 (⊥ - M) = 0 := fun M => by simp [sub_eq_add_neg]
  set M := (range n).sup s with hM
  have h1 : ∑ k ∈ range N, v k * Ideal.exp2 (s k - M) = ∑ k ∈ range n, v k * Ideal.exp2 (s k - M) := by
    symm
    refine sum_subset (by simpa using hn) fun k hk hk' => ?_
    rw [hs k (by simpa using hk') (mem_range.mp hk), hbot, mul_zero]
  have h2 : ∑ k ∈ range N, Ideal.exp2 (s k - M) = ∑ k ∈ range n, Ideal.exp2 (s k - M) := by
    symm
    refine sum_subset (by simpa using hn) fun k hk hk' => ?_
    rw [hs k (by simpa using hk') (mem_range.mp hk), hbot]
  rw [hsup, h1, h2]
  have hle : ∀ k ∈ range n, s k ≤ M := fun k hk => Finset.le_sup (f := s) hk
  unfold num den
  have hp : peak c s n = max (c : EReal) M := rfl
  rw [hp]
  by_cases hMb : M = ⊥
  · have hz : ∀ k ∈ range n, s k = ⊥ := fun k hk => le_bot_iff.mp (hMb ▸ hle k hk)
    have ha : ∀ m : EReal, ∑ k ∈ range n, v k * Ideal.exp2 (s k - m) = 0 := fun m =>
      sum_eq_zero fun k hk => by rw [hz k hk, hbot, mul_zero]
    have hb : ∀ m : EReal, ∑ k ∈ range n, Ideal.exp2 (s k - m) = 0 := fun m =>
      sum_eq_zero fun k hk => by rw [hz k hk, hbot]
    rw [ha, hb, ha, hb]
  by_cases hMt : M = ⊤
  · rw [hMt, max_top_right]
  obtain ⟨r, hr⟩ : ∃ r : ℝ, M = r := ⟨M.toReal, (EReal.coe_toReal hMt hMb).symm⟩
  have hα : Ideal.exp2 (M - max (c : EReal) M) = ((Real.rpow 2 (r - max c r) : ℝ) : EReal) := by
    rw [hr, ← EReal.coe_strictMono.monotone.map_max, ← EReal.coe_sub, Ideal.exp2_coe]
  have hpos : 0 < Real.rpow 2 (r - max c r) := Real.rpow_pos_of_pos (by norm_num) _
  rw [← div_mul_mul hpos (∑ k ∈ range n, v k * Ideal.exp2 (s k - M)), ← hα,
    mul_sum_of_nonneg _ _ (exp2_nonneg _) (exp2_sub_ne_top (le_max_right _ _)),
    mul_sum_of_nonneg _ _ (exp2_nonneg _) (exp2_sub_ne_top (le_max_right _ _))]
  congr 1
  · refine sum_congr rfl fun k hk => ?_
    rw [mul_left_comm, exp2_rescale (hle k hk) (le_max_right _ _) hMb]
  · refine sum_congr rfl fun k hk => ?_
    rw [exp2_rescale (hle k hk) (le_max_right _ _) hMb]

/-- The power with base two is the exponential base two. -/
theorem pow_two (x : EReal) : Ideal.pow (2 : ℝ) x = Ideal.exp2 x := by
  induction x with
  | bot =>
    show (if (2 : ℝ) < 0 then (⊥ : EReal) else if (1 : ℝ) < 2 then 0 else if (2 : ℝ) = 1 then 1 else ⊤) = 0
    norm_num
  | top =>
    show (if (2 : ℝ) < 0 then (⊥ : EReal) else if (1 : ℝ) < 2 then ⊤ else if (2 : ℝ) = 1 then 1 else 0) = ⊤
    norm_num
  | coe r => rfl

end Cert.Online
-- ==== Proof.Attn.Point.lean ====
module

public import proofs.«01_k».proof.Proof.Attn.Head
public import proofs.«01_k».proof.Proof.Attn.Online
public import proofs.«01_k».proof.Proof.AttnIdeal.Pins

/-!
One grid point over its sixteen heads: the lists of slices it writes to each buffer, head by head, and what those
buffers then hold at an index. Every list is the sixteen heads' slices, the last head's first, in front of what was
written before.
-/

@[expose] public section

noncomputable section

namespace Cert.KernelIdeal.Attn

open Cert.KernelIdeal Cert.KernelIdeal.Gen
open Idealize.ShloMosaic

/-- The heads, the last first: the order of the slices in a list of writes. -/
def heads : List (Fin 16) :=
  [⟨15, by decide⟩, ⟨14, by decide⟩, ⟨13, by decide⟩, ⟨12, by decide⟩, ⟨11, by decide⟩, ⟨10, by decide⟩, ⟨9, by decide⟩,
    ⟨8, by decide⟩, ⟨7, by decide⟩, ⟨6, by decide⟩, ⟨5, by decide⟩, ⟨4, by decide⟩, ⟨3, by decide⟩, ⟨2, by decide⟩,
    ⟨1, by decide⟩, ⟨0, by decide⟩]

theorem mem_heads (h : Fin 16) : h ∈ heads := by revert h; decide

/-- Where a head's slice holds `G`, so does the buffer after all the heads' writes. -/
theorem canon_heads {s : Shape} {e : EltTy} (P : Fin 16 → View.Piece (Elt Ideal) s e) (G : s.Idx → Elt Ideal e)
    (hP : ∀ h x, (P h).2 x = G ((P h).1.emb x)) (L : List (View.Piece (Elt Ideal) s e)) (y : s.Idx) (h : Fin 16)
    (hy : y ∈ (P h).1.set) : View.canon (heads.map P ++ L) y = G y := by
  suffices ∀ l : List (Fin 16), h ∈ l → View.canon (l.map P ++ L) y = G y from this _ (mem_heads h)
  intro l
  induction l with
  | nil => intro hh; exact absurd hh List.not_mem_nil
  | cons a l ih =>
    intro hh
    rw [List.map_cons, List.cons_append]
    by_cases hm : y ∈ (P a).1.set
    · obtain ⟨x, rfl⟩ := (P a).1.exists_idx_of_mem hm
      exact (View.canon_cons_emb _ _ _ x).trans (hP a x)
    · rw [View.canon_cons_of_not_mem _ _ hm]
      refine ih ((List.mem_cons.mp hh).resolve_left ?_)
      rintro rfl; exact hm hy

/-- Head `h`'s slice of the row statistics. -/
abbrev rowRect (h : Fin 16) : Rect S16x8x256 :=
  Rect.unit (s := S16x8x256) ![h.val, 0, 0] S1x8x256.size (by
    intro a; fin_cases a <;> simp [S16x8x256, S1x8x256] <;> omega)

/-- Head `h`'s slice of the scores and of the weights. -/
abbrev keyRect (h : Fin 16) : Rect S16x640x256 :=
  Rect.unit (s := S16x640x256) ![h.val, 0, 0] S1x640x256.size (by
    intro a; fin_cases a <;> simp [S16x640x256, S1x640x256] <;> omega)

/-- Head `h`'s slice of the weighted sums. -/
abbrev accRect (h : Fin 16) : Rect S2048x256 :=
  Rect.unit (s := S2048x256) ![128 * h.val, 0] S128x256.size (by
    intro a; fin_cases a <;> simp [S2048x256, S128x256] <;> omega)

/-- Head `h`'s slice of the output block. -/
abbrev outRect (h : Fin 16) : Rect S256x2048 :=
  Rect.unit (s := S256x2048) ![0, 128 * h.val] S256x128.size (by
    intro a; fin_cases a <;> simp [S256x2048, S256x128] <;> omega)

/-- Head `h`'s slice of a block of keys. -/
abbrev kRect (h : Fin 16) : Rect S640x2048 :=
  Rect.unit (s := S640x2048) ![0, 128 * h.val] S640x128.size (by
    intro a; fin_cases a <;> simp [S640x2048, S640x128] <;> omega)

/-- Head `h`'s slice of a block of values. -/
abbrev vRect (h : Fin 16) : Rect S2048x640 :=
  Rect.unit (s := S2048x640) ![128 * h.val, 0] S128x640.size (by
    intro a; fin_cases a <;> simp [S2048x640, S128x640] <;> omega)

/-- Row `d` of head `h` among the 2048. -/
abbrev at128 (h : Fin 16) (d : Fin 128) : Fin 2048 := ⟨128 * h.val + d.val, by omega⟩

theorem rowRect_emb (h : Fin 16) (z : Fin 1) (r : Fin 8) (c : Fin 256) :
    (rowRect h).emb (ix3 z r c) = ix3 h r c := by
  funext a; apply Fin.ext; rw [Rect.emb_apply]; fin_cases a <;> simp [ix3]
theorem keyRect_emb (h : Fin 16) (z : Fin 1) (r : Fin 640) (c : Fin 256) :
    (keyRect h).emb (ix3 z r c) = ix3 h r c := by
  funext a; apply Fin.ext; rw [Rect.emb_apply]; fin_cases a <;> simp [ix3]
theorem accRect_emb (h : Fin 16) (d : Fin 128) (c : Fin 256) :
    (accRect h).emb (ix2 d c) = ix2 (at128 h d) c := by
  funext a; apply Fin.ext; rw [Rect.emb_apply]; fin_cases a <;> simp [ix2]
theorem outRect_emb (h : Fin 16) (d : Fin 128) (c : Fin 256) :
    (outRect h).emb (ix2 c d) = ix2 c (at128 h d) := by
  funext a; apply Fin.ext; rw [Rect.emb_apply]; fin_cases a <;> simp [ix2]
theorem kRect_emb (h : Fin 16) (d : Fin 128) (k : Fin 640) :
    (kRect h).emb (ix2 k d) = ix2 k (at128 h d) := by
  funext a; apply Fin.ext; rw [Rect.emb_apply]; fin_cases a <;> simp [ix2]
theorem vRect_emb (h : Fin 16) (d : Fin 128) (k : Fin 640) :
    (vRect h).emb (ix2 d k) = ix2 (at128 h d) k := by
  funext a; apply Fin.ext; rw [Rect.emb_apply]; fin_cases a <;> simp [ix2]

variable (q : Fin 16 → Vec Ideal S256x128 .bf16) (k : Fin 16 → Vec Ideal S640x128 .bf16)
  (v : Fin 16 → Vec Ideal S128x640 .bf16) (b : Vec Ideal S640x256 .f32)
  (mp lp : Fin 16 → Vec Ideal S1x8x256 .f32) (ap : Fin 16 → Vec Ideal S128x256 .f32)

/-- The scores, stored. -/
def savedP (h : Fin 16) : View.Piece (Elt Ideal) S16x640x256 .f32 := ⟨keyRect h, k0_pay24 (F := Ideal) (q h) (k h) b⟩
def savedL : List (View.Piece (Elt Ideal) S16x640x256 .f32) := heads.map (savedP q k b)
/-- The scores, read back. -/
def savedV (h : Fin 16) : Vec Ideal S1x640x256 .f32 := scM0_4.view.readCov (savedL q k b) (keyRect h).toLoadRect

/-- The new maxima. -/
def topP (h : Fin 16) : View.Piece (Elt Ideal) S16x8x256 .f32 :=
  ⟨rowRect h, k0_pay79 (F := Ideal) (k0_pay25 (q h) (k h) b) (mp h)⟩
def topL : List (View.Piece (Elt Ideal) S16x8x256 .f32) := heads.map (topP q k b mp)

/-- The new sums of weights. -/
def sumP (h : Fin 16) : View.Piece (Elt Ideal) S16x8x256 .f32 :=
  ⟨rowRect h, k0_pay78 (F := Ideal) (k0_pay25 (q h) (k h) b) (mp h) (savedV q k b h) (lp h)⟩
def sumL : List (View.Piece (Elt Ideal) S16x8x256 .f32) := heads.map (sumP q k b mp lp)

/-- The weights, stored. -/
def weightP (h : Fin 16) : View.Piece (Elt Ideal) S16x640x256 .bf16 :=
  ⟨keyRect h, k0_pay81 (F := Ideal) (k0_pay80 (k0_pay25 (q h) (k h) b) (mp h) (savedV q k b h))⟩
def weightL : List (View.Piece (Elt Ideal) S16x640x256 .bf16) := heads.map (weightP q k b mp)
/-- The weights, read back. -/
def weightV (h : Fin 16) : Vec Ideal S1x640x256 .bf16 := scM0_5.view.readCov (weightL q k b mp) (keyRect h).toLoadRect

/-- The new weighted sums of values. -/
def accP (h : Fin 16) : View.Piece (Elt Ideal) S2048x256 .f32 :=
  ⟨accRect h, k0_pay210 (F := Ideal) (k0_pay82 (k0_pay76 (k0_pay25 (q h) (k h) b) (mp h))) (v h) (ap h) (weightV q k b mp h)⟩
def accL : List (View.Piece (Elt Ideal) S2048x256 .f32) := heads.map (accP q k v b mp ap)

/-- The block's score of key `a` against query `c` at head `h`. -/
def sc (h : Fin 16) (c : Fin 256) (a : Fin 640) : EReal := k0_pay23 (F := Ideal) (q h) (k h) b (ix2 a c)

/-- The block's greatest score for query `c` at head `h`, over the keys of the block and over what came before. -/
def tp (h : Fin 16) (r : Fin 8) (c : Fin 256) : EReal := max (mp h (ix3 0 r c)) (Finset.univ.sup (sc q k b h c))

theorem row_mem (h : Fin 16) (r : Fin 8) (c : Fin 256) : (ix3 h r c : S16x8x256.Idx) ∈ (rowRect h).set :=
  rowRect_emb h 0 r c ▸ (rowRect h).toLoadRect.idx_mem _
theorem key_mem (h : Fin 16) (r : Fin 640) (c : Fin 256) : (ix3 h r c : S16x640x256.Idx) ∈ (keyRect h).set :=
  keyRect_emb h 0 r c ▸ (keyRect h).toLoadRect.idx_mem _
theorem acc_mem (h : Fin 16) (d : Fin 128) (c : Fin 256) : (ix2 (at128 h d) c : S2048x256.Idx) ∈ (accRect h).set :=
  accRect_emb h d c ▸ (accRect h).toLoadRect.idx_mem _
theorem out_mem (h : Fin 16) (d : Fin 128) (c : Fin 256) : (ix2 c (at128 h d) : S256x2048.Idx) ∈ (outRect h).set :=
  outRect_emb h d c ▸ (outRect h).toLoadRect.idx_mem _

theorem savedV_apply (h : Fin 16) (z : Fin 1) (a : Fin 640) (c : Fin 256) :
    savedV q k b h (ix3 z a c) = sc q k b h c a := by
  unfold savedV; rw [View.readCov_eq_canon']
  show View.canon (savedL q k b) ((keyRect h).emb (ix3 z a c)) = _
  rw [keyRect_emb]
  have := canon_heads (savedP q k b) (fun y => sc q k b (y 0) (y 2) (y 1)) (fun h x => ?_) [] (ix3 h a c) h (key_mem h a c)
  · rw [List.append_nil] at this; exact this
  · obtain ⟨z, a, c, rfl⟩ : ∃ z a c, x = (ix3 z a c : S1x640x256.Idx) := ⟨_, _, _, eq_ix3 x⟩
    refine (saved_apply (q h) (k h) b z a c).trans ?_
    show _ = (fun y : S16x640x256.Idx => sc q k b (y 0) (y 2) (y 1)) ((keyRect h).emb (ix3 z a c))
    rw [keyRect_emb]; rfl

theorem top_at (L) (h : Fin 16) (r : Fin 8) (c : Fin 256) :
    View.canon (topL q k b mp ++ L) (ix3 h r c) = tp q k b mp h r c := by
  refine canon_heads (topP q k b mp) (fun y => tp q k b mp (y 0) (y 1) (y 2)) (fun h x => ?_) L (ix3 h r c) h (row_mem h r c)
  obtain ⟨z, r, c, rfl⟩ : ∃ z r c, x = (ix3 z r c : S1x8x256.Idx) := ⟨_, _, _, eq_ix3 x⟩
  refine (newTop_apply _ (mp h) z r c).trans ?_
  show _ = (fun y : S16x8x256.Idx => tp q k b mp (y 0) (y 1) (y 2)) ((rowRect h).emb (ix3 z r c))
  rw [rowRect_emb, top_apply]; rfl

/-- The sum of weights after the block, from the one before. -/
def sm (h : Fin 16) (r : Fin 8) (c : Fin 256) : EReal :=
  Ideal.exp2 (mp h (ix3 0 r c) - tp q k b mp h r c) * lp h (ix3 0 r c)
    + ∑ a : Fin 640, Ideal.exp2 (sc q k b h c a - tp q k b mp h 0 c)

theorem sum_at (L) (h : Fin 16) (r : Fin 8) (c : Fin 256) :
    View.canon (sumL q k b mp lp ++ L) (ix3 h r c) = sm q k b mp lp h r c := by
  refine canon_heads (sumP q k b mp lp) (fun y => sm q k b mp lp (y 0) (y 1) (y 2)) (fun h x => ?_) L (ix3 h r c) h (row_mem h r c)
  obtain ⟨z, r, c, rfl⟩ : ∃ z r c, x = (ix3 z r c : S1x8x256.Idx) := ⟨_, _, _, eq_ix3 x⟩
  refine (newSum_apply _ (mp h) (savedV q k b h) (lp h) z r c).trans ?_
  show _ = (fun y : S16x8x256.Idx => sm q k b mp lp (y 0) (y 1) (y 2)) ((rowRect h).emb (ix3 z r c))
  rw [rowRect_emb, top_apply]
  simp only [savedV_apply]; rfl

theorem weightV_apply (h : Fin 16) (z : Fin 1) (a : Fin 640) (c : Fin 256) :
    weightV q k b mp h (ix3 z a c) = Ideal.exp2 (sc q k b h c a - tp q k b mp h 0 c) := by
  unfold weightV; rw [View.readCov_eq_canon']
  show View.canon (weightL q k b mp) ((keyRect h).emb (ix3 z a c)) = _
  rw [keyRect_emb]
  have := canon_heads (weightP q k b mp)
    (fun y => Ideal.exp2 (sc q k b (y 0) (y 2) (y 1) - tp q k b mp (y 0) 0 (y 2))) (fun h x => ?_) [] (ix3 h a c) h (key_mem h a c)
  · rw [List.append_nil] at this; exact this
  · obtain ⟨z, a, c, rfl⟩ : ∃ z a c, x = (ix3 z a c : S1x640x256.Idx) := ⟨_, _, _, eq_ix3 x⟩
    refine (weight_apply _ (mp h) (savedV q k b h) z a c).trans ?_
    show _ = (fun y : S16x640x256.Idx => Ideal.exp2 (sc q k b (y 0) (y 2) (y 1) - tp q k b mp (y 0) 0 (y 2)))
      ((keyRect h).emb (ix3 z a c))
    rw [keyRect_emb, top_apply, savedV_apply]; rfl

/-- The weighted sum of values after the block, from the one before. -/
def ac (h : Fin 16) (d : Fin 128) (c : Fin 256) : EReal :=
  Ideal.exp2 (mp h (ix3 0 0 c) - tp q k b mp h 0 c) * ap h (ix2 d c)
    + ∑ a : Fin 640, v h (ix2 d a) * Ideal.exp2 (sc q k b h c a - tp q k b mp h 0 c)

/-- The head and the row within it of one of the 2048 rows. -/
abbrev headOf (y : Fin 2048) : Fin 16 := ⟨y.val / 128, by omega⟩
abbrev dimOf (y : Fin 2048) : Fin 128 := ⟨y.val % 128, by omega⟩
theorem headOf_at (h : Fin 16) (d : Fin 128) : headOf (at128 h d) = h := by ext; simp only [headOf, at128]; omega
theorem dimOf_at (h : Fin 16) (d : Fin 128) : dimOf (at128 h d) = d := by ext; simp only [dimOf, at128]; omega
theorem at_headOf (y : Fin 2048) : at128 (headOf y) (dimOf y) = y := by ext; simp only [headOf, dimOf, at128]; omega

theorem acc_at (L) (h : Fin 16) (d : Fin 128) (c : Fin 256) :
    View.canon (accL q k v b mp ap ++ L) (ix2 (at128 h d) c) = ac q k v b mp ap h d c := by
  have := canon_heads (accP q k v b mp ap) (fun y => ac q k v b mp ap (headOf (y 0)) (dimOf (y 0)) (y 1)) (fun h x => ?_) L
    (ix2 (at128 h d) c) h (acc_mem h d c)
  · refine this.trans ?_
    show ac q k v b mp ap (headOf (at128 h d)) (dimOf (at128 h d)) c = _
    rw [headOf_at, dimOf_at]
  obtain ⟨d, c, rfl⟩ : ∃ d c, x = (ix2 d c : S128x256.Idx) := ⟨_, _, eq_ix2 x⟩
  refine (newAcc_apply _ (v h) (ap h) (weightV q k b mp h) d c).trans ?_
  show _ = (fun y : S2048x256.Idx => ac q k v b mp ap (headOf (y 0)) (dimOf (y 0)) (y 1)) ((accRect h).emb (ix2 d c))
  rw [accRect_emb]
  show _ = ac q k v b mp ap (headOf (at128 h d)) (dimOf (at128 h d)) c
  rw [headOf_at, dimOf_at, shrink_apply, top_apply]
  simp only [weightV_apply]; rfl

/-- The output block: the weighted sums divided by the sums of weights, transposed. -/
def outP (LA : List (View.Piece (Elt Ideal) S2048x256 .f32)) (LS : List (View.Piece (Elt Ideal) S16x8x256 .f32)) (h : Fin 16) :
    View.Piece (Elt Ideal) S256x2048 .bf16 :=
  ⟨outRect h, k0_pay3 (F := Ideal) (scM0_2.view.readCov LA (accRect h).toLoadRect) (scM0_1.view.readCov LS (rowRect h).toLoadRect)⟩
def outL (LA : List (View.Piece (Elt Ideal) S2048x256 .f32)) (LS : List (View.Piece (Elt Ideal) S16x8x256 .f32)) :
    List (View.Piece (Elt Ideal) S256x2048 .bf16) := heads.map (outP LA LS)

theorem out_at (LA LS) (h : Fin 16) (d : Fin 128) (c : Fin 256) :
    View.canon (outL LA LS) (ix2 c (at128 h d))
      = Ideal.div (View.canon LA (ix2 (at128 h d) c)) (View.canon LS (ix3 h 0 c)) := by
  have := canon_heads (outP LA LS) (fun y => Ideal.div (View.canon LA (ix2 (y 1) (y 0))) (View.canon LS (ix3 (headOf (y 1)) 0 (y 0))))
    (fun h x => ?_) [] (ix2 c (at128 h d)) h (out_mem h d c)
  · rw [List.append_nil] at this
    refine this.trans ?_
    show Ideal.div (View.canon LA (ix2 (at128 h d) c)) (View.canon LS (ix3 (headOf (at128 h d)) 0 c)) = _
    rw [headOf_at]
  obtain ⟨c, d, rfl⟩ : ∃ c d, x = (ix2 c d : S256x128.Idx) := ⟨_, _, eq_ix2 x⟩
  refine (mean_apply _ _ c d).trans ?_
  show _ = (fun y : S256x2048.Idx => Ideal.div (View.canon LA (ix2 (y 1) (y 0))) (View.canon LS (ix3 (headOf (y 1)) 0 (y 0))))
    ((outRect h).emb (ix2 c d))
  rw [outRect_emb, View.readCov_eq_canon', View.readCov_eq_canon']
  show Ideal.div (View.canon LA ((accRect h).emb (ix2 d c))) (View.canon LS ((rowRect h).emb (ix3 0 0 c)))
    = Ideal.div (View.canon LA (ix2 (at128 h d) c)) (View.canon LS (ix3 (headOf (at128 h d)) 0 c))
  rw [accRect_emb, rowRect_emb, headOf_at]

end Cert.KernelIdeal.Attn
-- ==== Proof.Attn.Paths.lean ====
module

public import proofs.«01_k».proof.Proof.Attn.Point
public import proofs.«01_k».proof.Proof.AttnIdeal.Runs

/-!
What the body leaves in its buffers on each of its four control paths, as the sixteen heads' slices over what the
body reads: the head's columns of the query and key blocks, the head's rows of the value block, the bias block and the
head's slices of the three running buffers.
-/

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic

section

variable (c : Dev nD) (i : grid0.Coords)
  (arg3 : Memref sig .tc .vmem S256x2048 .bf16) (harg3 : arg3.IsWhole)
  (arg4 : Memref sig .tc .vmem S640x2048 .bf16) (harg4 : arg4.IsWhole)
  (arg5 : Memref sig .tc .vmem S2048x640 .bf16) (harg5 : arg5.IsWhole)
  (arg6 : Memref sig .tc .vmem S640x256 .bf16) (harg6 : arg6.IsWhole)
  (arg7 : Memref sig .tc .vmem S256x2048 .bf16) (harg7 : arg7.IsWhole)
  (T0 T1 : S884.Idx → Elt Ideal .i32)
  (x0 : S256x2048.Idx → Elt Ideal .bf16) (x1 : S640x2048.Idx → Elt Ideal .bf16)
  (x2 : S2048x640.Idx → Elt Ideal .bf16) (x3 : S640x256.Idx → Elt Ideal .bf16)
  (xa0 : Buf (Elt Ideal) ((c : Thread nD τ).loc cc0_scratch0)) (xa1 : Buf (Elt Ideal) ((c : Thread nD τ).loc cc0_scratch1))
  (xa2 : Buf (Elt Ideal) ((c : Thread nD τ).loc cc0_scratch2))

/-- The head's columns of the query block. -/
def qB (h : Fin 16) : Vec Ideal S256x128 .bf16 := View.readAt (Elt Ideal) arg3.view (outRect h).toLoadRect (arg3.view.rep x0)
/-- The head's columns of the key block. -/
def kB (h : Fin 16) : Vec Ideal S640x128 .bf16 := View.readAt (Elt Ideal) arg4.view (kRect h).toLoadRect (arg4.view.rep x1)
/-- The head's rows of the value block. -/
def vB (h : Fin 16) : Vec Ideal S128x640 .bf16 := View.readAt (Elt Ideal) arg5.view (vRect h).toLoadRect (arg5.view.rep x2)
/-- The bias block, widened, stored and read back. -/
def bB : Vec Ideal S640x256 .f32 :=
  scM0_3.view.readCov [⟨Rect.unit (s := S640x256) ![0, 0] S640x256.size inb_S640x256_S640x256_0_0,
      k0_pay22 (F := Ideal) (View.readAt (Elt Ideal) arg6.view
        (Rect.unit (s := S640x256) ![0, 0] S640x256.size inb_S640x256_S640x256_0_0).toLoadRect (arg6.view.rep x3))⟩]
    (Rect.unit (s := S640x256) ![0, 0] S640x256.size inb_S640x256_S640x256_0_0).toLoadRect
/-- The head's running maxima. -/
def mB (h : Fin 16) : Vec Ideal S1x8x256 .f32 := View.readAt (Elt Ideal) scM0_0.view (rowRect h).toLoadRect xa0
/-- The head's running sums of weights. -/
def lB (h : Fin 16) : Vec Ideal S1x8x256 .f32 := View.readAt (Elt Ideal) scM0_1.view (rowRect h).toLoadRect xa1
/-- The head's running weighted sums. -/
def aB (h : Fin 16) : Vec Ideal S128x256 .f32 := View.readAt (Elt Ideal) scM0_2.view (accRect h).toLoadRect xa2

/-- What the running buffers hold once the first point of a query block has reset them. -/
def topF : List (View.Piece (Elt Ideal) S16x8x256 .f32) :=
  [⟨Rect.unit (s := S16x8x256) ![0, 0, 0] S16x8x256.size inb_S16x8x256_S16x8x256_0_0_0, k0_pay19 (F := Ideal)⟩]
def sumF : List (View.Piece (Elt Ideal) S16x8x256 .f32) :=
  [⟨Rect.unit (s := S16x8x256) ![0, 0, 0] S16x8x256.size inb_S16x8x256_S16x8x256_0_0_0, k0_pay20 (F := Ideal)⟩]
def accF : List (View.Piece (Elt Ideal) S2048x256 .f32) :=
  [⟨Rect.unit (s := S2048x256) ![0, 0] S2048x256.size inb_S2048x256_S2048x256_0_0, k0_pay21 (F := Ideal)⟩]

end

end Cert.KernelIdeal.Attn
-- ==== Proof.Attn.PathA.lean ====
module

public import proofs.«01_k».proof.Proof.Attn.Paths

/-!
Path A of the body: the first point of a query block, which is also its last. Its lists of writes are the sixteen heads' slices.
-/

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic

section

variable (c : Dev nD) (i : grid0.Coords)
  (arg3 : Memref sig .tc .vmem S256x2048 .bf16) (harg3 : arg3.IsWhole)
  (arg4 : Memref sig .tc .vmem S640x2048 .bf16) (harg4 : arg4.IsWhole)
  (arg5 : Memref sig .tc .vmem S2048x640 .bf16) (harg5 : arg5.IsWhole)
  (arg6 : Memref sig .tc .vmem S640x256 .bf16) (harg6 : arg6.IsWhole)
  (arg7 : Memref sig .tc .vmem S256x2048 .bf16) (harg7 : arg7.IsWhole)
  (T0 T1 : S884.Idx → Elt Ideal .i32)
  (x0 : S256x2048.Idx → Elt Ideal .bf16) (x1 : S640x2048.Idx → Elt Ideal .bf16)
  (x2 : S2048x640.Idx → Elt Ideal .bf16) (x3 : S640x256.Idx → Elt Ideal .bf16)
  (xa0 : Buf (Elt Ideal) ((c : Thread nD τ).loc cc0_scratch0)) (xa1 : Buf (Elt Ideal) ((c : Thread nD τ).loc cc0_scratch1))
  (xa2 : Buf (Elt Ideal) ((c : Thread nD τ).loc cc0_scratch2))

/-- The maxima as the body reads them, head by head. -/
def topA (h : Fin 16) : Vec Ideal S1x8x256 .f32 :=
  match h.val with
  | 0 => kernelRun0_A.sl.v172
  | 1 => kernelRun0_A.sl.v202 arg3 arg4 arg6 x0 x1 x3
  | 2 => kernelRun0_A.sl.v232 arg3 arg4 arg6 x0 x1 x3
  | 3 => kernelRun0_A.sl.v262 arg3 arg4 arg6 x0 x1 x3
  | 4 => kernelRun0_A.sl.v292 arg3 arg4 arg6 x0 x1 x3
  | 5 => kernelRun0_A.sl.v322 arg3 arg4 arg6 x0 x1 x3
  | 6 => kernelRun0_A.sl.v352 arg3 arg4 arg6 x0 x1 x3
  | 7 => kernelRun0_A.sl.v382 arg3 arg4 arg6 x0 x1 x3
  | 8 => kernelRun0_A.sl.v412 arg3 arg4 arg6 x0 x1 x3
  | 9 => kernelRun0_A.sl.v442 arg3 arg4 arg6 x0 x1 x3
  | 10 => kernelRun0_A.sl.v472 arg3 arg4 arg6 x0 x1 x3
  | 11 => kernelRun0_A.sl.v502 arg3 arg4 arg6 x0 x1 x3
  | 12 => kernelRun0_A.sl.v532 arg3 arg4 arg6 x0 x1 x3
  | 13 => kernelRun0_A.sl.v562 arg3 arg4 arg6 x0 x1 x3
  | 14 => kernelRun0_A.sl.v592 arg3 arg4 arg6 x0 x1 x3
  | _ => kernelRun0_A.sl.v622 arg3 arg4 arg6 x0 x1 x3

/-- The sums of weights as the body reads them, head by head. -/
def sumA (h : Fin 16) : Vec Ideal S1x8x256 .f32 :=
  match h.val with
  | 0 => kernelRun0_A.sl.v184
  | 1 => kernelRun0_A.sl.v214 arg3 arg4 arg6 x0 x1 x3
  | 2 => kernelRun0_A.sl.v244 arg3 arg4 arg6 x0 x1 x3
  | 3 => kernelRun0_A.sl.v274 arg3 arg4 arg6 x0 x1 x3
  | 4 => kernelRun0_A.sl.v304 arg3 arg4 arg6 x0 x1 x3
  | 5 => kernelRun0_A.sl.v334 arg3 arg4 arg6 x0 x1 x3
  | 6 => kernelRun0_A.sl.v364 arg3 arg4 arg6 x0 x1 x3
  | 7 => kernelRun0_A.sl.v394 arg3 arg4 arg6 x0 x1 x3
  | 8 => kernelRun0_A.sl.v424 arg3 arg4 arg6 x0 x1 x3
  | 9 => kernelRun0_A.sl.v454 arg3 arg4 arg6 x0 x1 x3
  | 10 => kernelRun0_A.sl.v484 arg3 arg4 arg6 x0 x1 x3
  | 11 => kernelRun0_A.sl.v514 arg3 arg4 arg6 x0 x1 x3
  | 12 => kernelRun0_A.sl.v544 arg3 arg4 arg6 x0 x1 x3
  | 13 => kernelRun0_A.sl.v574 arg3 arg4 arg6 x0 x1 x3
  | 14 => kernelRun0_A.sl.v604 arg3 arg4 arg6 x0 x1 x3
  | _ => kernelRun0_A.sl.v634 arg3 arg4 arg6 x0 x1 x3

/-- The weighted sums as the body reads them, head by head. -/
def accA (h : Fin 16) : Vec Ideal S128x256 .f32 :=
  match h.val with
  | 0 => kernelRun0_A.sl.v653
  | 1 => kernelRun0_A.sl.v664 arg3 arg4 arg5 arg6 x0 x1 x2 x3
  | 2 => kernelRun0_A.sl.v675 arg3 arg4 arg5 arg6 x0 x1 x2 x3
  | 3 => kernelRun0_A.sl.v686 arg3 arg4 arg5 arg6 x0 x1 x2 x3
  | 4 => kernelRun0_A.sl.v697 arg3 arg4 arg5 arg6 x0 x1 x2 x3
  | 5 => kernelRun0_A.sl.v708 arg3 arg4 arg5 arg6 x0 x1 x2 x3
  | 6 => kernelRun0_A.sl.v719 arg3 arg4 arg5 arg6 x0 x1 x2 x3
  | 7 => kernelRun0_A.sl.v730 arg3 arg4 arg5 arg6 x0 x1 x2 x3
  | 8 => kernelRun0_A.sl.v741 arg3 arg4 arg5 arg6 x0 x1 x2 x3
  | 9 => kernelRun0_A.sl.v752 arg3 arg4 arg5 arg6 x0 x1 x2 x3
  | 10 => kernelRun0_A.sl.v763 arg3 arg4 arg5 arg6 x0 x1 x2 x3
  | 11 => kernelRun0_A.sl.v774 arg3 arg4 arg5 arg6 x0 x1 x2 x3
  | 12 => kernelRun0_A.sl.v785 arg3 arg4 arg5 arg6 x0 x1 x2 x3
  | 13 => kernelRun0_A.sl.v796 arg3 arg4 arg5 arg6 x0 x1 x2 x3
  | 14 => kernelRun0_A.sl.v807 arg3 arg4 arg5 arg6 x0 x1 x2 x3
  | _ => kernelRun0_A.sl.v818 arg3 arg4 arg5 arg6 x0 x1 x2 x3

/-- The scores as the body reads them back, head by head. -/
def savedA (h : Fin 16) : Vec Ideal S1x640x256 .f32 :=
  match h.val with
  | 0 => kernelRun0_A.sl.v178 arg3 arg4 arg6 x0 x1 x3
  | 1 => kernelRun0_A.sl.v208 arg3 arg4 arg6 x0 x1 x3
  | 2 => kernelRun0_A.sl.v238 arg3 arg4 arg6 x0 x1 x3
  | 3 => kernelRun0_A.sl.v268 arg3 arg4 arg6 x0 x1 x3
  | 4 => kernelRun0_A.sl.v298 arg3 arg4 arg6 x0 x1 x3
  | 5 => kernelRun0_A.sl.v328 arg3 arg4 arg6 x0 x1 x3
  | 6 => kernelRun0_A.sl.v358 arg3 arg4 arg6 x0 x1 x3
  | 7 => kernelRun0_A.sl.v388 arg3 arg4 arg6 x0 x1 x3
  | 8 => kernelRun0_A.sl.v418 arg3 arg4 arg6 x0 x1 x3
  | 9 => kernelRun0_A.sl.v448 arg3 arg4 arg6 x0 x1 x3
  | 10 => kernelRun0_A.sl.v478 arg3 arg4 arg6 x0 x1 x3
  | 11 => kernelRun0_A.sl.v508 arg3 arg4 arg6 x0 x1 x3
  | 12 => kernelRun0_A.sl.v538 arg3 arg4 arg6 x0 x1 x3
  | 13 => kernelRun0_A.sl.v568 arg3 arg4 arg6 x0 x1 x3
  | 14 => kernelRun0_A.sl.v598 arg3 arg4 arg6 x0 x1 x3
  | _ => kernelRun0_A.sl.v628 arg3 arg4 arg6 x0 x1 x3

/-- The weights as the body reads them back, head by head. -/
def weightA (h : Fin 16) : Vec Ideal S1x640x256 .bf16 :=
  match h.val with
  | 0 => kernelRun0_A.sl.v656 arg3 arg4 arg6 x0 x1 x3
  | 1 => kernelRun0_A.sl.v667 arg3 arg4 arg6 x0 x1 x3
  | 2 => kernelRun0_A.sl.v678 arg3 arg4 arg6 x0 x1 x3
  | 3 => kernelRun0_A.sl.v689 arg3 arg4 arg6 x0 x1 x3
  | 4 => kernelRun0_A.sl.v700 arg3 arg4 arg6 x0 x1 x3
  | 5 => kernelRun0_A.sl.v711 arg3 arg4 arg6 x0 x1 x3
  | 6 => kernelRun0_A.sl.v722 arg3 arg4 arg6 x0 x1 x3
  | 7 => kernelRun0_A.sl.v733 arg3 arg4 arg6 x0 x1 x3
  | 8 => kernelRun0_A.sl.v744 arg3 arg4 arg6 x0 x1 x3
  | 9 => kernelRun0_A.sl.v755 arg3 arg4 arg6 x0 x1 x3
  | 10 => kernelRun0_A.sl.v766 arg3 arg4 arg6 x0 x1 x3
  | 11 => kernelRun0_A.sl.v777 arg3 arg4 arg6 x0 x1 x3
  | 12 => kernelRun0_A.sl.v788 arg3 arg4 arg6 x0 x1 x3
  | 13 => kernelRun0_A.sl.v799 arg3 arg4 arg6 x0 x1 x3
  | 14 => kernelRun0_A.sl.v810 arg3 arg4 arg6 x0 x1 x3
  | _ => kernelRun0_A.sl.v821 arg3 arg4 arg6 x0 x1 x3

set_option maxHeartbeats 4000000 in
theorem A_saved : kernelRun0_A.sl.HS4_16 arg3 arg4 arg6 x0 x1 x3 = savedL (qB arg3 x0) (kB arg4 x1) (bB arg6 x3) := rfl

set_option maxHeartbeats 4000000 in
theorem A_savedV (h : Fin 16) : savedA arg3 arg4 arg6 x0 x1 x3 h = savedV (qB arg3 x0) (kB arg4 x1) (bB arg6 x3) h := by
  unfold savedV; rw [← A_saved]; fin_cases h <;> rfl

set_option maxHeartbeats 4000000 in
theorem A_top : kernelRun0_A.sl.HS0_17 arg3 arg4 arg6 x0 x1 x3 = topL (qB arg3 x0) (kB arg4 x1) (bB arg6 x3) (topA arg3 arg4 arg6 x0 x1 x3) ++ topF := rfl

set_option maxHeartbeats 4000000 in
theorem A_sum : kernelRun0_A.sl.HS1_17 arg3 arg4 arg6 x0 x1 x3 = sumL (qB arg3 x0) (kB arg4 x1) (bB arg6 x3) (topA arg3 arg4 arg6 x0 x1 x3) (sumA arg3 arg4 arg6 x0 x1 x3) ++ sumF := by
  have e : kernelRun0_A.sl.HS1_17 arg3 arg4 arg6 x0 x1 x3 = (heads.map fun h => (⟨rowRect h, k0_pay78 (F := Ideal) (k0_pay25 (qB arg3 x0 h) (kB arg4 x1 h) (bB arg6 x3)) ((topA arg3 arg4 arg6 x0 x1 x3) h) (savedA arg3 arg4 arg6 x0 x1 x3 h) ((sumA arg3 arg4 arg6 x0 x1 x3) h)⟩ : View.Piece (Elt Ideal) S16x8x256 .f32)) ++ sumF := rfl
  rw [e]; simp only [A_savedV]; rfl

set_option maxHeartbeats 4000000 in
theorem A_weight : kernelRun0_A.sl.HS5_16 arg3 arg4 arg6 x0 x1 x3 = weightL (qB arg3 x0) (kB arg4 x1) (bB arg6 x3) (topA arg3 arg4 arg6 x0 x1 x3) := by
  have e : kernelRun0_A.sl.HS5_16 arg3 arg4 arg6 x0 x1 x3 = (heads.map fun h => (⟨keyRect h, k0_pay81 (F := Ideal) (k0_pay80 (k0_pay25 (qB arg3 x0 h) (kB arg4 x1 h) (bB arg6 x3)) ((topA arg3 arg4 arg6 x0 x1 x3) h) (savedA arg3 arg4 arg6 x0 x1 x3 h))⟩ : View.Piece (Elt Ideal) S16x640x256 .bf16)) := rfl
  rw [e]; simp only [A_savedV]; rfl

set_option maxHeartbeats 4000000 in
theorem A_weightV (h : Fin 16) : weightA arg3 arg4 arg6 x0 x1 x3 h = weightV (qB arg3 x0) (kB arg4 x1) (bB arg6 x3) (topA arg3 arg4 arg6 x0 x1 x3) h := by
  unfold weightV; rw [← A_weight]; fin_cases h <;> rfl

set_option maxHeartbeats 4000000 in
theorem A_acc : kernelRun0_A.sl.HS2_17 arg3 arg4 arg5 arg6 x0 x1 x2 x3 = accL (qB arg3 x0) (kB arg4 x1) (vB arg5 x2) (bB arg6 x3) (topA arg3 arg4 arg6 x0 x1 x3) (accA arg3 arg4 arg5 arg6 x0 x1 x2 x3) ++ accF := by
  have e : kernelRun0_A.sl.HS2_17 arg3 arg4 arg5 arg6 x0 x1 x2 x3 = (heads.map fun h => (⟨accRect h, k0_pay210 (F := Ideal) (k0_pay82 (k0_pay76 (k0_pay25 (qB arg3 x0 h) (kB arg4 x1 h) (bB arg6 x3)) ((topA arg3 arg4 arg6 x0 x1 x3) h))) (vB arg5 x2 h) ((accA arg3 arg4 arg5 arg6 x0 x1 x2 x3) h) (weightA arg3 arg4 arg6 x0 x1 x3 h)⟩ : View.Piece (Elt Ideal) S2048x256 .f32)) ++ accF := rfl
  rw [e]; simp only [A_weightV]; rfl

set_option maxHeartbeats 4000000 in
theorem A_out : kernelRun0_A.sl.HO4_16 arg3 arg4 arg5 arg6 x0 x1 x2 x3 = outL (accL (qB arg3 x0) (kB arg4 x1) (vB arg5 x2) (bB arg6 x3) (topA arg3 arg4 arg6 x0 x1 x3) (accA arg3 arg4 arg5 arg6 x0 x1 x2 x3) ++ accF) (sumL (qB arg3 x0) (kB arg4 x1) (bB arg6 x3) (topA arg3 arg4 arg6 x0 x1 x3) (sumA arg3 arg4 arg6 x0 x1 x3) ++ sumF) := by
  have e : kernelRun0_A.sl.HO4_16 arg3 arg4 arg5 arg6 x0 x1 x2 x3 = outL (kernelRun0_A.sl.HS2_17 arg3 arg4 arg5 arg6 x0 x1 x2 x3) (kernelRun0_A.sl.HS1_17 arg3 arg4 arg6 x0 x1 x3) := rfl
  rw [e, A_acc, A_sum]

set_option maxHeartbeats 4000000 in
theorem runA_out (hc0 k0_h2) : (kernelRun0_A c i arg3 harg3 arg4 harg4 arg5 harg5 arg6 harg6 arg7 harg7 T0 T1 x0 x1 x2 x3 hc0 k0_h2).1 = kernelRun0_A.sl.HO4_16 arg3 arg4 arg5 arg6 x0 x1 x2 x3 := by
  unfold kernelRun0_A; rfl

set_option maxHeartbeats 4000000 in
theorem runA_top (hc0 k0_h2) : (kernelRun0_A c i arg3 harg3 arg4 harg4 arg5 harg5 arg6 harg6 arg7 harg7 T0 T1 x0 x1 x2 x3 hc0 k0_h2).2.1 = scM0_0.view.writes (Elt Ideal) scM0_0.view.junk (kernelRun0_A.sl.HS0_17 arg3 arg4 arg6 x0 x1 x3) := by
  unfold kernelRun0_A; rfl

set_option maxHeartbeats 4000000 in
theorem runA_sum (hc0 k0_h2) : (kernelRun0_A c i arg3 harg3 arg4 harg4 arg5 harg5 arg6 harg6 arg7 harg7 T0 T1 x0 x1 x2 x3 hc0 k0_h2).2.2.1 = scM0_1.view.writes (Elt Ideal) scM0_1.view.junk (kernelRun0_A.sl.HS1_17 arg3 arg4 arg6 x0 x1 x3) := by
  unfold kernelRun0_A; rfl

set_option maxHeartbeats 4000000 in
theorem runA_acc (hc0 k0_h2) : (kernelRun0_A c i arg3 harg3 arg4 harg4 arg5 harg5 arg6 harg6 arg7 harg7 T0 T1 x0 x1 x2 x3 hc0 k0_h2).2.2.2.1 = scM0_2.view.writes (Elt Ideal) scM0_2.view.junk (kernelRun0_A.sl.HS2_17 arg3 arg4 arg5 arg6 x0 x1 x2 x3) := by
  unfold kernelRun0_A; rfl

end

end Cert.KernelIdeal.Attn
-- ==== Proof.Attn.PathB.lean ====
module

public import proofs.«01_k».proof.Proof.Attn.Paths

/-!
Path B of the body: the first point of a query block, not its last. Its lists of writes are the sixteen heads' slices.
-/

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic

section

variable (c : Dev nD) (i : grid0.Coords)
  (arg3 : Memref sig .tc .vmem S256x2048 .bf16) (harg3 : arg3.IsWhole)
  (arg4 : Memref sig .tc .vmem S640x2048 .bf16) (harg4 : arg4.IsWhole)
  (arg5 : Memref sig .tc .vmem S2048x640 .bf16) (harg5 : arg5.IsWhole)
  (arg6 : Memref sig .tc .vmem S640x256 .bf16) (harg6 : arg6.IsWhole)
  (arg7 : Memref sig .tc .vmem S256x2048 .bf16) (harg7 : arg7.IsWhole)
  (T0 T1 : S884.Idx → Elt Ideal .i32)
  (x0 : S256x2048.Idx → Elt Ideal .bf16) (x1 : S640x2048.Idx → Elt Ideal .bf16)
  (x2 : S2048x640.Idx → Elt Ideal .bf16) (x3 : S640x256.Idx → Elt Ideal .bf16)
  (xa0 : Buf (Elt Ideal) ((c : Thread nD τ).loc cc0_scratch0)) (xa1 : Buf (Elt Ideal) ((c : Thread nD τ).loc cc0_scratch1))
  (xa2 : Buf (Elt Ideal) ((c : Thread nD τ).loc cc0_scratch2))

/-- The maxima as the body reads them, head by head. -/
def topB (h : Fin 16) : Vec Ideal S1x8x256 .f32 :=
  match h.val with
  | 0 => kernelRun0_B.sl.v172
  | 1 => kernelRun0_B.sl.v202 arg3 arg4 arg6 x0 x1 x3
  | 2 => kernelRun0_B.sl.v232 arg3 arg4 arg6 x0 x1 x3
  | 3 => kernelRun0_B.sl.v262 arg3 arg4 arg6 x0 x1 x3
  | 4 => kernelRun0_B.sl.v292 arg3 arg4 arg6 x0 x1 x3
  | 5 => kernelRun0_B.sl.v322 arg3 arg4 arg6 x0 x1 x3
  | 6 => kernelRun0_B.sl.v352 arg3 arg4 arg6 x0 x1 x3
  | 7 => kernelRun0_B.sl.v382 arg3 arg4 arg6 x0 x1 x3
  | 8 => kernelRun0_B.sl.v412 arg3 arg4 arg6 x0 x1 x3
  | 9 => kernelRun0_B.sl.v442 arg3 arg4 arg6 x0 x1 x3
  | 10 => kernelRun0_B.sl.v472 arg3 arg4 arg6 x0 x1 x3
  | 11 => kernelRun0_B.sl.v502 arg3 arg4 arg6 x0 x1 x3
  | 12 => kernelRun0_B.sl.v532 arg3 arg4 arg6 x0 x1 x3
  | 13 => kernelRun0_B.sl.v562 arg3 arg4 arg6 x0 x1 x3
  | 14 => kernelRun0_B.sl.v592 arg3 arg4 arg6 x0 x1 x3
  | _ => kernelRun0_B.sl.v622 arg3 arg4 arg6 x0 x1 x3

/-- The sums of weights as the body reads them, head by head. -/
def sumB (h : Fin 16) : Vec Ideal S1x8x256 .f32 :=
  match h.val with
  | 0 => kernelRun0_B.sl.v184
  | 1 => kernelRun0_B.sl.v214 arg3 arg4 arg6 x0 x1 x3
  | 2 => kernelRun0_B.sl.v244 arg3 arg4 arg6 x0 x1 x3
  | 3 => kernelRun0_B.sl.v274 arg3 arg4 arg6 x0 x1 x3
  | 4 => kernelRun0_B.sl.v304 arg3 arg4 arg6 x0 x1 x3
  | 5 => kernelRun0_B.sl.v334 arg3 arg4 arg6 x0 x1 x3
  | 6 => kernelRun0_B.sl.v364 arg3 arg4 arg6 x0 x1 x3
  | 7 => kernelRun0_B.sl.v394 arg3 arg4 arg6 x0 x1 x3
  | 8 => kernelRun0_B.sl.v424 arg3 arg4 arg6 x0 x1 x3
  | 9 => kernelRun0_B.sl.v454 arg3 arg4 arg6 x0 x1 x3
  | 10 => kernelRun0_B.sl.v484 arg3 arg4 arg6 x0 x1 x3
  | 11 => kernelRun0_B.sl.v514 arg3 arg4 arg6 x0 x1 x3
  | 12 => kernelRun0_B.sl.v544 arg3 arg4 arg6 x0 x1 x3
  | 13 => kernelRun0_B.sl.v574 arg3 arg4 arg6 x0 x1 x3
  | 14 => kernelRun0_B.sl.v604 arg3 arg4 arg6 x0 x1 x3
  | _ => kernelRun0_B.sl.v634 arg3 arg4 arg6 x0 x1 x3

/-- The weighted sums as the body reads them, head by head. -/
def accB (h : Fin 16) : Vec Ideal S128x256 .f32 :=
  match h.val with
  | 0 => kernelRun0_B.sl.v653
  | 1 => kernelRun0_B.sl.v664 arg3 arg4 arg5 arg6 x0 x1 x2 x3
  | 2 => kernelRun0_B.sl.v675 arg3 arg4 arg5 arg6 x0 x1 x2 x3
  | 3 => kernelRun0_B.sl.v686 arg3 arg4 arg5 arg6 x0 x1 x2 x3
  | 4 => kernelRun0_B.sl.v697 arg3 arg4 arg5 arg6 x0 x1 x2 x3
  | 5 => kernelRun0_B.sl.v708 arg3 arg4 arg5 arg6 x0 x1 x2 x3
  | 6 => kernelRun0_B.sl.v719 arg3 arg4 arg5 arg6 x0 x1 x2 x3
  | 7 => kernelRun0_B.sl.v730 arg3 arg4 arg5 arg6 x0 x1 x2 x3
  | 8 => kernelRun0_B.sl.v741 arg3 arg4 arg5 arg6 x0 x1 x2 x3
  | 9 => kernelRun0_B.sl.v752 arg3 arg4 arg5 arg6 x0 x1 x2 x3
  | 10 => kernelRun0_B.sl.v763 arg3 arg4 arg5 arg6 x0 x1 x2 x3
  | 11 => kernelRun0_B.sl.v774 arg3 arg4 arg5 arg6 x0 x1 x2 x3
  | 12 => kernelRun0_B.sl.v785 arg3 arg4 arg5 arg6 x0 x1 x2 x3
  | 13 => kernelRun0_B.sl.v796 arg3 arg4 arg5 arg6 x0 x1 x2 x3
  | 14 => kernelRun0_B.sl.v807 arg3 arg4 arg5 arg6 x0 x1 x2 x3
  | _ => kernelRun0_B.sl.v818 arg3 arg4 arg5 arg6 x0 x1 x2 x3

/-- The scores as the body reads them back, head by head. -/
def savedB (h : Fin 16) : Vec Ideal S1x640x256 .f32 :=
  match h.val with
  | 0 => kernelRun0_B.sl.v178 arg3 arg4 arg6 x0 x1 x3
  | 1 => kernelRun0_B.sl.v208 arg3 arg4 arg6 x0 x1 x3
  | 2 => kernelRun0_B.sl.v238 arg3 arg4 arg6 x0 x1 x3
  | 3 => kernelRun0_B.sl.v268 arg3 arg4 arg6 x0 x1 x3
  | 4 => kernelRun0_B.sl.v298 arg3 arg4 arg6 x0 x1 x3
  | 5 => kernelRun0_B.sl.v328 arg3 arg4 arg6 x0 x1 x3
  | 6 => kernelRun0_B.sl.v358 arg3 arg4 arg6 x0 x1 x3
  | 7 => kernelRun0_B.sl.v388 arg3 arg4 arg6 x0 x1 x3
  | 8 => kernelRun0_B.sl.v418 arg3 arg4 arg6 x0 x1 x3
  | 9 => kernelRun0_B.sl.v448 arg3 arg4 arg6 x0 x1 x3
  | 10 => kernelRun0_B.sl.v478 arg3 arg4 arg6 x0 x1 x3
  | 11 => kernelRun0_B.sl.v508 arg3 arg4 arg6 x0 x1 x3
  | 12 => kernelRun0_B.sl.v538 arg3 arg4 arg6 x0 x1 x3
  | 13 => kernelRun0_B.sl.v568 arg3 arg4 arg6 x0 x1 x3
  | 14 => kernelRun0_B.sl.v598 arg3 arg4 arg6 x0 x1 x3
  | _ => kernelRun0_B.sl.v628 arg3 arg4 arg6 x0 x1 x3

/-- The weights as the body reads them back, head by head. -/
def weightB (h : Fin 16) : Vec Ideal S1x640x256 .bf16 :=
  match h.val with
  | 0 => kernelRun0_B.sl.v656 arg3 arg4 arg6 x0 x1 x3
  | 1 => kernelRun0_B.sl.v667 arg3 arg4 arg6 x0 x1 x3
  | 2 => kernelRun0_B.sl.v678 arg3 arg4 arg6 x0 x1 x3
  | 3 => kernelRun0_B.sl.v689 arg3 arg4 arg6 x0 x1 x3
  | 4 => kernelRun0_B.sl.v700 arg3 arg4 arg6 x0 x1 x3
  | 5 => kernelRun0_B.sl.v711 arg3 arg4 arg6 x0 x1 x3
  | 6 => kernelRun0_B.sl.v722 arg3 arg4 arg6 x0 x1 x3
  | 7 => kernelRun0_B.sl.v733 arg3 arg4 arg6 x0 x1 x3
  | 8 => kernelRun0_B.sl.v744 arg3 arg4 arg6 x0 x1 x3
  | 9 => kernelRun0_B.sl.v755 arg3 arg4 arg6 x0 x1 x3
  | 10 => kernelRun0_B.sl.v766 arg3 arg4 arg6 x0 x1 x3
  | 11 => kernelRun0_B.sl.v777 arg3 arg4 arg6 x0 x1 x3
  | 12 => kernelRun0_B.sl.v788 arg3 arg4 arg6 x0 x1 x3
  | 13 => kernelRun0_B.sl.v799 arg3 arg4 arg6 x0 x1 x3
  | 14 => kernelRun0_B.sl.v810 arg3 arg4 arg6 x0 x1 x3
  | _ => kernelRun0_B.sl.v821 arg3 arg4 arg6 x0 x1 x3

set_option maxHeartbeats 4000000 in
theorem B_saved : kernelRun0_B.sl.HS4_16 arg3 arg4 arg6 x0 x1 x3 = savedL (qB arg3 x0) (kB arg4 x1) (bB arg6 x3) := rfl

set_option maxHeartbeats 4000000 in
theorem B_savedV (h : Fin 16) : savedB arg3 arg4 arg6 x0 x1 x3 h = savedV (qB arg3 x0) (kB arg4 x1) (bB arg6 x3) h := by
  unfold savedV; rw [← B_saved]; fin_cases h <;> rfl

set_option maxHeartbeats 4000000 in
theorem B_top : kernelRun0_B.sl.HS0_17 arg3 arg4 arg6 x0 x1 x3 = topL (qB arg3 x0) (kB arg4 x1) (bB arg6 x3) (topB arg3 arg4 arg6 x0 x1 x3) ++ topF := rfl

set_option maxHeartbeats 4000000 in
theorem B_sum : kernelRun0_B.sl.HS1_17 arg3 arg4 arg6 x0 x1 x3 = sumL (qB arg3 x0) (kB arg4 x1) (bB arg6 x3) (topB arg3 arg4 arg6 x0 x1 x3) (sumB arg3 arg4 arg6 x0 x1 x3) ++ sumF := by
  have e : kernelRun0_B.sl.HS1_17 arg3 arg4 arg6 x0 x1 x3 = (heads.map fun h => (⟨rowRect h, k0_pay78 (F := Ideal) (k0_pay25 (qB arg3 x0 h) (kB arg4 x1 h) (bB arg6 x3)) ((topB arg3 arg4 arg6 x0 x1 x3) h) (savedB arg3 arg4 arg6 x0 x1 x3 h) ((sumB arg3 arg4 arg6 x0 x1 x3) h)⟩ : View.Piece (Elt Ideal) S16x8x256 .f32)) ++ sumF := rfl
  rw [e]; simp only [B_savedV]; rfl

set_option maxHeartbeats 4000000 in
theorem B_weight : kernelRun0_B.sl.HS5_16 arg3 arg4 arg6 x0 x1 x3 = weightL (qB arg3 x0) (kB arg4 x1) (bB arg6 x3) (topB arg3 arg4 arg6 x0 x1 x3) := by
  have e : kernelRun0_B.sl.HS5_16 arg3 arg4 arg6 x0 x1 x3 = (heads.map fun h => (⟨keyRect h, k0_pay81 (F := Ideal) (k0_pay80 (k0_pay25 (qB arg3 x0 h) (kB arg4 x1 h) (bB arg6 x3)) ((topB arg3 arg4 arg6 x0 x1 x3) h) (savedB arg3 arg4 arg6 x0 x1 x3 h))⟩ : View.Piece (Elt Ideal) S16x640x256 .bf16)) := rfl
  rw [e]; simp only [B_savedV]; rfl

set_option maxHeartbeats 4000000 in
theorem B_weightV (h : Fin 16) : weightB arg3 arg4 arg6 x0 x1 x3 h = weightV (qB arg3 x0) (kB arg4 x1) (bB arg6 x3) (topB arg3 arg4 arg6 x0 x1 x3) h := by
  unfold weightV; rw [← B_weight]; fin_cases h <;> rfl

set_option maxHeartbeats 4000000 in
theorem B_acc : kernelRun0_B.sl.HS2_17 arg3 arg4 arg5 arg6 x0 x1 x2 x3 = accL (qB arg3 x0) (kB arg4 x1) (vB arg5 x2) (bB arg6 x3) (topB arg3 arg4 arg6 x0 x1 x3) (accB arg3 arg4 arg5 arg6 x0 x1 x2 x3) ++ accF := by
  have e : kernelRun0_B.sl.HS2_17 arg3 arg4 arg5 arg6 x0 x1 x2 x3 = (heads.map fun h => (⟨accRect h, k0_pay210 (F := Ideal) (k0_pay82 (k0_pay76 (k0_pay25 (qB arg3 x0 h) (kB arg4 x1 h) (bB arg6 x3)) ((topB arg3 arg4 arg6 x0 x1 x3) h))) (vB arg5 x2 h) ((accB arg3 arg4 arg5 arg6 x0 x1 x2 x3) h) (weightB arg3 arg4 arg6 x0 x1 x3 h)⟩ : View.Piece (Elt Ideal) S2048x256 .f32)) ++ accF := rfl
  rw [e]; simp only [B_weightV]; rfl

set_option maxHeartbeats 4000000 in
theorem runB_top (hc0 k0_h2) : (kernelRun0_B c i arg3 harg3 arg4 harg4 arg5 harg5 arg6 harg6 arg7 harg7 T0 T1 x0 x1 x2 x3 hc0 k0_h2).1 = scM0_0.view.writes (Elt Ideal) scM0_0.view.junk (kernelRun0_B.sl.HS0_17 arg3 arg4 arg6 x0 x1 x3) := by
  unfold kernelRun0_B; rfl

set_option maxHeartbeats 4000000 in
theorem runB_sum (hc0 k0_h2) : (kernelRun0_B c i arg3 harg3 arg4 harg4 arg5 harg5 arg6 harg6 arg7 harg7 T0 T1 x0 x1 x2 x3 hc0 k0_h2).2.1 = scM0_1.view.writes (Elt Ideal) scM0_1.view.junk (kernelRun0_B.sl.HS1_17 arg3 arg4 arg6 x0 x1 x3) := by
  unfold kernelRun0_B; rfl

set_option maxHeartbeats 4000000 in
theorem runB_acc (hc0 k0_h2) : (kernelRun0_B c i arg3 harg3 arg4 harg4 arg5 harg5 arg6 harg6 arg7 harg7 T0 T1 x0 x1 x2 x3 hc0 k0_h2).2.2.1 = scM0_2.view.writes (Elt Ideal) scM0_2.view.junk (kernelRun0_B.sl.HS2_17 arg3 arg4 arg5 arg6 x0 x1 x2 x3) := by
  unfold kernelRun0_B; rfl

end

end Cert.KernelIdeal.Attn
-- ==== Proof.Attn.PathC.lean ====
module

public import proofs.«01_k».proof.Proof.Attn.Paths

/-!
Path C of the body: the last point of a query block, not its first. Its lists of writes are the sixteen heads' slices.
-/

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic

section

variable (c : Dev nD) (i : grid0.Coords)
  (arg3 : Memref sig .tc .vmem S256x2048 .bf16) (harg3 : arg3.IsWhole)
  (arg4 : Memref sig .tc .vmem S640x2048 .bf16) (harg4 : arg4.IsWhole)
  (arg5 : Memref sig .tc .vmem S2048x640 .bf16) (harg5 : arg5.IsWhole)
  (arg6 : Memref sig .tc .vmem S640x256 .bf16) (harg6 : arg6.IsWhole)
  (arg7 : Memref sig .tc .vmem S256x2048 .bf16) (harg7 : arg7.IsWhole)
  (T0 T1 : S884.Idx → Elt Ideal .i32)
  (x0 : S256x2048.Idx → Elt Ideal .bf16) (x1 : S640x2048.Idx → Elt Ideal .bf16)
  (x2 : S2048x640.Idx → Elt Ideal .bf16) (x3 : S640x256.Idx → Elt Ideal .bf16)
  (xa0 : Buf (Elt Ideal) ((c : Thread nD τ).loc cc0_scratch0)) (xa1 : Buf (Elt Ideal) ((c : Thread nD τ).loc cc0_scratch1))
  (xa2 : Buf (Elt Ideal) ((c : Thread nD τ).loc cc0_scratch2))

/-- The scores as the body reads them back, head by head. -/
def savedC (h : Fin 16) : Vec Ideal S1x640x256 .f32 :=
  match h.val with
  | 0 => kernelRun0_C.sl.v178 arg3 arg4 arg6 x0 x1 x3
  | 1 => kernelRun0_C.sl.v208 arg3 arg4 arg6 x0 x1 x3
  | 2 => kernelRun0_C.sl.v238 arg3 arg4 arg6 x0 x1 x3
  | 3 => kernelRun0_C.sl.v268 arg3 arg4 arg6 x0 x1 x3
  | 4 => kernelRun0_C.sl.v298 arg3 arg4 arg6 x0 x1 x3
  | 5 => kernelRun0_C.sl.v328 arg3 arg4 arg6 x0 x1 x3
  | 6 => kernelRun0_C.sl.v358 arg3 arg4 arg6 x0 x1 x3
  | 7 => kernelRun0_C.sl.v388 arg3 arg4 arg6 x0 x1 x3
  | 8 => kernelRun0_C.sl.v418 arg3 arg4 arg6 x0 x1 x3
  | 9 => kernelRun0_C.sl.v448 arg3 arg4 arg6 x0 x1 x3
  | 10 => kernelRun0_C.sl.v478 arg3 arg4 arg6 x0 x1 x3
  | 11 => kernelRun0_C.sl.v508 arg3 arg4 arg6 x0 x1 x3
  | 12 => kernelRun0_C.sl.v538 arg3 arg4 arg6 x0 x1 x3
  | 13 => kernelRun0_C.sl.v568 arg3 arg4 arg6 x0 x1 x3
  | 14 => kernelRun0_C.sl.v598 arg3 arg4 arg6 x0 x1 x3
  | _ => kernelRun0_C.sl.v628 arg3 arg4 arg6 x0 x1 x3

/-- The weights as the body reads them back, head by head. -/
def weightC (h : Fin 16) : Vec Ideal S1x640x256 .bf16 :=
  match h.val with
  | 0 => kernelRun0_C.sl.v656 c arg3 arg4 arg6 x0 x1 x3 xa0
  | 1 => kernelRun0_C.sl.v667 c arg3 arg4 arg6 x0 x1 x3 xa0
  | 2 => kernelRun0_C.sl.v678 c arg3 arg4 arg6 x0 x1 x3 xa0
  | 3 => kernelRun0_C.sl.v689 c arg3 arg4 arg6 x0 x1 x3 xa0
  | 4 => kernelRun0_C.sl.v700 c arg3 arg4 arg6 x0 x1 x3 xa0
  | 5 => kernelRun0_C.sl.v711 c arg3 arg4 arg6 x0 x1 x3 xa0
  | 6 => kernelRun0_C.sl.v722 c arg3 arg4 arg6 x0 x1 x3 xa0
  | 7 => kernelRun0_C.sl.v733 c arg3 arg4 arg6 x0 x1 x3 xa0
  | 8 => kernelRun0_C.sl.v744 c arg3 arg4 arg6 x0 x1 x3 xa0
  | 9 => kernelRun0_C.sl.v755 c arg3 arg4 arg6 x0 x1 x3 xa0
  | 10 => kernelRun0_C.sl.v766 c arg3 arg4 arg6 x0 x1 x3 xa0
  | 11 => kernelRun0_C.sl.v777 c arg3 arg4 arg6 x0 x1 x3 xa0
  | 12 => kernelRun0_C.sl.v788 c arg3 arg4 arg6 x0 x1 x3 xa0
  | 13 => kernelRun0_C.sl.v799 c arg3 arg4 arg6 x0 x1 x3 xa0
  | 14 => kernelRun0_C.sl.v810 c arg3 arg4 arg6 x0 x1 x3 xa0
  | _ => kernelRun0_C.sl.v821 c arg3 arg4 arg6 x0 x1 x3 xa0

set_option maxHeartbeats 4000000 in
theorem C_saved : kernelRun0_C.sl.HS4_16 arg3 arg4 arg6 x0 x1 x3 = savedL (qB arg3 x0) (kB arg4 x1) (bB arg6 x3) := rfl

set_option maxHeartbeats 4000000 in
theorem C_savedV (h : Fin 16) : savedC arg3 arg4 arg6 x0 x1 x3 h = savedV (qB arg3 x0) (kB arg4 x1) (bB arg6 x3) h := by
  unfold savedV; rw [← C_saved]; fin_cases h <;> rfl

set_option maxHeartbeats 4000000 in
theorem C_top : kernelRun0_C.sl.HS0_16 c arg3 arg4 arg6 x0 x1 x3 xa0 = topL (qB arg3 x0) (kB arg4 x1) (bB arg6 x3) (mB c xa0) := rfl

set_option maxHeartbeats 4000000 in
theorem C_sum : kernelRun0_C.sl.HS1_16 c arg3 arg4 arg6 x0 x1 x3 xa0 xa1 = sumL (qB arg3 x0) (kB arg4 x1) (bB arg6 x3) (mB c xa0) (lB c xa1) := by
  have e : kernelRun0_C.sl.HS1_16 c arg3 arg4 arg6 x0 x1 x3 xa0 xa1 = (heads.map fun h => (⟨rowRect h, k0_pay78 (F := Ideal) (k0_pay25 (qB arg3 x0 h) (kB arg4 x1 h) (bB arg6 x3)) ((mB c xa0) h) (savedC arg3 arg4 arg6 x0 x1 x3 h) ((lB c xa1) h)⟩ : View.Piece (Elt Ideal) S16x8x256 .f32)) := rfl
  rw [e]; simp only [C_savedV]; rfl

set_option maxHeartbeats 4000000 in
theorem C_weight : kernelRun0_C.sl.HS5_16 c arg3 arg4 arg6 x0 x1 x3 xa0 = weightL (qB arg3 x0) (kB arg4 x1) (bB arg6 x3) (mB c xa0) := by
  have e : kernelRun0_C.sl.HS5_16 c arg3 arg4 arg6 x0 x1 x3 xa0 = (heads.map fun h => (⟨keyRect h, k0_pay81 (F := Ideal) (k0_pay80 (k0_pay25 (qB arg3 x0 h) (kB arg4 x1 h) (bB arg6 x3)) ((mB c xa0) h) (savedC arg3 arg4 arg6 x0 x1 x3 h))⟩ : View.Piece (Elt Ideal) S16x640x256 .bf16)) := rfl
  rw [e]; simp only [C_savedV]; rfl

set_option maxHeartbeats 4000000 in
theorem C_weightV (h : Fin 16) : weightC c arg3 arg4 arg6 x0 x1 x3 xa0 h = weightV (qB arg3 x0) (kB arg4 x1) (bB arg6 x3) (mB c xa0) h := by
  unfold weightV; rw [← C_weight]; fin_cases h <;> rfl

set_option maxHeartbeats 4000000 in
theorem C_acc : kernelRun0_C.sl.HS2_16 c arg3 arg4 arg5 arg6 x0 x1 x2 x3 xa0 xa2 = accL (qB arg3 x0) (kB arg4 x1) (vB arg5 x2) (bB arg6 x3) (mB c xa0) (aB c xa2) := by
  have e : kernelRun0_C.sl.HS2_16 c arg3 arg4 arg5 arg6 x0 x1 x2 x3 xa0 xa2 = (heads.map fun h => (⟨accRect h, k0_pay210 (F := Ideal) (k0_pay82 (k0_pay76 (k0_pay25 (qB arg3 x0 h) (kB arg4 x1 h) (bB arg6 x3)) ((mB c xa0) h))) (vB arg5 x2 h) ((aB c xa2) h) (weightC c arg3 arg4 arg6 x0 x1 x3 xa0 h)⟩ : View.Piece (Elt Ideal) S2048x256 .f32)) := rfl
  rw [e]; simp only [C_weightV]; rfl

set_option maxHeartbeats 4000000 in
theorem C_out : kernelRun0_C.sl.HO4_16 c arg3 arg4 arg5 arg6 x0 x1 x2 x3 xa0 xa1 xa2 = outL (accL (qB arg3 x0) (kB arg4 x1) (vB arg5 x2) (bB arg6 x3) (mB c xa0) (aB c xa2)) (sumL (qB arg3 x0) (kB arg4 x1) (bB arg6 x3) (mB c xa0) (lB c xa1)) := by
  have e : kernelRun0_C.sl.HO4_16 c arg3 arg4 arg5 arg6 x0 x1 x2 x3 xa0 xa1 xa2 = outL (kernelRun0_C.sl.HS2_16 c arg3 arg4 arg5 arg6 x0 x1 x2 x3 xa0 xa2) (kernelRun0_C.sl.HS1_16 c arg3 arg4 arg6 x0 x1 x3 xa0 xa1) := rfl
  rw [e, C_acc, C_sum]

set_option maxHeartbeats 4000000 in
theorem runC_out (hc0 k0_h2) : (kernelRun0_C c i arg3 harg3 arg4 harg4 arg5 harg5 arg6 harg6 arg7 harg7 T0 T1 x0 x1 x2 x3 xa0 xa1 xa2 hc0 k0_h2).1 = kernelRun0_C.sl.HO4_16 c arg3 arg4 arg5 arg6 x0 x1 x2 x3 xa0 xa1 xa2 := by
  unfold kernelRun0_C; rfl

set_option maxHeartbeats 4000000 in
theorem runC_top (hc0 k0_h2) : (kernelRun0_C c i arg3 harg3 arg4 harg4 arg5 harg5 arg6 harg6 arg7 harg7 T0 T1 x0 x1 x2 x3 xa0 xa1 xa2 hc0 k0_h2).2.1 = scM0_0.view.writes (Elt Ideal) scM0_0.view.junk (kernelRun0_C.sl.HS0_16 c arg3 arg4 arg6 x0 x1 x3 xa0) := by
  unfold kernelRun0_C; rfl

set_option maxHeartbeats 4000000 in
theorem runC_sum (hc0 k0_h2) : (kernelRun0_C c i arg3 harg3 arg4 harg4 arg5 harg5 arg6 harg6 arg7 harg7 T0 T1 x0 x1 x2 x3 xa0 xa1 xa2 hc0 k0_h2).2.2.1 = scM0_1.view.writes (Elt Ideal) scM0_1.view.junk (kernelRun0_C.sl.HS1_16 c arg3 arg4 arg6 x0 x1 x3 xa0 xa1) := by
  unfold kernelRun0_C; rfl

set_option maxHeartbeats 4000000 in
theorem runC_acc (hc0 k0_h2) : (kernelRun0_C c i arg3 harg3 arg4 harg4 arg5 harg5 arg6 harg6 arg7 harg7 T0 T1 x0 x1 x2 x3 xa0 xa1 xa2 hc0 k0_h2).2.2.2.1 = scM0_2.view.writes (Elt Ideal) scM0_2.view.junk (kernelRun0_C.sl.HS2_16 c arg3 arg4 arg5 arg6 x0 x1 x2 x3 xa0 xa2) := by
  unfold kernelRun0_C; rfl

end

end Cert.KernelIdeal.Attn
-- ==== Proof.Attn.PathD.lean ====
module

public import proofs.«01_k».proof.Proof.Attn.Paths

/-!
Path D of the body: a point of a query block that is neither its first nor its last. Its lists of writes are the sixteen heads' slices.
-/

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic

section

variable (c : Dev nD) (i : grid0.Coords)
  (arg3 : Memref sig .tc .vmem S256x2048 .bf16) (harg3 : arg3.IsWhole)
  (arg4 : Memref sig .tc .vmem S640x2048 .bf16) (harg4 : arg4.IsWhole)
  (arg5 : Memref sig .tc .vmem S2048x640 .bf16) (harg5 : arg5.IsWhole)
  (arg6 : Memref sig .tc .vmem S640x256 .bf16) (harg6 : arg6.IsWhole)
  (arg7 : Memref sig .tc .vmem S256x2048 .bf16) (harg7 : arg7.IsWhole)
  (T0 T1 : S884.Idx → Elt Ideal .i32)
  (x0 : S256x2048.Idx → Elt Ideal .bf16) (x1 : S640x2048.Idx → Elt Ideal .bf16)
  (x2 : S2048x640.Idx → Elt Ideal .bf16) (x3 : S640x256.Idx → Elt Ideal .bf16)
  (xa0 : Buf (Elt Ideal) ((c : Thread nD τ).loc cc0_scratch0)) (xa1 : Buf (Elt Ideal) ((c : Thread nD τ).loc cc0_scratch1))
  (xa2 : Buf (Elt Ideal) ((c : Thread nD τ).loc cc0_scratch2))

/-- The scores as the body reads them back, head by head. -/
def savedD (h : Fin 16) : Vec Ideal S1x640x256 .f32 :=
  match h.val with
  | 0 => kernelRun0_D.sl.v178 arg3 arg4 arg6 x0 x1 x3
  | 1 => kernelRun0_D.sl.v208 arg3 arg4 arg6 x0 x1 x3
  | 2 => kernelRun0_D.sl.v238 arg3 arg4 arg6 x0 x1 x3
  | 3 => kernelRun0_D.sl.v268 arg3 arg4 arg6 x0 x1 x3
  | 4 => kernelRun0_D.sl.v298 arg3 arg4 arg6 x0 x1 x3
  | 5 => kernelRun0_D.sl.v328 arg3 arg4 arg6 x0 x1 x3
  | 6 => kernelRun0_D.sl.v358 arg3 arg4 arg6 x0 x1 x3
  | 7 => kernelRun0_D.sl.v388 arg3 arg4 arg6 x0 x1 x3
  | 8 => kernelRun0_D.sl.v418 arg3 arg4 arg6 x0 x1 x3
  | 9 => kernelRun0_D.sl.v448 arg3 arg4 arg6 x0 x1 x3
  | 10 => kernelRun0_D.sl.v478 arg3 arg4 arg6 x0 x1 x3
  | 11 => kernelRun0_D.sl.v508 arg3 arg4 arg6 x0 x1 x3
  | 12 => kernelRun0_D.sl.v538 arg3 arg4 arg6 x0 x1 x3
  | 13 => kernelRun0_D.sl.v568 arg3 arg4 arg6 x0 x1 x3
  | 14 => kernelRun0_D.sl.v598 arg3 arg4 arg6 x0 x1 x3
  | _ => kernelRun0_D.sl.v628 arg3 arg4 arg6 x0 x1 x3

/-- The weights as the body reads them back, head by head. -/
def weightD (h : Fin 16) : Vec Ideal S1x640x256 .bf16 :=
  match h.val with
  | 0 => kernelRun0_D.sl.v656 c arg3 arg4 arg6 x0 x1 x3 xa0
  | 1 => kernelRun0_D.sl.v667 c arg3 arg4 arg6 x0 x1 x3 xa0
  | 2 => kernelRun0_D.sl.v678 c arg3 arg4 arg6 x0 x1 x3 xa0
  | 3 => kernelRun0_D.sl.v689 c arg3 arg4 arg6 x0 x1 x3 xa0
  | 4 => kernelRun0_D.sl.v700 c arg3 arg4 arg6 x0 x1 x3 xa0
  | 5 => kernelRun0_D.sl.v711 c arg3 arg4 arg6 x0 x1 x3 xa0
  | 6 => kernelRun0_D.sl.v722 c arg3 arg4 arg6 x0 x1 x3 xa0
  | 7 => kernelRun0_D.sl.v733 c arg3 arg4 arg6 x0 x1 x3 xa0
  | 8 => kernelRun0_D.sl.v744 c arg3 arg4 arg6 x0 x1 x3 xa0
  | 9 => kernelRun0_D.sl.v755 c arg3 arg4 arg6 x0 x1 x3 xa0
  | 10 => kernelRun0_D.sl.v766 c arg3 arg4 arg6 x0 x1 x3 xa0
  | 11 => kernelRun0_D.sl.v777 c arg3 arg4 arg6 x0 x1 x3 xa0
  | 12 => kernelRun0_D.sl.v788 c arg3 arg4 arg6 x0 x1 x3 xa0
  | 13 => kernelRun0_D.sl.v799 c arg3 arg4 arg6 x0 x1 x3 xa0
  | 14 => kernelRun0_D.sl.v810 c arg3 arg4 arg6 x0 x1 x3 xa0
  | _ => kernelRun0_D.sl.v821 c arg3 arg4 arg6 x0 x1 x3 xa0

set_option maxHeartbeats 4000000 in
theorem D_saved : kernelRun0_D.sl.HS4_16 arg3 arg4 arg6 x0 x1 x3 = savedL (qB arg3 x0) (kB arg4 x1) (bB arg6 x3) := rfl

set_option maxHeartbeats 4000000 in
theorem D_savedV (h : Fin 16) : savedD arg3 arg4 arg6 x0 x1 x3 h = savedV (qB arg3 x0) (kB arg4 x1) (bB arg6 x3) h := by
  unfold savedV; rw [← D_saved]; fin_cases h <;> rfl

set_option maxHeartbeats 4000000 in
theorem D_top : kernelRun0_D.sl.HS0_16 c arg3 arg4 arg6 x0 x1 x3 xa0 = topL (qB arg3 x0) (kB arg4 x1) (bB arg6 x3) (mB c xa0) := rfl

set_option maxHeartbeats 4000000 in
theorem D_sum : kernelRun0_D.sl.HS1_16 c arg3 arg4 arg6 x0 x1 x3 xa0 xa1 = sumL (qB arg3 x0) (kB arg4 x1) (bB arg6 x3) (mB c xa0) (lB c xa1) := by
  have e : kernelRun0_D.sl.HS1_16 c arg3 arg4 arg6 x0 x1 x3 xa0 xa1 = (heads.map fun h => (⟨rowRect h, k0_pay78 (F := Ideal) (k0_pay25 (qB arg3 x0 h) (kB arg4 x1 h) (bB arg6 x3)) ((mB c xa0) h) (savedD arg3 arg4 arg6 x0 x1 x3 h) ((lB c xa1) h)⟩ : View.Piece (Elt Ideal) S16x8x256 .f32)) := rfl
  rw [e]; simp only [D_savedV]; rfl

set_option maxHeartbeats 4000000 in
theorem D_weight : kernelRun0_D.sl.HS5_16 c arg3 arg4 arg6 x0 x1 x3 xa0 = weightL (qB arg3 x0) (kB arg4 x1) (bB arg6 x3) (mB c xa0) := by
  have e : kernelRun0_D.sl.HS5_16 c arg3 arg4 arg6 x0 x1 x3 xa0 = (heads.map fun h => (⟨keyRect h, k0_pay81 (F := Ideal) (k0_pay80 (k0_pay25 (qB arg3 x0 h) (kB arg4 x1 h) (bB arg6 x3)) ((mB c xa0) h) (savedD arg3 arg4 arg6 x0 x1 x3 h))⟩ : View.Piece (Elt Ideal) S16x640x256 .bf16)) := rfl
  rw [e]; simp only [D_savedV]; rfl

set_option maxHeartbeats 4000000 in
theorem D_weightV (h : Fin 16) : weightD c arg3 arg4 arg6 x0 x1 x3 xa0 h = weightV (qB arg3 x0) (kB arg4 x1) (bB arg6 x3) (mB c xa0) h := by
  unfold weightV; rw [← D_weight]; fin_cases h <;> rfl

set_option maxHeartbeats 4000000 in
theorem D_acc : kernelRun0_D.sl.HS2_16 c arg3 arg4 arg5 arg6 x0 x1 x2 x3 xa0 xa2 = accL (qB arg3 x0) (kB arg4 x1) (vB arg5 x2) (bB arg6 x3) (mB c xa0) (aB c xa2) := by
  have e : kernelRun0_D.sl.HS2_16 c arg3 arg4 arg5 arg6 x0 x1 x2 x3 xa0 xa2 = (heads.map fun h => (⟨accRect h, k0_pay210 (F := Ideal) (k0_pay82 (k0_pay76 (k0_pay25 (qB arg3 x0 h) (kB arg4 x1 h) (bB arg6 x3)) ((mB c xa0) h))) (vB arg5 x2 h) ((aB c xa2) h) (weightD c arg3 arg4 arg6 x0 x1 x3 xa0 h)⟩ : View.Piece (Elt Ideal) S2048x256 .f32)) := rfl
  rw [e]; simp only [D_weightV]; rfl

set_option maxHeartbeats 4000000 in
theorem runD_top (hc0 k0_h2) : (kernelRun0_D c i arg3 harg3 arg4 harg4 arg5 harg5 arg6 harg6 arg7 harg7 T0 T1 x0 x1 x2 x3 xa0 xa1 xa2 hc0 k0_h2).1 = scM0_0.view.writes (Elt Ideal) scM0_0.view.junk (kernelRun0_D.sl.HS0_16 c arg3 arg4 arg6 x0 x1 x3 xa0) := by
  unfold kernelRun0_D; rfl

set_option maxHeartbeats 4000000 in
theorem runD_sum (hc0 k0_h2) : (kernelRun0_D c i arg3 harg3 arg4 harg4 arg5 harg5 arg6 harg6 arg7 harg7 T0 T1 x0 x1 x2 x3 xa0 xa1 xa2 hc0 k0_h2).2.1 = scM0_1.view.writes (Elt Ideal) scM0_1.view.junk (kernelRun0_D.sl.HS1_16 c arg3 arg4 arg6 x0 x1 x3 xa0 xa1) := by
  unfold kernelRun0_D; rfl

set_option maxHeartbeats 4000000 in
theorem runD_acc (hc0 k0_h2) : (kernelRun0_D c i arg3 harg3 arg4 harg4 arg5 harg5 arg6 harg6 arg7 harg7 T0 T1 x0 x1 x2 x3 xa0 xa1 xa2 hc0 k0_h2).2.2.1 = scM0_2.view.writes (Elt Ideal) scM0_2.view.junk (kernelRun0_D.sl.HS2_16 c arg3 arg4 arg5 arg6 x0 x1 x2 x3 xa0 xa2) := by
  unfold kernelRun0_D; rfl

end

end Cert.KernelIdeal.Attn
-- ==== Proof.Attn.Fills.lean ====
module

public import proofs.«01_k».proof.Proof.Attn.PathA
public import proofs.«01_k».proof.Proof.Attn.PathB
public import proofs.«01_k».proof.Proof.Attn.PathC
public import proofs.«01_k».proof.Proof.Attn.PathD

/-!
What one grid point does to the running maxima, sums and weighted sums, as functions of the head, the query column and
the row within the head: `St.next` of the four blocks it reads, from the state before it or, at the first point of a
query block, from `St.first`.
-/

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic

/-- The running maxima, sums of weights and weighted sums of values, by head, row and query column. -/
@[ext] structure St where
  top : Fin 16 → Fin 8 → Fin 256 → EReal
  sum : Fin 16 → Fin 8 → Fin 256 → EReal
  acc : Fin 16 → Fin 128 → Fin 256 → EReal

/-- What the first point of a query block starts from. -/
def St.first : St := ⟨fun _ _ _ => (start : EReal), fun _ _ _ => 0, fun _ _ _ => 0⟩

/-- A block's score of key `a` against query `c` at head `h`. -/
def score (x0 : S256x2048.Idx → Elt Ideal .bf16) (x1 : S640x2048.Idx → Elt Ideal .bf16) (x3 : S640x256.Idx → Elt Ideal .bf16)
    (h : Fin 16) (c : Fin 256) (a : Fin 640) : EReal :=
  (∑ d : Fin 128, x1 (ix2 a (at128 h d)) * x0 (ix2 c (at128 h d))) + x3 (ix2 a c)

/-- The maxima after one more block of keys. -/
def St.nextTop (x0 : S256x2048.Idx → Elt Ideal .bf16) (x1 : S640x2048.Idx → Elt Ideal .bf16)
    (x3 : S640x256.Idx → Elt Ideal .bf16) (s : St) (h : Fin 16) (r : Fin 8) (c : Fin 256) : EReal :=
  max (s.top h r c) (Finset.univ.sup (score x0 x1 x3 h c))

/-- The state after one more block of keys. -/
def St.next (x0 : S256x2048.Idx → Elt Ideal .bf16) (x1 : S640x2048.Idx → Elt Ideal .bf16)
    (x2 : S2048x640.Idx → Elt Ideal .bf16) (x3 : S640x256.Idx → Elt Ideal .bf16) (s : St) : St where
  top := s.nextTop x0 x1 x3
  sum h r c := Ideal.exp2 (s.top h r c - s.nextTop x0 x1 x3 h r c) * s.sum h r c
    + ∑ a : Fin 640, Ideal.exp2 (score x0 x1 x3 h c a - s.nextTop x0 x1 x3 h 0 c)
  acc h d c := Ideal.exp2 (s.top h 0 c - s.nextTop x0 x1 x3 h 0 c) * s.acc h d c
    + ∑ a : Fin 640, x2 (ix2 (at128 h d) a) * Ideal.exp2 (score x0 x1 x3 h c a - s.nextTop x0 x1 x3 h 0 c)

/-- Every head in front of head `h` in the order of the writes is a smaller one. -/
theorem lt_of_mem_drop : ∀ h h' : Fin 16, h' ∈ heads.drop (16 - h.val) → h' < h := by decide

/-- The slices of smaller heads hide nothing of head `h`. -/
theorem canon_skip {s : Shape} {e : EltTy} (P : Fin 16 → View.Piece (Elt Ideal) s e)
    (L : List (View.Piece (Elt Ideal) s e)) (h : Fin 16) (y : s.Idx) (hy : ∀ h' < h, y ∉ (P h').1.set) :
    View.canon ((heads.drop (16 - h.val)).map P ++ L) y = View.canon L y := by
  suffices ∀ l : List (Fin 16), (∀ h' ∈ l, h' < h) → View.canon (l.map P ++ L) y = View.canon L y from
    this _ (lt_of_mem_drop h)
  intro l
  induction l with
  | nil => intro _; rfl
  | cons a l ih =>
    intro hl
    rw [List.map_cons, List.cons_append, View.canon_cons_of_not_mem _ _ (hy a (hl a List.mem_cons_self))]
    exact ih fun h' hh => hl h' (List.mem_cons_of_mem _ hh)

theorem row_not_mem (h h' : Fin 16) (hh : h' < h) (r : Fin 8) (c : Fin 256) :
    (ix3 h r c : S16x8x256.Idx) ∉ (rowRect h').set := by
  intro hm
  have := (Rect.mem_set_unit.mp hm) 0
  simp [ix3, S1x8x256] at this
  have h2 : h'.val < h.val := hh
  omega

theorem acc_not_mem (h h' : Fin 16) (hh : h' < h) (d : Fin 128) (c : Fin 256) :
    (ix2 (at128 h d) c : S2048x256.Idx) ∉ (accRect h').set := by
  intro hm
  have := (Rect.mem_set_unit.mp hm) 0
  simp [ix2, S128x256] at this
  have h2 : h'.val < h.val := hh
  omega

theorem topF_at (y : S16x8x256.Idx) : View.canon topF y = (start : EReal) := by
  unfold topF
  rw [View.canon_unit_zero (by funext a; fin_cases a <;> rfl)]
  exact start_apply y
theorem sumF_at (y : S16x8x256.Idx) : View.canon sumF y = (0 : EReal) := by
  unfold sumF
  rw [View.canon_unit_zero (by funext a; fin_cases a <;> rfl)]
  exact zeros_apply y
theorem accF_at (y : S2048x256.Idx) : View.canon accF y = (0 : EReal) := by
  unfold accF
  rw [View.canon_unit_zero (by funext a; fin_cases a <;> rfl)]
  exact zeros2_apply y

section

variable (c : Dev nD) (i : grid0.Coords)
  (arg3 : Memref sig .tc .vmem S256x2048 .bf16) (harg3 : arg3.IsWhole)
  (arg4 : Memref sig .tc .vmem S640x2048 .bf16) (harg4 : arg4.IsWhole)
  (arg5 : Memref sig .tc .vmem S2048x640 .bf16) (harg5 : arg5.IsWhole)
  (arg6 : Memref sig .tc .vmem S640x256 .bf16) (harg6 : arg6.IsWhole)
  (arg7 : Memref sig .tc .vmem S256x2048 .bf16) (harg7 : arg7.IsWhole)
  (T0 T1 : S884.Idx → Elt Ideal .i32)
  (x0 : S256x2048.Idx → Elt Ideal .bf16) (x1 : S640x2048.Idx → Elt Ideal .bf16)
  (x2 : S2048x640.Idx → Elt Ideal .bf16) (x3 : S640x256.Idx → Elt Ideal .bf16)
  (xa0 : Buf (Elt Ideal) ((c : Thread nD τ).loc cc0_scratch0)) (xa1 : Buf (Elt Ideal) ((c : Thread nD τ).loc cc0_scratch1))
  (xa2 : Buf (Elt Ideal) ((c : Thread nD τ).loc cc0_scratch2))

/-- What the three buffers of running values hold. -/
def stOf : St :=
  ⟨fun h r n => scM0_0.view.read (Elt Ideal) xa0 (ix3 h r n), fun h r n => scM0_1.view.read (Elt Ideal) xa1 (ix3 h r n),
    fun h d n => scM0_2.view.read (Elt Ideal) xa2 (ix2 (at128 h d) n)⟩

theorem stOf_congr {a a' b b' d d'} (ha : a = a') (hb : b = b') (hd : d = d') : stOf c a b d = stOf c a' b' d' := by
  rw [ha, hb, hd]

theorem qB_apply (h : Fin 16) (n : Fin 256) (d : Fin 128) : qB arg3 x0 h (ix2 n d) = x0 (ix2 n (at128 h d)) := by
  unfold qB; rw [View.readAt_rep]; exact congrArg x0 (outRect_emb h d n)
theorem kB_apply (h : Fin 16) (a : Fin 640) (d : Fin 128) : kB arg4 x1 h (ix2 a d) = x1 (ix2 a (at128 h d)) := by
  unfold kB; rw [View.readAt_rep]; exact congrArg x1 (kRect_emb h d a)
theorem vB_apply (h : Fin 16) (d : Fin 128) (a : Fin 640) : vB arg5 x2 h (ix2 d a) = x2 (ix2 (at128 h d) a) := by
  unfold vB; rw [View.readAt_rep]; exact congrArg x2 (vRect_emb h d a)

theorem whole_emb (y : S640x256.Idx) :
    (Rect.unit (s := S640x256) ![0, 0] S640x256.size inb_S640x256_S640x256_0_0).emb y = y := by
  funext a; apply Fin.ext; rw [Rect.emb_apply]; fin_cases a <;> simp

theorem bB_apply (a : Fin 640) (n : Fin 256) : bB arg6 x3 (ix2 a n) = x3 (ix2 a n) := by
  unfold bB
  rw [View.readCov_eq_canon', View.canon_unit_zero (by funext a; fin_cases a <;> rfl)]
  refine (bias_apply _ _).trans ?_
  rw [View.readAt_rep]
  exact congrArg x3 ((whole_emb _).trans (whole_emb _))

theorem mB_apply (h : Fin 16) (z : Fin 1) (r : Fin 8) (n : Fin 256) : mB c xa0 h (ix3 z r n) = (stOf c xa0 xa1 xa2).top h r n := by
  unfold mB; rw [View.readAt_apply]; exact congrArg (scM0_0.view.read (Elt Ideal) xa0) (rowRect_emb h z r n)
theorem lB_apply (h : Fin 16) (z : Fin 1) (r : Fin 8) (n : Fin 256) : lB c xa1 h (ix3 z r n) = (stOf c xa0 xa1 xa2).sum h r n := by
  unfold lB; rw [View.readAt_apply]; exact congrArg (scM0_1.view.read (Elt Ideal) xa1) (rowRect_emb h z r n)
theorem aB_apply (h : Fin 16) (d : Fin 128) (n : Fin 256) : aB c xa2 h (ix2 d n) = (stOf c xa0 xa1 xa2).acc h d n := by
  unfold aB; rw [View.readAt_apply]; exact congrArg (scM0_2.view.read (Elt Ideal) xa2) (accRect_emb h d n)

theorem sc_eq (h : Fin 16) (n : Fin 256) (a : Fin 640) : sc (qB arg3 x0) (kB arg4 x1) (bB arg6 x3) h n a = score x0 x1 x3 h n a := by
  unfold sc score; rw [score_apply, bB_apply]; simp only [qB_apply, kB_apply]

variable (mp lp : Fin 16 → Vec Ideal S1x8x256 .f32) (ap : Fin 16 → Vec Ideal S128x256 .f32) (s : St)
  (hm : ∀ h z r n, mp h (ix3 z r n) = s.top h r n) (hl : ∀ h z r n, lp h (ix3 z r n) = s.sum h r n)
  (ha : ∀ h d n, ap h (ix2 d n) = s.acc h d n)

include hm in
theorem tp_eq (h : Fin 16) (r : Fin 8) (n : Fin 256) :
    tp (qB arg3 x0) (kB arg4 x1) (bB arg6 x3) mp h r n = s.nextTop x0 x1 x3 h r n := by
  unfold tp St.nextTop; rw [hm, show sc (qB arg3 x0) (kB arg4 x1) (bB arg6 x3) h n = score x0 x1 x3 h n from funext fun a => sc_eq ..]

include hm hl in
theorem sm_eq (h : Fin 16) (r : Fin 8) (n : Fin 256) :
    sm (qB arg3 x0) (kB arg4 x1) (bB arg6 x3) mp lp h r n = (s.next x0 x1 x2 x3).sum h r n := by
  unfold sm St.next; simp only [tp_eq arg3 arg4 arg6 x0 x1 x3 mp s hm, sc_eq, hm, hl]

include hm ha in
theorem ac_eq (h : Fin 16) (d : Fin 128) (n : Fin 256) :
    ac (qB arg3 x0) (kB arg4 x1) (vB arg5 x2) (bB arg6 x3) mp ap h d n = (s.next x0 x1 x2 x3).acc h d n := by
  unfold ac St.next; simp only [tp_eq arg3 arg4 arg6 x0 x1 x3 mp s hm, sc_eq, hm, ha, vB_apply]

include hm hl ha in
/-- The three lists of writes, read back, hold the next state. -/
theorem stOf_writes (LT LS LA) :
    stOf c (scM0_0.view.writes (Elt Ideal) scM0_0.view.junk (topL (qB arg3 x0) (kB arg4 x1) (bB arg6 x3) mp ++ LT))
      (scM0_1.view.writes (Elt Ideal) scM0_1.view.junk (sumL (qB arg3 x0) (kB arg4 x1) (bB arg6 x3) mp lp ++ LS))
      (scM0_2.view.writes (Elt Ideal) scM0_2.view.junk (accL (qB arg3 x0) (kB arg4 x1) (vB arg5 x2) (bB arg6 x3) mp ap ++ LA))
      = s.next x0 x1 x2 x3 := by
  unfold stOf
  simp only [View.read_writes_junk_eq_canon, top_at, sum_at, acc_at]
  apply St.ext
  · funext h r n; exact tp_eq arg3 arg4 arg6 x0 x1 x3 mp s hm h r n
  · funext h r n; exact sm_eq arg3 arg4 arg6 x0 x1 x2 x3 mp lp s hm hl h r n
  · funext h d n; exact ac_eq arg3 arg4 arg5 arg6 x0 x1 x2 x3 mp ap s hm ha h d n

include hm hl ha in
/-- The output block's list of writes holds the weighted sums over the sums of weights. -/
theorem out_writes (LS LA) (h : Fin 16) (d : Fin 128) (n : Fin 256) :
    View.canon (outL (accL (qB arg3 x0) (kB arg4 x1) (vB arg5 x2) (bB arg6 x3) mp ap ++ LA)
      (sumL (qB arg3 x0) (kB arg4 x1) (bB arg6 x3) mp lp ++ LS)) (ix2 n (at128 h d))
      = Ideal.div ((s.next x0 x1 x2 x3).acc h d n) ((s.next x0 x1 x2 x3).sum h 0 n) := by
  rw [out_at, acc_at, sum_at, ac_eq arg3 arg4 arg5 arg6 x0 x1 x2 x3 mp ap s hm ha,
    sm_eq arg3 arg4 arg6 x0 x1 x2 x3 mp lp s hm hl]

set_option maxHeartbeats 4000000 in
theorem topA_eq (h : Fin 16) : topA arg3 arg4 arg6 x0 x1 x3 h = scM0_0.view.readCov
    ((heads.drop (16 - h.val)).map (fun h => (⟨rowRect h, k0_pay79 (F := Ideal) (k0_pay25 (qB arg3 x0 h) (kB arg4 x1 h) (bB arg6 x3)) ((topA arg3 arg4 arg6 x0 x1 x3) h)⟩ : View.Piece (Elt Ideal) S16x8x256 .f32)) ++ topF) (rowRect h).toLoadRect := by
  fin_cases h <;> rfl

theorem topA_apply (h : Fin 16) (z : Fin 1) (r : Fin 8) (n : Fin 256) : topA arg3 arg4 arg6 x0 x1 x3 h (ix3 z r n) = St.first.top h r n := by
  rw [topA_eq, View.readCov_eq_canon']
  refine (congrArg (View.canon _) (rowRect_emb h z r n)).trans ?_
  refine (canon_skip _ _ h _ ?_).trans (topF_at _)
  intro h' hh; exact row_not_mem h h' hh r n

set_option maxHeartbeats 4000000 in
theorem sumA_eq (h : Fin 16) : sumA arg3 arg4 arg6 x0 x1 x3 h = scM0_1.view.readCov
    ((heads.drop (16 - h.val)).map (fun h => (⟨rowRect h, k0_pay78 (F := Ideal) (k0_pay25 (qB arg3 x0 h) (kB arg4 x1 h) (bB arg6 x3)) ((topA arg3 arg4 arg6 x0 x1 x3) h) (savedA arg3 arg4 arg6 x0 x1 x3 h) ((sumA arg3 arg4 arg6 x0 x1 x3) h)⟩ : View.Piece (Elt Ideal) S16x8x256 .f32)) ++ sumF) (rowRect h).toLoadRect := by
  fin_cases h <;> rfl

theorem sumA_apply (h : Fin 16) (z : Fin 1) (r : Fin 8) (n : Fin 256) : sumA arg3 arg4 arg6 x0 x1 x3 h (ix3 z r n) = St.first.sum h r n := by
  rw [sumA_eq, View.readCov_eq_canon']
  refine (congrArg (View.canon _) (rowRect_emb h z r n)).trans ?_
  refine (canon_skip _ _ h _ ?_).trans (sumF_at _)
  intro h' hh; exact row_not_mem h h' hh r n

set_option maxHeartbeats 4000000 in
theorem accA_eq (h : Fin 16) : accA arg3 arg4 arg5 arg6 x0 x1 x2 x3 h = scM0_2.view.readCov
    ((heads.drop (16 - h.val)).map (fun h => (⟨accRect h, k0_pay210 (F := Ideal) (k0_pay82 (k0_pay76 (k0_pay25 (qB arg3 x0 h) (kB arg4 x1 h) (bB arg6 x3)) ((topA arg3 arg4 arg6 x0 x1 x3) h))) (vB arg5 x2 h) ((accA arg3 arg4 arg5 arg6 x0 x1 x2 x3) h) (weightA arg3 arg4 arg6 x0 x1 x3 h)⟩ : View.Piece (Elt Ideal) S2048x256 .f32)) ++ accF) (accRect h).toLoadRect := by
  fin_cases h <;> rfl

theorem accA_apply (h : Fin 16) (d : Fin 128) (n : Fin 256) : accA arg3 arg4 arg5 arg6 x0 x1 x2 x3 h (ix2 d n) = St.first.acc h d n := by
  rw [accA_eq, View.readCov_eq_canon']
  refine (congrArg (View.canon _) (accRect_emb h d n)).trans ?_
  refine (canon_skip _ _ h _ ?_).trans (accF_at _)
  intro h' hh; exact acc_not_mem h h' hh d n

set_option maxHeartbeats 4000000 in
theorem topB_eq (h : Fin 16) : topB arg3 arg4 arg6 x0 x1 x3 h = scM0_0.view.readCov
    ((heads.drop (16 - h.val)).map (fun h => (⟨rowRect h, k0_pay79 (F := Ideal) (k0_pay25 (qB arg3 x0 h) (kB arg4 x1 h) (bB arg6 x3)) ((topB arg3 arg4 arg6 x0 x1 x3) h)⟩ : View.Piece (Elt Ideal) S16x8x256 .f32)) ++ topF) (rowRect h).toLoadRect := by
  fin_cases h <;> rfl

theorem topB_apply (h : Fin 16) (z : Fin 1) (r : Fin 8) (n : Fin 256) : topB arg3 arg4 arg6 x0 x1 x3 h (ix3 z r n) = St.first.top h r n := by
  rw [topB_eq, View.readCov_eq_canon']
  refine (congrArg (View.canon _) (rowRect_emb h z r n)).trans ?_
  refine (canon_skip _ _ h _ ?_).trans (topF_at _)
  intro h' hh; exact row_not_mem h h' hh r n

set_option maxHeartbeats 4000000 in
theorem sumB_eq (h : Fin 16) : sumB arg3 arg4 arg6 x0 x1 x3 h = scM0_1.view.readCov
    ((heads.drop (16 - h.val)).map (fun h => (⟨rowRect h, k0_pay78 (F := Ideal) (k0_pay25 (qB arg3 x0 h) (kB arg4 x1 h) (bB arg6 x3)) ((topB arg3 arg4 arg6 x0 x1 x3) h) (savedB arg3 arg4 arg6 x0 x1 x3 h) ((sumB arg3 arg4 arg6 x0 x1 x3) h)⟩ : View.Piece (Elt Ideal) S16x8x256 .f32)) ++ sumF) (rowRect h).toLoadRect := by
  fin_cases h <;> rfl

theorem sumB_apply (h : Fin 16) (z : Fin 1) (r : Fin 8) (n : Fin 256) : sumB arg3 arg4 arg6 x0 x1 x3 h (ix3 z r n) = St.first.sum h r n := by
  rw [sumB_eq, View.readCov_eq_canon']
  refine (congrArg (View.canon _) (rowRect_emb h z r n)).trans ?_
  refine (canon_skip _ _ h _ ?_).trans (sumF_at _)
  intro h' hh; exact row_not_mem h h' hh r n

set_option maxHeartbeats 4000000 in
theorem accB_eq (h : Fin 16) : accB arg3 arg4 arg5 arg6 x0 x1 x2 x3 h = scM0_2.view.readCov
    ((heads.drop (16 - h.val)).map (fun h => (⟨accRect h, k0_pay210 (F := Ideal) (k0_pay82 (k0_pay76 (k0_pay25 (qB arg3 x0 h) (kB arg4 x1 h) (bB arg6 x3)) ((topB arg3 arg4 arg6 x0 x1 x3) h))) (vB arg5 x2 h) ((accB arg3 arg4 arg5 arg6 x0 x1 x2 x3) h) (weightB arg3 arg4 arg6 x0 x1 x3 h)⟩ : View.Piece (Elt Ideal) S2048x256 .f32)) ++ accF) (accRect h).toLoadRect := by
  fin_cases h <;> rfl

theorem accB_apply (h : Fin 16) (d : Fin 128) (n : Fin 256) : accB arg3 arg4 arg5 arg6 x0 x1 x2 x3 h (ix2 d n) = St.first.acc h d n := by
  rw [accB_eq, View.readCov_eq_canon']
  refine (congrArg (View.canon _) (accRect_emb h d n)).trans ?_
  refine (canon_skip _ _ h _ ?_).trans (accF_at _)
  intro h' hh; exact acc_not_mem h h' hh d n

/-- Path A: the state after the point. -/
theorem stA (hc0 k0_h2) : stOf c (kernelRun0_A c i arg3 harg3 arg4 harg4 arg5 harg5 arg6 harg6 arg7 harg7 T0 T1 x0 x1 x2 x3 hc0 k0_h2).2.1 (kernelRun0_A c i arg3 harg3 arg4 harg4 arg5 harg5 arg6 harg6 arg7 harg7 T0 T1 x0 x1 x2 x3 hc0 k0_h2).2.2.1 (kernelRun0_A c i arg3 harg3 arg4 harg4 arg5 harg5 arg6 harg6 arg7 harg7 T0 T1 x0 x1 x2 x3 hc0 k0_h2).2.2.2.1 = St.next x0 x1 x2 x3 St.first :=
  (stOf_congr c
    ((runA_top c i arg3 harg3 arg4 harg4 arg5 harg5 arg6 harg6 arg7 harg7 T0 T1 x0 x1 x2 x3 hc0 k0_h2).trans
      (congrArg (scM0_0.view.writes (Elt Ideal) scM0_0.view.junk) (A_top arg3 arg4 arg6 x0 x1 x3)))
    ((runA_sum c i arg3 harg3 arg4 harg4 arg5 harg5 arg6 harg6 arg7 harg7 T0 T1 x0 x1 x2 x3 hc0 k0_h2).trans
      (congrArg (scM0_1.view.writes (Elt Ideal) scM0_1.view.junk) (A_sum arg3 arg4 arg6 x0 x1 x3)))
    ((runA_acc c i arg3 harg3 arg4 harg4 arg5 harg5 arg6 harg6 arg7 harg7 T0 T1 x0 x1 x2 x3 hc0 k0_h2).trans
      (congrArg (scM0_2.view.writes (Elt Ideal) scM0_2.view.junk) (A_acc arg3 arg4 arg5 arg6 x0 x1 x2 x3)))
    ).trans (stOf_writes c arg3 arg4 arg5 arg6 x0 x1 x2 x3 (topA arg3 arg4 arg6 x0 x1 x3) (sumA arg3 arg4 arg6 x0 x1 x3) (accA arg3 arg4 arg5 arg6 x0 x1 x2 x3) St.first (topA_apply arg3 arg4 arg6 x0 x1 x3) (sumA_apply arg3 arg4 arg6 x0 x1 x3) (accA_apply arg3 arg4 arg5 arg6 x0 x1 x2 x3) topF sumF accF)

/-- Path A: the output block. -/
theorem outA (hc0 k0_h2) (h : Fin 16) (d : Fin 128) (n : Fin 256) : View.canon (kernelRun0_A c i arg3 harg3 arg4 harg4 arg5 harg5 arg6 harg6 arg7 harg7 T0 T1 x0 x1 x2 x3 hc0 k0_h2).1 (ix2 n (at128 h d))
    = Ideal.div ((St.next x0 x1 x2 x3 St.first).acc h d n) ((St.next x0 x1 x2 x3 St.first).sum h 0 n) :=
  (congrFun (congrArg View.canon ((runA_out c i arg3 harg3 arg4 harg4 arg5 harg5 arg6 harg6 arg7 harg7 T0 T1 x0 x1 x2 x3 hc0 k0_h2).trans
    (A_out arg3 arg4 arg5 arg6 x0 x1 x2 x3))) _).trans
    (out_writes arg3 arg4 arg5 arg6 x0 x1 x2 x3 (topA arg3 arg4 arg6 x0 x1 x3) (sumA arg3 arg4 arg6 x0 x1 x3) (accA arg3 arg4 arg5 arg6 x0 x1 x2 x3) St.first (topA_apply arg3 arg4 arg6 x0 x1 x3) (sumA_apply arg3 arg4 arg6 x0 x1 x3) (accA_apply arg3 arg4 arg5 arg6 x0 x1 x2 x3) sumF accF h d n)

/-- Path B: the state after the point. -/
theorem stB (hc0 k0_h2) : stOf c (kernelRun0_B c i arg3 harg3 arg4 harg4 arg5 harg5 arg6 harg6 arg7 harg7 T0 T1 x0 x1 x2 x3 hc0 k0_h2).1 (kernelRun0_B c i arg3 harg3 arg4 harg4 arg5 harg5 arg6 harg6 arg7 harg7 T0 T1 x0 x1 x2 x3 hc0 k0_h2).2.1 (kernelRun0_B c i arg3 harg3 arg4 harg4 arg5 harg5 arg6 harg6 arg7 harg7 T0 T1 x0 x1 x2 x3 hc0 k0_h2).2.2.1 = St.next x0 x1 x2 x3 St.first :=
  (stOf_congr c
    ((runB_top c i arg3 harg3 arg4 harg4 arg5 harg5 arg6 harg6 arg7 harg7 T0 T1 x0 x1 x2 x3 hc0 k0_h2).trans
      (congrArg (scM0_0.view.writes (Elt Ideal) scM0_0.view.junk) (B_top arg3 arg4 arg6 x0 x1 x3)))
    ((runB_sum c i arg3 harg3 arg4 harg4 arg5 harg5 arg6 harg6 arg7 harg7 T0 T1 x0 x1 x2 x3 hc0 k0_h2).trans
      (congrArg (scM0_1.view.writes (Elt Ideal) scM0_1.view.junk) (B_sum arg3 arg4 arg6 x0 x1 x3)))
    ((runB_acc c i arg3 harg3 arg4 harg4 arg5 harg5 arg6 harg6 arg7 harg7 T0 T1 x0 x1 x2 x3 hc0 k0_h2).trans
      (congrArg (scM0_2.view.writes (Elt Ideal) scM0_2.view.junk) (B_acc arg3 arg4 arg5 arg6 x0 x1 x2 x3)))
    ).trans (stOf_writes c arg3 arg4 arg5 arg6 x0 x1 x2 x3 (topB arg3 arg4 arg6 x0 x1 x3) (sumB arg3 arg4 arg6 x0 x1 x3) (accB arg3 arg4 arg5 arg6 x0 x1 x2 x3) St.first (topB_apply arg3 arg4 arg6 x0 x1 x3) (sumB_apply arg3 arg4 arg6 x0 x1 x3) (accB_apply arg3 arg4 arg5 arg6 x0 x1 x2 x3) topF sumF accF)

/-- Path C: the state after the point. -/
theorem stC (hc0 k0_h2) : stOf c (kernelRun0_C c i arg3 harg3 arg4 harg4 arg5 harg5 arg6 harg6 arg7 harg7 T0 T1 x0 x1 x2 x3 xa0 xa1 xa2 hc0 k0_h2).2.1 (kernelRun0_C c i arg3 harg3 arg4 harg4 arg5 harg5 arg6 harg6 arg7 harg7 T0 T1 x0 x1 x2 x3 xa0 xa1 xa2 hc0 k0_h2).2.2.1 (kernelRun0_C c i arg3 harg3 arg4 harg4 arg5 harg5 arg6 harg6 arg7 harg7 T0 T1 x0 x1 x2 x3 xa0 xa1 xa2 hc0 k0_h2).2.2.2.1 = St.next x0 x1 x2 x3 (stOf c xa0 xa1 xa2) :=
  (stOf_congr c
    ((runC_top c i arg3 harg3 arg4 harg4 arg5 harg5 arg6 harg6 arg7 harg7 T0 T1 x0 x1 x2 x3 xa0 xa1 xa2 hc0 k0_h2).trans
      (congrArg (scM0_0.view.writes (Elt Ideal) scM0_0.view.junk) ((C_top c arg3 arg4 arg6 x0 x1 x3 xa0).trans (List.append_nil _).symm)))
    ((runC_sum c i arg3 harg3 arg4 harg4 arg5 harg5 arg6 harg6 arg7 harg7 T0 T1 x0 x1 x2 x3 xa0 xa1 xa2 hc0 k0_h2).trans
      (congrArg (scM0_1.view.writes (Elt Ideal) scM0_1.view.junk) ((C_sum c arg3 arg4 arg6 x0 x1 x3 xa0 xa1).trans (List.append_nil _).symm)))
    ((runC_acc c i arg3 harg3 arg4 harg4 arg5 harg5 arg6 harg6 arg7 harg7 T0 T1 x0 x1 x2 x3 xa0 xa1 xa2 hc0 k0_h2).trans
      (congrArg (scM0_2.view.writes (Elt Ideal) scM0_2.view.junk) ((C_acc c arg3 arg4 arg5 arg6 x0 x1 x2 x3 xa0 xa2).trans (List.append_nil _).symm)))
    ).trans (stOf_writes c arg3 arg4 arg5 arg6 x0 x1 x2 x3 (mB c xa0) (lB c xa1) (aB c xa2) (stOf c xa0 xa1 xa2) (mB_apply c xa0 xa1 xa2) (lB_apply c xa0 xa1 xa2) (aB_apply c xa0 xa1 xa2) [] [] [])

/-- Path C: the output block. -/
theorem outC (hc0 k0_h2) (h : Fin 16) (d : Fin 128) (n : Fin 256) : View.canon (kernelRun0_C c i arg3 harg3 arg4 harg4 arg5 harg5 arg6 harg6 arg7 harg7 T0 T1 x0 x1 x2 x3 xa0 xa1 xa2 hc0 k0_h2).1 (ix2 n (at128 h d))
    = Ideal.div ((St.next x0 x1 x2 x3 (stOf c xa0 xa1 xa2)).acc h d n) ((St.next x0 x1 x2 x3 (stOf c xa0 xa1 xa2)).sum h 0 n) :=
  (congrFun (congrArg View.canon ((runC_out c i arg3 harg3 arg4 harg4 arg5 harg5 arg6 harg6 arg7 harg7 T0 T1 x0 x1 x2 x3 xa0 xa1 xa2 hc0 k0_h2).trans
    ((C_out c arg3 arg4 arg5 arg6 x0 x1 x2 x3 xa0 xa1 xa2).trans (congr (congrArg outL (List.append_nil _).symm) (List.append_nil _).symm)))) _).trans
    (out_writes arg3 arg4 arg5 arg6 x0 x1 x2 x3 (mB c xa0) (lB c xa1) (aB c xa2) (stOf c xa0 xa1 xa2) (mB_apply c xa0 xa1 xa2) (lB_apply c xa0 xa1 xa2) (aB_apply c xa0 xa1 xa2) [] [] h d n)

/-- Path D: the state after the point. -/
theorem stD (hc0 k0_h2) : stOf c (kernelRun0_D c i arg3 harg3 arg4 harg4 arg5 harg5 arg6 harg6 arg7 harg7 T0 T1 x0 x1 x2 x3 xa0 xa1 xa2 hc0 k0_h2).1 (kernelRun0_D c i arg3 harg3 arg4 harg4 arg5 harg5 arg6 harg6 arg7 harg7 T0 T1 x0 x1 x2 x3 xa0 xa1 xa2 hc0 k0_h2).2.1 (kernelRun0_D c i arg3 harg3 arg4 harg4 arg5 harg5 arg6 harg6 arg7 harg7 T0 T1 x0 x1 x2 x3 xa0 xa1 xa2 hc0 k0_h2).2.2.1 = St.next x0 x1 x2 x3 (stOf c xa0 xa1 xa2) :=
  (stOf_congr c
    ((runD_top c i arg3 harg3 arg4 harg4 arg5 harg5 arg6 harg6 arg7 harg7 T0 T1 x0 x1 x2 x3 xa0 xa1 xa2 hc0 k0_h2).trans
      (congrArg (scM0_0.view.writes (Elt Ideal) scM0_0.view.junk) ((D_top c arg3 arg4 arg6 x0 x1 x3 xa0).trans (List.append_nil _).symm)))
    ((runD_sum c i arg3 harg3 arg4 harg4 arg5 harg5 arg6 harg6 arg7 harg7 T0 T1 x0 x1 x2 x3 xa0 xa1 xa2 hc0 k0_h2).trans
      (congrArg (scM0_1.view.writes (Elt Ideal) scM0_1.view.junk) ((D_sum c arg3 arg4 arg6 x0 x1 x3 xa0 xa1).trans (List.append_nil _).symm)))
    ((runD_acc c i arg3 harg3 arg4 harg4 arg5 harg5 arg6 harg6 arg7 harg7 T0 T1 x0 x1 x2 x3 xa0 xa1 xa2 hc0 k0_h2).trans
      (congrArg (scM0_2.view.writes (Elt Ideal) scM0_2.view.junk) ((D_acc c arg3 arg4 arg5 arg6 x0 x1 x2 x3 xa0 xa2).trans (List.append_nil _).symm)))
    ).trans (stOf_writes c arg3 arg4 arg5 arg6 x0 x1 x2 x3 (mB c xa0) (lB c xa1) (aB c xa2) (stOf c xa0 xa1 xa2) (mB_apply c xa0 xa1 xa2) (lB_apply c xa0 xa1 xa2) (aB_apply c xa0 xa1 xa2) [] [] [])

end

end Cert.KernelIdeal.Attn
-- ==== Proof.Attn.Blocks.lean ====
module

public import proofs.«01_k».proof.Proof.Attn.Sched
public import proofs.«01_k».proof.Proof.Attn.Fills

/-!
The blocks a grid point reads, as entries of the argument arrays.
-/

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic

variable (m : (ℓ : Loc nD τ sig) → Buf (Elt Ideal) ℓ) (ρ : Dev nD → PrngReg) (c : Dev nD)

/-- The queries, keys, values and bias at the launch. -/
abbrev argQ : S16640x2048.Idx → EReal := m ((c : Thread nD τ).loc main_arg0)
abbrev argK : S16640x2048.Idx → EReal := m ((c : Thread nD τ).loc main_arg1)
abbrev argV : S2048x16640.Idx → EReal := m ((c : Thread nD τ).loc main_arg2)
abbrev argB : S16640x16640.Idx → EReal := m ((c : Thread nD τ).loc main_arg3)

/-- The array's row of row `n` of query block `i`. -/
theorem qrow_lt (t : Fin (cfgA 0).N) (n : Fin 256) : 256 * qi t + n.val < 16640 := by
  have := (sched t).1; omega
theorem krow_lt (t : Fin (cfgA 0).N) (a : Fin 640) : 640 * ki t + a.val < 16640 := by
  have := (sched t).2.1; omega

theorem ki_eq2 (t : Fin (cfgA 0).N) : cc0_transform_2 (F := Ideal) k0_off1_inb numel1_S1 (pfN 0) (crd 0 t) 1 = ki t := rfl
theorem ki_eq3 (t : Fin (cfgA 0).N) : cc0_transform_3 (F := Ideal) k0_off1_inb numel1_S1 (pfN 0) (crd 0 t) 0 = ki t := rfl
theorem qi_eq3 (t : Fin (cfgA 0).N) : cc0_transform_3 (F := Ideal) k0_off1_inb numel1_S1 (pfN 0) (crd 0 t) 1 = qi t := rfl
theorem qi_eq4 (t : Fin (cfgA 0).N) : cc0_transform_4 (F := Ideal) k0_off1_inb numel1_S1 (pfN 0) (crd 0 t) 0 = qi t := rfl

theorem blk_q (t : Fin (cfgA 0).N) (n : Fin 256) (d : Fin 2048) :
    iblk 0 m ρ c (0 : Fin 5) t (ix2 n d) = argQ m c (ix2 ⟨256 * qi t + n.val, qrow_lt t n⟩ d) := by
  refine congrArg (argQ m c) ?_
  funext a; apply Fin.ext
  fin_cases a
  · show qi t * 256 + 1 * n.val = _; simp; omega
  · show 0 * 2048 + 1 * d.val = _; simp

theorem blk_k (t : Fin (cfgA 0).N) (a : Fin 640) (d : Fin 2048) :
    iblk 0 m ρ c (1 : Fin 5) t (ix2 a d) = argK m c (ix2 ⟨640 * ki t + a.val, krow_lt t a⟩ d) := by
  refine congrArg (argK m c) ?_
  funext x; apply Fin.ext
  fin_cases x
  · show ki t * 640 + 1 * a.val = _; simp; omega
  · show 0 * 2048 + 1 * d.val = _; simp

theorem blk_v (t : Fin (cfgA 0).N) (d : Fin 2048) (a : Fin 640) :
    iblk 0 m ρ c (2 : Fin 5) t (ix2 d a) = argV m c (ix2 d ⟨640 * ki t + a.val, krow_lt t a⟩) := by
  refine congrArg (argV m c) ?_
  funext x; apply Fin.ext
  fin_cases x
  · show 0 * 2048 + 1 * d.val = _; simp
  · show ki t * 640 + 1 * a.val = _; simp; omega

theorem blk_b (t : Fin (cfgA 0).N) (a : Fin 640) (n : Fin 256) :
    iblk 0 m ρ c (3 : Fin 5) t (ix2 a n)
      = argB m c (ix2 ⟨640 * ki t + a.val, krow_lt t a⟩ ⟨256 * qi t + n.val, qrow_lt t n⟩) := by
  refine congrArg (argB m c) ?_
  funext x; apply Fin.ext
  fin_cases x
  · show ki t * 640 + 1 * a.val = _; simp; omega
  · show qi t * 256 + 1 * n.val = _; simp; omega

/-- Where the output's block lies in the result. -/
theorem blk_o (t : Fin (cfgA 0).N) (n : Fin 256) (d : Fin 2048) :
    (((cfgA 0).win (4 : Fin 5)).blk t).view.emb (ix2 n d : S256x2048.Idx)
      = (ix2 ⟨256 * qi t + n.val, qrow_lt t n⟩ d : S16640x2048.Idx) := by
  funext a; apply Fin.ext
  fin_cases a
  · show qi t * 256 + 1 * n.val = _; simp; omega
  · show 0 * 2048 + 1 * d.val = _; simp

end Cert.KernelIdeal.Attn
-- ==== Proof.Attn.Traj.lean ====
module

public import proofs.«01_k».proof.Proof.Attn.Blocks
public import proofs.«01_k».proof.Proof.Attn.Online

/-!
What the running values hold after each grid point: the maxima, sums of weights and weighted sums over all keys of the
point's key block and of the key blocks before it. The block written at the last point of a query block is the softmax
mean over the keys seen.
-/

@[expose] public section

set_option maxRecDepth 16384

noncomputable section

namespace Cert.KernelIdeal.Attn

open Cert.KernelIdeal Cert.KernelIdeal.Gen Cert.Online Finset
open Idealize.ShloMosaic Idealize.ShloMosaic.TcCoe Idealize.ShloMosaic.Tactic

variable (m : (ℓ : Loc nD τ sig) → Buf (Elt Ideal) ℓ) (ρ : Dev nD → PrngReg) (c : Dev nD)

/-- The score of key `k` against query `q` at head `h`. -/
def key (h : Fin 16) (q k : ℕ) : EReal :=
  if hk : k < 16640 ∧ q < 16640 then
    (∑ d : Fin 128, argK m c (ix2 ⟨k, hk.1⟩ (at128 h d)) * argQ m c (ix2 ⟨q, hk.2⟩ (at128 h d)))
      + argB m c (ix2 ⟨k, hk.1⟩ ⟨q, hk.2⟩)
  else ⊥

/-- Entry `d` of the value of key `k` at head `h`. -/
def val (h : Fin 16) (d : Fin 128) (k : ℕ) : EReal :=
  if hk : k < 16640 then argV m c (ix2 (at128 h d) ⟨k, hk⟩) else 0

/-- The running values of query block `i` over its first `n` keys. -/
def stAt (i n : ℕ) : St where
  top h _ a := peak (start : ℝ) (key m c h (256 * i + a.val)) n
  sum h _ a := den (start : ℝ) (key m c h (256 * i + a.val)) n
  acc h d a := num (start : ℝ) (key m c h (256 * i + a.val)) (val m c h d) n

theorem first_eq (i : ℕ) : St.first = stAt m c i 0 := by
  apply St.ext <;> funext h r n
  · exact (peak_zero _ _).symm
  · exact (den_zero (start : ℝ) (key m c h (256 * i + n.val))).symm
  · exact (num_zero (start : ℝ) (key m c h (256 * i + n.val)) (val m c h r)).symm

/-- The state after the blocks of point `t`. -/
abbrev nx (t : Fin (cfgA 0).N) (s : St) : St :=
  St.next (iblk 0 m ρ c (0 : Fin 5) t) (iblk 0 m ρ c (1 : Fin 5) t) (iblk 0 m ρ c (2 : Fin 5) t) (iblk 0 m ρ c (3 : Fin 5) t) s

theorem score_blk (t : Fin (cfgA 0).N) (h : Fin 16) (n : Fin 256) (a : Fin 640) :
    score (iblk 0 m ρ c (0 : Fin 5) t) (iblk 0 m ρ c (1 : Fin 5) t) (iblk 0 m ρ c (3 : Fin 5) t) h n a
      = key m c h (256 * qi t + n.val) (640 * ki t + a.val) := by
  unfold score key
  rw [dif_pos ⟨krow_lt t a, qrow_lt t n⟩]
  simp only [blk_q, blk_k, blk_b]

theorem val_blk (t : Fin (cfgA 0).N) (h : Fin 16) (d : Fin 128) (a : Fin 640) :
    iblk 0 m ρ c (2 : Fin 5) t (ix2 (at128 h d) a) = val m c h d (640 * ki t + a.val) := by
  unfold val
  rw [dif_pos (krow_lt t a), blk_v]

theorem sup_fin {n : ℕ} (f : ℕ → EReal) : (Finset.univ.sup fun a : Fin n => f a.val) = (range n).sup f := by
  apply le_antisymm
  · exact Finset.sup_le fun a _ => Finset.le_sup (f := f) (mem_range.mpr a.isLt)
  · exact Finset.sup_le fun k hk => Finset.le_sup (f := fun a : Fin n => f a.val) (Finset.mem_univ ⟨k, mem_range.mp hk⟩)

theorem sum_fin {n : ℕ} (f : ℕ → EReal) : (∑ a : Fin n, f a.val) = ∑ k ∈ range n, f k := (Finset.sum_range f).symm

theorem start_ne_bot : ((start : ℝ) : EReal) ≠ ⊥ := EReal.coe_ne_bot _

/-- Blocks holding the scores and values of 640 keys from key `j` on take the running values over the first `j` keys to
those over the first `j + 640`. -/
theorem next_of (x0 : S256x2048.Idx → Elt Ideal .bf16) (x1 : S640x2048.Idx → Elt Ideal .bf16)
    (x2 : S2048x640.Idx → Elt Ideal .bf16) (x3 : S640x256.Idx → Elt Ideal .bf16) (i j : ℕ)
    (hs : ∀ h n a, score x0 x1 x3 h n a = key m c h (256 * i + n.val) (j + a.val))
    (hv : ∀ h d (a : Fin 640), x2 (ix2 (at128 h d) a) = val m c h d (j + a.val)) :
    St.next x0 x1 x2 x3 (stAt m c i j) = stAt m c i (j + 640) := by
  have ht : ∀ h r n, (stAt m c i j).nextTop x0 x1 x3 h r n = peak (start : ℝ) (key m c h (256 * i + n.val)) (j + 640) := by
    intro h r n
    unfold St.nextTop
    rw [peak_add, ← sup_fin, show score x0 x1 x3 h n = fun a => key m c h (256 * i + n.val) (j + a.val) from funext (hs h n)]
    rfl
  apply St.ext
  · funext h r n; exact ht h r n
  · funext h r n
    refine Eq.trans ?_ (den_add _ _ start_ne_bot j 640).symm
    rw [← sum_fin]
    unfold St.next; simp only [ht, hs]
    rfl
  · funext h d n
    refine Eq.trans ?_ (num_add _ _ _ start_ne_bot j 640).symm
    rw [← sum_fin]
    unfold St.next; simp only [ht, hs, hv]
    rfl

/-- A point's blocks take the running values over the key blocks before it to those over its own too. -/
theorem next_stAt (t : Fin (cfgA 0).N) : nx m ρ c t (stAt m c (qi t) (640 * ki t)) = stAt m c (qi t) (640 * ki t + 640) :=
  next_of m c _ _ _ _ (qi t) (640 * ki t) (score_blk m ρ c t) (val_blk m ρ c t)

theorem st_mk {O T3 T4 T5 : Type} {p p' : O × Buf (Elt Ideal) ((c : Thread nD τ).loc cc0_scratch0) × Buf (Elt Ideal) ((c : Thread nD τ).loc cc0_scratch1) × Buf (Elt Ideal) ((c : Thread nD τ).loc cc0_scratch2) × T3 × T4 × T5}
    {s : St} (e : p = p') (h : stOf c p'.2.1 p'.2.2.1 p'.2.2.2.1 = s) : stOf c p.2.1 p.2.2.1 p.2.2.2.1 = s := e ▸ h

theorem out_mk {T1 : Type} {p : (S256x2048.Idx → Elt Ideal .bf16) × T1} {o o' q} {y : S256x2048.Idx} {v : Elt Ideal .bf16}
    (e : p = (o, q)) (h : o = o') (h' : o' y = v) : p.1 y = v := by subst e; subst h; exact h'

theorem st_first (t : Fin (cfgA 0).N) (prev) (q0 : P0_0 0 t) :
    stOf c (step0 0 m ρ c t prev).2.1 (step0 0 m ρ c t prev).2.2.1 (step0 0 m ρ c t prev).2.2.2.1 = nx m ρ c t St.first := by
  by_cases q1 : P0_1 0 t
  · refine st_mk c (step0_A 0 m ρ c t prev q0 q1) ?_
    dsimp only
    exact stA ..
  · refine st_mk c (step0_B 0 m ρ c t prev q0 q1) ?_
    dsimp only
    exact stB ..

theorem st_next (t : Fin (cfgA 0).N) (prev) (q0 : ¬P0_0 0 t) :
    stOf c (step0 0 m ρ c t prev).2.1 (step0 0 m ρ c t prev).2.2.1 (step0 0 m ρ c t prev).2.2.2.1
      = nx m ρ c t (stOf c prev.2.1 prev.2.2.1 prev.2.2.2.1) := by
  by_cases q1 : P0_1 0 t
  · refine st_mk c (step0_C 0 m ρ c t prev q0 q1) ?_
    dsimp only
    exact stC ..
  · refine st_mk c (step0_D 0 m ρ c t prev q0 q1) ?_
    dsimp only
    exact stD ..

/-- The state after point `n`. -/
abbrev stN (n : ℕ) (hn : n < (cfgA 0).N) : St :=
  stOf c (traj0 0 m ρ c n hn).2.1 (traj0 0 m ρ c n hn).2.2.1 (traj0 0 m ρ c n hn).2.2.2.1

theorem nx_first (t : Fin (cfgA 0).N) (q0 : P0_0 0 t) : nx m ρ c t St.first = stAt m c (qi t) (640 * ki t + 640) := by
  have h0 : ki t = 0 := (sched t).2.2.1.mp q0
  rw [← next_stAt m ρ c t, first_eq m c (qi t)]
  rw [show 640 * ki t = 0 by omega]

theorem stN_eq : ∀ (n : ℕ) (hn : n < (cfgA 0).N), stN m ρ c n hn = stAt m c (qi ⟨n, hn⟩) (640 * ki ⟨n, hn⟩ + 640)
  | 0, hn => (st_first m ρ c ⟨0, hn⟩ _ (sched_zero ⟨0, hn⟩ rfl)).trans (nx_first m ρ c _ (sched_zero ⟨0, hn⟩ rfl))
  | n + 1, hn => by
    have ih := stN_eq n (Nat.lt_of_succ_lt hn)
    by_cases q0 : P0_0 0 ⟨n + 1, hn⟩
    · exact (st_first m ρ c ⟨n + 1, hn⟩ _ q0).trans (nx_first m ρ c _ q0)
    · obtain ⟨hq, hk⟩ := sched_next ⟨n, Nat.lt_of_succ_lt hn⟩ hn q0
      refine (st_next m ρ c ⟨n + 1, hn⟩ (traj0 0 m ρ c n (Nat.lt_of_succ_lt hn)) q0).trans ?_
      rw [← next_stAt m ρ c ⟨n + 1, hn⟩]
      refine congrArg (nx m ρ c ⟨n + 1, hn⟩) (ih.trans ?_)
      rw [hq, hk, Nat.mul_add, Nat.mul_one]

/-- The state before point `t` of paths C and D. -/
theorem prev_eq (t : Fin (cfgA 0).N) (q0 : ¬P0_0 0 t) :
    stOf c (prev0 0 m ρ c t).2.1 (prev0 0 m ρ c t).2.2.1 (prev0 0 m ρ c t).2.2.2.1 = stAt m c (qi t) (640 * ki t) := by
  obtain ⟨n, hn⟩ := t
  cases n with
  | zero => exact absurd (sched_zero ⟨0, hn⟩ rfl) q0
  | succ n =>
    obtain ⟨hq, hk⟩ := sched_next ⟨n, Nat.lt_of_succ_lt hn⟩ hn q0
    refine (stN_eq m ρ c n (Nat.lt_of_succ_lt hn)).trans ?_
    rw [hq, hk, Nat.mul_add, Nat.mul_one]

/-- The block a query block's last point writes: the mean over the keys seen. -/
theorem out_last (t : Fin (cfgA 0).N) (q1 : P0_1 0 t) (h : Fin 16) (d : Fin 128) (n : Fin 256) :
    (traj0 0 m ρ c t.val t.isLt).1 (ix2 n (at128 h d))
      = Ideal.div (num (start : ℝ) (key m c h (256 * qi t + n.val)) (val m c h d) (640 * ki t + 640))
          (den (start : ℝ) (key m c h (256 * qi t + n.val)) (640 * ki t + 640)) := by
  by_cases q0 : P0_0 0 t
  · refine out_mk ((traj0_eq 0 m ρ c t).trans (step0_A 0 m ρ c t _ q0 q1)) (View.read_writes_junk_eq_canon VO0_4 _) ?_
    refine (outA ..).trans ?_
    exact congr (congrArg Ideal.div (congrArg (fun s : St => s.acc h d n) (nx_first m ρ c t q0)))
      (congrArg (fun s : St => s.sum h 0 n) (nx_first m ρ c t q0))
  · refine out_mk ((traj0_eq 0 m ρ c t).trans (step0_C 0 m ρ c t _ q0 q1)) (View.read_writes_junk_eq_canon VO0_4 _) ?_
    refine (outC ..).trans ?_
    have e := (congrArg (nx m ρ c t) (prev_eq m ρ c t q0)).trans (next_stAt m ρ c t)
    exact congr (congrArg Ideal.div (congrArg (fun s : St => s.acc h d n) e)) (congrArg (fun s : St => s.sum h 0 n) e)

end Cert.KernelIdeal.Attn
-- ==== Proof.Attn.Result.lean ====
module

public import proofs.«01_k».proof.Proof.Attn.Traj
public import Idealize.ShloMosaic.Lib.Pipeline.Value

/-!
The result of the run: the array the blocks of the query blocks' last points fill, each entry the softmax mean over all
the keys when the bias of every later chunk is minus infinity.
-/

@[expose] public section

set_option maxRecDepth 16384

noncomputable section

namespace Cert.KernelIdeal.Attn

open Cert.KernelIdeal Cert.KernelIdeal.Gen Cert.Online Finset
open Idealize.ShloMosaic Idealize.ShloMosaic.TcCoe Idealize.ShloMosaic.Tactic

variable (m : (ℓ : Loc nD τ sig) → Buf (Elt Ideal) ℓ) (ρ : Dev nD → PrngReg) (c : Dev nD)

/-- Entry `d` of head `h` of query `q`'s attention over all keys. -/
def mean (h : Fin 16) (d : Fin 128) (q : ℕ) : EReal :=
  Ideal.div
    (∑ k ∈ range 16640, val m c h d k * Ideal.exp2 (key m c h q k - (range 16640).sup (key m c h q)))
    (∑ k ∈ range 16640, Ideal.exp2 (key m c h q k - (range 16640).sup (key m c h q)))

/-- The array of all the means. -/
def result : S16640x2048.Idx → EReal := fun y => mean m c (headOf (y 1)) (dimOf (y 1)) (y 0).val

theorem result_apply (q : Fin 16640) (e : Fin 2048) : result m c (ix2 q e) = mean m c (headOf e) (dimOf e) q.val := rfl

theorem key_later (hB : ∀ k q : Fin 16640, q.val / 64 < k.val / 64 → argB m c (ix2 k q) = ⊥) (h : Fin 16) (q k : ℕ)
    (hqk : q / 64 < k / 64) : key m c h q k = ⊥ := by
  unfold key
  split
  · next hk => rw [hB ⟨k, hk.1⟩ ⟨q, hk.2⟩ hqk, EReal.add_bot]
  · rfl

/-- A block written back is the result's. -/
theorem out_block (hB : ∀ k q : Fin 16640, q.val / 64 < k.val / 64 → argB m c (ix2 k q) = ⊥)
    (t : Fin (cfgA 0).N) (q1 : P0_1 0 t) (y : S256x2048.Idx) :
    (traj0 0 m ρ c t.val t.isLt).1 y = result m c ((((cfgA 0).win (4 : Fin 5)).blk t).view.emb y) := by
  obtain ⟨n, e, rfl⟩ : ∃ (n : Fin 256) (e : Fin 2048), y = ix2 n e := ⟨y 0, y 1, eq_ix2 y⟩
  refine Eq.trans ?_ (congrArg (result m c) (blk_o t n e)).symm
  have ho := out_last m ρ c t q1 (headOf e) (dimOf e) n
  rw [at_headOf] at ho
  refine ho.trans (Eq.trans ?_ (result_apply m c _ e).symm)
  unfold mean
  have hq := (sched t).1
  have hk := (sched t).2.1
  have hl := (sched t).2.2.2.mp q1
  refine mean_eq _ _ (by omega) fun k h1 h2 => key_later m c hB _ _ _ ?_
  have := n.isLt
  omega

/-- A point that writes its block back is the last of its query block. -/
theorem last_of_flush (t : Fin (cfgA 0).N) (h : ((cfgA 0).win (4 : Fin 5)).flush t = true) : P0_1 0 t := by
  by_contra q1
  by_cases q0 : P0_0 0 t
  · have := (sched0_B 0 t q0 q1).2.1; rw [this] at h; exact Bool.noConfusion h
  · have := (sched0_D 0 t q0 q1).2.1; rw [this] at h; exact Bool.noConfusion h

theorem flush_of_last (t : Fin (cfgA 0).N) (q1 : P0_1 0 t) : ((cfgA 0).win (4 : Fin 5)).flush t = true := by
  by_cases q0 : P0_0 0 t
  · exact (sched0_A 0 t q0 q1).2.1
  · exact (sched0_C 0 t q0 q1).2.1

theorem covered (y : S16640x2048.Idx) :
    ∃ t : Fin (cfgA 0).N, ((cfgA 0).win (4 : Fin 5)).flush t = true ∧ y ∈ (((cfgA 0).win (4 : Fin 5)).blk t).view.set := by
  obtain ⟨q, e, rfl⟩ : ∃ (q : Fin 16640) (e : Fin 2048), y = ix2 q e := ⟨y 0, y 1, eq_ix2 y⟩
  obtain ⟨ht, q1, hq⟩ := sched_last ⟨q.val / 256, by omega⟩
  refine ⟨⟨_, ht⟩, flush_of_last _ q1, ?_⟩
  have e1 := blk_o ⟨_, ht⟩ ⟨q.val % 256, by omega⟩ e
  have e2 : (ix2 ⟨256 * qi ⟨_, ht⟩ + q.val % 256, qrow_lt ⟨_, ht⟩ ⟨q.val % 256, by omega⟩⟩ e : S16640x2048.Idx) = ix2 q e :=
    congrArg (fun x => (ix2 x e : S16640x2048.Idx)) (Fin.ext (by
      show 256 * qi ⟨_, ht⟩ + q.val % 256 = q.val
      rw [hq]; show 256 * (q.val / 256) + q.val % 256 = q.val; omega))
  exact (e1.trans e2) ▸ (((cfgA 0).win (4 : Fin 5)).blk ⟨_, ht⟩).view.emb_mem_set (ix2 ⟨q.val % 256, by omega⟩ e : S256x2048.Idx)

theorem eq_read (t : Fin (cfgA 0).N) (G : S16640x2048.Idx → EReal) (f : S256x2048.Idx → EReal)
    (h : ∀ y, f y = G ((((cfgA 0).win (4 : Fin 5)).blk t).view.emb y)) :
    f = (((cfgA 0).win (4 : Fin 5)).blk t).view.read (Elt Ideal) G := funext h

/-- The output's array ends holding the result. -/
theorem array_eq (hB : ∀ k q : Fin 16640, q.val / 64 < k.val / 64 → argB m c (ix2 k q) = ⊥) :
    (dats 0 m ρ 0 c).arrAt (4 : Fin 5) (cfgA 0).N = result m c := by
  refine Pipeline.Dat.arrAt_eq_of_cover (dats 0 m ρ 0 c) (4 : Fin 5) (result m c) ?_ ?_
  · intro t ht
    have q1 := last_of_flush t ht
    refine Eq.trans (b := (traj0 0 m ρ c t.val t.isLt).1) rfl ?_
    exact eq_read t _ _ (out_block m ρ c hB t q1)
  · intro y
    exact covered y

/-- The run ends with the result in its output array and the arguments unchanged. -/
theorem run_result (hB : ∀ (c : Dev nD) (k q : Fin 16640), q.val / 64 < k.val / 64 → argB m c (ix2 k q) = ⊥) :
    θ_run (defs (F := Ideal)) (onTc (τ := τ) (main (F := Ideal))) ⟨m, fun _ => 0, ρ⟩ (fun r => ∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h.1 c).1 (4 : Fin 5)).trans (array_eq m ρ c (hB c)), h.2 c⟩)
    (θ_run_and (run_main 0 m ρ) (unchanged m ρ))

end Cert.KernelIdeal.Attn
-- ==== Proof.Attn.Causal.lean ====
module

public import proofs.«01_k».proof.Proof.Attn.Result
public import proofs.«01_k».proof.Defs
public import Idealize.ShloMosaic.Lib.ReduceAll
public import Idealize.ShloMosaic.Lib.Routing.Words
public import Idealize.ShloMosaic.Lib.WordCmp
public import Idealize.ShloMosaic.Lib.Pointwise

/-!
The precondition read at an entry: the bias of a later chunk is minus infinity.
-/

@[expose] public section

set_option maxRecDepth 16384

noncomputable section

namespace Cert.Pre_causal

open Idealize.ShloMosaic Idealize.ShloMosaic.Tactic
open Idealize.ShloMosaic.IntOp Idealize.ShloMosaic.Routing Idealize.ShloMosaic.WordCmp

variable [Facts] (x0 x1 : FVec Ideal S16640x2048 .bf16) (x2 : FVec Ideal S2048x16640 .bf16) (x3 : FVec Ideal S16640x16640 .bf16)

instance : Subsingleton S_.Idx := ⟨fun a b => funext fun i => i.elim0⟩

theorem entry (h : fn (F := Ideal) x0 x1 x2 x3 = fun _ => 1#1) (k q : Fin 16640) (hkq : q.val / 64 < k.val / 64) :
    x3 (ix2 k q) = ⊥ := by
  have e := congrFun h (fun i => i.elim0)
  have e2 := Host.reduce_andi_all _ _ _ _ _ e (ix2 k q)
  revert e2
  pointwise [fn_where]
  rw [show (64#32 : BitVec 32) = BitVec.ofNat 32 64 from rfl, divsi_word _ (by omega) (by omega) (by omega),
    divsi_word _ (by omega) (by omega) (by omega)]
  unfold Scalar.select
  rw [(cmpi_sgt_ofNat_eq_one_iff (w := 32) (by omega) (by omega)).mpr hkq, if_pos (by decide)]
  intro e3
  have e4 : x3 (ix2 k q) = Ideal.ofBits .bf16 0xFF80#16 := by
    by_contra hn
    rw [decide_eq_false hn] at e3
    exact absurd e3 (by decide)
  rw [e4]
  simp [Ideal.ofBits, Ideal.ieee]

end Cert.Pre_causal
-- ==== Proof.Attn.Refn.lean ====
module

public import proofs.«01_k».proof.Proof.Attn.Result
public import proofs.«01_k».proof.Proof.Gen.ReferenceIdeal.Run

/-!
The reference's result read at an entry: the softmax mean over all keys.
-/

@[expose] public section

set_option maxRecDepth 16384

noncomputable section

namespace Cert.ReferenceIdeal.Value

open Cert.ReferenceIdeal Cert.ReferenceIdeal.Gen Cert.ReferenceIdeal.Facts
open Idealize.ShloMosaic Idealize.ShloMosaic.Tactic
open Cert.KernelIdeal.Attn (at128 headOf dimOf)

variable (a0 a1 : FVec Ideal S16640x2048 .bf16) (a2 : FVec Ideal S2048x16640 .bf16) (a3 : FVec Ideal S16640x16640 .bf16)

/-- The scores, by head, key and query. -/
def logits : FVec Ideal S16x16640x16640 .f32 :=
  addf (Host.dotGeneral dot_S16640x16x128_S16640x16x128_S16x16640x16640_2_2_0_0_1_1 none (shapeCast _ a1 shapeCasts_S16640x2048_S16640x16x128) (shapeCast _ a0 shapeCasts_S16640x2048_S16640x16x128)) (broadcastInDim S16x16640x16640 ![0, 1, 2] bcast_S1x16640x16640_S16x16640x16640_0_1_2 (broadcastInDim S1x16640x16640 ![1, 2] bcast_S16640x16640_S1x16640x16640_1_2 (extf .f32 a3 bitsLt_bf16_f32)))

variable (l w : FVec Ideal S16x16640x16640 .f32)

/-- Two to the power of the scores less the largest of their head and query. -/
def weights : FVec Ideal S16x16640x16640 .f32 :=
  Host.powf (broadcastInDim S16x16640x16640 ![] bcast_S_S16x16640x16640 (constant S_ .f32 0x40000000#32)) (subf l (broadcastInDim S16x16640x16640 ![0, 1, 2] bcast_S16x1x16640_S16x16640x16640_0_1_2 (broadcastInDim S16x1x16640 ![0, 2] bcast_S16x16640_S16x1x16640_0_2 (Host.reduce FloatOps.maximumf l (constant S_ .f32 0xFF800000#32) reducesTo_S16x16640x16640_S16x16640_d1 h_S_))))

/-- The weighted means. -/
def means : FVec Ideal S16640x2048 .bf16 :=
  truncf .bf16 (shapeCast _ (transpose S16640x16x128 [2, 0, 1] (Host.divf (Host.dotGeneral dot_S16x128x16640_S16x16640x16640_S16x128x16640_2_1_1_2_0_0 none (shapeCast _ a2 shapeCasts_S2048x16640_S16x128x16640) (truncf .bf16 w bitsLt_bf16_f32)) (broadcastInDim S16x128x16640 ![0, 1, 2] bcast_S16x1x16640_S16x128x16640_0_1_2 (broadcastInDim S16x1x16640 ![0, 2] bcast_S16x16640_S16x1x16640_0_2 (Host.reduceAdd w (constant S_ .f32 0x00000000#32) reducesTo_S16x16640x16640_S16x16640_d1 h_S_)))) transposes_S16x128x16640_S16640x16x128_2_0_1) shapeCasts_S16640x16x128_S16640x2048) bitsLt_bf16_f32

theorem logits_apply (h : Fin 16) (k q : Fin 16640) : logits a0 a1 a3 (ix3 h k q)
    = (∑ d : Fin 128, a1 (ix2 k (at128 h d)) * a0 (ix2 q (at128 h d))) + a3 (ix2 k q) := by
  pointwise [logits]
  refine congrArg (· + a3 (ix2 k q)) (Finset.sum_congr rfl fun d _ => ?_)
  rw [show (⟨h.val * 128 + d.val, by omega⟩ : Fin 2048) = at128 h d from Fin.ext (by simp only [at128]; omega)]

theorem weights_apply (h : Fin 16) (k q : Fin 16640) : weights l (ix3 h k q)
    = Ideal.exp2 (l (ix3 h k q) - Finset.univ.sup fun k' : Fin 16640 => l (ix3 h k' q)) := by
  pointwise [weights]
  rw [show Ideal.ofBits .f32 0x40000000#32 = ((2 : ℝ) : EReal) by
    simp only [Ideal.ofBits, Ideal.ieee]; simp; rw [← EReal.coe_mul]; exact congrArg _ (by norm_num), Cert.Online.pow_two,
    show Ideal.ofBits .f32 0xFF800000#32 = ⊥ by simp [Ideal.ofBits, Ideal.ieee]]
  rfl

theorem means_apply (q : Fin 16640) (e : Fin 2048) : means a2 w (ix2 q e)
    = Ideal.div (∑ k : Fin 16640, a2 (ix2 e k) * w (ix3 (headOf e) k q)) (∑ k : Fin 16640, w (ix3 (headOf e) k q)) := by
  pointwise [means]

open Cert.KernelIdeal.Attn in
/-- The reference's result is the array of the softmax means. -/
theorem means_eq (m : (ℓ : Loc Cert.KernelIdeal.nD Cert.KernelIdeal.τ Cert.KernelIdeal.sig) → Buf (Elt Ideal) ℓ) (c : Dev Cert.KernelIdeal.nD) :
    means (argV m c) (weights (logits (argQ m c) (argK m c) (argB m c))) = result m c := by
  funext y
  obtain ⟨q, e, rfl⟩ : ∃ (q : Fin 16640) (e : Fin 2048), y = ix2 q e := ⟨y 0, y 1, eq_ix2 y⟩
  have hk : ∀ k : Fin 16640, logits (argQ m c) (argK m c) (argB m c) (ix3 (headOf e) k q) = key m c (headOf e) q.val k.val := by
    intro k
    rw [logits_apply]; unfold key; rw [dif_pos ⟨k.isLt, q.isLt⟩]
  have hv : ∀ k : Fin 16640, argV m c (ix2 e k) = val m c (headOf e) (dimOf e) k.val := by
    intro k
    unfold val; rw [dif_pos k.isLt, at_headOf]
  rw [means_apply, result_apply]
  simp only [weights_apply, hk, hv]
  unfold mean
  rw [sup_fin, sum_fin (fun k => Ideal.exp2 (key m c (headOf e) q.val k - (Finset.range 16640).sup (key m c (headOf e) q.val))),
    sum_fin (fun k => val m c (headOf e) (dimOf e) k * Ideal.exp2 (key m c (headOf e) q.val k - (Finset.range 16640).sup (key m c (headOf e) q.val)))]

open Cert.KernelIdeal.Attn in
/-- The reference's run ends with that array. -/
theorem run_means (m' : (ℓ : Loc nD τ sig) → Buf (Elt Ideal) ℓ) (ρ : Dev nD → PrngReg)  :
    θ_run defs (onTc (τ := τ) (main (F := Ideal))) ⟨m', fun _ => 0, ρ⟩ fun r => ∀ c : Dev nD,
      r.2.mem ((c.tc : Thread nD τ).loc main_v22) = means (m' ((c.tc : Thread nD τ).loc main_arg2))
        (weights (logits (m' ((c.tc : Thread nD τ).loc main_arg0)) (m' ((c.tc : Thread nD τ).loc main_arg1)) (m' ((c.tc : Thread nD τ).loc main_arg3))))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3) :=
  run m' ρ

end Cert.ReferenceIdeal.Value
-- ==== Proof.Mm.Core.lean ====
module

public import Idealize.ShloMosaic.Lib.Pointwise
public import Idealize.ShloMosaic.Lib.VecWindow
public import Idealize.ShloMosaic.Lib.Pipeline.Value

/-!
Facts the large matrix products share: the product of a row and a column, read through a block, and a buffer written
one group of rows after the other.
-/

@[expose] public section

noncomputable section

namespace Cert.Mm

open Idealize.ShloMosaic

/-- The shape of `a` rows and `b` columns. -/
abbrev Sh (a b : ℕ) : Shape := ⟨2, ![a, b]⟩

/-- Row `R` of `x` times column `C` of `w`. -/
def prod {A K N : ℕ} (x : (Sh A K).Idx → EReal) (w : (Sh K N).Idx → EReal) (R : Fin A) (C : Fin N) : EReal :=
  ∑ k : Fin K, x (ix2 R k) * w (ix2 k C)

/-- The product of `x` and `w`. -/
def whole {A K N : ℕ} (x : (Sh A K).Idx → EReal) (w : (Sh K N).Idx → EReal) : (Sh A N).Idx → EReal :=
  fun i => prod x w (i 0) (i 1)

/-- The product of `x` and `w`, added to `h`. -/
def plus {A K N : ℕ} (x : (Sh A K).Idx → EReal) (w : (Sh K N).Idx → EReal) (h : (Sh A N).Idx → EReal) : (Sh A N).Idx → EReal :=
  fun i => prod x w (i 0) (i 1) + h i

/-- Equal rows and equal columns have equal products. -/
theorem prod_congr {a A K n N : ℕ} {x : (Sh a K).Idx → EReal} {X : (Sh A K).Idx → EReal} {w : (Sh K n).Idx → EReal}
    {W : (Sh K N).Idx → EReal} {r : Fin a} {R : Fin A} {c : Fin n} {C : Fin N}
    (hx : ∀ k, x (ix2 r k) = X (ix2 R k)) (hw : ∀ k, w (ix2 k c) = W (ix2 k C)) : prod x w r c = prod X W R C :=
  Finset.sum_congr rfl fun k _ => by rw [hx, hw]

/-- Where every piece agrees with `G`, so does the buffer written with them. -/
theorem canon_of {s : Shape} {e : EltTy} (L : List (View.Piece (Elt Ideal) s e)) (G : s.Idx → Elt Ideal e) (y : s.Idx)
    (hc : ∃ p ∈ L, y ∈ p.1.set) (hL : ∀ p ∈ L, ∀ x, p.2 x = G (p.1.emb x)) : View.canon L y = G y := by
  induction L with
  | nil => obtain ⟨p, hp, -⟩ := hc; exact absurd hp List.not_mem_nil
  | cons a l ih =>
    by_cases hm : y ∈ a.1.set
    · obtain ⟨x, rfl⟩ := a.1.exists_idx_of_mem hm
      exact (View.canon_cons_emb _ _ _ x).trans (hL a List.mem_cons_self x)
    · rw [View.canon_cons_of_not_mem _ _ hm]
      obtain ⟨p, hp, hy⟩ := hc
      refine ih ⟨p, (List.mem_cons.mp hp).resolve_left ?_, hy⟩ (fun p hp => hL p (List.mem_cons_of_mem _ hp))
      rintro rfl; exact hm hy

/-- Rows `o` to `o + a` of a buffer. -/
theorem rows_emb {A B a : ℕ} (o : ℕ) (inb : ∀ i, (![o, 0] : Fin 2 → ℕ) i + (Sh a B).size i ≤ (Sh A B).size i)
    (h : o + a ≤ A) (r : Fin a) (n : Fin B) :
    (Rect.unit (s := Sh A B) ![o, 0] (Sh a B).size inb).emb (ix2 r n) = (ix2 ⟨o + r.val, by omega⟩ n : (Sh A B).Idx) := by
  funext i; apply Fin.ext; rw [Rect.emb_apply]; fin_cases i <;> simp [ix2]

theorem ld_rows {A B a : ℕ} (x : (Sh A B).Idx → EReal) (o : ℕ)
    (inb : ∀ i, (![o, 0] : Fin 2 → ℕ) i + (Sh a B).size i ≤ (Sh A B).size i) (h : o + a ≤ A) (r : Fin a) (n : Fin B) :
    x ((Rect.unit (s := Sh A B) ![o, 0] (Sh a B).size inb).emb (ix2 r n)) = x (ix2 ⟨o + r.val, by omega⟩ n) :=
  congrArg x (rows_emb o inb h r n)

/-- A load of the whole buffer reads it. -/
theorem ld_all {A B : ℕ} (x : (Sh A B).Idx → EReal)
    (inb : ∀ i, (![0, 0] : Fin 2 → ℕ) i + (Sh A B).size i ≤ (Sh A B).size i) (r : Fin A) (n : Fin B) :
    x ((Rect.unit (s := Sh A B) ![0, 0] (Sh A B).size inb).emb (ix2 r n)) = x (ix2 r n) := by
  rw [ld_rows x 0 inb (by omega) r n]
  congr 2; apply Fin.ext; exact Nat.zero_add _

/-- A buffer written whole by one piece holds that piece. -/
theorem canon_all {A B : ℕ} {e : EltTy} (inb : ∀ i, (![0, 0] : Fin 2 → ℕ) i + (Sh A B).size i ≤ (Sh A B).size i)
    (p : (Sh A B).Idx → Elt Ideal e) (r : Fin A) (n : Fin B) :
    View.canon [(⟨Rect.unit (s := Sh A B) ![0, 0] (Sh A B).size inb, p⟩ : View.Piece (Elt Ideal) (Sh A B) e)] (ix2 r n)
      = p (ix2 r n) := by
  have h : (Rect.unit (s := Sh A B) ![0, 0] (Sh A B).size inb).emb (ix2 r n) = (ix2 r n : (Sh A B).Idx) := by
    rw [rows_emb 0 inb (by omega) r n]
    congr 1; apply Fin.ext; exact Nat.zero_add _
  exact (congrArg _ h.symm).trans (View.canon_cons_emb _ _ _ _)

end Cert.Mm
-- ==== Proof.Mm.FfnOut.lean ====
module

public import proofs.«01_k».proof.Proof.Mm.Core
public import proofs.«01_k».proof.Proof.Gen.Kernel3Ideal.Value
public import proofs.«01_k».proof.Proof.Gen.Reference3Ideal.Run

/-!
The second half of the feed-forward layer: one large product added to the rows carried along, by the kernel and by the reference.
-/

@[expose] public section

set_option maxRecDepth 16384

noncomputable section

namespace Cert.Kernel3Ideal.Mm

open Cert.Kernel3Ideal Cert.Kernel3Ideal.Gen Cert.Mm
open Idealize.ShloMosaic Idealize.ShloMosaic.TcCoe Idealize.ShloMosaic.Tactic

theorem pay_apply (a : Vec Ideal S640x11008 .bf16) (w : Vec Ideal S11008x256 .bf16) (z : Vec Ideal S640x256 .f32) (r : Fin 640) (n : Fin 256) :
    k0_pay1 (F := Ideal) a w z (ix2 r n) = prod a w r n + z (ix2 r n) := by
  pointwise [k0_pay1]
  rfl

section

variable (c : Dev nD) (i : grid0.Coords)
  (arg3 : Memref sig .tc .vmem S640x11008 .bf16) (harg3 : arg3.IsWhole) (arg4 : Memref sig .tc .vmem S11008x256 .bf16) (harg4 : arg4.IsWhole)
  (arg5 : Memref sig .tc .vmem S640x256 .f32) (harg5 : arg5.IsWhole) (arg6 : Memref sig .tc .vmem S640x256 .f32) (harg6 : arg6.IsWhole)
  (x : Vec Ideal S640x11008 .bf16) (w : Vec Ideal S11008x256 .bf16) (z : Vec Ideal S640x256 .f32)

/-- The body's one store. -/
theorem run_eq : (kernelRun0_A c i arg3 harg3 arg4 harg4 arg5 harg5 arg6 harg6 x w z).1
    = [⟨Rect.unit (s := S640x256) ![0, 0] S640x256.size inb_S640x256_S640x256_0_0,
        k0_pay1 (F := Ideal)
          (View.readAt (Elt Ideal) arg3.view (Rect.unit (s := S640x11008) ![0, 0] S640x11008.size inb_S640x11008_S640x11008_0_0).toLoadRect (harg3.unread x))
          (View.readAt (Elt Ideal) arg4.view (Rect.unit (s := S11008x256) ![0, 0] S11008x256.size inb_S11008x256_S11008x256_0_0).toLoadRect (harg4.unread w))
          (View.readAt (Elt Ideal) arg5.view (Rect.unit (s := S640x256) ![0, 0] S640x256.size inb_S640x256_S640x256_0_0).toLoadRect (harg5.unread z))⟩] := by
  unfold kernelRun0_A; rfl

/-- The block a point leaves. -/
theorem out_eq (y : S640x256.Idx) :
    out0_A_3 c i arg3 harg3 arg4 harg4 arg5 harg5 arg6 harg6 x w z y = plus x w z y := by
  unfold out0_A_3
  rw [View.read_writes_junk_eq_canon, run_eq]
  refine (congrFun (View.canon_unit_zero (by funext a; fin_cases a <;> rfl) _ _) y).trans ?_
  rw [View.readAt_full, View.readAt_full, View.readAt_full, harg3.read_unread, harg4.read_unread, harg5.read_unread]
  obtain ⟨r, n, rfl⟩ : ∃ (r : Fin 640) (n : Fin 256), y = ix2 r n := ⟨y 0, y 1, eq_ix2 y⟩
  exact pay_apply x w z r n

end

/-- The first 11008 columns. -/
def front (x : S16640x11264.Idx → EReal) : (Sh 16640 11008).Idx → EReal :=
  fun i => x (ix2 (i 0) ⟨(i 1).val, (i 1).isLt.trans_le (by decide)⟩)

variable (m : (ℓ : Loc nD τ sig) → Buf (Elt Ideal) ℓ) (c : Dev nD)

/-- The rows, the weights and the rows carried along at the launch. -/
abbrev argA : S16640x11264.Idx → EReal := m ((c : Thread nD τ).loc main_arg0)
abbrev argW : S11008x4096.Idx → EReal := m ((c : Thread nD τ).loc main_arg1)

abbrev argH : S16640x4096.Idx → EReal := m ((c : Thread nD τ).loc main_arg2)

/-- Where each window's block lies. -/
theorem idx_all : ∀ t : Fin cfg0.N,
    (win0_0.index t (0 : Fin 2) = t.val / 16 ∧ win0_0.index t (1 : Fin 2) = 0)
    ∧ (win0_1.index t (0 : Fin 2) = 0 ∧ win0_1.index t (1 : Fin 2) = t.val % 16)
    ∧ (win0_2.index t (0 : Fin 2) = t.val / 16 ∧ win0_2.index t (1 : Fin 2) = t.val % 16)
    ∧ (win0_3.index t (0 : Fin 2) = t.val / 16 ∧ win0_3.index t (1 : Fin 2) = t.val % 16)
    ∧ (cfg0.win 3).flush t = true :=
  (by decide +kernel : ∀ t : Fin grid0.N, _)

theorem t_lt (t : Fin cfg0.N) : t.val < 416 := lt_of_lt_of_eq t.isLt N_0

abbrev row (t : Fin cfg0.N) (R : Fin 640) : Fin 16640 := ⟨640 * (t.val / 16) + R.val, by have := t_lt t; omega⟩
abbrev col (t : Fin cfg0.N) (n : Fin 256) : Fin 4096 := ⟨256 * (t.val % 16) + n.val, by omega⟩

theorem blk_u (t : Fin cfg0.N) (R : Fin 640) (k : Fin 11008) : X0_0 m c t (ix2 R k) = front (argA m c) (ix2 (row t R) k) := by
  obtain ⟨⟨h0, h1⟩, -⟩ := idx_all t
  unfold X0_0 Pipeline.Window.fill
  rw [dif_pos (moved0_0 t _)]
  refine congrArg (argA m c) ?_
  funext a; apply Fin.ext
  fin_cases a
  · show win0_0.index t (0 : Fin 2) * 640 + 1 * R.val = 640 * (t.val / 16) + R.val; omega
  · show win0_0.index t (1 : Fin 2) * 11008 + 1 * k.val = k.val; omega

theorem blk_w (t : Fin cfg0.N) (k : Fin 11008) (n : Fin 256) : iblk m c 1 t (ix2 k n) = argW m c (ix2 k (col t n)) := by
  obtain ⟨-, ⟨h0, h1⟩, -⟩ := idx_all t
  refine congrArg (argW m c) ?_
  funext a; apply Fin.ext
  fin_cases a
  · show win0_1.index t (0 : Fin 2) * 11008 + 1 * k.val = k.val; omega
  · show win0_1.index t (1 : Fin 2) * 256 + 1 * n.val = 256 * (t.val % 16) + n.val; omega

theorem blk_h (t : Fin cfg0.N) (R : Fin 640) (n : Fin 256) : iblk m c 2 t (ix2 R n) = argH m c (ix2 (row t R) (col t n)) := by
  obtain ⟨-, -, ⟨h0, h1⟩, -⟩ := idx_all t
  refine congrArg (argH m c) ?_
  funext a; apply Fin.ext
  fin_cases a
  · show win0_2.index t (0 : Fin 2) * 640 + 1 * R.val = 640 * (t.val / 16) + R.val; omega
  · show win0_2.index t (1 : Fin 2) * 256 + 1 * n.val = 256 * (t.val % 16) + n.val; omega

/-- Where an entry of the output block lies in the result. -/
theorem out_emb (t : Fin cfg0.N) (R : Fin 640) (n : Fin 256) :
    ((cfg0.win 3).blk t).view.emb (ix2 R n : S640x256.Idx) = (ix2 (row t R) (col t n) : S16640x4096.Idx) := by
  obtain ⟨-, -, -, ⟨h0, h1⟩, -⟩ := idx_all t
  funext a; apply Fin.ext
  fin_cases a
  · show win0_3.index t (0 : Fin 2) * 640 + 1 * R.val = 640 * (t.val / 16) + R.val; omega
  · show win0_3.index t (1 : Fin 2) * 256 + 1 * n.val = 256 * (t.val % 16) + n.val; omega

/-- The array after the run. -/
theorem final_eq : (dats m 0 c).arrAt 3 cfg0.N = plus (front (argA m c)) (argW m c) (argH m c) := by
  refine (dats m 0 c).arrAt_eq_of_cover 3 _ (fun t _ => ?_) fun i => ?_
  · rw [Value.flushed3_A]
    funext y
    obtain ⟨R, n, rfl⟩ : ∃ (R : Fin 640) (n : Fin 256), y = (ix2 R n : S640x256.Idx) := ⟨y 0, y 1, eq_ix2 (n0 := 640) (n1 := 256) y⟩
    refine (out_eq c _ _ _ _ _ _ _ _ _ _ _ _ (ix2 R n)).trans ?_
    refine Eq.trans ?_ (congrArg (plus (front (argA m c)) (argW m c) (argH m c)) (out_emb t R n).symm)
    exact congrArg₂ (· + ·) (prod_congr (blk_u m c t R) (fun k => blk_w m c t k n)) (blk_h m c t R n)
  · obtain ⟨R, N, rfl⟩ : ∃ (R : Fin 16640) (N : Fin 4096), i = ix2 R N := ⟨i 0, i 1, eq_ix2 i⟩
    have ht : 16 * (R.val / 640) + N.val / 256 < cfg0.N := lt_of_lt_of_eq (by omega) N_0.symm
    refine ⟨⟨_, ht⟩, (idx_all _).2.2.2.2, ?_⟩
    have e := out_emb ⟨_, ht⟩ ⟨R.val % 640, Nat.mod_lt _ (by decide)⟩ ⟨N.val % 256, Nat.mod_lt _ (by decide)⟩
    have e' : (ix2 (row ⟨_, ht⟩ ⟨R.val % 640, Nat.mod_lt _ (by decide)⟩) (col ⟨_, ht⟩ ⟨N.val % 256, Nat.mod_lt _ (by decide)⟩) : S16640x4096.Idx) = ix2 R N := by
      congr 1 <;> apply Fin.ext
      · show 640 * ((16 * (R.val / 640) + N.val / 256) / 16) + R.val % 640 = R.val; omega
      · show 256 * ((16 * (R.val / 640) + N.val / 256) % 16) + N.val % 256 = N.val; omega
    rw [← e', ← e]
    exact View.emb_mem_set _ _

end Cert.Kernel3Ideal.Mm

namespace Cert.Reference3Ideal.Mm

open Cert.Reference3Ideal Cert.Reference3Ideal.Gen Cert.Reference3Ideal.Facts Cert.Mm
open Idealize.ShloMosaic Idealize.ShloMosaic.Tactic

/-- The reference's result. -/
theorem reference_eq (x : FVec Ideal S16640x11264 .bf16) (w : FVec Ideal S11008x4096 .bf16) (h : FVec Ideal S16640x4096 .f32) :
    (addf h (Host.dotGeneral dot_S16640x11008_S11008x4096_S16640x4096_1_0_0_1_n_n none (extractStridedSlice S16640x11008 ![0, 0] x slices_S16640x11264_S16640x11008_0_0) w) : FVec Ideal S16640x4096 .f32)
      = plus (Cert.Kernel3Ideal.Mm.front x) w h := by
  funext i
  obtain ⟨R, N, rfl⟩ : ∃ (R : Fin 16640) (N : Fin 4096), i = ix2 R N := ⟨i 0, i 1, eq_ix2 i⟩
  pointwise []
  exact add_comm _ _

end Cert.Reference3Ideal.Mm
-- ==== Proof.Mm.Gates.lean ====
module

public import proofs.«01_k».proof.Proof.Mm.Core
public import proofs.«01_k».proof.Proof.Gen.Kernel4Ideal.Value
public import proofs.«01_k».proof.Proof.Gen.Reference4Ideal.Run

/-!
The gates: the logistic function of one large product, by the kernel and by the reference.
-/

@[expose] public section

set_option maxRecDepth 16384

noncomputable section

namespace Cert.Kernel4Ideal.Mm

open Cert.Kernel4Ideal Cert.Kernel4Ideal.Gen Cert.Mm
open Idealize.ShloMosaic Idealize.ShloMosaic.TcCoe Idealize.ShloMosaic.Tactic

/-- The gates of `x` and `w`. -/
def gates {A K N : ℕ} (x : (Sh A K).Idx → EReal) (w : (Sh K N).Idx → EReal) : (Sh A N).Idx → EReal :=
  fun i => Ideal.logistic (prod x w (i 0) (i 1))

theorem pay_apply (a : Vec Ideal S320x4096 .bf16) (w : Vec Ideal S4096x1024 .bf16) (r : Fin 320) (n : Fin 1024) :
    k0_pay1 (F := Ideal) a w (ix2 r n) = Ideal.logistic (prod a w r n) := by
  pointwise [k0_pay1]
  rfl

/-- What one group of rows stores. -/
theorem piece (x : Vec Ideal S1280x4096 .bf16) (w : Vec Ideal S4096x1024 .bf16) (o : ℕ) (h : o + 320 ≤ 1280)
    (inb : ∀ a, (![o, 0] : Fin 2 → ℕ) a + S320x4096.size a ≤ S1280x4096.size a)
    (inb' : ∀ a, (![o, 0] : Fin 2 → ℕ) a + S320x1024.size a ≤ S1280x1024.size a) (i : S320x1024.Idx) :
    k0_pay1 (F := Ideal) (View.ld x (Rect.unit (s := S1280x4096) ![o, 0] S320x4096.size inb)) (View.ld w r0_1) i
      = gates x w ((Rect.unit (s := S1280x1024) ![o, 0] S320x1024.size inb').emb i) := by
  obtain ⟨r, n, rfl⟩ : ∃ (r : Fin 320) (n : Fin 1024), i = ix2 r n := ⟨i 0, i 1, eq_ix2 i⟩
  rw [pay_apply]
  refine Eq.trans ?_ (congrArg (gates x w) (rows_emb o inb' h r n).symm)
  exact congrArg Ideal.logistic (prod_congr (fun k => ld_rows x o inb h r k) (fun k => ld_all w _ k n))

/-- The block a point leaves. -/
theorem out_eq (x : Vec Ideal S1280x4096 .bf16) (w : Vec Ideal S4096x1024 .bf16) (y : S1280x1024.Idx) :
    out0_2 (F := Ideal) x w y = gates x w y := by
  refine canon_of _ (gates x w) y (cover0_2 _ _ _ _ y) ?_
  intro p hp
  simp only [List.mem_cons, List.not_mem_nil, or_false] at hp
  rcases hp with rfl | rfl | rfl | rfl
  · exact piece x w 960 (by decide) inb_S1280x4096_S320x4096_960_0 inb_S1280x1024_S320x1024_960_0
  · exact piece x w 640 (by decide) inb_S1280x4096_S320x4096_640_0 inb_S1280x1024_S320x1024_640_0
  · exact piece x w 320 (by decide) inb_S1280x4096_S320x4096_320_0 inb_S1280x1024_S320x1024_320_0
  · exact piece x w 0 (by decide) inb_S1280x4096_S320x4096_0_0 inb_S1280x1024_S320x1024_0_0

variable (m : (ℓ : Loc nD τ sig) → Buf (Elt Ideal) ℓ) (c : Dev nD)

/-- The rows and the weights at the launch. -/
abbrev argU : S16640x4096.Idx → EReal := m ((c : Thread nD τ).loc main_arg0)
abbrev argW : S4096x8192.Idx → EReal := m ((c : Thread nD τ).loc main_arg1)

/-- Where each window's block lies. -/
theorem idx_all : ∀ t : Fin cfg0.N,
    (win0_0.index t (0 : Fin 2) = t.val / 8 ∧ win0_0.index t (1 : Fin 2) = 0)
    ∧ (win0_1.index t (0 : Fin 2) = 0 ∧ win0_1.index t (1 : Fin 2) = t.val % 8)
    ∧ (win0_2.index t (0 : Fin 2) = t.val / 8 ∧ win0_2.index t (1 : Fin 2) = t.val % 8)
    ∧ (cfg0.win 2).flush t = true :=
  (by decide +kernel : ∀ t : Fin grid0.N, _)

theorem t_lt (t : Fin cfg0.N) : t.val < 104 := lt_of_lt_of_eq t.isLt N_0

abbrev row (t : Fin cfg0.N) (R : Fin 1280) : Fin 16640 := ⟨1280 * (t.val / 8) + R.val, by have := t_lt t; omega⟩
abbrev col (t : Fin cfg0.N) (n : Fin 1024) : Fin 8192 := ⟨1024 * (t.val % 8) + n.val, by omega⟩

theorem blk_u (t : Fin cfg0.N) (R : Fin 1280) (k : Fin 4096) : iblk m c 0 t (ix2 R k) = argU m c (ix2 (row t R) k) := by
  obtain ⟨⟨h0, h1⟩, -⟩ := idx_all t
  refine congrArg (argU m c) ?_
  funext a; apply Fin.ext
  fin_cases a
  · show win0_0.index t (0 : Fin 2) * 1280 + 1 * R.val = 1280 * (t.val / 8) + R.val; omega
  · show win0_0.index t (1 : Fin 2) * 4096 + 1 * k.val = k.val; omega

theorem blk_w (t : Fin cfg0.N) (k : Fin 4096) (n : Fin 1024) : iblk m c 1 t (ix2 k n) = argW m c (ix2 k (col t n)) := by
  obtain ⟨-, ⟨h0, h1⟩, -⟩ := idx_all t
  refine congrArg (argW m c) ?_
  funext a; apply Fin.ext
  fin_cases a
  · show win0_1.index t (0 : Fin 2) * 4096 + 1 * k.val = k.val; omega
  · show win0_1.index t (1 : Fin 2) * 1024 + 1 * n.val = 1024 * (t.val % 8) + n.val; omega

/-- Where an entry of the output block lies in the result. -/
theorem out_emb (t : Fin cfg0.N) (R : Fin 1280) (n : Fin 1024) :
    ((cfg0.win 2).blk t).view.emb (ix2 R n : S1280x1024.Idx) = (ix2 (row t R) (col t n) : S16640x8192.Idx) := by
  obtain ⟨-, -, ⟨h0, h1⟩, -⟩ := idx_all t
  funext a; apply Fin.ext
  fin_cases a
  · show win0_2.index t (0 : Fin 2) * 1280 + 1 * R.val = 1280 * (t.val / 8) + R.val; omega
  · show win0_2.index t (1 : Fin 2) * 1024 + 1 * n.val = 1024 * (t.val % 8) + n.val; omega

/-- The array after the run. -/
theorem final_eq : (dats m 0 c).arrAt 2 cfg0.N = gates (argU m c) (argW m c) := by
  refine (dats m 0 c).arrAt_eq_of_cover 2 _ (fun t _ => ?_) fun i => ?_
  · rw [Value.flushed2]
    funext y
    obtain ⟨R, n, rfl⟩ : ∃ (R : Fin 1280) (n : Fin 1024), y = (ix2 R n : S1280x1024.Idx) := ⟨y 0, y 1, eq_ix2 (n0 := 1280) (n1 := 1024) y⟩
    refine (out_eq _ _ (ix2 R n)).trans ?_
    refine Eq.trans ?_ (congrArg (gates (argU m c) (argW m c)) (out_emb t R n).symm)
    exact congrArg Ideal.logistic (prod_congr (blk_u m c t R) (fun k => blk_w m c t k n))
  · obtain ⟨R, N, rfl⟩ : ∃ (R : Fin 16640) (N : Fin 8192), i = ix2 R N := ⟨i 0, i 1, eq_ix2 i⟩
    have ht : 8 * (R.val / 1280) + N.val / 1024 < cfg0.N := lt_of_lt_of_eq (by omega) N_0.symm
    refine ⟨⟨_, ht⟩, (idx_all _).2.2.2, ?_⟩
    have e := out_emb ⟨_, ht⟩ ⟨R.val % 1280, Nat.mod_lt _ (by decide)⟩ ⟨N.val % 1024, Nat.mod_lt _ (by decide)⟩
    have e' : (ix2 (row ⟨_, ht⟩ ⟨R.val % 1280, Nat.mod_lt _ (by decide)⟩) (col ⟨_, ht⟩ ⟨N.val % 1024, Nat.mod_lt _ (by decide)⟩) : S16640x8192.Idx) = ix2 R N := by
      congr 1 <;> apply Fin.ext
      · show 1280 * ((8 * (R.val / 1280) + N.val / 1024) / 8) + R.val % 1280 = R.val; omega
      · show 1024 * ((8 * (R.val / 1280) + N.val / 1024) % 8) + N.val % 1024 = N.val; omega
    rw [← e', ← e]
    exact View.emb_mem_set _ _

end Cert.Kernel4Ideal.Mm

namespace Cert.Reference4Ideal.Mm

open Cert.Reference4Ideal Cert.Reference4Ideal.Gen Cert.Reference4Ideal.Facts Cert.Mm
open Idealize.ShloMosaic Idealize.ShloMosaic.Tactic

/-- The reference's result. -/
theorem reference_eq (x : FVec Ideal S16640x4096 .bf16) (w : FVec Ideal S4096x8192 .bf16) :
    (truncf .bf16 (Host.divf (broadcastInDim S16640x8192 ![] bcast_S_S16640x8192 (constant S_ .f32 0x3F800000#32)) (addf (broadcastInDim S16640x8192 ![] bcast_S_S16640x8192 (constant S_ .f32 0x3F800000#32)) (Host.exp (Host.negf (Host.dotGeneral dot_S16640x4096_S4096x8192_S16640x8192_1_0_0_1_n_n none x w))))) bitsLt_bf16_f32 : FVec Ideal S16640x8192 .bf16)
      = Cert.Kernel4Ideal.Mm.gates x w := by
  funext i
  obtain ⟨R, N, rfl⟩ : ∃ (R : Fin 16640) (N : Fin 8192), i = ix2 R N := ⟨i 0, i 1, eq_ix2 i⟩
  pointwise []
  rfl

end Cert.Reference4Ideal.Mm
-- ==== Proof.Mm.Merge.lean ====
module

public import proofs.«01_k».proof.Proof.Mm.Core
public import proofs.«01_k».proof.Proof.Gen.Kernel5Ideal.Value
public import proofs.«01_k».proof.Proof.Gen.Reference5Ideal.Run

/-!
The merge of the two branches: each branch's product weighted by its gate, by the kernel and by the reference.
-/

@[expose] public section

set_option maxRecDepth 16384

noncomputable section

namespace Cert.Kernel5Ideal.Mm

open Cert.Kernel5Ideal Cert.Kernel5Ideal.Gen Cert.Mm
open Idealize.ShloMosaic Idealize.ShloMosaic.TcCoe Idealize.ShloMosaic.Tactic

/-- The two products, each weighted by its gate. -/
def merged {A K N : ℕ} (x y : (Sh A K).Idx → EReal) (v w : (Sh K N).Idx → EReal) (g h : (Sh A N).Idx → EReal) : (Sh A N).Idx → EReal :=
  fun i => g i * prod x v (i 0) (i 1) + h i * prod y w (i 0) (i 1)

theorem merged_congr {a A K n N : ℕ} {x y : (Sh a K).Idx → EReal} {X Y : (Sh A K).Idx → EReal} {v w : (Sh K n).Idx → EReal}
    {V W : (Sh K N).Idx → EReal} {g h : (Sh a n).Idx → EReal} {G H : (Sh A N).Idx → EReal} {r : Fin a} {R : Fin A} {c : Fin n} {C : Fin N}
    (hx : ∀ k, x (ix2 r k) = X (ix2 R k)) (hy : ∀ k, y (ix2 r k) = Y (ix2 R k)) (hv : ∀ k, v (ix2 k c) = V (ix2 k C))
    (hw : ∀ k, w (ix2 k c) = W (ix2 k C)) (hg : g (ix2 r c) = G (ix2 R C)) (hh : h (ix2 r c) = H (ix2 R C)) :
    merged x y v w g h (ix2 r c) = merged X Y V W G H (ix2 R C) :=
  congrArg₂ (· + ·) (congrArg₂ (· * ·) hg (prod_congr hx hv)) (congrArg₂ (· * ·) hh (prod_congr hy hw))

theorem pay_apply (x y : Vec Ideal S320x2048 .bf16) (v w : Vec Ideal S2048x512 .bf16) (g h : Vec Ideal S320x512 .bf16) (r : Fin 320) (n : Fin 512) :
    k0_pay2 (F := Ideal) x v y w g h (ix2 r n) = merged x y v w g h (ix2 r n) := by
  pointwise [k0_pay2]
  rfl

section

variable (x y : Vec Ideal S1280x2048 .bf16) (v w : Vec Ideal S2048x512 .bf16) (g h : Vec Ideal S1280x512 .bf16)

/-- What one group of rows stores. -/
theorem piece (o : ℕ) (ho : o + 320 ≤ 1280)
    (inb : ∀ a, (![o, 0] : Fin 2 → ℕ) a + S320x2048.size a ≤ S1280x2048.size a)
    (inb' : ∀ a, (![o, 0] : Fin 2 → ℕ) a + S320x512.size a ≤ S1280x512.size a) (i : S320x512.Idx) :
    k0_pay2 (F := Ideal) (View.ld x (Rect.unit (s := S1280x2048) ![o, 0] S320x2048.size inb)) (View.ld v r0_1)
        (View.ld y (Rect.unit (s := S1280x2048) ![o, 0] S320x2048.size inb)) (View.ld w r0_1)
        (View.ld g (Rect.unit (s := S1280x512) ![o, 0] S320x512.size inb')) (View.ld h (Rect.unit (s := S1280x512) ![o, 0] S320x512.size inb')) i
      = merged x y v w g h ((Rect.unit (s := S1280x512) ![o, 0] S320x512.size inb').emb i) := by
  obtain ⟨r, n, rfl⟩ : ∃ (r : Fin 320) (n : Fin 512), i = ix2 r n := ⟨i 0, i 1, eq_ix2 i⟩
  rw [pay_apply]
  refine Eq.trans ?_ (congrArg (merged x y v w g h) (rows_emb o inb' ho r n).symm)
  exact merged_congr (fun k => ld_rows x o inb ho r k) (fun k => ld_rows y o inb ho r k) (fun k => ld_all v _ k n) (fun k => ld_all w _ k n)
    (ld_rows g o inb' ho r n) (ld_rows h o inb' ho r n)

/-- The block a point leaves. -/
theorem out_eq (i : S1280x512.Idx) : out0_6 (F := Ideal) x y v w g h i = merged x y v w g h i := by
  refine canon_of _ (merged x y v w g h) i (cover0_6 _ _ _ _ i) ?_
  intro p hp
  simp only [List.mem_cons, List.not_mem_nil, or_false] at hp
  rcases hp with rfl | rfl | rfl | rfl
  · exact piece x y v w g h 960 (by decide) inb_S1280x2048_S320x2048_960_0 inb_S1280x512_S320x512_960_0
  · exact piece x y v w g h 640 (by decide) inb_S1280x2048_S320x2048_640_0 inb_S1280x512_S320x512_640_0
  · exact piece x y v w g h 320 (by decide) inb_S1280x2048_S320x2048_320_0 inb_S1280x512_S320x512_320_0
  · exact piece x y v w g h 0 (by decide) inb_S1280x2048_S320x2048_0_0 inb_S1280x512_S320x512_0_0

end

variable (m : (ℓ : Loc nD τ sig) → Buf (Elt Ideal) ℓ) (c : Dev nD)

/-- The two branches' rows, their weights and the gates at the launch. -/
abbrev argX : S16640x2048.Idx → EReal := m ((c : Thread nD τ).loc main_arg0)
abbrev argY : S16640x2048.Idx → EReal := m ((c : Thread nD τ).loc main_arg1)
abbrev argV : S2048x4096.Idx → EReal := m ((c : Thread nD τ).loc main_arg2)
abbrev argW : S2048x4096.Idx → EReal := m ((c : Thread nD τ).loc main_arg3)
abbrev argG : S16640x8192.Idx → EReal := m ((c : Thread nD τ).loc main_arg4)

/-- The gates of the first branch, and of the second. -/
def lo (g : S16640x8192.Idx → EReal) : (Sh 16640 4096).Idx → EReal := fun i => g (ix2 (i 0) ⟨(i 1).val, (i 1).isLt.trans_le (by decide)⟩)
def hi (g : S16640x8192.Idx → EReal) : (Sh 16640 4096).Idx → EReal :=
  fun i => g (ix2 (i 0) ⟨4096 + (i 1).val, Nat.add_lt_add_left (i 1).isLt 4096⟩)

/-- Where each window's block lies. -/
theorem idx_all : ∀ t : Fin cfg0.N,
    (win0_0.index t (0 : Fin 2) = t.val / 8 ∧ win0_0.index t (1 : Fin 2) = 0)
    ∧ (win0_1.index t (0 : Fin 2) = t.val / 8 ∧ win0_1.index t (1 : Fin 2) = 0)
    ∧ (win0_2.index t (0 : Fin 2) = 0 ∧ win0_2.index t (1 : Fin 2) = t.val % 8)
    ∧ (win0_3.index t (0 : Fin 2) = 0 ∧ win0_3.index t (1 : Fin 2) = t.val % 8)
    ∧ (win0_4.index t (0 : Fin 2) = t.val / 8 ∧ win0_4.index t (1 : Fin 2) = t.val % 8)
    ∧ (win0_5.index t (0 : Fin 2) = t.val / 8 ∧ win0_5.index t (1 : Fin 2) = 8 + t.val % 8)
    ∧ (win0_6.index t (0 : Fin 2) = t.val / 8 ∧ win0_6.index t (1 : Fin 2) = t.val % 8)
    ∧ (cfg0.win 6).flush t = true :=
  (by decide +kernel : ∀ t : Fin grid0.N, _)

theorem t_lt (t : Fin cfg0.N) : t.val < 104 := lt_of_lt_of_eq t.isLt N_0

abbrev row (t : Fin cfg0.N) (R : Fin 1280) : Fin 16640 := ⟨1280 * (t.val / 8) + R.val, by have := t_lt t; omega⟩
abbrev col (t : Fin cfg0.N) (n : Fin 512) : Fin 4096 := ⟨512 * (t.val % 8) + n.val, by omega⟩

theorem blk_x (t : Fin cfg0.N) (R : Fin 1280) (k : Fin 2048) : iblk m c 0 t (ix2 R k) = argX m c (ix2 (row t R) k) := by
  obtain ⟨⟨h0, h1⟩, -⟩ := idx_all t
  refine congrArg (argX m c) ?_
  funext a; apply Fin.ext
  fin_cases a
  · show win0_0.index t (0 : Fin 2) * 1280 + 1 * R.val = 1280 * (t.val / 8) + R.val; omega
  · show win0_0.index t (1 : Fin 2) * 2048 + 1 * k.val = k.val; omega

theorem blk_y (t : Fin cfg0.N) (R : Fin 1280) (k : Fin 2048) : iblk m c 1 t (ix2 R k) = argY m c (ix2 (row t R) k) := by
  obtain ⟨-, ⟨h0, h1⟩, -⟩ := idx_all t
  refine congrArg (argY m c) ?_
  funext a; apply Fin.ext
  fin_cases a
  · show win0_1.index t (0 : Fin 2) * 1280 + 1 * R.val = 1280 * (t.val / 8) + R.val; omega
  · show win0_1.index t (1 : Fin 2) * 2048 + 1 * k.val = k.val; omega

theorem blk_v (t : Fin cfg0.N) (k : Fin 2048) (n : Fin 512) : iblk m c 2 t (ix2 k n) = argV m c (ix2 k (col t n)) := by
  obtain ⟨-, -, ⟨h0, h1⟩, -⟩ := idx_all t
  refine congrArg (argV m c) ?_
  funext a; apply Fin.ext
  fin_cases a
  · show win0_2.index t (0 : Fin 2) * 2048 + 1 * k.val = k.val; omega
  · show win0_2.index t (1 : Fin 2) * 512 + 1 * n.val = 512 * (t.val % 8) + n.val; omega

theorem blk_w (t : Fin cfg0.N) (k : Fin 2048) (n : Fin 512) : iblk m c 3 t (ix2 k n) = argW m c (ix2 k (col t n)) := by
  obtain ⟨-, -, -, ⟨h0, h1⟩, -⟩ := idx_all t
  refine congrArg (argW m c) ?_
  funext a; apply Fin.ext
  fin_cases a
  · show win0_3.index t (0 : Fin 2) * 2048 + 1 * k.val = k.val; omega
  · show win0_3.index t (1 : Fin 2) * 512 + 1 * n.val = 512 * (t.val % 8) + n.val; omega

theorem blk_g (t : Fin cfg0.N) (R : Fin 1280) (n : Fin 512) : iblk m c 4 t (ix2 R n) = lo (argG m c) (ix2 (row t R) (col t n)) := by
  obtain ⟨-, -, -, -, ⟨h0, h1⟩, -⟩ := idx_all t
  refine congrArg (argG m c) ?_
  funext a; apply Fin.ext
  fin_cases a
  · show win0_4.index t (0 : Fin 2) * 1280 + 1 * R.val = 1280 * (t.val / 8) + R.val; omega
  · show win0_4.index t (1 : Fin 2) * 512 + 1 * n.val = 512 * (t.val % 8) + n.val; omega

theorem blk_h (t : Fin cfg0.N) (R : Fin 1280) (n : Fin 512) : iblk m c 5 t (ix2 R n) = hi (argG m c) (ix2 (row t R) (col t n)) := by
  obtain ⟨-, -, -, -, -, ⟨h0, h1⟩, -⟩ := idx_all t
  refine congrArg (argG m c) ?_
  funext a; apply Fin.ext
  fin_cases a
  · show win0_5.index t (0 : Fin 2) * 1280 + 1 * R.val = 1280 * (t.val / 8) + R.val; omega
  · show win0_5.index t (1 : Fin 2) * 512 + 1 * n.val = 4096 + (512 * (t.val % 8) + n.val); omega

/-- Where an entry of the output block lies in the result. -/
theorem out_emb (t : Fin cfg0.N) (R : Fin 1280) (n : Fin 512) :
    ((cfg0.win 6).blk t).view.emb (ix2 R n : S1280x512.Idx) = (ix2 (row t R) (col t n) : S16640x4096.Idx) := by
  obtain ⟨-, -, -, -, -, -, ⟨h0, h1⟩, -⟩ := idx_all t
  funext a; apply Fin.ext
  fin_cases a
  · show win0_6.index t (0 : Fin 2) * 1280 + 1 * R.val = 1280 * (t.val / 8) + R.val; omega
  · show win0_6.index t (1 : Fin 2) * 512 + 1 * n.val = 512 * (t.val % 8) + n.val; omega

/-- The array after the run. -/
theorem final_eq : (dats m 0 c).arrAt 6 cfg0.N = merged (argX m c) (argY m c) (argV m c) (argW m c) (lo (argG m c)) (hi (argG m c)) := by
  refine (dats m 0 c).arrAt_eq_of_cover 6 _ (fun t _ => ?_) fun i => ?_
  · rw [Value.flushed6]
    funext y
    obtain ⟨R, n, rfl⟩ : ∃ (R : Fin 1280) (n : Fin 512), y = (ix2 R n : S1280x512.Idx) := ⟨y 0, y 1, eq_ix2 (n0 := 1280) (n1 := 512) y⟩
    refine (out_eq _ _ _ _ _ _ (ix2 R n)).trans ?_
    refine Eq.trans ?_ (congrArg (merged (argX m c) (argY m c) (argV m c) (argW m c) (lo (argG m c)) (hi (argG m c))) (out_emb t R n).symm)
    exact merged_congr (blk_x m c t R) (blk_y m c t R) (fun k => blk_v m c t k n) (fun k => blk_w m c t k n) (blk_g m c t R n) (blk_h m c t R n)
  · obtain ⟨R, N, rfl⟩ : ∃ (R : Fin 16640) (N : Fin 4096), i = ix2 R N := ⟨i 0, i 1, eq_ix2 i⟩
    have ht : 8 * (R.val / 1280) + N.val / 512 < cfg0.N := lt_of_lt_of_eq (by omega) N_0.symm
    refine ⟨⟨_, ht⟩, (idx_all _).2.2.2.2.2.2.2, ?_⟩
    have e := out_emb ⟨_, ht⟩ ⟨R.val % 1280, Nat.mod_lt _ (by decide)⟩ ⟨N.val % 512, Nat.mod_lt _ (by decide)⟩
    have e' : (ix2 (row ⟨_, ht⟩ ⟨R.val % 1280, Nat.mod_lt _ (by decide)⟩) (col ⟨_, ht⟩ ⟨N.val % 512, Nat.mod_lt _ (by decide)⟩) : S16640x4096.Idx) = ix2 R N := by
      congr 1 <;> apply Fin.ext
      · show 1280 * ((8 * (R.val / 1280) + N.val / 512) / 8) + R.val % 1280 = R.val; omega
      · show 512 * ((8 * (R.val / 1280) + N.val / 512) % 8) + N.val % 512 = N.val; omega
    rw [← e', ← e]
    exact View.emb_mem_set _ _

end Cert.Kernel5Ideal.Mm

namespace Cert.Reference5Ideal.Mm

open Cert.Reference5Ideal Cert.Reference5Ideal.Gen Cert.Reference5Ideal.Facts Cert.Mm
open Idealize.ShloMosaic Idealize.ShloMosaic.Tactic

/-- The reference's result. -/
theorem reference_eq (x y : FVec Ideal S16640x2048 .bf16) (v w : FVec Ideal S2048x4096 .bf16) (g : FVec Ideal S16640x8192 .bf16) :
    (truncf .bf16 (addf (mulf (extf .f32 (extractStridedSlice S16640x4096 ![0, 0] g slices_S16640x8192_S16640x4096_0_0) bitsLt_bf16_f32) (Host.dotGeneral dot_S16640x2048_S2048x4096_S16640x4096_1_0_0_1_n_n none x v)) (mulf (extf .f32 (extractStridedSlice S16640x4096 ![0, 4096] g slices_S16640x8192_S16640x4096_0_4096) bitsLt_bf16_f32) (Host.dotGeneral dot_S16640x2048_S2048x4096_S16640x4096_1_0_0_1_n_n none y w))) bitsLt_bf16_f32 : FVec Ideal S16640x4096 .bf16)
      = Cert.Kernel5Ideal.Mm.merged x y v w (Cert.Kernel5Ideal.Mm.lo g) (Cert.Kernel5Ideal.Mm.hi g) := by
  funext i
  obtain ⟨R, N, rfl⟩ : ∃ (R : Fin 16640) (N : Fin 4096), i = ix2 R N := ⟨i 0, i 1, eq_ix2 i⟩
  pointwise []
  rfl

end Cert.Reference5Ideal.Mm
-- ==== Proof.Mm.Rkv.lean ====
module

public import proofs.«01_k».proof.Proof.Mm.Core
public import proofs.«01_k».proof.Proof.Gen.Kernel6Ideal.Value
public import proofs.«01_k».proof.Proof.Gen.Reference6Ideal.Run

/-!
The receptance, key and value products of the recurrent branch: one large product, by the kernel and by the reference.
-/

@[expose] public section

set_option maxRecDepth 16384

noncomputable section

namespace Cert.Kernel6Ideal.Mm

open Cert.Kernel6Ideal Cert.Kernel6Ideal.Gen Cert.Mm
open Idealize.ShloMosaic Idealize.ShloMosaic.TcCoe Idealize.ShloMosaic.Tactic

theorem pay_apply (a : Vec Ideal S320x4096 .bf16) (w : Vec Ideal S4096x768 .bf16) (r : Fin 320) (n : Fin 768) :
    k0_pay1 (F := Ideal) a w (ix2 r n) = prod a w r n := by
  pointwise [k0_pay1]
  rfl

/-- What one group of rows stores. -/
theorem piece (x : Vec Ideal S1280x4096 .bf16) (w : Vec Ideal S4096x768 .bf16) (o : ℕ) (h : o + 320 ≤ 1280)
    (inb : ∀ a, (![o, 0] : Fin 2 → ℕ) a + S320x4096.size a ≤ S1280x4096.size a)
    (inb' : ∀ a, (![o, 0] : Fin 2 → ℕ) a + S320x768.size a ≤ S1280x768.size a) (i : S320x768.Idx) :
    k0_pay1 (F := Ideal) (View.ld x (Rect.unit (s := S1280x4096) ![o, 0] S320x4096.size inb)) (View.ld w r0_1) i
      = whole x w ((Rect.unit (s := S1280x768) ![o, 0] S320x768.size inb').emb i) := by
  obtain ⟨r, n, rfl⟩ : ∃ (r : Fin 320) (n : Fin 768), i = ix2 r n := ⟨i 0, i 1, eq_ix2 i⟩
  rw [pay_apply]
  refine Eq.trans ?_ (congrArg (whole x w) (rows_emb o inb' h r n).symm)
  exact prod_congr (fun k => ld_rows x o inb h r k) (fun k => ld_all w _ k n)

/-- The block a point leaves. -/
theorem out_eq (x : Vec Ideal S1280x4096 .bf16) (w : Vec Ideal S4096x768 .bf16) (y : S1280x768.Idx) :
    out0_2 (F := Ideal) x w y = whole x w y := by
  refine canon_of _ (whole x w) y (cover0_2 _ _ _ _ y) ?_
  intro p hp
  simp only [List.mem_cons, List.not_mem_nil, or_false] at hp
  rcases hp with rfl | rfl | rfl | rfl
  · exact piece x w 960 (by decide) inb_S1280x4096_S320x4096_960_0 inb_S1280x768_S320x768_960_0
  · exact piece x w 640 (by decide) inb_S1280x4096_S320x4096_640_0 inb_S1280x768_S320x768_640_0
  · exact piece x w 320 (by decide) inb_S1280x4096_S320x4096_320_0 inb_S1280x768_S320x768_320_0
  · exact piece x w 0 (by decide) inb_S1280x4096_S320x4096_0_0 inb_S1280x768_S320x768_0_0

variable (m : (ℓ : Loc nD τ sig) → Buf (Elt Ideal) ℓ) (c : Dev nD)

/-- The rows and the weights at the launch. -/
abbrev argU : S16640x4096.Idx → EReal := m ((c : Thread nD τ).loc main_arg0)
abbrev argW : S4096x6144.Idx → EReal := m ((c : Thread nD τ).loc main_arg1)

/-- Where each window's block lies. -/
theorem idx_all : ∀ t : Fin cfg0.N,
    (win0_0.index t (0 : Fin 2) = t.val / 8 ∧ win0_0.index t (1 : Fin 2) = 0)
    ∧ (win0_1.index t (0 : Fin 2) = 0 ∧ win0_1.index t (1 : Fin 2) = t.val % 8)
    ∧ (win0_2.index t (0 : Fin 2) = t.val / 8 ∧ win0_2.index t (1 : Fin 2) = t.val % 8)
    ∧ (cfg0.win 2).flush t = true :=
  (by decide +kernel : ∀ t : Fin grid0.N, _)

theorem t_lt (t : Fin cfg0.N) : t.val < 104 := lt_of_lt_of_eq t.isLt N_0

abbrev row (t : Fin cfg0.N) (R : Fin 1280) : Fin 16640 := ⟨1280 * (t.val / 8) + R.val, by have := t_lt t; omega⟩
abbrev col (t : Fin cfg0.N) (n : Fin 768) : Fin 6144 := ⟨768 * (t.val % 8) + n.val, by omega⟩

theorem blk_u (t : Fin cfg0.N) (R : Fin 1280) (k : Fin 4096) : iblk m c 0 t (ix2 R k) = argU m c (ix2 (row t R) k) := by
  obtain ⟨⟨h0, h1⟩, -⟩ := idx_all t
  refine congrArg (argU m c) ?_
  funext a; apply Fin.ext
  fin_cases a
  · show win0_0.index t (0 : Fin 2) * 1280 + 1 * R.val = 1280 * (t.val / 8) + R.val; omega
  · show win0_0.index t (1 : Fin 2) * 4096 + 1 * k.val = k.val; omega

theorem blk_w (t : Fin cfg0.N) (k : Fin 4096) (n : Fin 768) : iblk m c 1 t (ix2 k n) = argW m c (ix2 k (col t n)) := by
  obtain ⟨-, ⟨h0, h1⟩, -⟩ := idx_all t
  refine congrArg (argW m c) ?_
  funext a; apply Fin.ext
  fin_cases a
  · show win0_1.index t (0 : Fin 2) * 4096 + 1 * k.val = k.val; omega
  · show win0_1.index t (1 : Fin 2) * 768 + 1 * n.val = 768 * (t.val % 8) + n.val; omega

/-- Where an entry of the output block lies in the result. -/
theorem out_emb (t : Fin cfg0.N) (R : Fin 1280) (n : Fin 768) :
    ((cfg0.win 2).blk t).view.emb (ix2 R n : S1280x768.Idx) = (ix2 (row t R) (col t n) : S16640x6144.Idx) := by
  obtain ⟨-, -, ⟨h0, h1⟩, -⟩ := idx_all t
  funext a; apply Fin.ext
  fin_cases a
  · show win0_2.index t (0 : Fin 2) * 1280 + 1 * R.val = 1280 * (t.val / 8) + R.val; omega
  · show win0_2.index t (1 : Fin 2) * 768 + 1 * n.val = 768 * (t.val % 8) + n.val; omega

/-- The array after the run. -/
theorem final_eq : (dats m 0 c).arrAt 2 cfg0.N = whole (argU m c) (argW m c) := by
  refine (dats m 0 c).arrAt_eq_of_cover 2 _ (fun t _ => ?_) fun i => ?_
  · rw [Value.flushed2]
    funext y
    obtain ⟨R, n, rfl⟩ : ∃ (R : Fin 1280) (n : Fin 768), y = (ix2 R n : S1280x768.Idx) := ⟨y 0, y 1, eq_ix2 (n0 := 1280) (n1 := 768) y⟩
    refine (out_eq _ _ (ix2 R n)).trans ?_
    refine Eq.trans ?_ (congrArg (whole (argU m c) (argW m c)) (out_emb t R n).symm)
    exact prod_congr (blk_u m c t R) (fun k => blk_w m c t k n)
  · obtain ⟨R, N, rfl⟩ : ∃ (R : Fin 16640) (N : Fin 6144), i = ix2 R N := ⟨i 0, i 1, eq_ix2 i⟩
    have ht : 8 * (R.val / 1280) + N.val / 768 < cfg0.N := lt_of_lt_of_eq (by omega) N_0.symm
    refine ⟨⟨_, ht⟩, (idx_all _).2.2.2, ?_⟩
    have e := out_emb ⟨_, ht⟩ ⟨R.val % 1280, Nat.mod_lt _ (by decide)⟩ ⟨N.val % 768, Nat.mod_lt _ (by decide)⟩
    have e' : (ix2 (row ⟨_, ht⟩ ⟨R.val % 1280, Nat.mod_lt _ (by decide)⟩) (col ⟨_, ht⟩ ⟨N.val % 768, Nat.mod_lt _ (by decide)⟩) : S16640x6144.Idx) = ix2 R N := by
      congr 1 <;> apply Fin.ext
      · show 1280 * ((8 * (R.val / 1280) + N.val / 768) / 8) + R.val % 1280 = R.val; omega
      · show 768 * ((8 * (R.val / 1280) + N.val / 768) % 8) + N.val % 768 = N.val; omega
    rw [← e', ← e]
    exact View.emb_mem_set _ _

end Cert.Kernel6Ideal.Mm

namespace Cert.Reference6Ideal.Mm

open Cert.Reference6Ideal Cert.Reference6Ideal.Gen Cert.Reference6Ideal.Facts Cert.Mm
open Idealize.ShloMosaic Idealize.ShloMosaic.Tactic

/-- The reference's result. -/
theorem reference_eq (x : FVec Ideal S16640x4096 .bf16) (w : FVec Ideal S4096x6144 .bf16) :
    (Host.dotGeneral dot_S16640x4096_S4096x6144_S16640x6144_1_0_0_1_n_n none x w : FVec Ideal S16640x6144 .f32)
      = whole x w := by
  funext i
  obtain ⟨R, N, rfl⟩ : ∃ (R : Fin 16640) (N : Fin 6144), i = ix2 R N := ⟨i 0, i 1, eq_ix2 i⟩
  pointwise []
  rfl

end Cert.Reference6Ideal.Mm
-- ==== Proof.Mm.Out.lean ====
module

public import proofs.«01_k».proof.Proof.Mm.Core
public import proofs.«01_k».proof.Proof.Gen.Kernel7Ideal.Value
public import proofs.«01_k».proof.Proof.Gen.Reference7Ideal.Run

/-!
The output projection: one large product added to the rows carried along, by the kernel and by the reference.
-/

@[expose] public section

set_option maxRecDepth 16384

noncomputable section

namespace Cert.Kernel7Ideal.Mm

open Cert.Kernel7Ideal Cert.Kernel7Ideal.Gen Cert.Mm
open Idealize.ShloMosaic Idealize.ShloMosaic.TcCoe Idealize.ShloMosaic.Tactic

theorem pay_apply (a : Vec Ideal S320x4096 .bf16) (w : Vec Ideal S4096x512 .bf16) (z : Vec Ideal S320x512 .f32) (r : Fin 320) (n : Fin 512) :
    k0_pay2 (F := Ideal) a w z (ix2 r n) = prod a w r n + z (ix2 r n) := by
  pointwise [k0_pay2]
  rfl

/-- What one group of rows stores. -/
theorem piece (x : Vec Ideal S1280x4096 .bf16) (w : Vec Ideal S4096x512 .bf16) (z : Vec Ideal S1280x512 .f32) (o : ℕ) (h : o + 320 ≤ 1280)
    (inb : ∀ a, (![o, 0] : Fin 2 → ℕ) a + S320x4096.size a ≤ S1280x4096.size a)
    (inb' : ∀ a, (![o, 0] : Fin 2 → ℕ) a + S320x512.size a ≤ S1280x512.size a) (i : S320x512.Idx) :
    k0_pay2 (F := Ideal) (View.ld x (Rect.unit (s := S1280x4096) ![o, 0] S320x4096.size inb)) (View.ld w r0_1)
        (View.ld z (Rect.unit (s := S1280x512) ![o, 0] S320x512.size inb')) i
      = plus x w z ((Rect.unit (s := S1280x512) ![o, 0] S320x512.size inb').emb i) := by
  obtain ⟨r, n, rfl⟩ : ∃ (r : Fin 320) (n : Fin 512), i = ix2 r n := ⟨i 0, i 1, eq_ix2 i⟩
  rw [pay_apply]
  refine Eq.trans ?_ (congrArg (plus x w z) (rows_emb o inb' h r n).symm)
  exact congrArg₂ (· + ·) (prod_congr (fun k => ld_rows x o inb h r k) (fun k => ld_all w _ k n)) (ld_rows z o inb' h r n)

/-- The block a point leaves. -/
theorem out_eq (x : Vec Ideal S1280x4096 .bf16) (w : Vec Ideal S4096x512 .bf16) (z : Vec Ideal S1280x512 .f32) (y : S1280x512.Idx) :
    out0_3 (F := Ideal) x w z y = plus x w z y := by
  refine canon_of _ (plus x w z) y (cover0_3 _ _ _ _ y) ?_
  intro p hp
  simp only [List.mem_cons, List.not_mem_nil, or_false] at hp
  rcases hp with rfl | rfl | rfl | rfl
  · exact piece x w z 960 (by decide) inb_S1280x4096_S320x4096_960_0 inb_S1280x512_S320x512_960_0
  · exact piece x w z 640 (by decide) inb_S1280x4096_S320x4096_640_0 inb_S1280x512_S320x512_640_0
  · exact piece x w z 320 (by decide) inb_S1280x4096_S320x4096_320_0 inb_S1280x512_S320x512_320_0
  · exact piece x w z 0 (by decide) inb_S1280x4096_S320x4096_0_0 inb_S1280x512_S320x512_0_0

variable (m : (ℓ : Loc nD τ sig) → Buf (Elt Ideal) ℓ) (c : Dev nD)

/-- The rows, the weights and the rows carried along at the launch. -/
abbrev argU : S16640x4096.Idx → EReal := m ((c : Thread nD τ).loc main_arg0)
abbrev argW : S4096x4096.Idx → EReal := m ((c : Thread nD τ).loc main_arg1)

abbrev argH : S16640x4096.Idx → EReal := m ((c : Thread nD τ).loc main_arg2)

/-- Where each window's block lies. -/
theorem idx_all : ∀ t : Fin cfg0.N,
    (win0_0.index t (0 : Fin 2) = t.val / 8 ∧ win0_0.index t (1 : Fin 2) = 0)
    ∧ (win0_1.index t (0 : Fin 2) = 0 ∧ win0_1.index t (1 : Fin 2) = t.val % 8)
    ∧ (win0_2.index t (0 : Fin 2) = t.val / 8 ∧ win0_2.index t (1 : Fin 2) = t.val % 8)
    ∧ (win0_3.index t (0 : Fin 2) = t.val / 8 ∧ win0_3.index t (1 : Fin 2) = t.val % 8)
    ∧ (cfg0.win 3).flush t = true :=
  (by decide +kernel : ∀ t : Fin grid0.N, _)

theorem t_lt (t : Fin cfg0.N) : t.val < 104 := lt_of_lt_of_eq t.isLt N_0

abbrev row (t : Fin cfg0.N) (R : Fin 1280) : Fin 16640 := ⟨1280 * (t.val / 8) + R.val, by have := t_lt t; omega⟩
abbrev col (t : Fin cfg0.N) (n : Fin 512) : Fin 4096 := ⟨512 * (t.val % 8) + n.val, by omega⟩

theorem blk_u (t : Fin cfg0.N) (R : Fin 1280) (k : Fin 4096) : iblk m c 0 t (ix2 R k) = argU m c (ix2 (row t R) k) := by
  obtain ⟨⟨h0, h1⟩, -⟩ := idx_all t
  refine congrArg (argU m c) ?_
  funext a; apply Fin.ext
  fin_cases a
  · show win0_0.index t (0 : Fin 2) * 1280 + 1 * R.val = 1280 * (t.val / 8) + R.val; omega
  · show win0_0.index t (1 : Fin 2) * 4096 + 1 * k.val = k.val; omega

theorem blk_w (t : Fin cfg0.N) (k : Fin 4096) (n : Fin 512) : iblk m c 1 t (ix2 k n) = argW m c (ix2 k (col t n)) := by
  obtain ⟨-, ⟨h0, h1⟩, -⟩ := idx_all t
  refine congrArg (argW m c) ?_
  funext a; apply Fin.ext
  fin_cases a
  · show win0_1.index t (0 : Fin 2) * 4096 + 1 * k.val = k.val; omega
  · show win0_1.index t (1 : Fin 2) * 512 + 1 * n.val = 512 * (t.val % 8) + n.val; omega

theorem blk_h (t : Fin cfg0.N) (R : Fin 1280) (n : Fin 512) : iblk m c 2 t (ix2 R n) = argH m c (ix2 (row t R) (col t n)) := by
  obtain ⟨-, -, ⟨h0, h1⟩, -⟩ := idx_all t
  refine congrArg (argH m c) ?_
  funext a; apply Fin.ext
  fin_cases a
  · show win0_2.index t (0 : Fin 2) * 1280 + 1 * R.val = 1280 * (t.val / 8) + R.val; omega
  · show win0_2.index t (1 : Fin 2) * 512 + 1 * n.val = 512 * (t.val % 8) + n.val; omega

/-- Where an entry of the output block lies in the result. -/
theorem out_emb (t : Fin cfg0.N) (R : Fin 1280) (n : Fin 512) :
    ((cfg0.win 3).blk t).view.emb (ix2 R n : S1280x512.Idx) = (ix2 (row t R) (col t n) : S16640x4096.Idx) := by
  obtain ⟨-, -, -, ⟨h0, h1⟩, -⟩ := idx_all t
  funext a; apply Fin.ext
  fin_cases a
  · show win0_3.index t (0 : Fin 2) * 1280 + 1 * R.val = 1280 * (t.val / 8) + R.val; omega
  · show win0_3.index t (1 : Fin 2) * 512 + 1 * n.val = 512 * (t.val % 8) + n.val; omega

/-- The array after the run. -/
theorem final_eq : (dats m 0 c).arrAt 3 cfg0.N = plus (argU m c) (argW m c) (argH m c) := by
  refine (dats m 0 c).arrAt_eq_of_cover 3 _ (fun t _ => ?_) fun i => ?_
  · rw [Value.flushed3]
    funext y
    obtain ⟨R, n, rfl⟩ : ∃ (R : Fin 1280) (n : Fin 512), y = (ix2 R n : S1280x512.Idx) := ⟨y 0, y 1, eq_ix2 (n0 := 1280) (n1 := 512) y⟩
    refine (out_eq _ _ _ (ix2 R n)).trans ?_
    refine Eq.trans ?_ (congrArg (plus (argU m c) (argW m c) (argH m c)) (out_emb t R n).symm)
    exact congrArg₂ (· + ·) (prod_congr (blk_u m c t R) (fun k => blk_w m c t k n)) (blk_h m c t R n)
  · obtain ⟨R, N, rfl⟩ : ∃ (R : Fin 16640) (N : Fin 4096), i = ix2 R N := ⟨i 0, i 1, eq_ix2 i⟩
    have ht : 8 * (R.val / 1280) + N.val / 512 < cfg0.N := lt_of_lt_of_eq (by omega) N_0.symm
    refine ⟨⟨_, ht⟩, (idx_all _).2.2.2.2, ?_⟩
    have e := out_emb ⟨_, ht⟩ ⟨R.val % 1280, Nat.mod_lt _ (by decide)⟩ ⟨N.val % 512, Nat.mod_lt _ (by decide)⟩
    have e' : (ix2 (row ⟨_, ht⟩ ⟨R.val % 1280, Nat.mod_lt _ (by decide)⟩) (col ⟨_, ht⟩ ⟨N.val % 512, Nat.mod_lt _ (by decide)⟩) : S16640x4096.Idx) = ix2 R N := by
      congr 1 <;> apply Fin.ext
      · show 1280 * ((8 * (R.val / 1280) + N.val / 512) / 8) + R.val % 1280 = R.val; omega
      · show 512 * ((8 * (R.val / 1280) + N.val / 512) % 8) + N.val % 512 = N.val; omega
    rw [← e', ← e]
    exact View.emb_mem_set _ _

end Cert.Kernel7Ideal.Mm

namespace Cert.Reference7Ideal.Mm

open Cert.Reference7Ideal Cert.Reference7Ideal.Gen Cert.Reference7Ideal.Facts Cert.Mm
open Idealize.ShloMosaic Idealize.ShloMosaic.Tactic

/-- The reference's result. -/
theorem reference_eq (x : FVec Ideal S16640x4096 .bf16) (w : FVec Ideal S4096x4096 .bf16) (h : FVec Ideal S16640x4096 .f32) :
    (addf h (Host.dotGeneral dot_S16640x4096_S4096x4096_S16640x4096_1_0_0_1_n_n none x w) : FVec Ideal S16640x4096 .f32)
      = plus x w h := by
  funext i
  obtain ⟨R, N, rfl⟩ : ∃ (R : Fin 16640) (N : Fin 4096), i = ix2 R N := ⟨i 0, i 1, eq_ix2 i⟩
  pointwise []
  exact add_comm _ _

end Cert.Reference7Ideal.Mm
-- ==== Proof.Mm.Query.lean ====
module

public import proofs.«01_k».proof.Proof.Mm.Core
public import proofs.«01_k».proof.Proof.Gen.Kernel8Ideal.Value
public import proofs.«01_k».proof.Proof.Gen.Reference8Ideal.Run

/-!
The queries' product, by the kernel and by the reference. The attention's queries and the selection's queries are made by
this one program, from two weights of one shape.
-/

@[expose] public section

set_option maxRecDepth 16384

noncomputable section

namespace Cert.Kernel8Ideal.Mm

open Cert.Kernel8Ideal Cert.Kernel8Ideal.Gen Cert.Mm
open Idealize.ShloMosaic Idealize.ShloMosaic.TcCoe Idealize.ShloMosaic.Tactic

theorem pay_apply (a : Vec Ideal S320x4096 .bf16) (w : Vec Ideal S4096x1024 .bf16) (r : Fin 320) (n : Fin 1024) :
    k0_pay1 (F := Ideal) a w (ix2 r n) = prod a w r n := by
  pointwise [k0_pay1]
  rfl

/-- What one group of rows stores. -/
theorem piece (x : Vec Ideal S1280x4096 .bf16) (w : Vec Ideal S4096x1024 .bf16) (o : ℕ) (h : o + 320 ≤ 1280)
    (inb : ∀ a, (![o, 0] : Fin 2 → ℕ) a + S320x4096.size a ≤ S1280x4096.size a)
    (inb' : ∀ a, (![o, 0] : Fin 2 → ℕ) a + S320x1024.size a ≤ S1280x1024.size a) (i : S320x1024.Idx) :
    k0_pay1 (F := Ideal) (View.ld x (Rect.unit (s := S1280x4096) ![o, 0] S320x4096.size inb)) (View.ld w r0_1) i
      = whole x w ((Rect.unit (s := S1280x1024) ![o, 0] S320x1024.size inb').emb i) := by
  obtain ⟨r, n, rfl⟩ : ∃ (r : Fin 320) (n : Fin 1024), i = ix2 r n := ⟨i 0, i 1, eq_ix2 i⟩
  rw [pay_apply]
  refine Eq.trans ?_ (congrArg (whole x w) (rows_emb o inb' h r n).symm)
  exact prod_congr (fun k => ld_rows x o inb h r k) (fun k => ld_all w _ k n)

/-- The block a point leaves. -/
theorem out_eq (x : Vec Ideal S1280x4096 .bf16) (w : Vec Ideal S4096x1024 .bf16) (y : S1280x1024.Idx) :
    out0_2 (F := Ideal) x w y = whole x w y := by
  refine canon_of _ (whole x w) y (cover0_2 _ _ _ _ y) ?_
  intro p hp
  simp only [List.mem_cons, List.not_mem_nil, or_false] at hp
  rcases hp with rfl | rfl | rfl | rfl
  · exact piece x w 960 (by decide) inb_S1280x4096_S320x4096_960_0 inb_S1280x1024_S320x1024_960_0
  · exact piece x w 640 (by decide) inb_S1280x4096_S320x4096_640_0 inb_S1280x1024_S320x1024_640_0
  · exact piece x w 320 (by decide) inb_S1280x4096_S320x4096_320_0 inb_S1280x1024_S320x1024_320_0
  · exact piece x w 0 (by decide) inb_S1280x4096_S320x4096_0_0 inb_S1280x1024_S320x1024_0_0

variable (m : (ℓ : Loc nD τ sig) → Buf (Elt Ideal) ℓ) (c : Dev nD)

/-- The rows and the weights at the launch. -/
abbrev argU : S16640x4096.Idx → EReal := m ((c : Thread nD τ).loc main_arg0)
abbrev argW : S4096x2048.Idx → EReal := m ((c : Thread nD τ).loc main_arg1)

/-- Where each window's block lies. -/
theorem idx_all : ∀ t : Fin cfg0.N,
    (win0_0.index t (0 : Fin 2) = t.val / 2 ∧ win0_0.index t (1 : Fin 2) = 0)
    ∧ (win0_1.index t (0 : Fin 2) = 0 ∧ win0_1.index t (1 : Fin 2) = t.val % 2)
    ∧ (win0_2.index t (0 : Fin 2) = t.val / 2 ∧ win0_2.index t (1 : Fin 2) = t.val % 2)
    ∧ (cfg0.win 2).flush t = true :=
  (by decide +kernel : ∀ t : Fin grid0.N, _)

theorem t_lt (t : Fin cfg0.N) : t.val < 26 := lt_of_lt_of_eq t.isLt N_0

abbrev row (t : Fin cfg0.N) (R : Fin 1280) : Fin 16640 := ⟨1280 * (t.val / 2) + R.val, by have := t_lt t; omega⟩
abbrev col (t : Fin cfg0.N) (n : Fin 1024) : Fin 2048 := ⟨1024 * (t.val % 2) + n.val, by omega⟩

theorem blk_u (t : Fin cfg0.N) (R : Fin 1280) (k : Fin 4096) : iblk m c 0 t (ix2 R k) = argU m c (ix2 (row t R) k) := by
  obtain ⟨⟨h0, h1⟩, -⟩ := idx_all t
  refine congrArg (argU m c) ?_
  funext a; apply Fin.ext
  fin_cases a
  · show win0_0.index t (0 : Fin 2) * 1280 + 1 * R.val = 1280 * (t.val / 2) + R.val; omega
  · show win0_0.index t (1 : Fin 2) * 4096 + 1 * k.val = k.val; omega

theorem blk_w (t : Fin cfg0.N) (k : Fin 4096) (n : Fin 1024) : iblk m c 1 t (ix2 k n) = argW m c (ix2 k (col t n)) := by
  obtain ⟨-, ⟨h0, h1⟩, -⟩ := idx_all t
  refine congrArg (argW m c) ?_
  funext a; apply Fin.ext
  fin_cases a
  · show win0_1.index t (0 : Fin 2) * 4096 + 1 * k.val = k.val; omega
  · show win0_1.index t (1 : Fin 2) * 1024 + 1 * n.val = 1024 * (t.val % 2) + n.val; omega

/-- Where an entry of the output block lies in the result. -/
theorem out_emb (t : Fin cfg0.N) (R : Fin 1280) (n : Fin 1024) :
    ((cfg0.win 2).blk t).view.emb (ix2 R n : S1280x1024.Idx) = (ix2 (row t R) (col t n) : S16640x2048.Idx) := by
  obtain ⟨-, -, ⟨h0, h1⟩, -⟩ := idx_all t
  funext a; apply Fin.ext
  fin_cases a
  · show win0_2.index t (0 : Fin 2) * 1280 + 1 * R.val = 1280 * (t.val / 2) + R.val; omega
  · show win0_2.index t (1 : Fin 2) * 1024 + 1 * n.val = 1024 * (t.val % 2) + n.val; omega

/-- The array after the run. -/
theorem final_eq : (dats m 0 c).arrAt 2 cfg0.N = whole (argU m c) (argW m c) := by
  refine (dats m 0 c).arrAt_eq_of_cover 2 _ (fun t _ => ?_) fun i => ?_
  · rw [Value.flushed2]
    funext y
    obtain ⟨R, n, rfl⟩ : ∃ (R : Fin 1280) (n : Fin 1024), y = (ix2 R n : S1280x1024.Idx) := ⟨y 0, y 1, eq_ix2 (n0 := 1280) (n1 := 1024) y⟩
    refine (out_eq _ _ (ix2 R n)).trans ?_
    refine Eq.trans ?_ (congrArg (whole (argU m c) (argW m c)) (out_emb t R n).symm)
    exact prod_congr (blk_u m c t R) (fun k => blk_w m c t k n)
  · obtain ⟨R, N, rfl⟩ : ∃ (R : Fin 16640) (N : Fin 2048), i = ix2 R N := ⟨i 0, i 1, eq_ix2 i⟩
    have ht : 2 * (R.val / 1280) + N.val / 1024 < cfg0.N := lt_of_lt_of_eq (by omega) N_0.symm
    refine ⟨⟨_, ht⟩, (idx_all _).2.2.2, ?_⟩
    have e := out_emb ⟨_, ht⟩ ⟨R.val % 1280, Nat.mod_lt _ (by decide)⟩ ⟨N.val % 1024, Nat.mod_lt _ (by decide)⟩
    have e' : (ix2 (row ⟨_, ht⟩ ⟨R.val % 1280, Nat.mod_lt _ (by decide)⟩) (col ⟨_, ht⟩ ⟨N.val % 1024, Nat.mod_lt _ (by decide)⟩) : S16640x2048.Idx) = ix2 R N := by
      congr 1 <;> apply Fin.ext
      · show 1280 * ((2 * (R.val / 1280) + N.val / 1024) / 2) + R.val % 1280 = R.val; omega
      · show 1024 * ((2 * (R.val / 1280) + N.val / 1024) % 2) + N.val % 1024 = N.val; omega
    rw [← e', ← e]
    exact View.emb_mem_set _ _

end Cert.Kernel8Ideal.Mm

namespace Cert.Reference8Ideal.Mm

open Cert.Reference8Ideal Cert.Reference8Ideal.Gen Cert.Reference8Ideal.Facts Cert.Mm
open Idealize.ShloMosaic Idealize.ShloMosaic.Tactic

/-- The reference's result. -/
theorem reference_eq (x : FVec Ideal S16640x4096 .bf16) (w : FVec Ideal S4096x2048 .bf16) :
    (truncf .bf16 (Host.dotGeneral dot_S16640x4096_S4096x2048_S16640x2048_1_0_0_1_n_n none x w : FVec Ideal S16640x2048 .f32)
        bitsLt_bf16_f32 : FVec Ideal S16640x2048 .bf16)
      = whole x w := by
  funext i
  obtain ⟨R, N, rfl⟩ : ∃ (R : Fin 16640) (N : Fin 2048), i = ix2 R N := ⟨i 0, i 1, eq_ix2 i⟩
  pointwise []
  rfl

end Cert.Reference8Ideal.Mm
-- ==== Proof.Mm.Small.lean ====
module

public import proofs.«01_k».proof.Proof.Mm.Core
public import proofs.«01_k».proof.Proof.Gen.Kernel9Ideal.Value
public import proofs.«01_k».proof.Proof.Gen.Reference9Ideal.Run

/-!
The product that makes the small columns: a single block of columns, by the kernel and by the reference.
-/

@[expose] public section

set_option maxRecDepth 16384

noncomputable section

namespace Cert.Kernel9Ideal.Mm

open Cert.Kernel9Ideal Cert.Kernel9Ideal.Gen Cert.Mm
open Idealize.ShloMosaic Idealize.ShloMosaic.TcCoe Idealize.ShloMosaic.Tactic

theorem pay_apply (a : Vec Ideal S640x4096 .bf16) (w : Vec Ideal S4096x1280 .bf16) (r : Fin 640) (n : Fin 1280) :
    k0_pay1 (F := Ideal) a w (ix2 r n) = prod a w r n := by
  pointwise [k0_pay1]
  rfl

/-- The block a point leaves. -/
theorem out_eq (x : Vec Ideal S640x4096 .bf16) (w : Vec Ideal S4096x1280 .bf16) (r : Fin 640) (n : Fin 1280) :
    out0_2 (F := Ideal) x w (ix2 r n) = prod x w r n :=
  (canon_all inb_S640x1280_S640x1280_0_0 _ r n).trans ((pay_apply _ _ r n).trans
    (prod_congr (fun k => ld_all x _ r k) (fun k => ld_all w _ k n)))

variable (m : (ℓ : Loc nD τ sig) → Buf (Elt Ideal) ℓ) (c : Dev nD)

/-- The rows and the weights at the launch. -/
abbrev argU : S16640x4096.Idx → EReal := m ((c : Thread nD τ).loc main_arg0)
abbrev argW : S4096x1280.Idx → EReal := m ((c : Thread nD τ).loc main_arg1)

/-- Where each window's block lies. -/
theorem idx_all : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0)
    ∧ (cfg0.win 2).flush t = true :=
  (by decide +kernel : ∀ t : Fin grid0.N, _)

theorem t_lt (t : Fin cfg0.N) : t.val < 26 := lt_of_lt_of_eq t.isLt N_0

abbrev row (t : Fin cfg0.N) (R : Fin 640) : Fin 16640 := ⟨640 * t.val + R.val, by have := t_lt t; omega⟩

theorem blk_u (t : Fin cfg0.N) (R : Fin 640) (k : Fin 4096) : iblk m c 0 t (ix2 R k) = argU m c (ix2 (row t R) k) := by
  obtain ⟨⟨h0, h1⟩, -⟩ := idx_all t
  refine congrArg (argU m c) ?_
  funext a; apply Fin.ext
  fin_cases a
  · show win0_0.index t (0 : Fin 2) * 640 + 1 * R.val = 640 * t.val + R.val; omega
  · show win0_0.index t (1 : Fin 2) * 4096 + 1 * k.val = k.val; omega

theorem blk_w (t : Fin cfg0.N) (k : Fin 4096) (n : Fin 1280) : iblk m c 1 t (ix2 k n) = argW m c (ix2 k n) := by
  obtain ⟨-, ⟨h0, h1⟩, -⟩ := idx_all t
  refine congrArg (argW m c) ?_
  funext a; apply Fin.ext
  fin_cases a
  · show win0_1.index t (0 : Fin 2) * 4096 + 1 * k.val = k.val; omega
  · show win0_1.index t (1 : Fin 2) * 1280 + 1 * n.val = n.val; omega

/-- Where an entry of the output block lies in the result. -/
theorem out_emb (t : Fin cfg0.N) (R : Fin 640) (n : Fin 1280) :
    ((cfg0.win 2).blk t).view.emb (ix2 R n : S640x1280.Idx) = (ix2 (row t R) n : S16640x1280.Idx) := by
  obtain ⟨-, -, ⟨h0, h1⟩, -⟩ := idx_all t
  funext a; apply Fin.ext
  fin_cases a
  · show win0_2.index t (0 : Fin 2) * 640 + 1 * R.val = 640 * t.val + R.val; omega
  · show win0_2.index t (1 : Fin 2) * 1280 + 1 * n.val = n.val; omega

/-- The array after the run. -/
theorem final_eq : (dats m 0 c).arrAt 2 cfg0.N = whole (argU m c) (argW m c) := by
  refine (dats m 0 c).arrAt_eq_of_cover 2 _ (fun t _ => ?_) fun i => ?_
  · rw [Value.flushed2]
    funext y
    obtain ⟨R, n, rfl⟩ : ∃ (R : Fin 640) (n : Fin 1280), y = (ix2 R n : S640x1280.Idx) := ⟨y 0, y 1, eq_ix2 (n0 := 640) (n1 := 1280) y⟩
    refine (out_eq _ _ R n).trans ?_
    refine Eq.trans ?_ (congrArg (whole (argU m c) (argW m c)) (out_emb t R n).symm)
    exact prod_congr (blk_u m c t R) (fun k => blk_w m c t k n)
  · obtain ⟨R, N, rfl⟩ : ∃ (R : Fin 16640) (N : Fin 1280), i = ix2 R N := ⟨i 0, i 1, eq_ix2 i⟩
    have ht : R.val / 640 < cfg0.N := lt_of_lt_of_eq (by omega) N_0.symm
    refine ⟨⟨_, ht⟩, (idx_all _).2.2.2, ?_⟩
    have e := out_emb ⟨_, ht⟩ ⟨R.val % 640, Nat.mod_lt _ (by decide)⟩ N
    have e' : (ix2 (row ⟨_, ht⟩ ⟨R.val % 640, Nat.mod_lt _ (by decide)⟩) N : S16640x1280.Idx) = ix2 R N := by
      congr 1; apply Fin.ext
      show 640 * (R.val / 640) + R.val % 640 = R.val; omega
    rw [← e', ← e]
    exact View.emb_mem_set _ _

end Cert.Kernel9Ideal.Mm

namespace Cert.Reference9Ideal.Mm

open Cert.Reference9Ideal Cert.Reference9Ideal.Gen Cert.Reference9Ideal.Facts Cert.Mm
open Idealize.ShloMosaic Idealize.ShloMosaic.Tactic

/-- The reference's result. -/
theorem reference_eq (x : FVec Ideal S16640x4096 .bf16) (w : FVec Ideal S4096x1280 .bf16) :
    (Host.dotGeneral dot_S16640x4096_S4096x1280_S16640x1280_1_0_0_1_n_n none x w : FVec Ideal S16640x1280 .f32)
      = whole x w := by
  funext i
  obtain ⟨R, N, rfl⟩ : ∃ (R : Fin 16640) (N : Fin 1280), i = ix2 R N := ⟨i 0, i 1, eq_ix2 i⟩
  pointwise []
  rfl

end Cert.Reference9Ideal.Mm
-- ==== Proof.Norm.Core.lean ====
module

public import proofs.«01_k».proof.Proof.Mm.Core

/-!
The root-mean-square norm of a row, as the norms of the layer share it.
-/

@[expose] public section

noncomputable section

namespace Cert.Norm

open Idealize.ShloMosaic Cert.Mm

/-- Entry `C` of row `R` of `x`, over the root of the row's mean square, times its weight. The mean is the sum over `d`; `e`
keeps the root from zero. -/
def norm {A B : ℕ} (d e : EReal) (x : (Sh A B).Idx → EReal) (w : Fin B → EReal) (R : Fin A) (C : Fin B) : EReal :=
  x (ix2 R C) * Ideal.rsqrt (Ideal.div (∑ k : Fin B, x (ix2 R k) * x (ix2 R k)) d + e) * w C

/-- The width of the model, as the programs write it. -/
abbrev width : EReal := Ideal.ofBits FTy.f32 0x45800000#32
/-- The small number in the root. -/
abbrev eps : EReal := Ideal.ofBits FTy.f32 0x358637BD#32

/-- Equal rows with equal weights have equal norms. -/
theorem norm_congr {a A B : ℕ} {d e : EReal} {x : (Sh a B).Idx → EReal} {X : (Sh A B).Idx → EReal} {w W : Fin B → EReal}
    {r : Fin a} {R : Fin A} (hx : ∀ k, x (ix2 r k) = X (ix2 R k)) (C : Fin B) (hw : w C = W C) :
    norm d e x w r C = norm d e X W R C := by
  unfold norm
  rw [hx C, hw, Finset.sum_congr rfl fun k _ => by rw [hx k]]

end Cert.Norm
-- ==== Proof.Norm.Mix.lean ====
module

public import proofs.«01_k».proof.Proof.Norm.Core
public import proofs.«01_k».proof.Proof.Gen.Kernel11Ideal.Value
public import proofs.«01_k».proof.Proof.Gen.Reference11Ideal.Run

/-!
The norm in front of the two branches, by the kernel and by the reference.
-/

@[expose] public section

set_option maxRecDepth 16384

noncomputable section

namespace Cert.Kernel11Ideal.Norm

open Cert.Kernel11Ideal Cert.Kernel11Ideal.Gen Cert.Mm Cert.Norm
open Idealize.ShloMosaic Idealize.ShloMosaic.TcCoe Idealize.ShloMosaic.Tactic

/-- The block a point leaves. -/
theorem out_eq (x : Vec Ideal S256x4096 .f32) (w : Vec Ideal S1x4096 .f32) (r : Fin 256) (n : Fin 4096) :
    out0_2 (F := Ideal) x w (ix2 r n) = norm width eps x (fun k => w (ix2 0 k)) r n := by
  refine (canon_all inb_S256x4096_S256x4096_0_0 _ r n).trans ?_
  have h : ∀ (a : Vec Ideal S256x4096 .f32) (b : Vec Ideal S1x4096 .f32),
      k0_pay1 (F := Ideal) a b (ix2 r n) = norm width eps a (fun k => b (ix2 0 k)) r n := by
    intro a b
    pointwise [k0_pay1]
    rfl
  exact (h _ _).trans (norm_congr (fun k => ld_all x _ r k) n (ld_all w _ 0 n))

variable (m : (ℓ : Loc nD τ sig) → Buf (Elt Ideal) ℓ) (c : Dev nD)

/-- The rows and the weights at the launch. -/
abbrev argX : S16640x4096.Idx → EReal := m ((c : Thread nD τ).loc main_arg0)
abbrev argW : S4096.Idx → EReal := m ((c : Thread nD τ).loc main_arg1)

/-- The norms of all the rows. -/
abbrev result : S16640x4096.Idx → EReal := fun i => norm width eps (argX m c) (fun k => argW m c (ix1 k)) (i 0) (i 1)

/-- Where each window's block lies. -/
theorem idx_all : ∀ t : Fin cfg0.N,
    (win0_0.index t (0 : Fin 2) = 256 * t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0)
    ∧ (cfg0.win 2).flush t = true :=
  (by decide +kernel : ∀ t : Fin grid0.N, _)

theorem t_lt (t : Fin cfg0.N) : t.val < 65 := lt_of_lt_of_eq t.isLt N_0

abbrev row (t : Fin cfg0.N) (R : Fin 256) : Fin 16640 := ⟨256 * t.val + R.val, by have := t_lt t; omega⟩

theorem blk_x (t : Fin cfg0.N) (R : Fin 256) (k : Fin 4096) : iblk m c 0 t (ix2 R k) = argX m c (ix2 (row t R) k) := by
  obtain ⟨⟨h0, h1⟩, -⟩ := idx_all t
  refine (congrFun (V_main_arg0 m c) _).trans (congrArg (argX m c) ?_)
  funext a; apply Fin.ext
  fin_cases a
  · show win0_0.index t (0 : Fin 2) + 1 * R.val = 256 * t.val + R.val; omega
  · show win0_0.index t (1 : Fin 2) + 1 * k.val = k.val; omega

/-- The weights as a row, as the region finds them. -/
theorem V_w : V m c main_v0 = (shapeCast S1x4096 (argW m c : FVec Ideal S4096 .f32) shapeCasts_S4096_S1x4096 : FVec Ideal S1x4096 .f32) := by
  rfl

theorem blk_w (t : Fin cfg0.N) (n : Fin 4096) : iblk m c 1 t (ix2 0 n) = argW m c (ix1 n) := by
  obtain ⟨-, ⟨h0, h1⟩, -⟩ := idx_all t
  have e : ((cfg0.win 1).blk t).view.emb (ix2 0 n : S1x4096.Idx) = (ix2 0 n : S1x4096.Idx) := by
    funext a; apply Fin.ext
    fin_cases a
    · show win0_1.index t (0 : Fin 2) * 1 + 1 * 0 = 0; omega
    · show win0_1.index t (1 : Fin 2) * 4096 + 1 * n.val = n.val; omega
  refine (congrFun (V_w m c) _).trans ((congrArg _ e).trans ?_)
  pointwise []

/-- Where an entry of the output block lies in the result. -/
theorem out_emb (t : Fin cfg0.N) (R : Fin 256) (n : Fin 4096) :
    ((cfg0.win 2).blk t).view.emb (ix2 R n : S256x4096.Idx) = (ix2 (row t R) n : S16640x4096.Idx) := by
  obtain ⟨-, -, ⟨h0, h1⟩, -⟩ := idx_all t
  funext a; apply Fin.ext
  fin_cases a
  · show win0_2.index t (0 : Fin 2) * 256 + 1 * R.val = 256 * t.val + R.val; omega
  · show win0_2.index t (1 : Fin 2) * 4096 + 1 * n.val = n.val; omega

/-- The array after the run. -/
theorem final_eq : (dats m 0 c).arrAt 2 cfg0.N = result m c := by
  refine (dats m 0 c).arrAt_eq_of_cover 2 _ (fun t _ => ?_) fun i => ?_
  · rw [Value.flushed2]
    funext y
    obtain ⟨R, n, rfl⟩ : ∃ (R : Fin 256) (n : Fin 4096), y = (ix2 R n : S256x4096.Idx) := ⟨y 0, y 1, eq_ix2 (n0 := 256) (n1 := 4096) y⟩
    refine (out_eq _ _ R n).trans ?_
    refine Eq.trans ?_ (congrArg (result m c) (out_emb t R n).symm)
    exact norm_congr (blk_x m c t R) n (blk_w m c t n)
  · obtain ⟨R, N, rfl⟩ : ∃ (R : Fin 16640) (N : Fin 4096), i = ix2 R N := ⟨i 0, i 1, eq_ix2 i⟩
    have ht : R.val / 256 < cfg0.N := lt_of_lt_of_eq (by omega) N_0.symm
    refine ⟨⟨_, ht⟩, (idx_all _).2.2.2, ?_⟩
    have e := out_emb ⟨_, ht⟩ ⟨R.val % 256, Nat.mod_lt _ (by decide)⟩ N
    have e' : (ix2 (row ⟨_, ht⟩ ⟨R.val % 256, Nat.mod_lt _ (by decide)⟩) N : S16640x4096.Idx) = ix2 R N := by
      congr 1; apply Fin.ext
      show 256 * (R.val / 256) + R.val % 256 = R.val; omega
    rw [← e', ← e]
    exact View.emb_mem_set _ _

end Cert.Kernel11Ideal.Norm

namespace Cert.Reference11Ideal.Norm

open Cert.Reference11Ideal Cert.Reference11Ideal.Gen Cert.Reference11Ideal.Facts Cert.Mm Cert.Norm
open Idealize.ShloMosaic Idealize.ShloMosaic.Tactic

/-- The reference's result. -/
theorem reference_eq (x : FVec Ideal S16640x4096 .f32) (w : FVec Ideal S4096 .f32) :
    (truncf .bf16 (mulf (mulf x (broadcastInDim S16640x4096 ![0, 1] bcast_S16640x1_S16640x4096_0_1 (Host.rsqrt (addf (Host.divf
        (broadcastInDim S16640x1 ![0] bcast_S16640_S16640x1_0 (Host.reduceAdd (mulf x x) (constant S_ .f32 0x00000000#32)
          reducesTo_S16640x4096_S16640_d1 h_S_)) (broadcastInDim S16640x1 ![] bcast_S_S16640x1 (constant S_ .f32 0x45800000#32)))
        (broadcastInDim S16640x1 ![] bcast_S_S16640x1 (constant S_ .f32 0x358637BD#32))))))
        (broadcastInDim S16640x4096 ![0, 1] bcast_S1x4096_S16640x4096_0_1 (broadcastInDim S1x4096 ![1] bcast_S4096_S1x4096_1 w)))
        bitsLt_bf16_f32 : FVec Ideal S16640x4096 .bf16)
      = fun i => norm width eps x (fun k => w (ix1 k)) (i 0) (i 1) := by
  funext i
  obtain ⟨R, N, rfl⟩ : ∃ (R : Fin 16640) (N : Fin 4096), i = ix2 R N := ⟨i 0, i 1, eq_ix2 i⟩
  pointwise []
  rfl

end Cert.Reference11Ideal.Norm
-- ==== Proof.Norm.Ffn.lean ====
module

public import proofs.«01_k».proof.Proof.Norm.Core
public import proofs.«01_k».proof.Proof.Gen.Kernel12Ideal.Value
public import proofs.«01_k».proof.Proof.Gen.Reference12Ideal.Run

/-!
The norm in front of the feed-forward layer, with the rows before 48 put to zero, by the kernel and by the reference.
-/

@[expose] public section

set_option maxRecDepth 16384

noncomputable section

namespace Cert.Kernel12Ideal.Norm

open Cert.Kernel12Ideal Cert.Kernel12Ideal.Gen Cert.Mm Cert.Norm
open Idealize.ShloMosaic Idealize.ShloMosaic.TcCoe Idealize.ShloMosaic.Tactic

/-- Row `R`'s value, zero before row 48. -/
def kept (R : ℕ) (v : EReal) : EReal := Scalar.select (IntOp.cmpi .sge (BitVec.ofNat 32 R) 48#32) v 0

/-- The block a point leaves. -/
theorem out_eq (i : grid0.Coords) (x : Vec Ideal S256x4096 .f32) (w : Vec Ideal S1x4096 .f32) (r : Fin 256) (n : Fin 4096) :
    out0_2 (F := Ideal) i x w (ix2 r n)
      = kept (256 * (i 0).val + r.val) (norm width eps x (fun k => w (ix2 0 k)) r n) := by
  refine (canon_all inb_S256x4096_S256x4096_0_0 _ r n).trans ?_
  have h : ∀ (a : Vec Ideal S256x4096 .f32) (b : Vec Ideal S1x4096 .f32),
      k0_pay1 (F := Ideal) i a b (ix2 r n)
        = kept (256 * (i 0).val + r.val) (norm width eps a (fun k => b (ix2 0 k)) r n) := by
    intro a b
    unfold kept
    rw [show BitVec.ofNat 32 (256 * (i 0).val + r.val)
        = IntOp.addi (Scalar.muli (BitVec.ofNat 32 (i 0).val) 256#32) (BitVec.ofNat 32 r.val) by
      rw [BitVec.ofNat_add, BitVec.ofNat_mul, BitVec.mul_comm]; rfl]
    pointwise [k0_pay1]
    rfl
  exact (h _ _).trans (congrArg (kept _) (norm_congr (fun k => ld_all x _ r k) n (ld_all w _ 0 n)))

variable (m : (ℓ : Loc nD τ sig) → Buf (Elt Ideal) ℓ) (c : Dev nD)

/-- The rows and the weights at the launch. -/
abbrev argX : S16640x4096.Idx → EReal := m ((c : Thread nD τ).loc main_arg0)
abbrev argW : S4096.Idx → EReal := m ((c : Thread nD τ).loc main_arg1)

/-- The norms of the rows, with the rows before 48 put to zero. -/
abbrev result : S16640x4096.Idx → EReal := fun i =>
  kept (i 0).val (norm width eps (argX m c) (fun k => argW m c (ix1 k)) (i 0) (i 1))

/-- Where each window's block lies. -/
theorem idx_all : ∀ t : Fin cfg0.N,
    (win0_0.index t (0 : Fin 2) = 256 * t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0)
    ∧ (cfg0.win 2).flush t = true ∧ (cfg0.grid.coords t (0 : Fin 1)).val = t.val :=
  (by decide +kernel : ∀ t : Fin grid0.N, _)

theorem t_lt (t : Fin cfg0.N) : t.val < 65 := lt_of_lt_of_eq t.isLt N_0

abbrev row (t : Fin cfg0.N) (R : Fin 256) : Fin 16640 := ⟨256 * t.val + R.val, by have := t_lt t; omega⟩

theorem blk_x (t : Fin cfg0.N) (R : Fin 256) (k : Fin 4096) : iblk m c 0 t (ix2 R k) = argX m c (ix2 (row t R) k) := by
  obtain ⟨⟨h0, h1⟩, -⟩ := idx_all t
  refine (congrFun (V_main_arg0 m c) _).trans (congrArg (argX m c) ?_)
  funext a; apply Fin.ext
  fin_cases a
  · show win0_0.index t (0 : Fin 2) + 1 * R.val = 256 * t.val + R.val; omega
  · show win0_0.index t (1 : Fin 2) + 1 * k.val = k.val; omega

/-- The weights as a row, as the region finds them. -/
theorem V_w : V m c main_v0 = (shapeCast S1x4096 (argW m c : FVec Ideal S4096 .f32) shapeCasts_S4096_S1x4096 : FVec Ideal S1x4096 .f32) := by
  rfl

theorem blk_w (t : Fin cfg0.N) (n : Fin 4096) : iblk m c 1 t (ix2 0 n) = argW m c (ix1 n) := by
  obtain ⟨-, ⟨h0, h1⟩, -⟩ := idx_all t
  have e : ((cfg0.win 1).blk t).view.emb (ix2 0 n : S1x4096.Idx) = (ix2 0 n : S1x4096.Idx) := by
    funext a; apply Fin.ext
    fin_cases a
    · show win0_1.index t (0 : Fin 2) * 1 + 1 * 0 = 0; omega
    · show win0_1.index t (1 : Fin 2) * 4096 + 1 * n.val = n.val; omega
  refine (congrFun (V_w m c) _).trans ((congrArg _ e).trans ?_)
  pointwise []

/-- Where an entry of the output block lies in the result. -/
theorem out_emb (t : Fin cfg0.N) (R : Fin 256) (n : Fin 4096) :
    ((cfg0.win 2).blk t).view.emb (ix2 R n : S256x4096.Idx) = (ix2 (row t R) n : S16640x4096.Idx) := by
  obtain ⟨-, -, ⟨h0, h1⟩, -⟩ := idx_all t
  funext a; apply Fin.ext
  fin_cases a
  · show win0_2.index t (0 : Fin 2) * 256 + 1 * R.val = 256 * t.val + R.val; omega
  · show win0_2.index t (1 : Fin 2) * 4096 + 1 * n.val = n.val; omega

/-- The array after the run. -/
theorem final_eq : (dats m 0 c).arrAt 2 cfg0.N = result m c := by
  refine (dats m 0 c).arrAt_eq_of_cover 2 _ (fun t _ => ?_) fun i => ?_
  · rw [Value.flushed2]
    funext y
    obtain ⟨R, n, rfl⟩ : ∃ (R : Fin 256) (n : Fin 4096), y = (ix2 R n : S256x4096.Idx) := ⟨y 0, y 1, eq_ix2 (n0 := 256) (n1 := 4096) y⟩
    refine (out_eq _ _ _ R n).trans ?_
    refine Eq.trans ?_ (congrArg (result m c) (out_emb t R n).symm)
    have e : (grid0.coords t (0 : Fin 1)).val = t.val := (idx_all t).2.2.2.2
    exact (congrArg (fun z => kept (256 * z + R.val) _) e).trans (congrArg (kept _) (norm_congr (blk_x m c t R) n (blk_w m c t n)))
  · obtain ⟨R, N, rfl⟩ : ∃ (R : Fin 16640) (N : Fin 4096), i = ix2 R N := ⟨i 0, i 1, eq_ix2 i⟩
    have ht : R.val / 256 < cfg0.N := lt_of_lt_of_eq (by omega) N_0.symm
    refine ⟨⟨_, ht⟩, (idx_all _).2.2.2.1, ?_⟩
    have e := out_emb ⟨_, ht⟩ ⟨R.val % 256, Nat.mod_lt _ (by decide)⟩ N
    have e' : (ix2 (row ⟨_, ht⟩ ⟨R.val % 256, Nat.mod_lt _ (by decide)⟩) N : S16640x4096.Idx) = ix2 R N := by
      congr 1; apply Fin.ext
      show 256 * (R.val / 256) + R.val % 256 = R.val; omega
    rw [← e', ← e]
    exact View.emb_mem_set _ _

end Cert.Kernel12Ideal.Norm

namespace Cert.Reference12Ideal.Norm

open Cert.Reference12Ideal Cert.Reference12Ideal.Gen Cert.Reference12Ideal.Facts Cert.Mm Cert.Norm
open Idealize.ShloMosaic Idealize.ShloMosaic.Tactic

/-- The reference's result. -/
theorem reference_eq (x : FVec Ideal S16640x4096 .f32) (w : FVec Ideal S4096 .f32) :
    (truncf .bf16 (select (broadcastInDim S16640x4096 ![0, 1] bcast_S16640x1_S16640x4096_0_1 (cmpi .sge (broadcastInDim S16640x1 ![0]
        bcast_S16640_S16640x1_0 (iotaInDim S16640 32 0)) (broadcastInDim S16640x1 ![] bcast_S_S16640x1 (constantI S_ 32 48#32))))
        (mulf (mulf x (broadcastInDim S16640x4096 ![0, 1] bcast_S16640x1_S16640x4096_0_1 (Host.rsqrt (addf (Host.divf
        (broadcastInDim S16640x1 ![0] bcast_S16640_S16640x1_0 (Host.reduceAdd (mulf x x) (constant S_ .f32 0x00000000#32)
          reducesTo_S16640x4096_S16640_d1 h_S_)) (broadcastInDim S16640x1 ![] bcast_S_S16640x1 (constant S_ .f32 0x45800000#32)))
        (broadcastInDim S16640x1 ![] bcast_S_S16640x1 (constant S_ .f32 0x358637BD#32))))))
        (broadcastInDim S16640x4096 ![0, 1] bcast_S1x4096_S16640x4096_0_1 (broadcastInDim S1x4096 ![1] bcast_S4096_S1x4096_1 w)))
        (broadcastInDim S16640x4096 ![] bcast_S_S16640x4096 (id (constant S_ .f32 0x00000000#32))))
        bitsLt_bf16_f32 : FVec Ideal S16640x4096 .bf16)
      = fun i => Cert.Kernel12Ideal.Norm.kept (i 0).val (norm width eps x (fun k => w (ix1 k)) (i 0) (i 1)) := by
  funext i
  obtain ⟨R, N, rfl⟩ : ∃ (R : Fin 16640) (N : Fin 4096), i = ix2 R N := ⟨i 0, i 1, eq_ix2 i⟩
  pointwise [id]
  rfl

end Cert.Reference12Ideal.Norm
-- ==== Proof.Norm.Last.lean ====
module

public import proofs.«01_k».proof.Proof.Norm.Core
public import proofs.«01_k».proof.Proof.Gen.Kernel13Ideal.Value
public import proofs.«01_k».proof.Proof.Gen.Reference13Ideal.Run

/-!
The norm at the end, of the rows from 64 on, by the kernel and by the reference.
-/

@[expose] public section

set_option maxRecDepth 16384

noncomputable section

namespace Cert.Kernel13Ideal.Norm

open Cert.Kernel13Ideal Cert.Kernel13Ideal.Gen Cert.Mm Cert.Norm
open Idealize.ShloMosaic Idealize.ShloMosaic.TcCoe Idealize.ShloMosaic.Tactic

/-- The block a point leaves. -/
theorem out_eq (x : Vec Ideal S256x4096 .f32) (w : Vec Ideal S1x4096 .f32) (r : Fin 256) (n : Fin 4096) :
    out0_2 (F := Ideal) x w (ix2 r n) = norm width eps x (fun k => w (ix2 0 k)) r n := by
  refine (canon_all inb_S256x4096_S256x4096_0_0 _ r n).trans ?_
  have h : ∀ (a : Vec Ideal S256x4096 .f32) (b : Vec Ideal S1x4096 .f32),
      k0_pay1 (F := Ideal) a b (ix2 r n) = norm width eps a (fun k => b (ix2 0 k)) r n := by
    intro a b
    pointwise [k0_pay1]
    rfl
  exact (h _ _).trans (norm_congr (fun k => ld_all x _ r k) n (ld_all w _ 0 n))

variable (m : (ℓ : Loc nD τ sig) → Buf (Elt Ideal) ℓ) (c : Dev nD)

/-- The rows and the weights at the launch. -/
abbrev argX : S16640x4096.Idx → EReal := m ((c : Thread nD τ).loc main_arg0)
abbrev argW : S4096.Idx → EReal := m ((c : Thread nD τ).loc main_arg1)

/-- Where a row of the result lies among the rows. -/
abbrev from64 (R : Fin 16384) : Fin 16640 := ⟨64 + R.val, by omega⟩

/-- The norms of the rows that are kept. -/
abbrev result : S16384x4096.Idx → EReal := fun i => norm width eps (argX m c) (fun k => argW m c (ix1 k)) (from64 (i 0)) (i 1)

/-- Where each window's block lies. -/
theorem idx_all : ∀ t : Fin cfg0.N,
    (win0_0.index t (0 : Fin 2) = 256 * t.val + 64 ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0)
    ∧ (cfg0.win 2).flush t = true :=
  (by decide +kernel : ∀ t : Fin grid0.N, _)

theorem t_lt (t : Fin cfg0.N) : t.val < 64 := lt_of_lt_of_eq t.isLt N_0

abbrev row (t : Fin cfg0.N) (R : Fin 256) : Fin 16384 := ⟨256 * t.val + R.val, by have := t_lt t; omega⟩

theorem blk_x (t : Fin cfg0.N) (R : Fin 256) (k : Fin 4096) : iblk m c 0 t (ix2 R k) = argX m c (ix2 (from64 (row t R)) k) := by
  obtain ⟨⟨h0, h1⟩, -⟩ := idx_all t
  refine (congrFun (V_main_arg0 m c) _).trans (congrArg (argX m c) ?_)
  funext a; apply Fin.ext
  fin_cases a
  · show win0_0.index t (0 : Fin 2) + 1 * R.val = 64 + (256 * t.val + R.val); omega
  · show win0_0.index t (1 : Fin 2) + 1 * k.val = k.val; omega

/-- The weights as a row, as the region finds them. -/
theorem V_w : V m c main_v0 = (shapeCast S1x4096 (argW m c : FVec Ideal S4096 .f32) shapeCasts_S4096_S1x4096 : FVec Ideal S1x4096 .f32) := by
  rfl

theorem blk_w (t : Fin cfg0.N) (n : Fin 4096) : iblk m c 1 t (ix2 0 n) = argW m c (ix1 n) := by
  obtain ⟨-, ⟨h0, h1⟩, -⟩ := idx_all t
  have e : ((cfg0.win 1).blk t).view.emb (ix2 0 n : S1x4096.Idx) = (ix2 0 n : S1x4096.Idx) := by
    funext a; apply Fin.ext
    fin_cases a
    · show win0_1.index t (0 : Fin 2) * 1 + 1 * 0 = 0; omega
    · show win0_1.index t (1 : Fin 2) * 4096 + 1 * n.val = n.val; omega
  refine (congrFun (V_w m c) _).trans ((congrArg _ e).trans ?_)
  pointwise []

/-- Where an entry of the output block lies in the result. -/
theorem out_emb (t : Fin cfg0.N) (R : Fin 256) (n : Fin 4096) :
    ((cfg0.win 2).blk t).view.emb (ix2 R n : S256x4096.Idx) = (ix2 (row t R) n : S16384x4096.Idx) := by
  obtain ⟨-, -, ⟨h0, h1⟩, -⟩ := idx_all t
  funext a; apply Fin.ext
  fin_cases a
  · show win0_2.index t (0 : Fin 2) * 256 + 1 * R.val = 256 * t.val + R.val; omega
  · show win0_2.index t (1 : Fin 2) * 4096 + 1 * n.val = n.val; omega

/-- The array after the run. -/
theorem final_eq : (dats m 0 c).arrAt 2 cfg0.N = result m c := by
  refine (dats m 0 c).arrAt_eq_of_cover 2 _ (fun t _ => ?_) fun i => ?_
  · rw [Value.flushed2]
    funext y
    obtain ⟨R, n, rfl⟩ : ∃ (R : Fin 256) (n : Fin 4096), y = (ix2 R n : S256x4096.Idx) := ⟨y 0, y 1, eq_ix2 (n0 := 256) (n1 := 4096) y⟩
    refine (out_eq _ _ R n).trans ?_
    refine Eq.trans ?_ (congrArg (result m c) (out_emb t R n).symm)
    exact norm_congr (blk_x m c t R) n (blk_w m c t n)
  · obtain ⟨R, N, rfl⟩ : ∃ (R : Fin 16384) (N : Fin 4096), i = ix2 R N := ⟨i 0, i 1, eq_ix2 i⟩
    have ht : R.val / 256 < cfg0.N := lt_of_lt_of_eq (by omega) N_0.symm
    refine ⟨⟨_, ht⟩, (idx_all _).2.2.2, ?_⟩
    have e := out_emb ⟨_, ht⟩ ⟨R.val % 256, Nat.mod_lt _ (by decide)⟩ N
    have e' : (ix2 (row ⟨_, ht⟩ ⟨R.val % 256, Nat.mod_lt _ (by decide)⟩) N : S16384x4096.Idx) = ix2 R N := by
      congr 1; apply Fin.ext
      show 256 * (R.val / 256) + R.val % 256 = R.val; omega
    rw [← e', ← e]
    exact View.emb_mem_set _ _

end Cert.Kernel13Ideal.Norm

namespace Cert.Reference13Ideal.Norm

open Cert.Reference13Ideal Cert.Reference13Ideal.Gen Cert.Reference13Ideal.Facts Cert.Mm Cert.Norm
open Idealize.ShloMosaic Idealize.ShloMosaic.Tactic

/-- The reference's result. -/
theorem reference_eq (x : FVec Ideal S16640x4096 .f32) (w : FVec Ideal S4096 .f32) :
    (extractStridedSlice S16384x4096 ![64, 0] (mulf (mulf x (broadcastInDim S16640x4096 ![0, 1] bcast_S16640x1_S16640x4096_0_1 (Host.rsqrt (addf (Host.divf
        (broadcastInDim S16640x1 ![0] bcast_S16640_S16640x1_0 (Host.reduceAdd (mulf x x) (constant S_ .f32 0x00000000#32)
          reducesTo_S16640x4096_S16640_d1 h_S_)) (broadcastInDim S16640x1 ![] bcast_S_S16640x1 (constant S_ .f32 0x45800000#32)))
        (broadcastInDim S16640x1 ![] bcast_S_S16640x1 (constant S_ .f32 0x358637BD#32))))))
        (broadcastInDim S16640x4096 ![0, 1] bcast_S1x4096_S16640x4096_0_1 (broadcastInDim S1x4096 ![1] bcast_S4096_S1x4096_1 w)))
        slices_S16640x4096_S16384x4096_64_0 : FVec Ideal S16384x4096 .f32)
      = fun i => norm width eps x (fun k => w (ix1 k)) (Cert.Kernel13Ideal.Norm.from64 (i 0)) (i 1) := by
  funext i
  obtain ⟨R, N, rfl⟩ : ∃ (R : Fin 16384) (N : Fin 4096), i = ix2 R N := ⟨i 0, i 1, eq_ix2 i⟩
  pointwise []
  rfl

end Cert.Reference13Ideal.Norm
-- ==== Proof.Ffn.Group.lean ====
module

public import proofs.«01_k».proof.Proof.Gen.Kernel2Ideal.Skeleton
public import Idealize.ShloMosaic.Lib.Pointwise

/-!
One group of 320 rows of a grid point, read at an entry: the two products, the causal sum of three rows and the gated
result.
-/

@[expose] public section

open Idealize.ShloMosaic

noncomputable section

namespace Cert.Kernel2Ideal.Ffn

open Cert.Kernel2Ideal Cert.Kernel2Ideal.Gen

/-- The row numbers of a group. -/
def rows : IVec S320x1 32 := iota .tc S320x1 32 [0] iota_S320x1_d0_w32

theorem raw_apply (u : Vec Ideal S320x4096 .bf16) (w : Vec Ideal S4096x512 .bf16) (r : Fin 320) (n : Fin 512) :
    k0_pay4 (F := Ideal) u w (ix2 r n) = ∑ k : Fin 4096, u (ix2 r k) * w (ix2 k n) := by
  pointwise [k0_pay4]

/-- The value two rows back: the rows in front of the group for its first two rows. -/
def back2 (z : FVec Ideal S320x512 .f32) (p2 p1 : Vec Ideal S1x512 .f32) (r : Fin 320) (n : Fin 512) : EReal :=
  Scalar.select (IntOp.cmpi CmpIPredicate.eq (BitVec.ofNat 32 r.val) 0#32) (p2 (ix2 0 n))
    (Scalar.select (IntOp.cmpi CmpIPredicate.eq (BitVec.ofNat 32 r.val) 1#32) (p1 (ix2 0 n))
      (z (ix2 ⟨(r.val + 320 - 2) % 320, Nat.mod_lt _ (by decide)⟩ n)))

/-- The value one row back: the row in front of the group for its first row. -/
def back1 (z : FVec Ideal S320x512 .f32) (p1 : Vec Ideal S1x512 .f32) (r : Fin 320) (n : Fin 512) : EReal :=
  Scalar.select (IntOp.cmpi CmpIPredicate.eq (BitVec.ofNat 32 r.val) 0#32) (p1 (ix2 0 n))
    (z (ix2 ⟨(r.val + 320 - 1) % 320, Nat.mod_lt _ (by decide)⟩ n))

theorem conv_apply (z : FVec Ideal S320x512 .f32) (p2 p1 c0 c1 c2 : Vec Ideal S1x512 .f32) (r : Fin 320) (n : Fin 512) :
    k0_pay12 (F := Ideal) rows z p2 p1 c0 c1 c2 (ix2 r n)
      = c0 (ix2 0 n) * back2 z p2 p1 r n + c1 (ix2 0 n) * back1 z p1 r n + c2 (ix2 0 n) * z (ix2 r n) := by
  pointwise [k0_pay12, rows]
  rfl

theorem gate_apply (y z : FVec Ideal S320x512 .f32) (p2 p1 b c0 c1 c2 d : Vec Ideal S1x512 .f32) (r : Fin 320) (n : Fin 512) :
    k0_pay13 (F := Ideal) rows z p2 p1 y b c0 c1 c2 d (ix2 r n)
      = (y (ix2 r n) + b (ix2 0 n)) * Ideal.logistic (y (ix2 r n) + b (ix2 0 n))
        * (c0 (ix2 0 n) * back2 z p2 p1 r n + c1 (ix2 0 n) * back1 z p1 r n + c2 (ix2 0 n) * z (ix2 r n) + d (ix2 0 n)) := by
  pointwise [k0_pay13, rows]
  rfl

theorem last2_apply (z : FVec Ideal S320x512 .f32) (n : Fin 512) :
    k0_pay14 (F := Ideal) z (ix2 0 n) = z (ix2 ⟨318, by decide⟩ n) := by
  pointwise [k0_pay14]

theorem last1_apply (z : FVec Ideal S320x512 .f32) (n : Fin 512) :
    k0_pay15 (F := Ideal) z (ix2 0 n) = z (ix2 ⟨319, by decide⟩ n) := by
  pointwise [k0_pay15]

theorem same_apply (z : FVec Ideal S1x512 .f32) (n : Fin 512) : k0_pay1 (F := Ideal) z (ix2 0 n) = z (ix2 0 n) := by
  pointwise [k0_pay1]

theorem zero_apply (j : S8x512.Idx) : k0_pay2 (F := Ideal) j = 0 := by
  pointwise [k0_pay2]

theorem sel_ne {r : ℕ} {k : BitVec 32} (h : BitVec.ofNat 32 r ≠ k) (x y : EReal) :
    Scalar.select (IntOp.cmpi CmpIPredicate.eq (BitVec.ofNat 32 r) k) x y = y := by
  have e : (BitVec.ofNat 32 r == k) = false := beq_eq_false_iff_ne.mpr h
  simp only [Scalar.select, IntOp.cmpi, e]
  rfl

theorem ofNat_ne {r k : ℕ} (hr : r < 320) (hk : k < 320) (h : r ≠ k) : BitVec.ofNat 32 r ≠ BitVec.ofNat 32 k := by
  intro e
  have := congrArg BitVec.toNat e
  simp only [BitVec.toNat_ofNat] at this
  omega

/-- The value two rows back is the entry of `Z` two places earlier, where `Z` lists the two rows in front of the group and
    then the group's rows. -/
theorem back2_eq {z : FVec Ideal S320x512 .f32} {p2 p1 : Vec Ideal S1x512 .f32} {n : Fin 512} {Z : ℕ → EReal}
    (h2 : p2 (ix2 0 n) = Z 0) (h1 : p1 (ix2 0 n) = Z 1) (hz : ∀ r : Fin 320, z (ix2 r n) = Z (r.val + 2)) (r : Fin 320) :
    back2 z p2 p1 r n = Z r.val := by
  unfold back2
  rcases r with ⟨r, hr⟩
  rcases r with _ | _ | r
  · exact h2
  · exact h1
  · rw [sel_ne (ofNat_ne hr (k := 0) (by decide) (by omega)), sel_ne (ofNat_ne hr (k := 1) (by decide) (by omega))]
    refine (hz _).trans (congrArg Z ?_)
    show (r + 1 + 1 + 320 - 2) % 320 + 2 = r + 1 + 1
    omega

/-- The value one row back is the entry of `Z` one place earlier. -/
theorem back1_eq {z : FVec Ideal S320x512 .f32} {p1 : Vec Ideal S1x512 .f32} {n : Fin 512} {Z : ℕ → EReal}
    (h1 : p1 (ix2 0 n) = Z 1) (hz : ∀ r : Fin 320, z (ix2 r n) = Z (r.val + 2)) (r : Fin 320) :
    back1 z p1 r n = Z (r.val + 1) := by
  unfold back1
  rcases r with ⟨r, hr⟩
  rcases r with _ | r
  · exact h1
  · rw [sel_ne (ofNat_ne hr (k := 0) (by decide) (by omega))]
    refine (hz _).trans (congrArg Z ?_)
    show (r + 1 + 320 - 1) % 320 + 2 = r + 1 + 1
    omega

/-- The three-tap sum of `Z` at `R`. -/
def tap (a : Fin 3 → EReal) (Z : ℕ → EReal) (R : ℕ) : EReal := a 0 * Z R + a 1 * Z (R + 1) + a 2 * Z (R + 2)

/-- The gate's value times its logistic, times the other branch's value. -/
def gated (a : Fin 3 → EReal) (b : EReal) (d : Fin 3 → EReal) (e : EReal) (Z Y : ℕ → EReal) (R : ℕ) : EReal :=
  (tap a Z R + b) * Ideal.logistic (tap a Z R + b) * (tap d Y R + e)

/-- A group's rows of the result, from its products and the two rows in front. -/
theorem group_eq {z y : FVec Ideal S320x512 .f32} {p2 p1 q2 q1 b e : Vec Ideal S1x512 .f32} {a d : Fin 3 → Vec Ideal S1x512 .f32}
    {n : Fin 512} {Z Y : ℕ → EReal} {B : ℕ}
    (hp2 : p2 (ix2 0 n) = Z B) (hp1 : p1 (ix2 0 n) = Z (B + 1)) (hz : ∀ r : Fin 320, z (ix2 r n) = Z (B + r.val + 2))
    (hq2 : q2 (ix2 0 n) = Y B) (hq1 : q1 (ix2 0 n) = Y (B + 1)) (hy : ∀ r : Fin 320, y (ix2 r n) = Y (B + r.val + 2)) (r : Fin 320) :
    k0_pay13 (F := Ideal) rows y q2 q1 (k0_pay12 (F := Ideal) rows z p2 p1 (a 0) (a 1) (a 2)) b (d 0) (d 1) (d 2) e (ix2 r n)
      = gated (fun k => a k (ix2 0 n)) (b (ix2 0 n)) (fun k => d k (ix2 0 n)) (e (ix2 0 n)) Z Y (B + r.val) := by
  rw [gate_apply, conv_apply, back2_eq (Z := fun k => Z (B + k)) hp2 hp1 hz, back1_eq (Z := fun k => Z (B + k)) hp1 hz,
    back2_eq (Z := fun k => Y (B + k)) hq2 hq1 hy, back1_eq (Z := fun k => Y (B + k)) hq1 hy, hz, hy]
  rfl

end Cert.Kernel2Ideal.Ffn
-- ==== Proof.Ffn.Body.lean ====
module

public import proofs.«01_k».proof.Proof.Gen.Kernel2Ideal.Frame
public import proofs.«01_k».proof.Proof.Ffn.Group

/-!
What the body leaves at a grid point: four groups of 320 rows, each from its rows of the block, the two weight blocks
and the last two rows of products of the group before it.
-/

@[expose] public section

set_option maxRecDepth 16384

noncomputable section

namespace Cert.Kernel2Ideal.Ffn

open Cert.Kernel2Ideal Cert.Kernel2Ideal.Gen
open Idealize.ShloMosaic Idealize.ShloMosaic.TcCoe Idealize.ShloMosaic.Tactic

/-- Group `g`'s rows of the input block. -/
abbrev inRect (g : Fin 4) : Rect S1280x4096 :=
  Rect.unit (s := S1280x4096) ![320 * g.val, 0] S320x4096.size (by
    intro a; fin_cases a <;> simp [S1280x4096, S320x4096] <;> omega)

/-- Group `g`'s rows of the output block. -/
abbrev outRect (g : Fin 4) : Rect S1280x512 :=
  Rect.unit (s := S1280x512) ![320 * g.val, 0] S320x512.size (by
    intro a; fin_cases a <;> simp [S1280x512, S320x512] <;> omega)

/-- Row `r` of a block of eight rows. -/
abbrev rowRect (r : Fin 8) : Rect S8x512 :=
  Rect.unit (s := S8x512) ![r.val, 0] S1x512.size (by
    intro a; fin_cases a <;> simp [S8x512, S1x512] <;> omega)

/-- The two rows of products in front of group `g`: those the point begins with, then the last two of the group before. -/
def before (p : Vec Ideal S1x512 .f32 × Vec Ideal S1x512 .f32) (z : Fin 4 → FVec Ideal S320x512 .f32) :
    Fin 4 → Vec Ideal S1x512 .f32 × Vec Ideal S1x512 .f32
  | 0 => p
  | 1 => (k0_pay14 (F := Ideal) (z 0), k0_pay15 (F := Ideal) (z 0))
  | 2 => (k0_pay14 (F := Ideal) (z 1), k0_pay15 (F := Ideal) (z 1))
  | 3 => (k0_pay14 (F := Ideal) (z 2), k0_pay15 (F := Ideal) (z 2))

/-- Group `g`'s products with one weight block. -/
def raw (u : Fin 4 → Vec Ideal S320x4096 .bf16) (w : Vec Ideal S4096x512 .bf16) (g : Fin 4) : FVec Ideal S320x512 .f32 :=
  k0_pay4 (F := Ideal) (u g) w

/-- What the body writes to the output block for group `g`. -/
def outP (u : Fin 4 → Vec Ideal S320x4096 .bf16) (w v : Vec Ideal S4096x512 .bf16)
    (a : Fin 3 → Vec Ideal S1x512 .f32) (b : Vec Ideal S1x512 .f32) (d : Fin 3 → Vec Ideal S1x512 .f32) (e : Vec Ideal S1x512 .f32)
    (p q : Vec Ideal S1x512 .f32 × Vec Ideal S1x512 .f32) (g : Fin 4) : View.Piece (Elt Ideal) S1280x512 .bf16 :=
  ⟨outRect g, k0_pay13 (F := Ideal) rows (raw u v g) (before q (raw u v) g).1 (before q (raw u v) g).2
    (k0_pay12 (F := Ideal) rows (raw u w g) (before p (raw u w) g).1 (before p (raw u w) g).2 (a 0) (a 1) (a 2)) b (d 0) (d 1) (d 2) e⟩

/-- The four groups' writes, the last first. -/
def outL (u : Fin 4 → Vec Ideal S320x4096 .bf16) (w v : Vec Ideal S4096x512 .bf16)
    (a : Fin 3 → Vec Ideal S1x512 .f32) (b : Vec Ideal S1x512 .f32) (d : Fin 3 → Vec Ideal S1x512 .f32) (e : Vec Ideal S1x512 .f32)
    (p q : Vec Ideal S1x512 .f32 × Vec Ideal S1x512 .f32) : List (View.Piece (Elt Ideal) S1280x512 .bf16) :=
  [(3 : Fin 4), 2, 1, 0].map (outP u w v a b d e p q)

/-- The two rows of products left for the next point. -/
def keptL (z : FVec Ideal S320x512 .f32) : List (View.Piece (Elt Ideal) S8x512 .f32) :=
  [⟨rowRect 1, k0_pay1 (F := Ideal) (k0_pay15 (F := Ideal) z)⟩, ⟨rowRect 0, k0_pay1 (F := Ideal) (k0_pay14 (F := Ideal) z)⟩]

/-- What the first point of a column block fills the kept rows with. -/
def zeroL : List (View.Piece (Elt Ideal) S8x512 .f32) :=
  [⟨Rect.unit (s := S8x512) ![0, 0] S8x512.size inb_S8x512_S8x512_0_0, k0_pay2 (F := Ideal)⟩]

section

variable (c : Dev nD) (i : grid0.Coords)
  (arg2 : Memref sig .tc .vmem S1280x4096 .bf16) (harg2 : arg2.IsWhole) (arg3 : Memref sig .tc .vmem S4096x512 .bf16) (harg3 : arg3.IsWhole)
  (arg4 : Memref sig .tc .vmem S4096x512 .bf16) (harg4 : arg4.IsWhole) (arg5 : Memref sig .tc .vmem S8x512 .f32) (harg5 : arg5.IsWhole)
  (arg6 : Memref sig .tc .vmem S8x512 .f32) (harg6 : arg6.IsWhole) (arg7 : Memref sig .tc .vmem S1x512 .f32) (harg7 : arg7.IsWhole)
  (arg8 : Memref sig .tc .vmem S1x512 .f32) (harg8 : arg8.IsWhole) (arg9 : Memref sig .tc .vmem S1280x512 .bf16) (harg9 : arg9.IsWhole)
  (arg10 : Memref sig .tc .vmem S8x512 .f32) (harg10 : arg10.IsWhole) (arg11 : Memref sig .tc .vmem S8x512 .f32) (harg11 : arg11.IsWhole)
  (x0 : Vec Ideal S1280x4096 .bf16) (x1 : Vec Ideal S4096x512 .bf16) (x2 : Vec Ideal S4096x512 .bf16) (x3 : Vec Ideal S8x512 .f32)
  (x4 : Vec Ideal S8x512 .f32) (x5 : Vec Ideal S1x512 .f32) (x6 : Vec Ideal S1x512 .f32) (xs0 : Vec Ideal S8x512 .f32) (xs1 : Vec Ideal S8x512 .f32)

/-- Group `g`'s rows of the input block, as loaded. -/
def uB (g : Fin 4) : Vec Ideal S320x4096 .bf16 := View.readAt (Elt Ideal) arg2.view (inRect g).toLoadRect (harg2.unread x0)
/-- A weight block, as loaded. -/
def wB : Vec Ideal S4096x512 .bf16 :=
  View.readAt (Elt Ideal) arg3.view (Rect.unit (s := S4096x512) ![0, 0] S4096x512.size inb_S4096x512_S4096x512_0_0).toLoadRect (harg3.unread x1)
/-- Row `r` of a block of eight rows, as loaded. -/
def rB (r : Fin 8) : Vec Ideal S1x512 .f32 := View.readAt (Elt Ideal) arg5.view (rowRect r).toLoadRect (harg5.unread x3)
/-- A bias block, as loaded. -/
def bB : Vec Ideal S1x512 .f32 :=
  View.readAt (Elt Ideal) arg7.view (Rect.unit (s := S1x512) ![0, 0] S1x512.size inb_S1x512_S1x512_0_0).toLoadRect (harg7.unread x5)
/-- Row `r` of the kept rows after they are reset, as loaded. -/
def zB (r : Fin 8) : Vec Ideal S1x512 .f32 := arg10.view.readCov zeroL (rowRect r).toLoadRect

set_option maxHeartbeats 4000000 in
theorem B_out (h) : (kernelRun0_B c i arg2 harg2 arg3 harg3 arg4 harg4 arg5 harg5 arg6 harg6 arg7 harg7 arg8 harg8 arg9 harg9 arg10 harg10 arg11 harg11 h x0 x1 x2 x3 x4 x5 x6 xs0 xs1).1
    = outL (uB arg2 harg2 x0) (wB arg3 harg3 x1) (wB arg4 harg4 x2)
      (fun k => rB arg5 harg5 x3 (k.castLE (by decide))) (bB arg7 harg7 x5) (fun k => rB arg6 harg6 x4 (k.castLE (by decide))) (bB arg8 harg8 x6)
      (rB arg10 harg10 xs0 0, rB arg10 harg10 xs0 1) (rB arg11 harg11 xs1 0, rB arg11 harg11 xs1 1) := by
  unfold kernelRun0_B; rfl

set_option maxHeartbeats 4000000 in
theorem B_keep (h) : (kernelRun0_B c i arg2 harg2 arg3 harg3 arg4 harg4 arg5 harg5 arg6 harg6 arg7 harg7 arg8 harg8 arg9 harg9 arg10 harg10 arg11 harg11 h x0 x1 x2 x3 x4 x5 x6 xs0 xs1).2.1
    = keptL (raw (uB arg2 harg2 x0) (wB arg3 harg3 x1) 3) := by
  unfold kernelRun0_B; rfl

set_option maxHeartbeats 4000000 in
theorem B_keep' (h) : (kernelRun0_B c i arg2 harg2 arg3 harg3 arg4 harg4 arg5 harg5 arg6 harg6 arg7 harg7 arg8 harg8 arg9 harg9 arg10 harg10 arg11 harg11 h x0 x1 x2 x3 x4 x5 x6 xs0 xs1).2.2.1
    = keptL (raw (uB arg2 harg2 x0) (wB arg4 harg4 x2) 3) := by
  unfold kernelRun0_B; rfl

set_option maxHeartbeats 4000000 in
theorem A_keep (h) : (kernelRun0_A c i arg2 harg2 arg3 harg3 arg4 harg4 arg5 harg5 arg6 harg6 arg7 harg7 arg8 harg8 arg9 harg9 arg10 harg10 arg11 harg11 h x0 x1 x2 x3 x4 x5 x6).2.1
    = keptL (raw (uB arg2 harg2 x0) (wB arg3 harg3 x1) 3) ++ zeroL := by
  unfold kernelRun0_A; rfl

set_option maxHeartbeats 4000000 in
theorem A_keep' (h) : (kernelRun0_A c i arg2 harg2 arg3 harg3 arg4 harg4 arg5 harg5 arg6 harg6 arg7 harg7 arg8 harg8 arg9 harg9 arg10 harg10 arg11 harg11 h x0 x1 x2 x3 x4 x5 x6).2.2.1
    = keptL (raw (uB arg2 harg2 x0) (wB arg4 harg4 x2) 3) ++ zeroL := by
  unfold kernelRun0_A; rfl

set_option maxHeartbeats 4000000 in
theorem A_out (h) : (kernelRun0_A c i arg2 harg2 arg3 harg3 arg4 harg4 arg5 harg5 arg6 harg6 arg7 harg7 arg8 harg8 arg9 harg9 arg10 harg10 arg11 harg11 h x0 x1 x2 x3 x4 x5 x6).1
    = outL (uB arg2 harg2 x0) (wB arg3 harg3 x1) (wB arg4 harg4 x2)
      (fun k => rB arg5 harg5 x3 (k.castLE (by decide))) (bB arg7 harg7 x5) (fun k => rB arg6 harg6 x4 (k.castLE (by decide))) (bB arg8 harg8 x6)
      (zB arg10 0, zB arg10 1) (zB arg11 0, zB arg11 1) := by
  unfold kernelRun0_A; rfl

end

end Cert.Kernel2Ideal.Ffn
-- ==== Proof.Ffn.Block.lean ====
module

public import proofs.«01_k».proof.Proof.Ffn.Body
public import Idealize.ShloMosaic.Lib.WritesUnit

/-!
What one grid point leaves, entry by entry: the output block and the two kept rows, from a list of all the rows of
products in front of and inside the point's block.
-/

@[expose] public section

set_option maxRecDepth 16384

noncomputable section

namespace Cert.Kernel2Ideal.Ffn

open Cert.Kernel2Ideal Cert.Kernel2Ideal.Gen
open Idealize.ShloMosaic Idealize.ShloMosaic.TcCoe Idealize.ShloMosaic.Tactic

/-- Where each of the four slices holds `G`, so does the buffer after the four writes. -/
theorem canon_four {s : Shape} {e : EltTy} (P : Fin 4 → View.Piece (Elt Ideal) s e) (G : s.Idx → Elt Ideal e)
    (hP : ∀ g x, (P g).2 x = G ((P g).1.emb x)) (y : s.Idx) (g : Fin 4) (hy : y ∈ (P g).1.set) :
    View.canon ([(3 : Fin 4), 2, 1, 0].map P) y = G y := by
  have this0 : ∀ g : Fin 4, g ∈ [(3 : Fin 4), 2, 1, 0] := by decide
  suffices ∀ l : List (Fin 4), g ∈ l → View.canon (l.map P) y = G y from this _ (this0 g)
  intro l
  induction l with
  | nil => intro hh; exact absurd hh List.not_mem_nil
  | cons a l ih =>
    intro hh
    rw [List.map_cons]
    by_cases hm : y ∈ (P a).1.set
    · obtain ⟨x, rfl⟩ := (P a).1.exists_idx_of_mem hm
      exact (View.canon_cons_emb _ _ _ x).trans (hP a x)
    · rw [View.canon_cons_of_not_mem _ _ hm]
      refine ih ((List.mem_cons.mp hh).resolve_left ?_)
      rintro rfl; exact hm hy

theorem outRect_emb (g : Fin 4) (r : Fin 320) (n : Fin 512) :
    (outRect g).emb (ix2 r n) = (ix2 ⟨320 * g.val + r.val, by omega⟩ n : S1280x512.Idx) := by
  funext a; apply Fin.ext; rw [Rect.emb_apply]; fin_cases a <;> simp [ix2]
theorem inRect_emb (g : Fin 4) (r : Fin 320) (k : Fin 4096) :
    (inRect g).emb (ix2 r k) = (ix2 ⟨320 * g.val + r.val, by omega⟩ k : S1280x4096.Idx) := by
  funext a; apply Fin.ext; rw [Rect.emb_apply]; fin_cases a <;> simp [ix2]
theorem rowRect_emb (r : Fin 8) (z : Fin 1) (n : Fin 512) : (rowRect r).emb (ix2 z n) = (ix2 r n : S8x512.Idx) := by
  funext a; apply Fin.ext; rw [Rect.emb_apply]; fin_cases a <;> simp [ix2]

theorem before_eq {p : Vec Ideal S1x512 .f32 × Vec Ideal S1x512 .f32} {z : Fin 4 → FVec Ideal S320x512 .f32} {n : Fin 512} {Z : ℕ → EReal}
    (h2 : p.1 (ix2 0 n) = Z 0) (h1 : p.2 (ix2 0 n) = Z 1) (hz : ∀ g r, z g (ix2 r n) = Z (320 * g.val + r.val + 2)) (g : Fin 4) :
    (before p z g).1 (ix2 0 n) = Z (320 * g.val) ∧ (before p z g).2 (ix2 0 n) = Z (320 * g.val + 1) := by
  fin_cases g
  · exact ⟨h2, h1⟩
  · exact ⟨(last2_apply _ n).trans (hz 0 _), (last1_apply _ n).trans (hz 0 _)⟩
  · exact ⟨(last2_apply _ n).trans (hz 1 _), (last1_apply _ n).trans (hz 1 _)⟩
  · exact ⟨(last2_apply _ n).trans (hz 2 _), (last1_apply _ n).trans (hz 2 _)⟩

section

variable {u : Fin 4 → Vec Ideal S320x4096 .bf16} {w v : Vec Ideal S4096x512 .bf16}
  {a d : Fin 3 → Vec Ideal S1x512 .f32} {b e : Vec Ideal S1x512 .f32} {p q : Vec Ideal S1x512 .f32 × Vec Ideal S1x512 .f32}

/-- The output block's entries. -/
def outF (a : Fin 3 → Vec Ideal S1x512 .f32) (b : Vec Ideal S1x512 .f32) (d : Fin 3 → Vec Ideal S1x512 .f32) (e : Vec Ideal S1x512 .f32)
    (Z Y : Fin 512 → ℕ → EReal) (i : S1280x512.Idx) : EReal :=
  gated (fun k => a k (ix2 0 (i 1))) (b (ix2 0 (i 1))) (fun k => d k (ix2 0 (i 1))) (e (ix2 0 (i 1))) (Z (i 1)) (Y (i 1)) (i 0).val

theorem outF_apply {Z Y : Fin 512 → ℕ → EReal} (R : Fin 1280) (n : Fin 512) : outF a b d e Z Y (ix2 R n)
    = gated (fun k => a k (ix2 0 n)) (b (ix2 0 n)) (fun k => d k (ix2 0 n)) (e (ix2 0 n)) (Z n) (Y n) R.val := rfl

/-- The output block, entry by entry. -/
theorem out_eq {Z Y : Fin 512 → ℕ → EReal}
    (hp2 : ∀ n, p.1 (ix2 0 n) = Z n 0) (hp1 : ∀ n, p.2 (ix2 0 n) = Z n 1)
    (hz : ∀ n g r, raw u w g (ix2 r n) = Z n (320 * g.val + r.val + 2))
    (hq2 : ∀ n, q.1 (ix2 0 n) = Y n 0) (hq1 : ∀ n, q.2 (ix2 0 n) = Y n 1)
    (hy : ∀ n g r, raw u v g (ix2 r n) = Y n (320 * g.val + r.val + 2)) (R : Fin 1280) (n : Fin 512) :
    View.canon (outL u w v a b d e p q) (ix2 R n)
      = gated (fun k => a k (ix2 0 n)) (b (ix2 0 n)) (fun k => d k (ix2 0 n)) (e (ix2 0 n)) (Z n) (Y n) R.val := by
  refine canon_four (outP u w v a b d e p q)
    (outF a b d e Z Y) ?_ (ix2 R n) ⟨R.val / 320, by omega⟩ ?_
  · intro g x
    obtain ⟨r, n, rfl⟩ : ∃ (r : Fin 320) (n : Fin 512), x = ix2 r n := ⟨x 0, x 1, eq_ix2 x⟩
    obtain ⟨z2, z1⟩ := before_eq (hp2 n) (hp1 n) (hz n) g
    obtain ⟨y2, y1⟩ := before_eq (hq2 n) (hq1 n) (hy n) g
    have h := (group_eq (a := a) (b := b) (d := d) (e := e) (B := 320 * g.val) z2 z1 (hz n g) y2 y1 (hy n g) r).trans
      ((outF_apply (Z := Z) (Y := Y) ⟨320 * g.val + r.val, by omega⟩ n).symm.trans (congrArg (outF a b d e Z Y) (outRect_emb g r n).symm))
    exact h
  · have h : (ix2 R n : S1280x512.Idx) = (outRect ⟨R.val / 320, by omega⟩).emb (ix2 ⟨R.val % 320, Nat.mod_lt _ (by decide)⟩ n) := by
      rw [outRect_emb]
      funext i; apply Fin.ext
      fin_cases i
      · show R.val = 320 * (R.val / 320) + R.val % 320; omega
      · rfl
    rw [h]
    exact (outRect ⟨R.val / 320, by omega⟩).toLoadRect.idx_mem _

end

/-- The kept rows: the last two of the group. -/
theorem keep_eq {sg : RefSig} {κ : Kind} {sp : Space} (v : View sg κ sp S8x512 .f32) (f) (z : FVec Ideal S320x512 .f32)
    (L : List (View.Piece (Elt Ideal) S8x512 .f32)) (n : Fin 512) :
    v.read (Elt Ideal) (v.writes (Elt Ideal) f (keptL z ++ L)) (ix2 0 n) = z (ix2 ⟨318, by decide⟩ n)
    ∧ v.read (Elt Ideal) (v.writes (Elt Ideal) f (keptL z ++ L)) (ix2 1 n) = z (ix2 ⟨319, by decide⟩ n) := by
  constructor
  · refine (View.read_writes_cons_unit_of_not_mem v f _ _ _ _ rfl (0 : Fin 2) (Or.inl Nat.zero_lt_one)).trans ?_
    refine (View.read_writes_cons_unit_of_mem v f _ _ _ _ (ix2 0 n) rfl (fun a => by fin_cases a <;> simp [ix2])).trans ?_
    exact (same_apply _ n).trans (last2_apply z n)
  · refine (View.read_writes_cons_unit_of_mem v f _ _ _ _ (ix2 0 n) rfl (fun a => by fin_cases a <;> simp [ix2])).trans ?_
    exact (same_apply _ n).trans (last1_apply z n)

end Cert.Kernel2Ideal.Ffn
-- ==== Proof.Ffn.Point.lean ====
module

public import proofs.«01_k».proof.Proof.Ffn.Block
public import Idealize.ShloMosaic.Lib.VecWindow

/-!
The two kinds of grid point, the first of a column block and the others: each leaves the gated block and the last two rows
of products of its block.
-/

@[expose] public section

set_option maxRecDepth 16384

noncomputable section

namespace Cert.Kernel2Ideal.Ffn

open Cert.Kernel2Ideal Cert.Kernel2Ideal.Gen
open Idealize.ShloMosaic Idealize.ShloMosaic.TcCoe Idealize.ShloMosaic.Tactic

/-- What a point should leave: the gated block from the rows of products `Z` and `Y`, and the next point's two rows in front. -/
def Good (x3 x4 : Vec Ideal S8x512 .f32) (x5 x6 : Vec Ideal S1x512 .f32) (Z Y : Fin 512 → ℕ → EReal)
    (o : Vec Ideal S1280x512 .bf16 × Vec Ideal S8x512 .f32 × Vec Ideal S8x512 .f32) : Prop :=
  (∀ (R : Fin 1280) (n : Fin 512), o.1 (ix2 R n) = gated (fun k => x3 (ix2 (k.castLE (by decide)) n)) (x5 (ix2 0 n))
      (fun k => x4 (ix2 (k.castLE (by decide)) n)) (x6 (ix2 0 n)) (Z n) (Y n) R.val)
  ∧ (∀ n, o.2.1 (ix2 0 n) = Z n 1280 ∧ o.2.1 (ix2 1 n) = Z n 1281)
  ∧ (∀ n, o.2.2 (ix2 0 n) = Y n 1280 ∧ o.2.2 (ix2 1 n) = Y n 1281)

/-- The block's rows of products are the entries of `Z` from the third on. -/
def Rows (x0 : Vec Ideal S1280x4096 .bf16) (x1 : Vec Ideal S4096x512 .bf16) (Z : Fin 512 → ℕ → EReal) : Prop :=
  ∀ (n : Fin 512) (R : Fin 1280), (∑ k : Fin 4096, x0 (ix2 R k) * x1 (ix2 k n)) = Z n (R.val + 2)

section

variable (c : Dev nD) (i : grid0.Coords)
  (arg2 : Memref sig .tc .vmem S1280x4096 .bf16) (harg2 : arg2.IsWhole) (arg3 : Memref sig .tc .vmem S4096x512 .bf16) (harg3 : arg3.IsWhole)
  (arg4 : Memref sig .tc .vmem S4096x512 .bf16) (harg4 : arg4.IsWhole) (arg5 : Memref sig .tc .vmem S8x512 .f32) (harg5 : arg5.IsWhole)
  (arg6 : Memref sig .tc .vmem S8x512 .f32) (harg6 : arg6.IsWhole) (arg7 : Memref sig .tc .vmem S1x512 .f32) (harg7 : arg7.IsWhole)
  (arg8 : Memref sig .tc .vmem S1x512 .f32) (harg8 : arg8.IsWhole) (arg9 : Memref sig .tc .vmem S1280x512 .bf16) (harg9 : arg9.IsWhole)
  (arg10 : Memref sig .tc .vmem S8x512 .f32) (harg10 : arg10.IsWhole) (arg11 : Memref sig .tc .vmem S8x512 .f32) (harg11 : arg11.IsWhole)
  (x0 : Vec Ideal S1280x4096 .bf16) (x1 : Vec Ideal S4096x512 .bf16) (x2 : Vec Ideal S4096x512 .bf16) (x3 : Vec Ideal S8x512 .f32)
  (x4 : Vec Ideal S8x512 .f32) (x5 : Vec Ideal S1x512 .f32) (x6 : Vec Ideal S1x512 .f32) (xs0 : Vec Ideal S8x512 .f32) (xs1 : Vec Ideal S8x512 .f32)

theorem uB_apply (g : Fin 4) (r : Fin 320) (k : Fin 4096) :
    uB arg2 harg2 x0 g (ix2 r k) = x0 (ix2 ⟨320 * g.val + r.val, by omega⟩ k) := by
  unfold uB; rw [View.readAt_apply, harg2.read_unread]; exact congrArg x0 (inRect_emb g r k)

theorem wB_eq : wB arg3 harg3 x1 = x1 := by
  unfold wB; rw [View.readAt_full, harg3.read_unread]

theorem rB_apply (r : Fin 8) (n : Fin 512) : rB arg5 harg5 x3 r (ix2 0 n) = x3 (ix2 r n) := by
  unfold rB; rw [View.readAt_apply, harg5.read_unread]; exact congrArg x3 (rowRect_emb r 0 n)

theorem bB_eq : bB arg7 harg7 x5 = x5 := by
  unfold bB; rw [View.readAt_full, harg7.read_unread]

theorem zB_apply (r : Fin 8) (n : Fin 512) : zB arg10 r (ix2 0 n) = 0 := by
  unfold zB zeroL
  rw [View.readCov_eq_canon', View.canon_unit_zero (by funext a; fin_cases a <;> rfl)]
  exact zero_apply _

theorem raw_rows {Z : Fin 512 → ℕ → EReal} (hz : Rows x0 x1 Z) (n : Fin 512) (g : Fin 4) (r : Fin 320) :
    raw (uB arg2 harg2 x0) (wB arg3 harg3 x1) g (ix2 r n) = Z n (320 * g.val + r.val + 2) := by
  refine Eq.trans ?_ (hz n ⟨320 * g.val + r.val, by omega⟩)
  unfold raw
  rw [raw_apply, wB_eq]
  exact Finset.sum_congr rfl fun k _ => congrArg (· * _) (uB_apply arg2 harg2 x0 g r k)

theorem out_good {Z Y : Fin 512 → ℕ → EReal} (hz : Rows x0 x1 Z) (hy : Rows x0 x2 Y)
    (p q : Vec Ideal S1x512 .f32 × Vec Ideal S1x512 .f32) (hp : ∀ n, p.1 (ix2 0 n) = Z n 0 ∧ p.2 (ix2 0 n) = Z n 1)
    (hq : ∀ n, q.1 (ix2 0 n) = Y n 0 ∧ q.2 (ix2 0 n) = Y n 1) (R : Fin 1280) (n : Fin 512) :
    View.canon (outL (uB arg2 harg2 x0) (wB arg3 harg3 x1) (wB arg4 harg4 x2)
      (fun k => rB arg5 harg5 x3 (k.castLE (by decide))) (bB arg7 harg7 x5) (fun k => rB arg6 harg6 x4 (k.castLE (by decide))) (bB arg8 harg8 x6)
      p q) (ix2 R n)
      = gated (fun k => x3 (ix2 (k.castLE (by decide)) n)) (x5 (ix2 0 n))
      (fun k => x4 (ix2 (k.castLE (by decide)) n)) (x6 (ix2 0 n)) (Z n) (Y n) R.val := by
  refine (out_eq (fun n => (hp n).1) (fun n => (hp n).2) (raw_rows arg2 harg2 arg3 harg3 x0 x1 hz)
    (fun n => (hq n).1) (fun n => (hq n).2) (raw_rows arg2 harg2 arg4 harg4 x0 x2 hy) R n).trans ?_
  simp only [rB_apply, bB_eq]

theorem goodB (h) {Z Y : Fin 512 → ℕ → EReal} (hz : Rows x0 x1 Z) (hy : Rows x0 x2 Y)
    (hp : ∀ n, xs0 (ix2 0 n) = Z n 0 ∧ xs0 (ix2 1 n) = Z n 1) (hq : ∀ n, xs1 (ix2 0 n) = Y n 0 ∧ xs1 (ix2 1 n) = Y n 1) :
    Good x3 x4 x5 x6 Z Y (out0_B_7 c i arg2 harg2 arg3 harg3 arg4 harg4 arg5 harg5 arg6 harg6 arg7 harg7 arg8 harg8 arg9 harg9 arg10 harg10 arg11 harg11 h x0 x1 x2 x3 x4 x5 x6 xs0 xs1,
      sout0_B_0 c i arg2 harg2 arg3 harg3 arg4 harg4 arg5 harg5 arg6 harg6 arg7 harg7 arg8 harg8 arg9 harg9 arg10 harg10 arg11 harg11 h x0 x1 x2 x3 x4 x5 x6 xs0 xs1, sout0_B_1 c i arg2 harg2 arg3 harg3 arg4 harg4 arg5 harg5 arg6 harg6 arg7 harg7 arg8 harg8 arg9 harg9 arg10 harg10 arg11 harg11 h x0 x1 x2 x3 x4 x5 x6 xs0 xs1) := by
  refine ⟨fun R n => ?_, fun n => ?_, fun n => ?_⟩ <;> dsimp only
  · unfold out0_B_7
    rw [View.read_writes_junk_eq_canon, B_out]
    exact out_good arg2 harg2 arg3 harg3 arg4 harg4 arg5 harg5 arg6 harg6 arg7 harg7 arg8 harg8 x0 x1 x2 x3 x4 x5 x6 hz hy _ _
      (fun n => ⟨(rB_apply ..).trans (hp n).1, (rB_apply ..).trans (hp n).2⟩)
      (fun n => ⟨(rB_apply ..).trans (hq n).1, (rB_apply ..).trans (hq n).2⟩) R n
  · unfold sout0_B_0
    rw [B_keep]
    obtain ⟨e0, e1⟩ := keep_eq arg10.view (harg10.unread xs0) (raw (uB arg2 harg2 x0) (wB arg3 harg3 x1) 3) [] n
    rw [List.append_nil] at e0 e1
    exact ⟨e0.trans (raw_rows arg2 harg2 arg3 harg3 x0 x1 hz n 3 _), e1.trans (raw_rows arg2 harg2 arg3 harg3 x0 x1 hz n 3 _)⟩
  · unfold sout0_B_1
    rw [B_keep']
    obtain ⟨e0, e1⟩ := keep_eq arg11.view (harg11.unread xs1) (raw (uB arg2 harg2 x0) (wB arg4 harg4 x2) 3) [] n
    rw [List.append_nil] at e0 e1
    exact ⟨e0.trans (raw_rows arg2 harg2 arg4 harg4 x0 x2 hy n 3 _), e1.trans (raw_rows arg2 harg2 arg4 harg4 x0 x2 hy n 3 _)⟩

theorem goodA (h) {Z Y : Fin 512 → ℕ → EReal} (hz : Rows x0 x1 Z) (hy : Rows x0 x2 Y)
    (hp : ∀ n, 0 = Z n 0 ∧ 0 = Z n 1) (hq : ∀ n, 0 = Y n 0 ∧ 0 = Y n 1) :
    Good x3 x4 x5 x6 Z Y (out0_A_7 c i arg2 harg2 arg3 harg3 arg4 harg4 arg5 harg5 arg6 harg6 arg7 harg7 arg8 harg8 arg9 harg9 arg10 harg10 arg11 harg11 h x0 x1 x2 x3 x4 x5 x6,
      sout0_A_0 c i arg2 harg2 arg3 harg3 arg4 harg4 arg5 harg5 arg6 harg6 arg7 harg7 arg8 harg8 arg9 harg9 arg10 harg10 arg11 harg11 h x0 x1 x2 x3 x4 x5 x6, sout0_A_1 c i arg2 harg2 arg3 harg3 arg4 harg4 arg5 harg5 arg6 harg6 arg7 harg7 arg8 harg8 arg9 harg9 arg10 harg10 arg11 harg11 h x0 x1 x2 x3 x4 x5 x6) := by
  refine ⟨fun R n => ?_, fun n => ?_, fun n => ?_⟩ <;> dsimp only
  · unfold out0_A_7
    rw [View.read_writes_junk_eq_canon, A_out]
    exact out_good arg2 harg2 arg3 harg3 arg4 harg4 arg5 harg5 arg6 harg6 arg7 harg7 arg8 harg8 x0 x1 x2 x3 x4 x5 x6 hz hy _ _
      (fun n => ⟨(zB_apply ..).trans (hp n).1, (zB_apply ..).trans (hp n).2⟩)
      (fun n => ⟨(zB_apply ..).trans (hq n).1, (zB_apply ..).trans (hq n).2⟩) R n
  · unfold sout0_A_0
    rw [A_keep]
    obtain ⟨e0, e1⟩ := keep_eq VS0_0 VS0_0.junk (raw (uB arg2 harg2 x0) (wB arg3 harg3 x1) 3) zeroL n
    exact ⟨e0.trans (raw_rows arg2 harg2 arg3 harg3 x0 x1 hz n 3 _), e1.trans (raw_rows arg2 harg2 arg3 harg3 x0 x1 hz n 3 _)⟩
  · unfold sout0_A_1
    rw [A_keep']
    obtain ⟨e0, e1⟩ := keep_eq VS0_1 VS0_1.junk (raw (uB arg2 harg2 x0) (wB arg4 harg4 x2) 3) zeroL n
    exact ⟨e0.trans (raw_rows arg2 harg2 arg4 harg4 x0 x2 hy n 3 _), e1.trans (raw_rows arg2 harg2 arg4 harg4 x0 x2 hy n 3 _)⟩

end

end Cert.Kernel2Ideal.Ffn
-- ==== Proof.Ffn.Result.lean ====
module

public import proofs.«01_k».proof.Proof.Gen.Kernel2Ideal.Value
public import proofs.«01_k».proof.Proof.Ffn.Point

/-!
The kernel's result, entry by entry. The points run down a column block, each handing the next the last two rows of its
products, so at every point the rows in front are those of the whole column block, or zero at its top.
-/

@[expose] public section

set_option maxRecDepth 16384

noncomputable section

namespace Cert.Kernel2Ideal.Ffn

open Cert.Kernel2Ideal Cert.Kernel2Ideal.Gen
open Idealize.ShloMosaic Idealize.ShloMosaic.TcCoe Idealize.ShloMosaic.Tactic

variable (m : (ℓ : Loc nD τ sig) → Buf (Elt Ideal) ℓ) (c : Dev nD)

/-- The rows, the two weight matrices, the taps and the biases at the launch. -/
abbrev argU : S16640x4096.Idx → EReal := m ((c : Thread nD τ).loc main_arg0)
abbrev argG : S4096x11264.Idx → EReal := m ((c : Thread nD τ).loc main_arg1)
abbrev argP : S4096x11264.Idx → EReal := m ((c : Thread nD τ).loc main_arg2)
abbrev argC : S8x22528.Idx → EReal := m ((c : Thread nD τ).loc main_arg3)
abbrev argB : S1x22528.Idx → EReal := m ((c : Thread nD τ).loc main_arg4)

/-- The products of all rows with column `N` of a weight matrix, two zeros first. -/
def prods (u : S16640x4096.Idx → EReal) (w : S4096x11264.Idx → EReal) (N : Fin 11264) (R : ℕ) : EReal :=
  if h : 2 ≤ R ∧ R < 16642 then ∑ k : Fin 4096, u (ix2 ⟨R - 2, by omega⟩ k) * w (ix2 k N) else 0

/-- Column `N` of the gate's half of the taps and biases, and of the other half. -/
abbrev lo (N : Fin 11264) : Fin 22528 := ⟨N.val, by omega⟩
abbrev hi (N : Fin 11264) : Fin 22528 := ⟨11264 + N.val, by omega⟩

/-- Entry `(R, N)` of the result. -/
def resAt (N : Fin 11264) (R : ℕ) : EReal :=
  gated (fun k => argC m c (ix2 (k.castLE (by decide)) (lo N))) (argB m c (ix2 0 (lo N)))
    (fun k => argC m c (ix2 (k.castLE (by decide)) (hi N))) (argB m c (ix2 0 (hi N)))
    (prods (argU m c) (argG m c) N) (prods (argU m c) (argP m c) N) R

/-- The result. -/
def result : S16640x11264.Idx → EReal := fun i => resAt m c (i 1) (i 0).val

/-- Where each window's block lies: point `t` is row block `t % 13` of column block `t / 13`. -/
theorem idx_all : ∀ t : Fin cfg0.N,
    (win0_0.index t (0 : Fin 2) = t.val % 13 ∧ win0_0.index t (1 : Fin 2) = 0)
    ∧ (win0_1.index t (0 : Fin 2) = 0 ∧ win0_1.index t (1 : Fin 2) = t.val / 13)
    ∧ (win0_2.index t (0 : Fin 2) = 0 ∧ win0_2.index t (1 : Fin 2) = t.val / 13)
    ∧ (win0_3.index t (0 : Fin 2) = 0 ∧ win0_3.index t (1 : Fin 2) = t.val / 13)
    ∧ (win0_4.index t (0 : Fin 2) = 0 ∧ win0_4.index t (1 : Fin 2) = 22 + t.val / 13)
    ∧ (win0_5.index t (0 : Fin 2) = 0 ∧ win0_5.index t (1 : Fin 2) = t.val / 13)
    ∧ (win0_6.index t (0 : Fin 2) = 0 ∧ win0_6.index t (1 : Fin 2) = 22 + t.val / 13) :=
  (by decide +kernel : ∀ t : Fin grid0.N, _)

theorem t_lt (t : Fin cfg0.N) : t.val < 286 := lt_of_lt_of_eq t.isLt N_0

/-- Column `n` of column block `t / 13`. -/
abbrev col (t : Fin cfg0.N) (n : Fin 512) : Fin 11264 := ⟨512 * (t.val / 13) + n.val, by have := t_lt t; omega⟩

theorem blk_u (t : Fin cfg0.N) (R : Fin 1280) (k : Fin 4096) :
    iblk m c 0 t (ix2 R k) = argU m c (ix2 ⟨1280 * (t.val % 13) + R.val, by omega⟩ k) := by
  obtain ⟨⟨h0, h1⟩, -⟩ := idx_all t
  refine congrArg (argU m c) ?_
  funext a; apply Fin.ext
  fin_cases a
  · show win0_0.index t (0 : Fin 2) * 1280 + 1 * R.val = 1280 * (t.val % 13) + R.val; omega
  · show win0_0.index t (1 : Fin 2) * 4096 + 1 * k.val = k.val; omega

theorem blk_g (t : Fin cfg0.N) (k : Fin 4096) (n : Fin 512) : iblk m c 1 t (ix2 k n) = argG m c (ix2 k (col t n)) := by
  obtain ⟨-, ⟨h0, h1⟩, -⟩ := idx_all t
  refine congrArg (argG m c) ?_
  funext a; apply Fin.ext
  fin_cases a
  · show win0_1.index t (0 : Fin 2) * 4096 + 1 * k.val = k.val; omega
  · show win0_1.index t (1 : Fin 2) * 512 + 1 * n.val = 512 * (t.val / 13) + n.val; omega

theorem blk_p (t : Fin cfg0.N) (k : Fin 4096) (n : Fin 512) : iblk m c 2 t (ix2 k n) = argP m c (ix2 k (col t n)) := by
  obtain ⟨-, -, ⟨h0, h1⟩, -⟩ := idx_all t
  refine congrArg (argP m c) ?_
  funext a; apply Fin.ext
  fin_cases a
  · show win0_2.index t (0 : Fin 2) * 4096 + 1 * k.val = k.val; omega
  · show win0_2.index t (1 : Fin 2) * 512 + 1 * n.val = 512 * (t.val / 13) + n.val; omega

theorem blk_c (t : Fin cfg0.N) (k : Fin 8) (n : Fin 512) : iblk m c 3 t (ix2 k n) = argC m c (ix2 k (lo (col t n))) := by
  obtain ⟨-, -, -, ⟨h0, h1⟩, -⟩ := idx_all t
  refine congrArg (argC m c) ?_
  funext a; apply Fin.ext
  fin_cases a
  · show win0_3.index t (0 : Fin 2) * 8 + 1 * k.val = k.val; omega
  · show win0_3.index t (1 : Fin 2) * 512 + 1 * n.val = 512 * (t.val / 13) + n.val; omega

theorem blk_c' (t : Fin cfg0.N) (k : Fin 8) (n : Fin 512) : iblk m c 4 t (ix2 k n) = argC m c (ix2 k (hi (col t n))) := by
  obtain ⟨-, -, -, -, ⟨h0, h1⟩, -⟩ := idx_all t
  refine congrArg (argC m c) ?_
  funext a; apply Fin.ext
  fin_cases a
  · show win0_4.index t (0 : Fin 2) * 8 + 1 * k.val = k.val; omega
  · show win0_4.index t (1 : Fin 2) * 512 + 1 * n.val = 11264 + (512 * (t.val / 13) + n.val); omega

theorem blk_b (t : Fin cfg0.N) (n : Fin 512) : iblk m c 5 t (ix2 0 n) = argB m c (ix2 0 (lo (col t n))) := by
  obtain ⟨-, -, -, -, -, ⟨h0, h1⟩, -⟩ := idx_all t
  refine congrArg (argB m c) ?_
  funext a; apply Fin.ext
  fin_cases a
  · show win0_5.index t (0 : Fin 2) * 1 + 1 * 0 = 0; omega
  · show win0_5.index t (1 : Fin 2) * 512 + 1 * n.val = 512 * (t.val / 13) + n.val; omega

theorem blk_b' (t : Fin cfg0.N) (n : Fin 512) : iblk m c 6 t (ix2 0 n) = argB m c (ix2 0 (hi (col t n))) := by
  obtain ⟨-, -, -, -, -, -, ⟨h0, h1⟩⟩ := idx_all t
  refine congrArg (argB m c) ?_
  funext a; apply Fin.ext
  fin_cases a
  · show win0_6.index t (0 : Fin 2) * 1 + 1 * 0 = 0; omega
  · show win0_6.index t (1 : Fin 2) * 512 + 1 * n.val = 11264 + (512 * (t.val / 13) + n.val); omega

/-- The products seen from point `t`: the two rows in front of its block, then its rows. -/
def zAt (w : S4096x11264.Idx → EReal) (t : Fin cfg0.N) (n : Fin 512) (R : ℕ) : EReal :=
  prods (argU m c) w (col t n) (1280 * (t.val % 13) + R)

theorem rows_g (t : Fin cfg0.N) : Rows (iblk m c 0 t) (iblk m c 1 t) (zAt m c (argG m c) t) := by
  intro n R
  unfold zAt prods
  rw [dif_pos (by omega)]
  refine Finset.sum_congr rfl fun k _ => ?_
  rw [blk_u, blk_g]
  rfl

theorem rows_p (t : Fin cfg0.N) : Rows (iblk m c 0 t) (iblk m c 2 t) (zAt m c (argP m c) t) := by
  intro n R
  unfold zAt prods
  rw [dif_pos (by omega)]
  refine Finset.sum_congr rfl fun k _ => ?_
  rw [blk_u, blk_p]
  rfl

theorem zAt_top (w : S4096x11264.Idx → EReal) (t : Fin cfg0.N) (h : t.val % 13 = 0) (n : Fin 512) :
    0 = zAt m c w t n 0 ∧ 0 = zAt m c w t n 1 := by
  unfold zAt prods
  constructor <;> rw [dif_neg (by omega)]

theorem zAt_next (w : S4096x11264.Idx → EReal) (t t' : Fin cfg0.N) (ht : t'.val + 1 = t.val) (h : t.val % 13 ≠ 0) (n : Fin 512) (R : ℕ) :
    zAt m c w t' n (1280 + R) = zAt m c w t n R := by
  unfold zAt
  have e : col t' n = col t n := by apply Fin.ext; show 512 * (t'.val / 13) + n.val = 512 * (t.val / 13) + n.val; omega
  rw [e]
  congr 1
  omega

/-- What point `t` leaves. -/
abbrev Left (t : Fin cfg0.N) : Prop :=
  Good (iblk m c 3 t) (iblk m c 4 t) (iblk m c 5 t) (iblk m c 6 t) (zAt m c (argG m c) t) (zAt m c (argP m c) t) (outsAt0 m c t.val t.isLt)

theorem left_top (t : Fin cfg0.N) (h0 : t.val % 13 = 0) : Left m c t := by
  unfold Left
  rw [outsAt0_A m c t h0]
  exact goodA _ _ _ _ _ _ _ _ _ _ _ _ _ _ _ _ _ _ _ _ _ _ _ _ _ _ _ _ _ _ (rows_g m c t) (rows_p m c t)
    (zAt_top m c _ t h0) (zAt_top m c _ t h0)

theorem left_next (t t' : Fin cfg0.N) (ht : t'.val + 1 = t.val) (h0 : ¬t.val % 13 = 0) (h : Left m c t') : Left m c t := by
  obtain ⟨-, hs, hs'⟩ := h
  have e : outsAt0 m c (t.val - 1) (Nat.lt_of_le_of_lt (Nat.sub_le _ _) t.isLt) = outsAt0 m c t'.val t'.isLt := by
    congr 1; omega
  unfold Left
  rw [outsAt0_B m c t h0, e]
  exact goodB _ _ _ _ _ _ _ _ _ _ _ _ _ _ _ _ _ _ _ _ _ _ _ _ _ _ _ _ _ _ _ _ (rows_g m c t) (rows_p m c t)
    (fun n => ⟨(hs n).1.trans (zAt_next m c _ t t' ht h0 n 0), (hs n).2.trans (zAt_next m c _ t t' ht h0 n 1)⟩)
    (fun n => ⟨(hs' n).1.trans (zAt_next m c _ t t' ht h0 n 0), (hs' n).2.trans (zAt_next m c _ t t' ht h0 n 1)⟩)

theorem left_all : ∀ (n : ℕ) (hn : n < cfg0.N), Left m c ⟨n, hn⟩
  | 0, hn => left_top m c ⟨0, hn⟩ rfl
  | n + 1, hn => by
    by_cases h0 : (n + 1) % 13 = 0
    · exact left_top m c ⟨n + 1, hn⟩ h0
    · exact left_next m c ⟨n + 1, hn⟩ ⟨n, Nat.lt_of_succ_lt hn⟩ rfl h0 (left_all n _)

/-- The array after the run. -/
theorem G7_eq : Value.G7 m c = result m c := by
  funext i
  obtain ⟨R, N, rfl⟩ : ∃ (R : Fin 16640) (N : Fin 11264), i = ix2 R N := ⟨i 0, i 1, eq_ix2 i⟩
  have hp : Value.pt7Of (ix2 R N) = R.val / 1280 + 13 * (N.val / 512) := by
    show 1 * (R.val / 1280 - 0) + 13 * (N.val / 512 - 0) = _; omega
  have hb : Value.pt7Of (ix2 R N) < cfg0.N := lt_of_lt_of_eq (by rw [hp]; omega) N_0.symm
  have hl : Value.loc7Of (ix2 R N) = (ix2 ⟨R.val % 1280, Nat.mod_lt _ (by decide)⟩ ⟨N.val % 512, Nat.mod_lt _ (by decide)⟩ : S1280x512.Idx) := by
    funext a; fin_cases a <;> rfl
  unfold Value.G7
  rw [dif_pos hb, ← Value.outsAt0_sweep m c _ hb, hl]
  refine ((left_all m c _ hb).1 _ _).trans ?_
  have hc : col ⟨_, hb⟩ ⟨N.val % 512, Nat.mod_lt _ (by decide)⟩ = N := by
    apply Fin.ext; show 512 * (Value.pt7Of (ix2 R N) / 13) + N.val % 512 = N.val; rw [hp]; omega
  have hr : 1280 * (Value.pt7Of (ix2 R N) % 13) + R.val % 1280 = R.val := by rw [hp]; omega
  simp only [blk_c, blk_c', blk_b, blk_b', hc]
  show _ = resAt m c N R.val
  unfold resAt
  have hz : ∀ w k, zAt m c w ⟨_, hb⟩ ⟨N.val % 512, Nat.mod_lt _ (by decide)⟩ (R.val % 1280 + k) = prods (argU m c) w N (R.val + k) := by
    intro w k
    unfold zAt
    rw [hc]
    congr 1
    show 1280 * (Value.pt7Of (ix2 R N) % 13) + (R.val % 1280 + k) = R.val + k
    omega
  have h0 := fun w => hz w 0
  simp only [Nat.add_zero] at h0
  unfold gated tap
  simp only [hz, h0]

end Cert.Kernel2Ideal.Ffn
-- ==== Proof.Ffn.Refn.lean ====
module

public import proofs.«01_k».proof.Proof.Ffn.Result
public import proofs.«01_k».proof.Proof.Gen.Reference2Ideal.Run

/-!
The reference's result of the gated first half of the feed-forward layer, read at an entry.
-/

@[expose] public section

set_option maxRecDepth 16384

noncomputable section

namespace Cert.Reference2Ideal.Value

open Cert.Reference2Ideal Cert.Reference2Ideal.Gen Cert.Reference2Ideal.Facts
open Idealize.ShloMosaic Idealize.ShloMosaic.Tactic
open Cert.Kernel2Ideal.Ffn (prods tap gated lo hi)

variable (u : FVec Ideal S16640x4096 .bf16) (w : FVec Ideal S4096x11264 .bf16) (z : FVec Ideal S16642x11264 .f32)
  (cw : FVec Ideal S8x22528 .f32) (a : FVec Ideal S8x11264 .f32) (bw : FVec Ideal S1x22528 .f32) (b : FVec Ideal S1x11264 .f32)
  (x y : FVec Ideal S16640x11264 .f32)

/-- The products, two rows of zeros first. -/
def padded : FVec Ideal S16642x11264 .f32 :=
  pad S16642x11264 ![2, 0] ![0, 0] ![0, 0] (Host.dotGeneral dot_S16640x4096_S4096x11264_S16640x11264_1_0_0_1_n_n none u w) (sitofp .f32 (constantI S_ 32 0#32)) pads_S16640x11264_S16642x11264_200_000 h_S_

/-- The three-tap sum and the bias. -/
def conv : FVec Ideal S16640x11264 .f32 :=
  addf (addf (addf (mulf (broadcastInDim S16640x11264 ![0, 1] bcast_S1x11264_S16640x11264_0_1 (extractStridedSlice S1x11264 ![0, 0] a slices_S8x11264_S1x11264_0_0)) (extractStridedSlice S16640x11264 ![0, 0] z slices_S16642x11264_S16640x11264_0_0)) (mulf (broadcastInDim S16640x11264 ![0, 1] bcast_S1x11264_S16640x11264_0_1 (extractStridedSlice S1x11264 ![1, 0] a slices_S8x11264_S1x11264_1_0)) (extractStridedSlice S16640x11264 ![1, 0] z slices_S16642x11264_S16640x11264_1_0))) (mulf (broadcastInDim S16640x11264 ![0, 1] bcast_S1x11264_S16640x11264_0_1 (extractStridedSlice S1x11264 ![2, 0] a slices_S8x11264_S1x11264_2_0)) (extractStridedSlice S16640x11264 ![2, 0] z slices_S16642x11264_S16640x11264_2_0))) (broadcastInDim S16640x11264 ![0, 1] bcast_S1x11264_S16640x11264_0_1 b)

/-- The gate. -/
def gate : FVec Ideal S16640x11264 .bf16 :=
  truncf .bf16 (mulf (mulf x (Host.divf (broadcastInDim S16640x11264 ![] bcast_S_S16640x11264 (constant S_ .f32 0x3F800000#32)) (addf (broadcastInDim S16640x11264 ![] bcast_S_S16640x11264 (constant S_ .f32 0x3F800000#32)) (Host.exp (Host.negf x))))) y) bitsLt_bf16_f32

/-- Each half of the taps and of the biases. -/
def tapsLo : FVec Ideal S8x11264 .f32 := extractStridedSlice S8x11264 ![0, 0] cw slices_S8x22528_S8x11264_0_0
def tapsHi : FVec Ideal S8x11264 .f32 := extractStridedSlice S8x11264 ![0, 11264] cw slices_S8x22528_S8x11264_0_11264
def biasLo : FVec Ideal S1x11264 .f32 := extractStridedSlice S1x11264 ![0, 0] bw slices_S1x22528_S1x11264_0_0
def biasHi : FVec Ideal S1x11264 .f32 := extractStridedSlice S1x11264 ![0, 11264] bw slices_S1x22528_S1x11264_0_11264

theorem padded_apply (R : Fin 16642) (N : Fin 11264) : padded u w (ix2 R N) = prods u w N R.val := by
  pointwise [padded]
  unfold prods
  have hR := R.isLt
  by_cases h : 2 ≤ R.val
  · rw [dif_pos ⟨h, by omega⟩, dif_pos ⟨h, hR⟩]
  · rw [dif_neg (fun e => h e.1), dif_neg (fun e => h e.1)]
    simp [FloatOps.sitofp]

theorem conv_apply (R : Fin 16640) (N : Fin 11264) : conv z a b (ix2 R N)
    = a (ix2 0 N) * z (ix2 ⟨R.val, by omega⟩ N) + a (ix2 1 N) * z (ix2 ⟨R.val + 1, by omega⟩ N)
      + a (ix2 2 N) * z (ix2 ⟨R.val + 2, by omega⟩ N) + b (ix2 0 N) := by
  pointwise [conv]
  simp only [Nat.add_comm 1 R.val, Nat.add_comm 2 R.val]

theorem gate_apply (R : Fin 16640) (N : Fin 11264) : gate x y (ix2 R N)
    = x (ix2 R N) * Ideal.logistic (x (ix2 R N)) * y (ix2 R N) := by
  pointwise [gate]
  rfl

theorem tapsLo_apply (k : Fin 8) (N : Fin 11264) : tapsLo cw (ix2 k N) = cw (ix2 k (lo N)) := by
  pointwise [tapsLo]
theorem tapsHi_apply (k : Fin 8) (N : Fin 11264) : tapsHi cw (ix2 k N) = cw (ix2 k (hi N)) := by
  pointwise [tapsHi]
theorem biasLo_apply (N : Fin 11264) : biasLo bw (ix2 0 N) = bw (ix2 0 (lo N)) := by
  pointwise [biasLo]
theorem biasHi_apply (N : Fin 11264) : biasHi bw (ix2 0 N) = bw (ix2 0 (hi N)) := by
  pointwise [biasHi]

/-- One branch at an entry. -/
theorem branch_apply (R : Fin 16640) (N : Fin 11264) : conv (padded u w) a b (ix2 R N)
    = tap (fun k => a (ix2 (k.castLE (by decide)) N)) (prods u w N) R.val + b (ix2 0 N) := by
  rw [conv_apply, padded_apply, padded_apply, padded_apply]
  rfl

/-- The whole composed term. -/
def whole (u : FVec Ideal S16640x4096 .bf16) (w v : FVec Ideal S4096x11264 .bf16) (cw : FVec Ideal S8x22528 .f32)
    (bw : FVec Ideal S1x22528 .f32) : FVec Ideal S16640x11264 .bf16 :=
  gate (conv (padded u w) (tapsLo cw) (biasLo bw)) (conv (padded u v) (tapsHi cw) (biasHi bw))

open Cert.Kernel2Ideal.Ffn in
/-- The reference's result is the kernel's. -/
theorem whole_eq (m : (ℓ : Loc Cert.Kernel2Ideal.nD Cert.Kernel2Ideal.τ Cert.Kernel2Ideal.sig) → Buf (Elt Ideal) ℓ) (c : Dev Cert.Kernel2Ideal.nD) :
    whole (argU m c) (argG m c) (argP m c) (argC m c) (argB m c) = result m c := by
  funext i
  obtain ⟨R, N, rfl⟩ : ∃ (R : Fin 16640) (N : Fin 11264), i = ix2 R N := ⟨i 0, i 1, eq_ix2 i⟩
  show _ = resAt m c N R.val
  unfold whole
  rw [gate_apply, branch_apply, branch_apply]
  simp only [tapsLo_apply, tapsHi_apply, biasLo_apply, biasHi_apply]
  rfl

/-- The reference's run ends with that term of its arguments. -/
theorem run_whole (m' : (ℓ : Loc nD τ sig) → Buf (Elt Ideal) ℓ) (ρ : Dev nD → PrngReg) :
    θ_run defs (onTc (τ := τ) (main (F := Ideal))) ⟨m', fun _ => 0, ρ⟩ fun r => ∀ c : Dev nD,
      r.2.mem ((c.tc : Thread nD τ).loc main_v42) = whole (m' ((c.tc : Thread nD τ).loc main_arg0)) (m' ((c.tc : Thread nD τ).loc main_arg1))
        (m' ((c.tc : Thread nD τ).loc main_arg2)) (m' ((c.tc : Thread nD τ).loc main_arg3)) (m' ((c.tc : Thread nD τ).loc main_arg4))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4) :=
  run m' ρ

end Cert.Reference2Ideal.Value
-- ==== Proof.lean ====
module

public import proofs.«01_k».proof.Defs
public import proofs.«01_k».proof.Proof.AttnIdeal.Launch
public import proofs.«01_k».proof.Proof.AttnBits.Launch
public import proofs.«01_k».proof.Proof.Gen.ReferenceIdeal
public import proofs.«01_k».proof.Proof.Gen.ReferenceIdeal.Run
public import proofs.«01_k».proof.Proof.Gen.Pre_causal
public import proofs.«01_k».proof.Proof.Attn.Causal
public import proofs.«01_k».proof.Proof.Attn.Refn
public import proofs.«01_k».proof.Proof.Gen.Kernel2.Frame
public import proofs.«01_k».proof.Proof.Gen.Kernel2.Skeleton
public import proofs.«01_k».proof.Proof.Gen.Kernel2.Launch
public import proofs.«01_k».proof.Proof.Gen.Kernel2Ideal.Value
public import proofs.«01_k».proof.Proof.Gen.Kernel2Ideal.Frame
public import proofs.«01_k».proof.Proof.Gen.Kernel2Ideal.Skeleton
public import proofs.«01_k».proof.Proof.Gen.Kernel2Ideal.Launch
public import proofs.«01_k».proof.Proof.Gen.Reference2Ideal
public import proofs.«01_k».proof.Proof.Gen.Reference2Ideal.Run
public import proofs.«01_k».proof.Proof.Gen.Kernel3.Frame
public import proofs.«01_k».proof.Proof.Gen.Kernel3.Skeleton
public import proofs.«01_k».proof.Proof.Gen.Kernel3.Launch
public import proofs.«01_k».proof.Proof.Gen.Kernel3Ideal.Value
public import proofs.«01_k».proof.Proof.Gen.Kernel3Ideal.Frame
public import proofs.«01_k».proof.Proof.Gen.Kernel3Ideal.Skeleton
public import proofs.«01_k».proof.Proof.Gen.Kernel3Ideal.Launch
public import proofs.«01_k».proof.Proof.Gen.Reference3Ideal
public import proofs.«01_k».proof.Proof.Gen.Reference3Ideal.Run
public import proofs.«01_k».proof.Proof.Gen.Kernel4.Frame
public import proofs.«01_k».proof.Proof.Gen.Kernel4.Skeleton
public import proofs.«01_k».proof.Proof.Gen.Kernel4.Launch
public import proofs.«01_k».proof.Proof.Gen.Kernel4Ideal.Value
public import proofs.«01_k».proof.Proof.Gen.Kernel4Ideal.Frame
public import proofs.«01_k».proof.Proof.Gen.Kernel4Ideal.Skeleton
public import proofs.«01_k».proof.Proof.Gen.Kernel4Ideal.Launch
public import proofs.«01_k».proof.Proof.Gen.Reference4Ideal
public import proofs.«01_k».proof.Proof.Gen.Reference4Ideal.Run
public import proofs.«01_k».proof.Proof.Gen.Kernel5.Frame
public import proofs.«01_k».proof.Proof.Gen.Kernel5.Skeleton
public import proofs.«01_k».proof.Proof.Gen.Kernel5.Launch
public import proofs.«01_k».proof.Proof.Gen.Kernel5Ideal.Value
public import proofs.«01_k».proof.Proof.Gen.Kernel5Ideal.Frame
public import proofs.«01_k».proof.Proof.Gen.Kernel5Ideal.Skeleton
public import proofs.«01_k».proof.Proof.Gen.Kernel5Ideal.Launch
public import proofs.«01_k».proof.Proof.Gen.Reference5Ideal
public import proofs.«01_k».proof.Proof.Gen.Reference5Ideal.Run
public import proofs.«01_k».proof.Proof.Gen.Kernel6.Frame
public import proofs.«01_k».proof.Proof.Gen.Kernel6.Skeleton
public import proofs.«01_k».proof.Proof.Gen.Kernel6.Launch
public import proofs.«01_k».proof.Proof.Gen.Kernel6Ideal.Value
public import proofs.«01_k».proof.Proof.Gen.Kernel6Ideal.Frame
public import proofs.«01_k».proof.Proof.Gen.Kernel6Ideal.Skeleton
public import proofs.«01_k».proof.Proof.Gen.Kernel6Ideal.Launch
public import proofs.«01_k».proof.Proof.Gen.Reference6Ideal
public import proofs.«01_k».proof.Proof.Gen.Reference6Ideal.Run
public import proofs.«01_k».proof.Proof.Gen.Kernel7.Frame
public import proofs.«01_k».proof.Proof.Gen.Kernel7.Skeleton
public import proofs.«01_k».proof.Proof.Gen.Kernel7.Launch
public import proofs.«01_k».proof.Proof.Gen.Kernel7Ideal.Value
public import proofs.«01_k».proof.Proof.Gen.Kernel7Ideal.Frame
public import proofs.«01_k».proof.Proof.Gen.Kernel7Ideal.Skeleton
public import proofs.«01_k».proof.Proof.Gen.Kernel7Ideal.Launch
public import proofs.«01_k».proof.Proof.Gen.Reference7Ideal
public import proofs.«01_k».proof.Proof.Gen.Reference7Ideal.Run
public import proofs.«01_k».proof.Proof.Gen.Kernel8.Frame
public import proofs.«01_k».proof.Proof.Gen.Kernel8.Skeleton
public import proofs.«01_k».proof.Proof.Gen.Kernel8.Launch
public import proofs.«01_k».proof.Proof.Gen.Kernel8Ideal.Value
public import proofs.«01_k».proof.Proof.Gen.Kernel8Ideal.Frame
public import proofs.«01_k».proof.Proof.Gen.Kernel8Ideal.Skeleton
public import proofs.«01_k».proof.Proof.Gen.Kernel8Ideal.Launch
public import proofs.«01_k».proof.Proof.Gen.Reference8Ideal
public import proofs.«01_k».proof.Proof.Gen.Reference8Ideal.Run
public import proofs.«01_k».proof.Proof.Gen.Kernel9.Frame
public import proofs.«01_k».proof.Proof.Gen.Kernel9.Skeleton
public import proofs.«01_k».proof.Proof.Gen.Kernel9.Launch
public import proofs.«01_k».proof.Proof.Gen.Kernel9Ideal.Value
public import proofs.«01_k».proof.Proof.Gen.Kernel9Ideal.Frame
public import proofs.«01_k».proof.Proof.Gen.Kernel9Ideal.Skeleton
public import proofs.«01_k».proof.Proof.Gen.Kernel9Ideal.Launch
public import proofs.«01_k».proof.Proof.Gen.Reference9Ideal
public import proofs.«01_k».proof.Proof.Gen.Reference9Ideal.Run
public import proofs.«01_k».proof.Proof.Gen.Kernel11.Frame
public import proofs.«01_k».proof.Proof.Gen.Kernel11.Skeleton
public import proofs.«01_k».proof.Proof.Gen.Kernel11.Launch
public import proofs.«01_k».proof.Proof.Gen.Kernel11Ideal.Value
public import proofs.«01_k».proof.Proof.Gen.Kernel11Ideal.Frame
public import proofs.«01_k».proof.Proof.Gen.Kernel11Ideal.Skeleton
public import proofs.«01_k».proof.Proof.Gen.Kernel11Ideal.Launch
public import proofs.«01_k».proof.Proof.Gen.Reference11Ideal
public import proofs.«01_k».proof.Proof.Gen.Reference11Ideal.Run
public import proofs.«01_k».proof.Proof.Gen.Kernel12.Frame
public import proofs.«01_k».proof.Proof.Gen.Kernel12.Skeleton
public import proofs.«01_k».proof.Proof.Gen.Kernel12.Launch
public import proofs.«01_k».proof.Proof.Gen.Kernel12Ideal.Value
public import proofs.«01_k».proof.Proof.Gen.Kernel12Ideal.Frame
public import proofs.«01_k».proof.Proof.Gen.Kernel12Ideal.Skeleton
public import proofs.«01_k».proof.Proof.Gen.Kernel12Ideal.Launch
public import proofs.«01_k».proof.Proof.Gen.Reference12Ideal
public import proofs.«01_k».proof.Proof.Gen.Reference12Ideal.Run
public import proofs.«01_k».proof.Proof.Gen.Kernel13.Frame
public import proofs.«01_k».proof.Proof.Gen.Kernel13.Skeleton
public import proofs.«01_k».proof.Proof.Gen.Kernel13.Launch
public import proofs.«01_k».proof.Proof.Gen.Kernel13Ideal.Value
public import proofs.«01_k».proof.Proof.Gen.Kernel13Ideal.Frame
public import proofs.«01_k».proof.Proof.Gen.Kernel13Ideal.Skeleton
public import proofs.«01_k».proof.Proof.Gen.Kernel13Ideal.Launch
public import proofs.«01_k».proof.Proof.Gen.Reference13Ideal
public import proofs.«01_k».proof.Proof.Gen.Reference13Ideal.Run
public import proofs.«01_k».proof.Proof.Mm.FfnOut
public import proofs.«01_k».proof.Proof.Mm.Gates
public import proofs.«01_k».proof.Proof.Mm.Merge
public import proofs.«01_k».proof.Proof.Mm.Rkv
public import proofs.«01_k».proof.Proof.Mm.Out
public import proofs.«01_k».proof.Proof.Mm.Query
public import proofs.«01_k».proof.Proof.Mm.Small
public import proofs.«01_k».proof.Proof.Norm.Mix
public import proofs.«01_k».proof.Proof.Norm.Ffn
public import proofs.«01_k».proof.Proof.Norm.Last
public import proofs.«01_k».proof.Proof.Ffn.Result
public import proofs.«01_k».proof.Proof.Ffn.Refn

/-!
The claims of the attention call and of the call that makes the gated first half of the feed-forward layer: for each, its
frame, the frame of its idealization, the frame of the reference's idealization, that idealizing the kernel changed
nothing, and that the two idealizations compute the same result from the same arguments. For the attention call that last
claim asks that the bias of every later chunk is minus infinity; for the other it asks nothing.
-/

@[expose] public section

namespace Cert.Proof

open Idealize.ShloMosaic Idealize.ShloMosaic.TcCoe

/-- The frame of the reference's idealization: its run leaves the arguments as they were, and it has no semaphores. -/
theorem reference : Cert.quiescent_ReferenceIdeal := by
  intro m ρ _
  exact (θ_run Cert.ReferenceIdeal.defs _ _).mono
    (fun r h => ⟨fun c => (h c).2, sem_eq_zero_of_no_sems (by decide) r.2⟩) (Cert.ReferenceIdeal.Value.run m ρ)

/-- The two idealizations agree: both end with the softmax means over all keys. -/
theorem same : Cert.algebraic_KernelIdeal_ReferenceIdeal_pre_causal (hKernelIdeal := Cert.KernelIdeal.Gen.facts)
    (hReferenceIdeal := Cert.ReferenceIdeal.Gen.facts) (hPre_causal := Cert.Pre_causal.Gen.facts) := by
  intro m g m' g' hpre hargs
  have hB : ∀ (c : Dev Cert.KernelIdeal.nD) (k q : Fin 16640), q.val / 64 < k.val / 64 →
      Cert.KernelIdeal.Attn.argB m c (ix2 k q) = ⊥ := fun c k q hkq =>
    letI := Cert.Pre_causal.Gen.facts
    Cert.Pre_causal.entry _ _ _ _ (hpre c) k q hkq
  refine ⟨fun c => Cert.KernelIdeal.Attn.result m c, Cert.KernelIdeal.Attn.run_result m g hB, ?_⟩
  refine (θ_run Cert.ReferenceIdeal.defs _ _).mono (fun r h c => ⟨(h c).1.trans ?_, (h c).2⟩)
    (Cert.ReferenceIdeal.Value.run_means m' g')
  obtain ⟨e0, e1, e2, e3⟩ := hargs c
  rw [e0, e1, e2, e3]
  exact Cert.ReferenceIdeal.Value.means_eq m c

/-- The frame of the feed-forward reference's idealization. -/
theorem reference2 : Cert.quiescent_Reference2Ideal := by
  intro m ρ _
  exact (θ_run Cert.Reference2Ideal.defs _ _).mono
    (fun r h => ⟨fun c => (h c).2, sem_eq_zero_of_no_sems (by decide) r.2⟩) (Cert.Reference2Ideal.Value.run m ρ)

/-- The two feed-forward idealizations agree: both end with the gated products. -/
theorem same2 : Cert.algebraic_Kernel2Ideal_Reference2Ideal (hKernel2Ideal := Cert.Kernel2Ideal.Gen.facts)
    (hReference2Ideal := Cert.Reference2Ideal.Gen.facts) := by
  intro m g m' g' _ hargs
  refine ⟨fun c => Cert.Kernel2Ideal.Ffn.result m c, ?_, ?_⟩
  · exact (θ_run Cert.Kernel2Ideal.defs _ _).mono (fun r h c => ⟨(h c).1.trans (Cert.Kernel2Ideal.Ffn.G7_eq m c), (h c).2⟩)
      (Cert.Kernel2Ideal.Value.run m g)
  · refine (θ_run Cert.Reference2Ideal.defs _ _).mono (fun r h c => ⟨(h c).1.trans ?_, (h c).2⟩)
      (Cert.Reference2Ideal.Value.run_whole m' g')
    obtain ⟨e0, e1, e2, e3, e4⟩ := hargs c
    rw [e0, e1, e2, e3, e4]
    exact Cert.Reference2Ideal.Value.whole_eq m c

theorem reference3 : Cert.quiescent_Reference3Ideal := by
  intro m ρ _
  exact (θ_run Cert.Reference3Ideal.defs _ _).mono
    (fun r h => ⟨fun c => (h c).2, sem_eq_zero_of_no_sems (by decide) r.2⟩) (Cert.Reference3Ideal.Value.run m ρ)

open Cert.Kernel3Ideal.Mm in
/-- The two idealizations of the feed-forward output agree. -/
theorem same3 : Cert.algebraic_Kernel3Ideal_Reference3Ideal (hKernel3Ideal := Cert.Kernel3Ideal.Gen.facts)
    (hReference3Ideal := Cert.Reference3Ideal.Gen.facts) := by
  intro m g m' g' _ hargs
  refine ⟨fun c => Cert.Mm.plus (front (argA m c)) (argW m c) (argH m c), ?_, ?_⟩
  · exact (θ_run Cert.Kernel3Ideal.defs _ _).mono (fun r h c => ⟨(h c).1.trans (final_eq m c), (h c).2⟩)
      (Cert.Kernel3Ideal.Value.run_blocks m g)
  · refine (θ_run Cert.Reference3Ideal.defs _ _).mono (fun r h c => ⟨(h c).1.trans ?_, (h c).2⟩)
      (Cert.Reference3Ideal.Value.run m' g')
    obtain ⟨e0, e1, e2⟩ := hargs c
    rw [e0, e1, e2]
    exact Cert.Reference3Ideal.Mm.reference_eq _ _ _

theorem reference4 : Cert.quiescent_Reference4Ideal := by
  intro m ρ _
  exact (θ_run Cert.Reference4Ideal.defs _ _).mono
    (fun r h => ⟨fun c => (h c).2, sem_eq_zero_of_no_sems (by decide) r.2⟩) (Cert.Reference4Ideal.Value.run m ρ)

open Cert.Kernel4Ideal.Mm in
/-- The two idealizations of the gates agree. -/
theorem same4 : Cert.algebraic_Kernel4Ideal_Reference4Ideal (hKernel4Ideal := Cert.Kernel4Ideal.Gen.facts)
    (hReference4Ideal := Cert.Reference4Ideal.Gen.facts) := by
  intro m g m' g' _ hargs
  refine ⟨fun c => gates (argU m c) (argW m c), ?_, ?_⟩
  · exact (θ_run Cert.Kernel4Ideal.defs _ _).mono (fun r h c => ⟨(h c).1.trans (final_eq m c), (h c).2⟩)
      (Cert.Kernel4Ideal.Value.run_blocks m g)
  · refine (θ_run Cert.Reference4Ideal.defs _ _).mono (fun r h c => ⟨(h c).1.trans ?_, (h c).2⟩)
      (Cert.Reference4Ideal.Value.run m' g')
    obtain ⟨e0, e1⟩ := hargs c
    rw [e0, e1]
    exact Cert.Reference4Ideal.Mm.reference_eq _ _

theorem reference5 : Cert.quiescent_Reference5Ideal := by
  intro m ρ _
  exact (θ_run Cert.Reference5Ideal.defs _ _).mono
    (fun r h => ⟨fun c => (h c).2, sem_eq_zero_of_no_sems (by decide) r.2⟩) (Cert.Reference5Ideal.Value.run m ρ)

open Cert.Kernel5Ideal.Mm in
/-- The two idealizations of the merge agree. -/
theorem same5 : Cert.algebraic_Kernel5Ideal_Reference5Ideal (hKernel5Ideal := Cert.Kernel5Ideal.Gen.facts)
    (hReference5Ideal := Cert.Reference5Ideal.Gen.facts) := by
  intro m g m' g' _ hargs
  refine ⟨fun c => merged (argX m c) (argY m c) (argV m c) (argW m c) (lo (argG m c)) (hi (argG m c)), ?_, ?_⟩
  · exact (θ_run Cert.Kernel5Ideal.defs _ _).mono (fun r h c => ⟨(h c).1.trans (final_eq m c), (h c).2⟩)
      (Cert.Kernel5Ideal.Value.run_blocks m g)
  · refine (θ_run Cert.Reference5Ideal.defs _ _).mono (fun r h c => ⟨(h c).1.trans ?_, (h c).2⟩)
      (Cert.Reference5Ideal.Value.run m' g')
    obtain ⟨e0, e1, e2, e3, e4⟩ := hargs c
    rw [e0, e1, e2, e3, e4]
    exact Cert.Reference5Ideal.Mm.reference_eq _ _ _ _ _

theorem reference6 : Cert.quiescent_Reference6Ideal := by
  intro m ρ _
  exact (θ_run Cert.Reference6Ideal.defs _ _).mono
    (fun r h => ⟨fun c => (h c).2, sem_eq_zero_of_no_sems (by decide) r.2⟩) (Cert.Reference6Ideal.Value.run m ρ)

open Cert.Kernel6Ideal.Mm in
/-- The two idealizations of the branch products agree. -/
theorem same6 : Cert.algebraic_Kernel6Ideal_Reference6Ideal (hKernel6Ideal := Cert.Kernel6Ideal.Gen.facts)
    (hReference6Ideal := Cert.Reference6Ideal.Gen.facts) := by
  intro m g m' g' _ hargs
  refine ⟨fun c => Cert.Mm.whole (argU m c) (argW m c), ?_, ?_⟩
  · exact (θ_run Cert.Kernel6Ideal.defs _ _).mono (fun r h c => ⟨(h c).1.trans (final_eq m c), (h c).2⟩)
      (Cert.Kernel6Ideal.Value.run_blocks m g)
  · refine (θ_run Cert.Reference6Ideal.defs _ _).mono (fun r h c => ⟨(h c).1.trans ?_, (h c).2⟩)
      (Cert.Reference6Ideal.Value.run m' g')
    obtain ⟨e0, e1⟩ := hargs c
    rw [e0, e1]
    exact Cert.Reference6Ideal.Mm.reference_eq _ _

theorem reference7 : Cert.quiescent_Reference7Ideal := by
  intro m ρ _
  exact (θ_run Cert.Reference7Ideal.defs _ _).mono
    (fun r h => ⟨fun c => (h c).2, sem_eq_zero_of_no_sems (by decide) r.2⟩) (Cert.Reference7Ideal.Value.run m ρ)

open Cert.Kernel7Ideal.Mm in
/-- The two idealizations of the output projection agree. -/
theorem same7 : Cert.algebraic_Kernel7Ideal_Reference7Ideal (hKernel7Ideal := Cert.Kernel7Ideal.Gen.facts)
    (hReference7Ideal := Cert.Reference7Ideal.Gen.facts) := by
  intro m g m' g' _ hargs
  refine ⟨fun c => Cert.Mm.plus (argU m c) (argW m c) (argH m c), ?_, ?_⟩
  · exact (θ_run Cert.Kernel7Ideal.defs _ _).mono (fun r h c => ⟨(h c).1.trans (final_eq m c), (h c).2⟩)
      (Cert.Kernel7Ideal.Value.run_blocks m g)
  · refine (θ_run Cert.Reference7Ideal.defs _ _).mono (fun r h c => ⟨(h c).1.trans ?_, (h c).2⟩)
      (Cert.Reference7Ideal.Value.run m' g')
    obtain ⟨e0, e1, e2⟩ := hargs c
    rw [e0, e1, e2]
    exact Cert.Reference7Ideal.Mm.reference_eq _ _ _

theorem reference8 : Cert.quiescent_Reference8Ideal := by
  intro m ρ _
  exact (θ_run Cert.Reference8Ideal.defs _ _).mono
    (fun r h => ⟨fun c => (h c).2, sem_eq_zero_of_no_sems (by decide) r.2⟩) (Cert.Reference8Ideal.Value.run m ρ)

open Cert.Kernel8Ideal.Mm in
/-- The two idealizations of the queries' product agree. -/
theorem same8 : Cert.algebraic_Kernel8Ideal_Reference8Ideal (hKernel8Ideal := Cert.Kernel8Ideal.Gen.facts)
    (hReference8Ideal := Cert.Reference8Ideal.Gen.facts) := by
  intro m g m' g' _ hargs
  refine ⟨fun c => Cert.Mm.whole (argU m c) (argW m c), ?_, ?_⟩
  · exact (θ_run Cert.Kernel8Ideal.defs _ _).mono (fun r h c => ⟨(h c).1.trans (final_eq m c), (h c).2⟩)
      (Cert.Kernel8Ideal.Value.run_blocks m g)
  · refine (θ_run Cert.Reference8Ideal.defs _ _).mono (fun r h c => ⟨(h c).1.trans ?_, (h c).2⟩)
      (Cert.Reference8Ideal.Value.run m' g')
    obtain ⟨e0, e1⟩ := hargs c
    rw [e0, e1]
    exact Cert.Reference8Ideal.Mm.reference_eq _ _

theorem reference9 : Cert.quiescent_Reference9Ideal := by
  intro m ρ _
  exact (θ_run Cert.Reference9Ideal.defs _ _).mono
    (fun r h => ⟨fun c => (h c).2, sem_eq_zero_of_no_sems (by decide) r.2⟩) (Cert.Reference9Ideal.Value.run m ρ)

open Cert.Kernel9Ideal.Mm in
/-- The two idealizations of the small columns' product agree. -/
theorem same9 : Cert.algebraic_Kernel9Ideal_Reference9Ideal (hKernel9Ideal := Cert.Kernel9Ideal.Gen.facts)
    (hReference9Ideal := Cert.Reference9Ideal.Gen.facts) := by
  intro m g m' g' _ hargs
  refine ⟨fun c => Cert.Mm.whole (argU m c) (argW m c), ?_, ?_⟩
  · exact (θ_run Cert.Kernel9Ideal.defs _ _).mono (fun r h c => ⟨(h c).1.trans (final_eq m c), (h c).2⟩)
      (Cert.Kernel9Ideal.Value.run_blocks m g)
  · refine (θ_run Cert.Reference9Ideal.defs _ _).mono (fun r h c => ⟨(h c).1.trans ?_, (h c).2⟩)
      (Cert.Reference9Ideal.Value.run m' g')
    obtain ⟨e0, e1⟩ := hargs c
    rw [e0, e1]
    exact Cert.Reference9Ideal.Mm.reference_eq _ _

theorem reference11 : Cert.quiescent_Reference11Ideal := by
  intro m ρ _
  exact (θ_run Cert.Reference11Ideal.defs _ _).mono
    (fun r h => ⟨fun c => (h c).2, sem_eq_zero_of_no_sems (by decide) r.2⟩) (Cert.Reference11Ideal.Value.run m ρ)

open Cert.Kernel11Ideal.Norm in
/-- The two idealizations of the first norm agree. -/
theorem same11 : Cert.algebraic_Kernel11Ideal_Reference11Ideal (hKernel11Ideal := Cert.Kernel11Ideal.Gen.facts)
    (hReference11Ideal := Cert.Reference11Ideal.Gen.facts) := by
  intro m g m' g' _ hargs
  refine ⟨fun c => result m c, ?_, ?_⟩
  · exact (θ_run Cert.Kernel11Ideal.defs _ _).mono (fun r h c => ⟨(h c).1.trans (final_eq m c), (h c).2⟩)
      (Cert.Kernel11Ideal.Value.run_blocks m g)
  · refine (θ_run Cert.Reference11Ideal.defs _ _).mono (fun r h c => ⟨(h c).1.trans ?_, (h c).2⟩)
      (Cert.Reference11Ideal.Value.run m' g')
    obtain ⟨e0, e1⟩ := hargs c
    rw [e0, e1]
    exact Cert.Reference11Ideal.Norm.reference_eq _ _

theorem reference12 : Cert.quiescent_Reference12Ideal := by
  intro m ρ _
  exact (θ_run Cert.Reference12Ideal.defs _ _).mono
    (fun r h => ⟨fun c => (h c).2, sem_eq_zero_of_no_sems (by decide) r.2⟩) (Cert.Reference12Ideal.Value.run m ρ)

open Cert.Kernel12Ideal.Norm in
/-- The two idealizations of the norm in front of the feed-forward layer agree. -/
theorem same12 : Cert.algebraic_Kernel12Ideal_Reference12Ideal (hKernel12Ideal := Cert.Kernel12Ideal.Gen.facts)
    (hReference12Ideal := Cert.Reference12Ideal.Gen.facts) := by
  intro m g m' g' _ hargs
  refine ⟨fun c => result m c, ?_, ?_⟩
  · exact (θ_run Cert.Kernel12Ideal.defs _ _).mono (fun r h c => ⟨(h c).1.trans (final_eq m c), (h c).2⟩)
      (Cert.Kernel12Ideal.Value.run_blocks m g)
  · refine (θ_run Cert.Reference12Ideal.defs _ _).mono (fun r h c => ⟨(h c).1.trans ?_, (h c).2⟩)
      (Cert.Reference12Ideal.Value.run m' g')
    obtain ⟨e0, e1⟩ := hargs c
    rw [e0, e1]
    exact Cert.Reference12Ideal.Norm.reference_eq _ _

theorem reference13 : Cert.quiescent_Reference13Ideal := by
  intro m ρ _
  exact (θ_run Cert.Reference13Ideal.defs _ _).mono
    (fun r h => ⟨fun c => (h c).2, sem_eq_zero_of_no_sems (by decide) r.2⟩) (Cert.Reference13Ideal.Value.run m ρ)

open Cert.Kernel13Ideal.Norm in
/-- The two idealizations of the last norm agree. -/
theorem same13 : Cert.algebraic_Kernel13Ideal_Reference13Ideal (hKernel13Ideal := Cert.Kernel13Ideal.Gen.facts)
    (hReference13Ideal := Cert.Reference13Ideal.Gen.facts) := by
  intro m g m' g' _ hargs
  refine ⟨fun c => result m c, ?_, ?_⟩
  · exact (θ_run Cert.Kernel13Ideal.defs _ _).mono (fun r h c => ⟨(h c).1.trans (final_eq m c), (h c).2⟩)
      (Cert.Kernel13Ideal.Value.run_blocks m g)
  · refine (θ_run Cert.Reference13Ideal.defs _ _).mono (fun r h c => ⟨(h c).1.trans ?_, (h c).2⟩)
      (Cert.Reference13Ideal.Value.run m' g')
    obtain ⟨e0, e1⟩ := hargs c
    rw [e0, e1]
    exact Cert.Reference13Ideal.Norm.reference_eq _ _

theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Pre_causal.Gen.facts,
    fun m ρ _ => Cert.Kernel.Attn.frame m ρ,
    fun m ρ _ => Cert.KernelIdeal.Attn.frame m ρ,
    fun m ρ _ => Cert.KernelIdeal.Attn.frame m ρ,
    reference,
    fun m ρ _ => reference m ρ trivial,
    fun m ρ _ => Cert.Kernel2.Gen.frame m ρ,
    fun m ρ _ => Cert.Kernel2Ideal.Gen.frame m ρ,
    reference2,
    fun m ρ _ => Cert.Kernel3.Gen.frame m ρ,
    fun m ρ _ => Cert.Kernel3Ideal.Gen.frame m ρ,
    reference3,
    fun m ρ _ => Cert.Kernel4.Gen.frame m ρ,
    fun m ρ _ => Cert.Kernel4Ideal.Gen.frame m ρ,
    reference4,
    fun m ρ _ => Cert.Kernel5.Gen.frame m ρ,
    fun m ρ _ => Cert.Kernel5Ideal.Gen.frame m ρ,
    reference5,
    fun m ρ _ => Cert.Kernel6.Gen.frame m ρ,
    fun m ρ _ => Cert.Kernel6Ideal.Gen.frame m ρ,
    reference6,
    fun m ρ _ => Cert.Kernel7.Gen.frame m ρ,
    fun m ρ _ => Cert.Kernel7Ideal.Gen.frame m ρ,
    reference7,
    fun m ρ _ => Cert.Kernel8.Gen.frame m ρ,
    fun m ρ _ => Cert.Kernel8Ideal.Gen.frame m ρ,
    reference8,
    fun m ρ _ => Cert.Kernel9.Gen.frame m ρ,
    fun m ρ _ => Cert.Kernel9Ideal.Gen.frame m ρ,
    reference9,
    fun m ρ _ => Cert.Kernel11.Gen.frame m ρ,
    fun m ρ _ => Cert.Kernel11Ideal.Gen.frame m ρ,
    reference11,
    fun m ρ _ => Cert.Kernel12.Gen.frame m ρ,
    fun m ρ _ => Cert.Kernel12Ideal.Gen.frame m ρ,
    reference12,
    fun m ρ _ => Cert.Kernel13.Gen.frame m ρ,
    fun m ρ _ => Cert.Kernel13Ideal.Gen.frame m ρ,
    reference13,
    trivial,
    same,
    trivial,
    same2,
    trivial,
    same3,
    trivial,
    same4,
    trivial,
    same5,
    trivial,
    same6,
    trivial,
    same7,
    trivial,
    same8,
    trivial,
    same9,
    trivial,
    same11,
    trivial,
    same12,
    trivial,
    same13⟩

end Cert.Proof
